-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S20480 : Shape := ⟨1, ![20480]⟩
abbrev S160x128 : Shape := ⟨2, ![160, 128]⟩
abbrev S20480x1 : Shape := ⟨2, ![20480, 1]⟩
abbrev S8x128 : Shape := ⟨2, ![8, 128]⟩
abbrev S512x512 : Shape := ⟨2, ![512, 512]⟩
abbrev S512x1 : Shape := ⟨2, ![512, 1]⟩
abbrev S4x128 : Shape := ⟨2, ![4, 128]⟩
abbrev S1x512 : Shape := ⟨2, ![1, 512]⟩
abbrev S512 : Shape := ⟨1, ![512]⟩
abbrev S512x128 : Shape := ⟨2, ![512, 128]⟩
abbrev S1x128 : Shape := ⟨2, ![1, 128]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩
abbrev S2048 : Shape := ⟨1, ![2048]⟩
abbrev S1280 : Shape := ⟨1, ![1280]⟩
abbrev S16 : Shape := ⟨1, ![16]⟩
abbrev S2000 : Shape := ⟨1, ![2000]⟩
abbrev S2000x1 : Shape := ⟨2, ![2000, 1]⟩
abbrev S2000x5 : Shape := ⟨2, ![2000, 5]⟩

abbrev nBuf : Table → Nat
  | .hbm => 77
  | .local .tc .vmem => 24
  | .local .scVector .vmem => 13
  | _ => 0

abbrev bufTy : (tb : Table) → Fin (nBuf tb) → BufTy
  | .hbm, ⟨0, _⟩ => ⟨S20000x4, .f32⟩
  | .hbm, ⟨1, _⟩ => ⟨S20000, .f32⟩
  | .hbm, ⟨2, _⟩ => ⟨S20000x1, .f32⟩
  | .hbm, ⟨3, _⟩ => ⟨S20000, .f32⟩
  | .hbm, ⟨4, _⟩ => ⟨S_, .i32⟩
  | .hbm, ⟨5, _⟩ => ⟨S_, .f32⟩
  | .hbm, ⟨6, _⟩ => ⟨S20480, .f32⟩
  | .hbm, ⟨7, _⟩ => ⟨S160x128, .f32⟩
  | .hbm, ⟨8, _⟩ => ⟨S20000x1, .f32⟩
  | .hbm, ⟨9, _⟩ => ⟨S20000, .f32⟩
  | .hbm, ⟨10, _⟩ => ⟨S_, .i32⟩
  | .hbm, ⟨11, _⟩ => ⟨S_, .f32⟩
  | .hbm, ⟨12, _⟩ => ⟨S20480, .f32⟩
  | .hbm, ⟨13, _⟩ => ⟨S160x128, .f32⟩
  | .hbm, ⟨14, _⟩ => ⟨S20000x1, .f32⟩
  | .hbm, ⟨15, _⟩ => ⟨S20000, .f32⟩
  | .hbm, ⟨16, _⟩ => ⟨S_, .i32⟩
  | .hbm, ⟨17, _⟩ => ⟨S_, .f32⟩
  | .hbm, ⟨18, _⟩ => ⟨S20480, .f32⟩
  | .hbm, ⟨19, _⟩ => ⟨S160x128, .f32⟩
  | .hbm, ⟨20, _⟩ => ⟨S20000x1, .f32⟩
  | .hbm, ⟨21, _⟩ => ⟨S20000, .f32⟩
  | .hbm, ⟨22, _⟩ => ⟨S_, .i32⟩
  | .hbm, ⟨23, _⟩ => ⟨S_, .f32⟩
  | .hbm, ⟨24, _⟩ => ⟨S20480, .f32⟩
  | .hbm, ⟨25, _⟩ => ⟨S160x128, .f32⟩
  | .hbm, ⟨26, _⟩ => ⟨S_, .i32⟩
  | .hbm, ⟨27, _⟩ => ⟨S_, .f32⟩
  | .hbm, ⟨28, _⟩ => ⟨S20480, .f32⟩
  | .hbm, ⟨29, _⟩ => ⟨S160x128, .f32⟩
  | .hbm, ⟨30, _⟩ => ⟨S160x128, .f32⟩
  | .hbm, ⟨31, _⟩ => ⟨S160x128, .f32⟩
  | .hbm, ⟨32, _⟩ => ⟨S160x128, .f32⟩
  | .hbm, ⟨33, _⟩ => ⟨S160x128, .f32⟩
  | .hbm, ⟨34, _⟩ => ⟨S160x128, .f32⟩
  | .hbm, ⟨35, _⟩ => ⟨S160x128, .f32⟩
  | .hbm, ⟨36, _⟩ => ⟨S20480, .f32⟩
  | .hbm, ⟨37, _⟩ => ⟨S20480, .f32⟩
  | .hbm, ⟨38, _⟩ => ⟨S20480, .f32⟩
  | .hbm, ⟨39, _⟩ => ⟨S20480, .f32⟩
  | .hbm, ⟨40, _⟩ => ⟨S20480, .f32⟩
  | .hbm, ⟨41, _⟩ => ⟨S20480, .f32⟩
  | .hbm, ⟨42, _⟩ => ⟨S20480, .f32⟩
  | .hbm, ⟨43, _⟩ => ⟨S20480, .f32⟩
  | .hbm, ⟨44, _⟩ => ⟨S20480, .f32⟩
  | .hbm, ⟨45, _⟩ => ⟨S20480, .f32⟩
  | .hbm, ⟨46, _⟩ => ⟨S20480, .f32⟩
  | .hbm, ⟨47, _⟩ => ⟨S20480, .f32⟩
  | .hbm, ⟨48, _⟩ => ⟨S20480x1, .f32⟩
  | .hbm, ⟨49, _⟩ => ⟨S20480x1, .f32⟩
  | .hbm, ⟨50, _⟩ => ⟨S20480x1, .f32⟩
  | .hbm, ⟨51, _⟩ => ⟨S20480x1, .f32⟩
  | .hbm, ⟨52, _⟩ => ⟨S20480x1, .f32⟩
  | .hbm, ⟨53, _⟩ => ⟨S160x128, .f32⟩
  | .hbm, ⟨54, _⟩ => ⟨S160x128, .f32⟩
  | .hbm, ⟨55, _⟩ => ⟨S160x128, .f32⟩
  | .hbm, ⟨56, _⟩ => ⟨S160x128, .f32⟩
  | .hbm, ⟨57, _⟩ => ⟨S160x128, .f32⟩
  | .hbm, ⟨58, _⟩ => ⟨S8x128, .f32⟩
  | .hbm, ⟨59, _⟩ => ⟨S20480, .f32⟩
  | .hbm, ⟨60, _⟩ => ⟨S1024, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S2048, .f32⟩
  | .hbm, ⟨65, _⟩ => ⟨S2048, .f32⟩
  | .hbm, ⟨66, _⟩ => ⟨S2000, .f32⟩
  | .hbm, ⟨67, _⟩ => ⟨S2000, .f32⟩
  | .hbm, ⟨68, _⟩ => ⟨S2000, .f32⟩
  | .hbm, ⟨69, _⟩ => ⟨S2000, .f32⟩
  | .hbm, ⟨70, _⟩ => ⟨S2000, .f32⟩
  | .hbm, ⟨71, _⟩ => ⟨S2000x1, .f32⟩
  | .hbm, ⟨72, _⟩ => ⟨S2000x1, .f32⟩
  | .hbm, ⟨73, _⟩ => ⟨S2000x1, .f32⟩
  | .hbm, ⟨74, _⟩ => ⟨S2000x1, .f32⟩
  | .hbm, ⟨75, _⟩ => ⟨S2000x1, .f32⟩
  | .hbm, ⟨76, _⟩ => ⟨S2000x5, .f32⟩
  | .local .tc .vmem, ⟨0, _⟩ => ⟨S160x128, .f32⟩
  | .local .tc .vmem, ⟨1, _⟩ => ⟨S160x128, .f32⟩
  | .local .tc .vmem, ⟨2, _⟩ => ⟨S160x128, .f32⟩
  | .local .tc .vmem, ⟨3, _⟩ => ⟨S160x128, .f32⟩
  | .local .tc .vmem, ⟨4, _⟩ => ⟨S160x128, .f32⟩
  | .local .tc .vmem, ⟨5, _⟩ => ⟨S160x128, .f32⟩
  | .local .tc .vmem, ⟨6, _⟩ => ⟨S160x128, .f32⟩
  | .local .tc .vmem, ⟨7, _⟩ => ⟨S160x128, .f32⟩
  | .local .tc .vmem, ⟨8, _⟩ => ⟨S160x128, .f32⟩
  | .local .tc .vmem, ⟨9, _⟩ => ⟨S160x128, .f32⟩
  | .local .tc .vmem, ⟨10, _⟩ => ⟨S160x128, .f32⟩
  | .local .tc .vmem, ⟨11, _⟩ => ⟨S20480x1, .f32⟩
  | .local .tc .vmem, ⟨12, _⟩ => ⟨S20480x1, .f32⟩
  | .local .tc .vmem, ⟨13, _⟩ => ⟨S20480x1, .f32⟩
  | .local .tc .vmem, ⟨14, _⟩ => ⟨S20480x1, .f32⟩
  | .local .tc .vmem, ⟨15, _⟩ => ⟨S20480x1, .f32⟩
  | .local .tc .vmem, ⟨16, _⟩ => ⟨S160x128, .f32⟩
  | .local .tc .vmem, ⟨17, _⟩ => ⟨S160x128, .f32⟩
  | .local .tc .vmem, ⟨18, _⟩ => ⟨S160x128, .f32⟩
  | .local .tc .vmem, ⟨19, _⟩ => ⟨S160x128, .f32⟩
  | .local .tc .vmem, ⟨20, _⟩ => ⟨S160x128, .f32⟩
  | .local .tc .vmem, ⟨21, _⟩ => ⟨S8x128, .f32⟩
  | .local .tc .vmem, ⟨22, _⟩ => ⟨S512x512, .f32⟩
  | .local .tc .vmem, ⟨23, _⟩ => ⟨S512x1, .f32⟩
  | .local .scVector .vmem, ⟨0, _⟩ => ⟨S1280, .f32⟩
  | .local .scVector .vmem, ⟨1, _⟩ => ⟨S1280, .f32⟩
  | .local .scVector .vmem, ⟨2, _⟩ => ⟨S1280, .f32⟩
  | .local .scVector .vmem, ⟨3, _⟩ => ⟨S1280, .f32⟩
  | .local .scVector .vmem, ⟨4, _⟩ => ⟨S1280, .f32⟩
  | .local .scVector .vmem, ⟨5, _⟩ => ⟨S1280, .f32⟩
  | .local .scVector .vmem, ⟨6, _⟩ => ⟨S2048, .f32⟩
  | .local .scVector .vmem, ⟨7, _⟩ => ⟨S2048, .f32⟩
  | .local .scVector .vmem, ⟨8, _⟩ => ⟨S2048, .f32⟩
  | .local .scVector .vmem, ⟨9, _⟩ => ⟨S2048, .f32⟩
  | .local .scVector .vmem, ⟨10, _⟩ => ⟨S2048, .f32⟩
  | .local .scVector .vmem, ⟨11, _⟩ => ⟨S16, .f32⟩
  | .local .scVector .vmem, ⟨12, _⟩ => ⟨S16, .i32⟩
  | _, _ => ⟨S20000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_call3_v0 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call4_v0 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_v18_2 : Ref sig .tc := ⟨.hbm, 32, rfl⟩
abbrev main_v18_3 : Ref sig .tc := ⟨.hbm, 33, rfl⟩
abbrev main_v18_4 : Ref sig .tc := ⟨.hbm, 34, rfl⟩
abbrev main_v18_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_v25_3 : Ref sig .tc := ⟨.hbm, 45, rfl⟩
abbrev main_v25_4 : Ref sig .tc := ⟨.hbm, 46, rfl⟩
abbrev main_v25_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35_0 : Ref sig .tc := ⟨.hbm, 57, rfl⟩
abbrev main_v35_1 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev main_v38_3 : Ref sig .tc := ⟨.hbm, 64, rfl⟩
abbrev main_v38_4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v25_1_scv : Ref sig .scVector := ⟨.hbm, 43, rfl⟩
abbrev main_v25_2_scv : Ref sig .scVector := ⟨.hbm, 44, rfl⟩
abbrev main_v25_3_scv : Ref sig .scVector := ⟨.hbm, 45, rfl⟩
abbrev main_v25_4_scv : Ref sig .scVector := ⟨.hbm, 46, rfl⟩
abbrev main_v25_5_scv : Ref sig .scVector := ⟨.hbm, 47, rfl⟩
abbrev main_v36_scv : Ref sig .scVector := ⟨.hbm, 59, rfl⟩
abbrev main_v37_scv : Ref sig .scVector := ⟨.hbm, 60, rfl⟩
abbrev main_v38_0_scv : Ref sig .scVector := ⟨.hbm, 61, rfl⟩
abbrev main_v38_1_scv : Ref sig .scVector := ⟨.hbm, 62, rfl⟩
abbrev main_v38_2_scv : Ref sig .scVector := ⟨.hbm, 63, rfl⟩
abbrev main_v38_3_scv : Ref sig .scVector := ⟨.hbm, 64, rfl⟩
abbrev main_v38_4_scv : Ref sig .scVector := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_scratch0 : Ref sig .tc := ⟨.vmem, 22, rfl⟩
abbrev cc1_scratch1 : Ref sig .tc := ⟨.vmem, 23, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc2_scratch9 : Ref sig .scVector := ⟨.vmem, 9, rfl⟩
abbrev cc2_scratch10 : Ref sig .scVector := ⟨.vmem, 10, rfl⟩
abbrev cc2_scratch11 : Ref sig .scVector := ⟨.vmem, 11, rfl⟩
abbrev cc2_scratch12 : Ref sig .scVector := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S160x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := .none

def k1_off1 (arg13 : BitVec 32) : Fin 2 → Nat :=
  let c512_i32_5 : BitVec 32 := 512#32
  let v9 : BitVec 32 := Scalar.muli arg13 c512_i32_5
  let v10 : Index := Scalar.indexCast v9
  let c0_6 : Index := 0#32
  ![v10.toNat, 0]

@[reducible] def k1_t1_loop (arg13 : BitVec 32) : Scf.Loop 32 :=
  let c0_i32_20 : BitVec 32 := 0#32
  let v38 : BitVec 32 := Scalar.subi arg13 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_22 : BitVec 32 := 1#32
  ⟨c0_i32_20, v42, c1_i32_22⟩
def k1_off2 (arg13 : BitVec 32) (k1_t1 : Fin (k1_t1_loop arg13).trips) : Fin 2 → Nat :=
  let c0_i32_20 : BitVec 32 := 0#32
  let c1_i32_22 : BitVec 32 := 1#32
  let arg16 : BitVec 32 := Scf.iv c0_i32_20 c1_i32_22 k1_t1
  let c4_i32_75 : BitVec 32 := 4#32
  let v271 : BitVec 32 := Scalar.muli arg16 c4_i32_75
  let v272 : Index := Scalar.indexCast v271
  let c0_76 : Index := 0#32
  ![v272.toNat, 0]
@[reducible] def k1_t2_loop (arg13 : BitVec 32) : Scf.Loop 32 :=
  let c0_i32_20 : BitVec 32 := 0#32
  let v38 : BitVec 32 := Scalar.subi arg13 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let v39 : BitVec 32 := Scalar.addi c0_i32_20 v38
  let c1_i32_23 : BitVec 32 := 1#32
  ⟨v42, v39, c1_i32_23⟩
def k1_off3 (arg13 : BitVec 32) (k1_t2 : Fin (k1_t2_loop arg13).trips) : Fin 2 → Nat :=
  let c0_i32_20 : BitVec 32 := 0#32
  let v38 : BitVec 32 := Scalar.subi arg13 c0_i32_20
  let c1_i32_21 : BitVec 32 := 1#32
  let v40 : BitVec 32 := Scalar.divsi v38 c1_i32_21
  let v41 : BitVec 32 := Scalar.muli v40 c1_i32_21
  let v42 : BitVec 32 := Scalar.addi c0_i32_20 v41
  let c1_i32_23 : BitVec 32 := 1#32
  let arg16 : BitVec 32 := Scf.iv v42 c1_i32_23 k1_t2
  let c4_i32_75 : BitVec 32 := 4#32
  let v271 : BitVec 32 := Scalar.muli arg16 c4_i32_75
  let v272 : Index := Scalar.indexCast v271
  let c0_76 : Index := 0#32
  ![v272.toNat, 0]
def k1_off4 (arg13 : BitVec 32) : Fin 2 → Nat :=
  let c4_i32 : BitVec 32 := 4#32
  let v47 : BitVec 32 := Scalar.muli arg13 c4_i32
  let v48 : Index := Scalar.indexCast v47
  let c0_27 : Index := 0#32
  ![v48.toNat, 0]

def k1_chk1 (arg13 : BitVec 32) : Prop :=
  (∀ a, (k1_off1 arg13) a + S512x1.size a ≤ S20480x1.size a) ∧
  ((k1_t1_loop arg13).OK) ∧
  (∀ k1_t1 : Fin (k1_t1_loop arg13).trips, ∀ a, (k1_off2 arg13 k1_t1) a + S4x128.size a ≤ S160x128.size a) ∧
  ((k1_t2_loop arg13).OK) ∧
  (∀ k1_t2 : Fin (k1_t2_loop arg13).trips, ∀ a, (k1_off3 arg13 k1_t2) a + S4x128.size a ≤ S160x128.size a) ∧
  (∀ a, (k1_off4 arg13) a + S4x128.size a ≤ S160x128.size a)
theorem k1_off1_inb : ∀ (arg13 : BitVec 32) (k1_hw1 : k1_chk1 arg13), ∀ a, (k1_off1 arg13) a + S512x1.size a ≤ S20480x1.size a := fun arg13 k1_hw1 => k1_hw1.1
theorem k1_t1_ok : ∀ (arg13 : BitVec 32) (k1_hw1 : k1_chk1 arg13), (k1_t1_loop arg13).OK := fun arg13 k1_hw1 => k1_hw1.2.1
theorem k1_off2_inb : ∀ (arg13 : BitVec 32) (k1_hw1 : k1_chk1 arg13) (k1_t1 : Fin (k1_t1_loop arg13).trips), ∀ a, (k1_off2 arg13 k1_t1) a + S4x128.size a ≤ S160x128.size a := fun arg13 k1_hw1 k1_t1 => k1_hw1.2.2.1 k1_t1
theorem k1_t2_ok : ∀ (arg13 : BitVec 32) (k1_hw1 : k1_chk1 arg13), (k1_t2_loop arg13).OK := fun arg13 k1_hw1 => k1_hw1.2.2.2.1
theorem k1_off3_inb : ∀ (arg13 : BitVec 32) (k1_hw1 : k1_chk1 arg13) (k1_t2 : Fin (k1_t2_loop arg13).trips), ∀ a, (k1_off3 arg13 k1_t2) a + S4x128.size a ≤ S160x128.size a := fun arg13 k1_hw1 k1_t2 => k1_hw1.2.2.2.2.1 k1_t2
theorem k1_off4_inb : ∀ (arg13 : BitVec 32) (k1_hw1 : k1_chk1 arg13), ∀ a, (k1_off4 arg13) a + S4x128.size a ≤ S160x128.size a := fun arg13 k1_hw1 => k1_hw1.2.2.2.2.2

abbrev stage1_0 : Fin 1 → Memref sig .tc .vmem S20480x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S20480x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S20480x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S20480x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S20480x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S160x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S160x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S160x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S160x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S160x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev grid2 : Pipeline.Grid := ⟨2, ![2, 16], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k2_t1_loop : Scf.Loop 32 :=
  let c0_i32_9 : BitVec 32 := 0#32
  let c128_i32 : BitVec 32 := 128#32
  let v13 : BitVec 32 := Scalar.addi c0_i32_9 c128_i32
  let c1_i32 : BitVec 32 := 1#32
  ⟨c0_i32_9, v13, c1_i32⟩
def k2_off1 (k2_t1 : Fin k2_t1_loop.trips) : Fin 1 → Nat :=
  let c0_i32_9 : BitVec 32 := 0#32
  let c1_i32 : BitVec 32 := 1#32
  let arg39 : BitVec 32 := Scf.iv c0_i32_9 c1_i32 k2_t1
  let c16_i32 : BitVec 32 := 16#32
  let v239 : BitVec 32 := Scalar.muli arg39 c16_i32
  let v240 : Index := Scalar.indexCast v239
  ![v240.toNat]
@[reducible] def k2_t2_loop : Scf.Loop 32 :=
  let c0_i32_148 : BitVec 32 := 0#32
  let c80_i32 : BitVec 32 := 80#32
  let v270 : BitVec 32 := Scalar.addi c0_i32_148 c80_i32
  let c1_i32_149 : BitVec 32 := 1#32
  ⟨c0_i32_148, v270, c1_i32_149⟩
def k2_off2 (k2_t2 : Fin k2_t2_loop.trips) : Fin 1 → Nat :=
  let c0_i32_148 : BitVec 32 := 0#32
  let c1_i32_149 : BitVec 32 := 1#32
  let arg39 : BitVec 32 := Scf.iv c0_i32_148 c1_i32_149 k2_t2
  let c16_i32 : BitVec 32 := 16#32
  let v276 : BitVec 32 := Scalar.muli arg39 c16_i32
  let v277 : Index := Scalar.indexCast v276
  ![v277.toNat]
def k2_cond2 (v25 : BitVec 32) : BitVec 1 :=
  let c0_i32_14 : BitVec 32 := 0#32
  let v26 : BitVec 1 := Scalar.cmpi .sgt v25 c0_i32_14
  let v27 : BitVec 32 := Scalar.extui v26
  let c0_i32_15 : BitVec 32 := 0#32
  let v28 : BitVec 1 := Scalar.cmpi .ne v27 c0_i32_15
  v28

def k2_off3 (k2_t2 : Fin k2_t2_loop.trips) : Fin 1 → Nat :=
  let c0_i32_148 : BitVec 32 := 0#32
  let c1_i32_149 : BitVec 32 := 1#32
  let arg39 : BitVec 32 := Scf.iv c0_i32_148 c1_i32_149 k2_t2
  let c16_i32_160 : BitVec 32 := 16#32
  let v298 : BitVec 32 := Scalar.muli arg39 c16_i32_160
  let v299 : Index := Scalar.indexCast v298
  ![v299.toNat]

def k2_chk1 (i : grid2.Coords) (v25 : BitVec 32) (v294 : IVec S16 32) : Prop :=
  (∀ (k2_h1 : k2_cond1 i = 1#1), ∀ (k2_h2 : k2_cond2 v25 = 1#1), ∀ a x, ((![v294] : Fin 1 → IVec S16 32) a x).toNat < S2048.size a) ∧
  (∀ (k2_h1 : k2_cond1 i = 1#1), ∀ (k2_h2 : k2_cond2 v25 = 1#1), ∀ a x, ((![v294] : Fin 1 → IVec S16 32) a x).toNat < S2048.size a) ∧
  (∀ (k2_h1 : k2_cond1 i = 1#1), ∀ (k2_h2 : k2_cond2 v25 = 1#1), ∀ a x, ((![v294] : Fin 1 → IVec S16 32) a x).toNat < S2048.size a) ∧
  (∀ (k2_h1 : k2_cond1 i = 1#1), ∀ (k2_h2 : k2_cond2 v25 = 1#1), ∀ a x, ((![v294] : Fin 1 → IVec S16 32) a x).toNat < S2048.size a) ∧
  (∀ (k2_h1 : k2_cond1 i = 1#1), ∀ (k2_h2 : k2_cond2 v25 = 1#1), ∀ a x, ((![v294] : Fin 1 → IVec S16 32) a x).toNat < S2048.size a)
theorem k2_idx1_inb : ∀ (i : grid2.Coords) (v25 : BitVec 32) (v294 : IVec S16 32) (k2_hw1 : k2_chk1 i v25 v294), ∀ (k2_h1 : k2_cond1 i = 1#1), ∀ (k2_h2 : k2_cond2 v25 = 1#1), ∀ a x, ((![v294] : Fin 1 → IVec S16 32) a x).toNat < S2048.size a := fun i v25 v294 k2_hw1 k2_h1 k2_h2 => k2_hw1.1 k2_h1 k2_h2
theorem k2_idx2_inb : ∀ (i : grid2.Coords) (v25 : BitVec 32) (v294 : IVec S16 32) (k2_hw1 : k2_chk1 i v25 v294), ∀ (k2_h1 : k2_cond1 i = 1#1), ∀ (k2_h2 : k2_cond2 v25 = 1#1), ∀ a x, ((![v294] : Fin 1 → IVec S16 32) a x).toNat < S2048.size a := fun i v25 v294 k2_hw1 k2_h1 k2_h2 => k2_hw1.2.1 k2_h1 k2_h2
theorem k2_idx3_inb : ∀ (i : grid2.Coords) (v25 : BitVec 32) (v294 : IVec S16 32) (k2_hw1 : k2_chk1 i v25 v294), ∀ (k2_h1 : k2_cond1 i = 1#1), ∀ (k2_h2 : k2_cond2 v25 = 1#1), ∀ a x, ((![v294] : Fin 1 → IVec S16 32) a x).toNat < S2048.size a := fun i v25 v294 k2_hw1 k2_h1 k2_h2 => k2_hw1.2.2.1 k2_h1 k2_h2
theorem k2_idx4_inb : ∀ (i : grid2.Coords) (v25 : BitVec 32) (v294 : IVec S16 32) (k2_hw1 : k2_chk1 i v25 v294), ∀ (k2_h1 : k2_cond1 i = 1#1), ∀ (k2_h2 : k2_cond2 v25 = 1#1), ∀ a x, ((![v294] : Fin 1 → IVec S16 32) a x).toNat < S2048.size a := fun i v25 v294 k2_hw1 k2_h1 k2_h2 => k2_hw1.2.2.2.1 k2_h1 k2_h2
theorem k2_idx5_inb : ∀ (i : grid2.Coords) (v25 : BitVec 32) (v294 : IVec S16 32) (k2_hw1 : k2_chk1 i v25 v294), ∀ (k2_h1 : k2_cond1 i = 1#1), ∀ (k2_h2 : k2_cond2 v25 = 1#1), ∀ a x, ((![v294] : Fin 1 → IVec S16 32) a x).toNat < S2048.size a := fun i v25 v294 k2_hw1 k2_h1 k2_h2 => k2_hw1.2.2.2.2 k2_h1 k2_h2
@[reducible] def k2_t3_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off4 (k2_t3 : Fin k2_t3_loop.trips) : Fin 1 → Nat :=
  let c0_i32_147 : BitVec 32 := 0#32
  let c1_i32_148 : BitVec 32 := 1#32
  let arg39 : BitVec 32 := Scf.iv c0_i32_147 c1_i32_148 k2_t3
  let c16_i32 : BitVec 32 := 16#32
  let v276 : BitVec 32 := Scalar.muli arg39 c16_i32
  let v277 : Index := Scalar.indexCast v276
  ![v277.toNat]
def k2_cond3 (v39 : BitVec 32) : BitVec 1 :=
  let c0_i32_21 : BitVec 32 := 0#32
  let v40 : BitVec 1 := Scalar.cmpi .sgt v39 c0_i32_21
  let v41 : BitVec 32 := Scalar.extui v40
  let c0_i32_22 : BitVec 32 := 0#32
  let v42 : BitVec 1 := Scalar.cmpi .ne v41 c0_i32_22
  v42

def k2_off5 (k2_t3 : Fin k2_t3_loop.trips) : Fin 1 → Nat :=
  let c0_i32_147 : BitVec 32 := 0#32
  let c1_i32_148 : BitVec 32 := 1#32
  let arg39 : BitVec 32 := Scf.iv c0_i32_147 c1_i32_148 k2_t3
  let c16_i32_159 : BitVec 32 := 16#32
  let v298 : BitVec 32 := Scalar.muli arg39 c16_i32_159
  let v299 : Index := Scalar.indexCast v298
  ![v299.toNat]

def k2_chk2 (i : grid2.Coords) (v39 : BitVec 32) (v294 : IVec S16 32) : Prop :=
  (∀ (k2_h1 : k2_cond1 i = 1#1), ∀ (k2_h3 : k2_cond3 v39 = 1#1), ∀ a x, ((![v294] : Fin 1 → IVec S16 32) a x).toNat < S2048.size a) ∧
  (∀ (k2_h1 : k2_cond1 i = 1#1), ∀ (k2_h3 : k2_cond3 v39 = 1#1), ∀ a x, ((![v294] : Fin 1 → IVec S16 32) a x).toNat < S2048.size a) ∧
  (∀ (k2_h1 : k2_cond1 i = 1#1), ∀ (k2_h3 : k2_cond3 v39 = 1#1), ∀ a x, ((![v294] : Fin 1 → IVec S16 32) a x).toNat < S2048.size a) ∧
  (∀ (k2_h1 : k2_cond1 i = 1#1), ∀ (k2_h3 : k2_cond3 v39 = 1#1), ∀ a x, ((![v294] : Fin 1 → IVec S16 32) a x).toNat < S2048.size a) ∧
  (∀ (k2_h1 : k2_cond1 i = 1#1), ∀ (k2_h3 : k2_cond3 v39 = 1#1), ∀ a x, ((![v294] : Fin 1 → IVec S16 32) a x).toNat < S2048.size a)
theorem k2_idx6_inb : ∀ (i : grid2.Coords) (v39 : BitVec 32) (v294 : IVec S16 32) (k2_hw2 : k2_chk2 i v39 v294), ∀ (k2_h1 : k2_cond1 i = 1#1), ∀ (k2_h3 : k2_cond3 v39 = 1#1), ∀ a x, ((![v294] : Fin 1 → IVec S16 32) a x).toNat < S2048.size a := fun i v39 v294 k2_hw2 k2_h1 k2_h3 => k2_hw2.1 k2_h1 k2_h3
theorem k2_idx7_inb : ∀ (i : grid2.Coords) (v39 : BitVec 32) (v294 : IVec S16 32) (k2_hw2 : k2_chk2 i v39 v294), ∀ (k2_h1 : k2_cond1 i = 1#1), ∀ (k2_h3 : k2_cond3 v39 = 1#1), ∀ a x, ((![v294] : Fin 1 → IVec S16 32) a x).toNat < S2048.size a := fun i v39 v294 k2_hw2 k2_h1 k2_h3 => k2_hw2.2.1 k2_h1 k2_h3
theorem k2_idx8_inb : ∀ (i : grid2.Coords) (v39 : BitVec 32) (v294 : IVec S16 32) (k2_hw2 : k2_chk2 i v39 v294), ∀ (k2_h1 : k2_cond1 i = 1#1), ∀ (k2_h3 : k2_cond3 v39 = 1#1), ∀ a x, ((![v294] : Fin 1 → IVec S16 32) a x).toNat < S2048.size a := fun i v39 v294 k2_hw2 k2_h1 k2_h3 => k2_hw2.2.2.1 k2_h1 k2_h3
theorem k2_idx9_inb : ∀ (i : grid2.Coords) (v39 : BitVec 32) (v294 : IVec S16 32) (k2_hw2 : k2_chk2 i v39 v294), ∀ (k2_h1 : k2_cond1 i = 1#1), ∀ (k2_h3 : k2_cond3 v39 = 1#1), ∀ a x, ((![v294] : Fin 1 → IVec S16 32) a x).toNat < S2048.size a := fun i v39 v294 k2_hw2 k2_h1 k2_h3 => k2_hw2.2.2.2.1 k2_h1 k2_h3
theorem k2_idx10_inb : ∀ (i : grid2.Coords) (v39 : BitVec 32) (v294 : IVec S16 32) (k2_hw2 : k2_chk2 i v39 v294), ∀ (k2_h1 : k2_cond1 i = 1#1), ∀ (k2_h3 : k2_cond3 v39 = 1#1), ∀ a x, ((![v294] : Fin 1 → IVec S16 32) a x).toNat < S2048.size a := fun i v39 v294 k2_hw2 k2_h1 k2_h3 => k2_hw2.2.2.2.2 k2_h1 k2_h3
@[reducible] def k2_t4_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off6 (k2_t4 : Fin k2_t4_loop.trips) : Fin 1 → Nat :=
  let c0_i32_147 : BitVec 32 := 0#32
  let c1_i32_148 : BitVec 32 := 1#32
  let arg39 : BitVec 32 := Scf.iv c0_i32_147 c1_i32_148 k2_t4
  let c16_i32 : BitVec 32 := 16#32
  let v276 : BitVec 32 := Scalar.muli arg39 c16_i32
  let v277 : Index := Scalar.indexCast v276
  ![v277.toNat]
def k2_cond4 (v53 : BitVec 32) : BitVec 1 :=
  let c0_i32_28 : BitVec 32 := 0#32
  let v54 : BitVec 1 := Scalar.cmpi .sgt v53 c0_i32_28
  let v55 : BitVec 32 := Scalar.extui v54
  let c0_i32_29 : BitVec 32 := 0#32
  let v56 : BitVec 1 := Scalar.cmpi .ne v55 c0_i32_29
  v56

def k2_off7 (k2_t4 : Fin k2_t4_loop.trips) : Fin 1 → Nat :=
  let c0_i32_147 : BitVec 32 := 0#32
  let c1_i32_148 : BitVec 32 := 1#32
  let arg39 : BitVec 32 := Scf.iv c0_i32_147 c1_i32_148 k2_t4
  let c16_i32_159 : BitVec 32 := 16#32
  let v298 : BitVec 32 := Scalar.muli arg39 c16_i32_159
  let v299 : Index := Scalar.indexCast v298
  ![v299.toNat]

def k2_chk3 (i : grid2.Coords) (v53 : BitVec 32) (v294 : IVec S16 32) : Prop :=
  (∀ (k2_h1 : k2_cond1 i = 1#1), ∀ (k2_h4 : k2_cond4 v53 = 1#1), ∀ a x, ((![v294] : Fin 1 → IVec S16 32) a x).toNat < S2048.size a) ∧
  (∀ (k2_h1 : k2_cond1 i = 1#1), ∀ (k2_h4 : k2_cond4 v53 = 1#1), ∀ a x, ((![v294] : Fin 1 → IVec S16 32) a x).toNat < S2048.size a) ∧
  (∀ (k2_h1 : k2_cond1 i = 1#1), ∀ (k2_h4 : k2_cond4 v53 = 1#1), ∀ a x, ((![v294] : Fin 1 → IVec S16 32) a x).toNat < S2048.size a) ∧
  (∀ (k2_h1 : k2_cond1 i = 1#1), ∀ (k2_h4 : k2_cond4 v53 = 1#1), ∀ a x, ((![v294] : Fin 1 → IVec S16 32) a x).toNat < S2048.size a) ∧
  (∀ (k2_h1 : k2_cond1 i = 1#1), ∀ (k2_h4 : k2_cond4 v53 = 1#1), ∀ a x, ((![v294] : Fin 1 → IVec S16 32) a x).toNat < S2048.size a)
theorem k2_idx11_inb : ∀ (i : grid2.Coords) (v53 : BitVec 32) (v294 : IVec S16 32) (k2_hw3 : k2_chk3 i v53 v294), ∀ (k2_h1 : k2_cond1 i = 1#1), ∀ (k2_h4 : k2_cond4 v53 = 1#1), ∀ a x, ((![v294] : Fin 1 → IVec S16 32) a x).toNat < S2048.size a := fun i v53 v294 k2_hw3 k2_h1 k2_h4 => k2_hw3.1 k2_h1 k2_h4
theorem k2_idx12_inb : ∀ (i : grid2.Coords) (v53 : BitVec 32) (v294 : IVec S16 32) (k2_hw3 : k2_chk3 i v53 v294), ∀ (k2_h1 : k2_cond1 i = 1#1), ∀ (k2_h4 : k2_cond4 v53 = 1#1), ∀ a x, ((![v294] : Fin 1 → IVec S16 32) a x).toNat < S2048.size a := fun i v53 v294 k2_hw3 k2_h1 k2_h4 => k2_hw3.2.1 k2_h1 k2_h4
theorem k2_idx13_inb : ∀ (i : grid2.Coords) (v53 : BitVec 32) (v294 : IVec S16 32) (k2_hw3 : k2_chk3 i v53 v294), ∀ (k2_h1 : k2_cond1 i = 1#1), ∀ (k2_h4 : k2_cond4 v53 = 1#1), ∀ a x, ((![v294] : Fin 1 → IVec S16 32) a x).toNat < S2048.size a := fun i v53 v294 k2_hw3 k2_h1 k2_h4 => k2_hw3.2.2.1 k2_h1 k2_h4
theorem k2_idx14_inb : ∀ (i : grid2.Coords) (v53 : BitVec 32) (v294 : IVec S16 32) (k2_hw3 : k2_chk3 i v53 v294), ∀ (k2_h1 : k2_cond1 i = 1#1), ∀ (k2_h4 : k2_cond4 v53 = 1#1), ∀ a x, ((![v294] : Fin 1 → IVec S16 32) a x).toNat < S2048.size a := fun i v53 v294 k2_hw3 k2_h1 k2_h4 => k2_hw3.2.2.2.1 k2_h1 k2_h4
theorem k2_idx15_inb : ∀ (i : grid2.Coords) (v53 : BitVec 32) (v294 : IVec S16 32) (k2_hw3 : k2_chk3 i v53 v294), ∀ (k2_h1 : k2_cond1 i = 1#1), ∀ (k2_h4 : k2_cond4 v53 = 1#1), ∀ a x, ((![v294] : Fin 1 → IVec S16 32) a x).toNat < S2048.size a := fun i v53 v294 k2_hw3 k2_h1 k2_h4 => k2_hw3.2.2.2.2 k2_h1 k2_h4
@[reducible] def k2_t5_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off8 (k2_t5 : Fin k2_t5_loop.trips) : Fin 1 → Nat :=
  let c0_i32_147 : BitVec 32 := 0#32
  let c1_i32_148 : BitVec 32 := 1#32
  let arg39 : BitVec 32 := Scf.iv c0_i32_147 c1_i32_148 k2_t5
  let c16_i32 : BitVec 32 := 16#32
  let v276 : BitVec 32 := Scalar.muli arg39 c16_i32
  let v277 : Index := Scalar.indexCast v276
  ![v277.toNat]
def k2_cond5 (v67 : BitVec 32) : BitVec 1 :=
  let c0_i32_35 : BitVec 32 := 0#32
  let v68 : BitVec 1 := Scalar.cmpi .sgt v67 c0_i32_35
  let v69 : BitVec 32 := Scalar.extui v68
  let c0_i32_36 : BitVec 32 := 0#32
  let v70 : BitVec 1 := Scalar.cmpi .ne v69 c0_i32_36
  v70

def k2_off9 (k2_t5 : Fin k2_t5_loop.trips) : Fin 1 → Nat :=
  let c0_i32_147 : BitVec 32 := 0#32
  let c1_i32_148 : BitVec 32 := 1#32
  let arg39 : BitVec 32 := Scf.iv c0_i32_147 c1_i32_148 k2_t5
  let c16_i32_159 : BitVec 32 := 16#32
  let v298 : BitVec 32 := Scalar.muli arg39 c16_i32_159
  let v299 : Index := Scalar.indexCast v298
  ![v299.toNat]

def k2_chk4 (i : grid2.Coords) (v67 : BitVec 32) (v294 : IVec S16 32) : Prop :=
  (∀ (k2_h1 : k2_cond1 i = 1#1), ∀ (k2_h5 : k2_cond5 v67 = 1#1), ∀ a x, ((![v294] : Fin 1 → IVec S16 32) a x).toNat < S2048.size a) ∧
  (∀ (k2_h1 : k2_cond1 i = 1#1), ∀ (k2_h5 : k2_cond5 v67 = 1#1), ∀ a x, ((![v294] : Fin 1 → IVec S16 32) a x).toNat < S2048.size a) ∧
  (∀ (k2_h1 : k2_cond1 i = 1#1), ∀ (k2_h5 : k2_cond5 v67 = 1#1), ∀ a x, ((![v294] : Fin 1 → IVec S16 32) a x).toNat < S2048.size a) ∧
  (∀ (k2_h1 : k2_cond1 i = 1#1), ∀ (k2_h5 : k2_cond5 v67 = 1#1), ∀ a x, ((![v294] : Fin 1 → IVec S16 32) a x).toNat < S2048.size a) ∧
  (∀ (k2_h1 : k2_cond1 i = 1#1), ∀ (k2_h5 : k2_cond5 v67 = 1#1), ∀ a x, ((![v294] : Fin 1 → IVec S16 32) a x).toNat < S2048.size a)
theorem k2_idx16_inb : ∀ (i : grid2.Coords) (v67 : BitVec 32) (v294 : IVec S16 32) (k2_hw4 : k2_chk4 i v67 v294), ∀ (k2_h1 : k2_cond1 i = 1#1), ∀ (k2_h5 : k2_cond5 v67 = 1#1), ∀ a x, ((![v294] : Fin 1 → IVec S16 32) a x).toNat < S2048.size a := fun i v67 v294 k2_hw4 k2_h1 k2_h5 => k2_hw4.1 k2_h1 k2_h5
theorem k2_idx17_inb : ∀ (i : grid2.Coords) (v67 : BitVec 32) (v294 : IVec S16 32) (k2_hw4 : k2_chk4 i v67 v294), ∀ (k2_h1 : k2_cond1 i = 1#1), ∀ (k2_h5 : k2_cond5 v67 = 1#1), ∀ a x, ((![v294] : Fin 1 → IVec S16 32) a x).toNat < S2048.size a := fun i v67 v294 k2_hw4 k2_h1 k2_h5 => k2_hw4.2.1 k2_h1 k2_h5
theorem k2_idx18_inb : ∀ (i : grid2.Coords) (v67 : BitVec 32) (v294 : IVec S16 32) (k2_hw4 : k2_chk4 i v67 v294), ∀ (k2_h1 : k2_cond1 i = 1#1), ∀ (k2_h5 : k2_cond5 v67 = 1#1), ∀ a x, ((![v294] : Fin 1 → IVec S16 32) a x).toNat < S2048.size a := fun i v67 v294 k2_hw4 k2_h1 k2_h5 => k2_hw4.2.2.1 k2_h1 k2_h5
theorem k2_idx19_inb : ∀ (i : grid2.Coords) (v67 : BitVec 32) (v294 : IVec S16 32) (k2_hw4 : k2_chk4 i v67 v294), ∀ (k2_h1 : k2_cond1 i = 1#1), ∀ (k2_h5 : k2_cond5 v67 = 1#1), ∀ a x, ((![v294] : Fin 1 → IVec S16 32) a x).toNat < S2048.size a := fun i v67 v294 k2_hw4 k2_h1 k2_h5 => k2_hw4.2.2.2.1 k2_h1 k2_h5
theorem k2_idx20_inb : ∀ (i : grid2.Coords) (v67 : BitVec 32) (v294 : IVec S16 32) (k2_hw4 : k2_chk4 i v67 v294), ∀ (k2_h1 : k2_cond1 i = 1#1), ∀ (k2_h5 : k2_cond5 v67 = 1#1), ∀ a x, ((![v294] : Fin 1 → IVec S16 32) a x).toNat < S2048.size a := fun i v67 v294 k2_hw4 k2_h1 k2_h5 => k2_hw4.2.2.2.2 k2_h1 k2_h5
@[reducible] def k2_t6_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off10 (k2_t6 : Fin k2_t6_loop.trips) : Fin 1 → Nat :=
  let c0_i32_147 : BitVec 32 := 0#32
  let c1_i32_148 : BitVec 32 := 1#32
  let arg39 : BitVec 32 := Scf.iv c0_i32_147 c1_i32_148 k2_t6
  let c16_i32 : BitVec 32 := 16#32
  let v276 : BitVec 32 := Scalar.muli arg39 c16_i32
  let v277 : Index := Scalar.indexCast v276
  ![v277.toNat]
def k2_cond6 (v81 : BitVec 32) : BitVec 1 :=
  let c0_i32_42 : BitVec 32 := 0#32
  let v82 : BitVec 1 := Scalar.cmpi .sgt v81 c0_i32_42
  let v83 : BitVec 32 := Scalar.extui v82
  let c0_i32_43 : BitVec 32 := 0#32
  let v84 : BitVec 1 := Scalar.cmpi .ne v83 c0_i32_43
  v84

def k2_off11 (k2_t6 : Fin k2_t6_loop.trips) : Fin 1 → Nat :=
  let c0_i32_147 : BitVec 32 := 0#32
  let c1_i32_148 : BitVec 32 := 1#32
  let arg39 : BitVec 32 := Scf.iv c0_i32_147 c1_i32_148 k2_t6
  let c16_i32_159 : BitVec 32 := 16#32
  let v298 : BitVec 32 := Scalar.muli arg39 c16_i32_159
  let v299 : Index := Scalar.indexCast v298
  ![v299.toNat]

def k2_chk5 (i : grid2.Coords) (v81 : BitVec 32) (v294 : IVec S16 32) : Prop :=
  (∀ (k2_h1 : k2_cond1 i = 1#1), ∀ (k2_h6 : k2_cond6 v81 = 1#1), ∀ a x, ((![v294] : Fin 1 → IVec S16 32) a x).toNat < S2048.size a) ∧
  (∀ (k2_h1 : k2_cond1 i = 1#1), ∀ (k2_h6 : k2_cond6 v81 = 1#1), ∀ a x, ((![v294] : Fin 1 → IVec S16 32) a x).toNat < S2048.size a) ∧
  (∀ (k2_h1 : k2_cond1 i = 1#1), ∀ (k2_h6 : k2_cond6 v81 = 1#1), ∀ a x, ((![v294] : Fin 1 → IVec S16 32) a x).toNat < S2048.size a) ∧
  (∀ (k2_h1 : k2_cond1 i = 1#1), ∀ (k2_h6 : k2_cond6 v81 = 1#1), ∀ a x, ((![v294] : Fin 1 → IVec S16 32) a x).toNat < S2048.size a) ∧
  (∀ (k2_h1 : k2_cond1 i = 1#1), ∀ (k2_h6 : k2_cond6 v81 = 1#1), ∀ a x, ((![v294] : Fin 1 → IVec S16 32) a x).toNat < S2048.size a)
theorem k2_idx21_inb : ∀ (i : grid2.Coords) (v81 : BitVec 32) (v294 : IVec S16 32) (k2_hw5 : k2_chk5 i v81 v294), ∀ (k2_h1 : k2_cond1 i = 1#1), ∀ (k2_h6 : k2_cond6 v81 = 1#1), ∀ a x, ((![v294] : Fin 1 → IVec S16 32) a x).toNat < S2048.size a := fun i v81 v294 k2_hw5 k2_h1 k2_h6 => k2_hw5.1 k2_h1 k2_h6
theorem k2_idx22_inb : ∀ (i : grid2.Coords) (v81 : BitVec 32) (v294 : IVec S16 32) (k2_hw5 : k2_chk5 i v81 v294), ∀ (k2_h1 : k2_cond1 i = 1#1), ∀ (k2_h6 : k2_cond6 v81 = 1#1), ∀ a x, ((![v294] : Fin 1 → IVec S16 32) a x).toNat < S2048.size a := fun i v81 v294 k2_hw5 k2_h1 k2_h6 => k2_hw5.2.1 k2_h1 k2_h6
theorem k2_idx23_inb : ∀ (i : grid2.Coords) (v81 : BitVec 32) (v294 : IVec S16 32) (k2_hw5 : k2_chk5 i v81 v294), ∀ (k2_h1 : k2_cond1 i = 1#1), ∀ (k2_h6 : k2_cond6 v81 = 1#1), ∀ a x, ((![v294] : Fin 1 → IVec S16 32) a x).toNat < S2048.size a := fun i v81 v294 k2_hw5 k2_h1 k2_h6 => k2_hw5.2.2.1 k2_h1 k2_h6
theorem k2_idx24_inb : ∀ (i : grid2.Coords) (v81 : BitVec 32) (v294 : IVec S16 32) (k2_hw5 : k2_chk5 i v81 v294), ∀ (k2_h1 : k2_cond1 i = 1#1), ∀ (k2_h6 : k2_cond6 v81 = 1#1), ∀ a x, ((![v294] : Fin 1 → IVec S16 32) a x).toNat < S2048.size a := fun i v81 v294 k2_hw5 k2_h1 k2_h6 => k2_hw5.2.2.2.1 k2_h1 k2_h6
theorem k2_idx25_inb : ∀ (i : grid2.Coords) (v81 : BitVec 32) (v294 : IVec S16 32) (k2_hw5 : k2_chk5 i v81 v294), ∀ (k2_h1 : k2_cond1 i = 1#1), ∀ (k2_h6 : k2_cond6 v81 = 1#1), ∀ a x, ((![v294] : Fin 1 → IVec S16 32) a x).toNat < S2048.size a := fun i v81 v294 k2_hw5 k2_h1 k2_h6 => k2_hw5.2.2.2.2 k2_h1 k2_h6
@[reducible] def k2_t7_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off12 (k2_t7 : Fin k2_t7_loop.trips) : Fin 1 → Nat :=
  let c0_i32_147 : BitVec 32 := 0#32
  let c1_i32_148 : BitVec 32 := 1#32
  let arg39 : BitVec 32 := Scf.iv c0_i32_147 c1_i32_148 k2_t7
  let c16_i32 : BitVec 32 := 16#32
  let v276 : BitVec 32 := Scalar.muli arg39 c16_i32
  let v277 : Index := Scalar.indexCast v276
  ![v277.toNat]
def k2_cond7 (v95 : BitVec 32) : BitVec 1 :=
  let c0_i32_49 : BitVec 32 := 0#32
  let v96 : BitVec 1 := Scalar.cmpi .sgt v95 c0_i32_49
  let v97 : BitVec 32 := Scalar.extui v96
  let c0_i32_50 : BitVec 32 := 0#32
  let v98 : BitVec 1 := Scalar.cmpi .ne v97 c0_i32_50
  v98

def k2_off13 (k2_t7 : Fin k2_t7_loop.trips) : Fin 1 → Nat :=
  let c0_i32_147 : BitVec 32 := 0#32
  let c1_i32_148 : BitVec 32 := 1#32
  let arg39 : BitVec 32 := Scf.iv c0_i32_147 c1_i32_148 k2_t7
  let c16_i32_159 : BitVec 32 := 16#32
  let v298 : BitVec 32 := Scalar.muli arg39 c16_i32_159
  let v299 : Index := Scalar.indexCast v298
  ![v299.toNat]

def k2_chk6 (i : grid2.Coords) (v95 : BitVec 32) (v294 : IVec S16 32) : Prop :=
  (∀ (k2_h1 : k2_cond1 i = 1#1), ∀ (k2_h7 : k2_cond7 v95 = 1#1), ∀ a x, ((![v294] : Fin 1 → IVec S16 32) a x).toNat < S2048.size a) ∧
  (∀ (k2_h1 : k2_cond1 i = 1#1), ∀ (k2_h7 : k2_cond7 v95 = 1#1), ∀ a x, ((![v294] : Fin 1 → IVec S16 32) a x).toNat < S2048.size a) ∧
  (∀ (k2_h1 : k2_cond1 i = 1#1), ∀ (k2_h7 : k2_cond7 v95 = 1#1), ∀ a x, ((![v294] : Fin 1 → IVec S16 32) a x).toNat < S2048.size a) ∧
  (∀ (k2_h1 : k2_cond1 i = 1#1), ∀ (k2_h7 : k2_cond7 v95 = 1#1), ∀ a x, ((![v294] : Fin 1 → IVec S16 32) a x).toNat < S2048.size a) ∧
  (∀ (k2_h1 : k2_cond1 i = 1#1), ∀ (k2_h7 : k2_cond7 v95 = 1#1), ∀ a x, ((![v294] : Fin 1 → IVec S16 32) a x).toNat < S2048.size a)
theorem k2_idx26_inb : ∀ (i : grid2.Coords) (v95 : BitVec 32) (v294 : IVec S16 32) (k2_hw6 : k2_chk6 i v95 v294), ∀ (k2_h1 : k2_cond1 i = 1#1), ∀ (k2_h7 : k2_cond7 v95 = 1#1), ∀ a x, ((![v294] : Fin 1 → IVec S16 32) a x).toNat < S2048.size a := fun i v95 v294 k2_hw6 k2_h1 k2_h7 => k2_hw6.1 k2_h1 k2_h7
theorem k2_idx27_inb : ∀ (i : grid2.Coords) (v95 : BitVec 32) (v294 : IVec S16 32) (k2_hw6 : k2_chk6 i v95 v294), ∀ (k2_h1 : k2_cond1 i = 1#1), ∀ (k2_h7 : k2_cond7 v95 = 1#1), ∀ a x, ((![v294] : Fin 1 → IVec S16 32) a x).toNat < S2048.size a := fun i v95 v294 k2_hw6 k2_h1 k2_h7 => k2_hw6.2.1 k2_h1 k2_h7
theorem k2_idx28_inb : ∀ (i : grid2.Coords) (v95 : BitVec 32) (v294 : IVec S16 32) (k2_hw6 : k2_chk6 i v95 v294), ∀ (k2_h1 : k2_cond1 i = 1#1), ∀ (k2_h7 : k2_cond7 v95 = 1#1), ∀ a x, ((![v294] : Fin 1 → IVec S16 32) a x).toNat < S2048.size a := fun i v95 v294 k2_hw6 k2_h1 k2_h7 => k2_hw6.2.2.1 k2_h1 k2_h7
theorem k2_idx29_inb : ∀ (i : grid2.Coords) (v95 : BitVec 32) (v294 : IVec S16 32) (k2_hw6 : k2_chk6 i v95 v294), ∀ (k2_h1 : k2_cond1 i = 1#1), ∀ (k2_h7 : k2_cond7 v95 = 1#1), ∀ a x, ((![v294] : Fin 1 → IVec S16 32) a x).toNat < S2048.size a := fun i v95 v294 k2_hw6 k2_h1 k2_h7 => k2_hw6.2.2.2.1 k2_h1 k2_h7
theorem k2_idx30_inb : ∀ (i : grid2.Coords) (v95 : BitVec 32) (v294 : IVec S16 32) (k2_hw6 : k2_chk6 i v95 v294), ∀ (k2_h1 : k2_cond1 i = 1#1), ∀ (k2_h7 : k2_cond7 v95 = 1#1), ∀ a x, ((![v294] : Fin 1 → IVec S16 32) a x).toNat < S2048.size a := fun i v95 v294 k2_hw6 k2_h1 k2_h7 => k2_hw6.2.2.2.2 k2_h1 k2_h7
@[reducible] def k2_t8_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off14 (k2_t8 : Fin k2_t8_loop.trips) : Fin 1 → Nat :=
  let c0_i32_147 : BitVec 32 := 0#32
  let c1_i32_148 : BitVec 32 := 1#32
  let arg39 : BitVec 32 := Scf.iv c0_i32_147 c1_i32_148 k2_t8
  let c16_i32 : BitVec 32 := 16#32
  let v276 : BitVec 32 := Scalar.muli arg39 c16_i32
  let v277 : Index := Scalar.indexCast v276
  ![v277.toNat]
def k2_cond8 (v109 : BitVec 32) : BitVec 1 :=
  let c0_i32_56 : BitVec 32 := 0#32
  let v110 : BitVec 1 := Scalar.cmpi .sgt v109 c0_i32_56
  let v111 : BitVec 32 := Scalar.extui v110
  let c0_i32_57 : BitVec 32 := 0#32
  let v112 : BitVec 1 := Scalar.cmpi .ne v111 c0_i32_57
  v112

def k2_off15 (k2_t8 : Fin k2_t8_loop.trips) : Fin 1 → Nat :=
  let c0_i32_147 : BitVec 32 := 0#32
  let c1_i32_148 : BitVec 32 := 1#32
  let arg39 : BitVec 32 := Scf.iv c0_i32_147 c1_i32_148 k2_t8
  let c16_i32_159 : BitVec 32 := 16#32
  let v298 : BitVec 32 := Scalar.muli arg39 c16_i32_159
  let v299 : Index := Scalar.indexCast v298
  ![v299.toNat]

def k2_chk7 (i : grid2.Coords) (v109 : BitVec 32) (v294 : IVec S16 32) : Prop :=
  (∀ (k2_h1 : k2_cond1 i = 1#1), ∀ (k2_h8 : k2_cond8 v109 = 1#1), ∀ a x, ((![v294] : Fin 1 → IVec S16 32) a x).toNat < S2048.size a) ∧
  (∀ (k2_h1 : k2_cond1 i = 1#1), ∀ (k2_h8 : k2_cond8 v109 = 1#1), ∀ a x, ((![v294] : Fin 1 → IVec S16 32) a x).toNat < S2048.size a) ∧
  (∀ (k2_h1 : k2_cond1 i = 1#1), ∀ (k2_h8 : k2_cond8 v109 = 1#1), ∀ a x, ((![v294] : Fin 1 → IVec S16 32) a x).toNat < S2048.size a) ∧
  (∀ (k2_h1 : k2_cond1 i = 1#1), ∀ (k2_h8 : k2_cond8 v109 = 1#1), ∀ a x, ((![v294] : Fin 1 → IVec S16 32) a x).toNat < S2048.size a) ∧
  (∀ (k2_h1 : k2_cond1 i = 1#1), ∀ (k2_h8 : k2_cond8 v109 = 1#1), ∀ a x, ((![v294] : Fin 1 → IVec S16 32) a x).toNat < S2048.size a)
theorem k2_idx31_inb : ∀ (i : grid2.Coords) (v109 : BitVec 32) (v294 : IVec S16 32) (k2_hw7 : k2_chk7 i v109 v294), ∀ (k2_h1 : k2_cond1 i = 1#1), ∀ (k2_h8 : k2_cond8 v109 = 1#1), ∀ a x, ((![v294] : Fin 1 → IVec S16 32) a x).toNat < S2048.size a := fun i v109 v294 k2_hw7 k2_h1 k2_h8 => k2_hw7.1 k2_h1 k2_h8
theorem k2_idx32_inb : ∀ (i : grid2.Coords) (v109 : BitVec 32) (v294 : IVec S16 32) (k2_hw7 : k2_chk7 i v109 v294), ∀ (k2_h1 : k2_cond1 i = 1#1), ∀ (k2_h8 : k2_cond8 v109 = 1#1), ∀ a x, ((![v294] : Fin 1 → IVec S16 32) a x).toNat < S2048.size a := fun i v109 v294 k2_hw7 k2_h1 k2_h8 => k2_hw7.2.1 k2_h1 k2_h8
theorem k2_idx33_inb : ∀ (i : grid2.Coords) (v109 : BitVec 32) (v294 : IVec S16 32) (k2_hw7 : k2_chk7 i v109 v294), ∀ (k2_h1 : k2_cond1 i = 1#1), ∀ (k2_h8 : k2_cond8 v109 = 1#1), ∀ a x, ((![v294] : Fin 1 → IVec S16 32) a x).toNat < S2048.size a := fun i v109 v294 k2_hw7 k2_h1 k2_h8 => k2_hw7.2.2.1 k2_h1 k2_h8
theorem k2_idx34_inb : ∀ (i : grid2.Coords) (v109 : BitVec 32) (v294 : IVec S16 32) (k2_hw7 : k2_chk7 i v109 v294), ∀ (k2_h1 : k2_cond1 i = 1#1), ∀ (k2_h8 : k2_cond8 v109 = 1#1), ∀ a x, ((![v294] : Fin 1 → IVec S16 32) a x).toNat < S2048.size a := fun i v109 v294 k2_hw7 k2_h1 k2_h8 => k2_hw7.2.2.2.1 k2_h1 k2_h8
theorem k2_idx35_inb : ∀ (i : grid2.Coords) (v109 : BitVec 32) (v294 : IVec S16 32) (k2_hw7 : k2_chk7 i v109 v294), ∀ (k2_h1 : k2_cond1 i = 1#1), ∀ (k2_h8 : k2_cond8 v109 = 1#1), ∀ a x, ((![v294] : Fin 1 → IVec S16 32) a x).toNat < S2048.size a := fun i v109 v294 k2_hw7 k2_h1 k2_h8 => k2_hw7.2.2.2.2 k2_h1 k2_h8
@[reducible] def k2_t9_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off16 (k2_t9 : Fin k2_t9_loop.trips) : Fin 1 → Nat :=
  let c0_i32_147 : BitVec 32 := 0#32
  let c1_i32_148 : BitVec 32 := 1#32
  let arg39 : BitVec 32 := Scf.iv c0_i32_147 c1_i32_148 k2_t9
  let c16_i32 : BitVec 32 := 16#32
  let v276 : BitVec 32 := Scalar.muli arg39 c16_i32
  let v277 : Index := Scalar.indexCast v276
  ![v277.toNat]
def k2_cond9 (v123 : BitVec 32) : BitVec 1 :=
  let c0_i32_63 : BitVec 32 := 0#32
  let v124 : BitVec 1 := Scalar.cmpi .sgt v123 c0_i32_63
  let v125 : BitVec 32 := Scalar.extui v124
  let c0_i32_64 : BitVec 32 := 0#32
  let v126 : BitVec 1 := Scalar.cmpi .ne v125 c0_i32_64
  v126

def k2_off17 (k2_t9 : Fin k2_t9_loop.trips) : Fin 1 → Nat :=
  let c0_i32_147 : BitVec 32 := 0#32
  let c1_i32_148 : BitVec 32 := 1#32
  let arg39 : BitVec 32 := Scf.iv c0_i32_147 c1_i32_148 k2_t9
  let c16_i32_159 : BitVec 32 := 16#32
  let v298 : BitVec 32 := Scalar.muli arg39 c16_i32_159
  let v299 : Index := Scalar.indexCast v298
  ![v299.toNat]

def k2_chk8 (i : grid2.Coords) (v123 : BitVec 32) (v294 : IVec S16 32) : Prop :=
  (∀ (k2_h1 : k2_cond1 i = 1#1), ∀ (k2_h9 : k2_cond9 v123 = 1#1), ∀ a x, ((![v294] : Fin 1 → IVec S16 32) a x).toNat < S2048.size a) ∧
  (∀ (k2_h1 : k2_cond1 i = 1#1), ∀ (k2_h9 : k2_cond9 v123 = 1#1), ∀ a x, ((![v294] : Fin 1 → IVec S16 32) a x).toNat < S2048.size a) ∧
  (∀ (k2_h1 : k2_cond1 i = 1#1), ∀ (k2_h9 : k2_cond9 v123 = 1#1), ∀ a x, ((![v294] : Fin 1 → IVec S16 32) a x).toNat < S2048.size a) ∧
  (∀ (k2_h1 : k2_cond1 i = 1#1), ∀ (k2_h9 : k2_cond9 v123 = 1#1), ∀ a x, ((![v294] : Fin 1 → IVec S16 32) a x).toNat < S2048.size a) ∧
  (∀ (k2_h1 : k2_cond1 i = 1#1), ∀ (k2_h9 : k2_cond9 v123 = 1#1), ∀ a x, ((![v294] : Fin 1 → IVec S16 32) a x).toNat < S2048.size a)
theorem k2_idx36_inb : ∀ (i : grid2.Coords) (v123 : BitVec 32) (v294 : IVec S16 32) (k2_hw8 : k2_chk8 i v123 v294), ∀ (k2_h1 : k2_cond1 i = 1#1), ∀ (k2_h9 : k2_cond9 v123 = 1#1), ∀ a x, ((![v294] : Fin 1 → IVec S16 32) a x).toNat < S2048.size a := fun i v123 v294 k2_hw8 k2_h1 k2_h9 => k2_hw8.1 k2_h1 k2_h9
theorem k2_idx37_inb : ∀ (i : grid2.Coords) (v123 : BitVec 32) (v294 : IVec S16 32) (k2_hw8 : k2_chk8 i v123 v294), ∀ (k2_h1 : k2_cond1 i = 1#1), ∀ (k2_h9 : k2_cond9 v123 = 1#1), ∀ a x, ((![v294] : Fin 1 → IVec S16 32) a x).toNat < S2048.size a := fun i v123 v294 k2_hw8 k2_h1 k2_h9 => k2_hw8.2.1 k2_h1 k2_h9
theorem k2_idx38_inb : ∀ (i : grid2.Coords) (v123 : BitVec 32) (v294 : IVec S16 32) (k2_hw8 : k2_chk8 i v123 v294), ∀ (k2_h1 : k2_cond1 i = 1#1), ∀ (k2_h9 : k2_cond9 v123 = 1#1), ∀ a x, ((![v294] : Fin 1 → IVec S16 32) a x).toNat < S2048.size a := fun i v123 v294 k2_hw8 k2_h1 k2_h9 => k2_hw8.2.2.1 k2_h1 k2_h9
theorem k2_idx39_inb : ∀ (i : grid2.Coords) (v123 : BitVec 32) (v294 : IVec S16 32) (k2_hw8 : k2_chk8 i v123 v294), ∀ (k2_h1 : k2_cond1 i = 1#1), ∀ (k2_h9 : k2_cond9 v123 = 1#1), ∀ a x, ((![v294] : Fin 1 → IVec S16 32) a x).toNat < S2048.size a := fun i v123 v294 k2_hw8 k2_h1 k2_h9 => k2_hw8.2.2.2.1 k2_h1 k2_h9
theorem k2_idx40_inb : ∀ (i : grid2.Coords) (v123 : BitVec 32) (v294 : IVec S16 32) (k2_hw8 : k2_chk8 i v123 v294), ∀ (k2_h1 : k2_cond1 i = 1#1), ∀ (k2_h9 : k2_cond9 v123 = 1#1), ∀ a x, ((![v294] : Fin 1 → IVec S16 32) a x).toNat < S2048.size a := fun i v123 v294 k2_hw8 k2_h1 k2_h9 => k2_hw8.2.2.2.2 k2_h1 k2_h9
@[reducible] def k2_t10_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off18 (k2_t10 : Fin k2_t10_loop.trips) : Fin 1 → Nat :=
  let c0_i32_147 : BitVec 32 := 0#32
  let c1_i32_148 : BitVec 32 := 1#32
  let arg39 : BitVec 32 := Scf.iv c0_i32_147 c1_i32_148 k2_t10
  let c16_i32 : BitVec 32 := 16#32
  let v276 : BitVec 32 := Scalar.muli arg39 c16_i32
  let v277 : Index := Scalar.indexCast v276
  ![v277.toNat]
def k2_cond10 (v137 : BitVec 32) : BitVec 1 :=
  let c0_i32_70 : BitVec 32 := 0#32
  let v138 : BitVec 1 := Scalar.cmpi .sgt v137 c0_i32_70
  let v139 : BitVec 32 := Scalar.extui v138
  let c0_i32_71 : BitVec 32 := 0#32
  let v140 : BitVec 1 := Scalar.cmpi .ne v139 c0_i32_71
  v140

def k2_off19 (k2_t10 : Fin k2_t10_loop.trips) : Fin 1 → Nat :=
  let c0_i32_147 : BitVec 32 := 0#32
  let c1_i32_148 : BitVec 32 := 1#32
  let arg39 : BitVec 32 := Scf.iv c0_i32_147 c1_i32_148 k2_t10
  let c16_i32_159 : BitVec 32 := 16#32
  let v298 : BitVec 32 := Scalar.muli arg39 c16_i32_159
  let v299 : Index := Scalar.indexCast v298
  ![v299.toNat]

def k2_chk9 (i : grid2.Coords) (v137 : BitVec 32) (v294 : IVec S16 32) : Prop :=
  (∀ (k2_h1 : k2_cond1 i = 1#1), ∀ (k2_h10 : k2_cond10 v137 = 1#1), ∀ a x, ((![v294] : Fin 1 → IVec S16 32) a x).toNat < S2048.size a) ∧
  (∀ (k2_h1 : k2_cond1 i = 1#1), ∀ (k2_h10 : k2_cond10 v137 = 1#1), ∀ a x, ((![v294] : Fin 1 → IVec S16 32) a x).toNat < S2048.size a) ∧
  (∀ (k2_h1 : k2_cond1 i = 1#1), ∀ (k2_h10 : k2_cond10 v137 = 1#1), ∀ a x, ((![v294] : Fin 1 → IVec S16 32) a x).toNat < S2048.size a) ∧
  (∀ (k2_h1 : k2_cond1 i = 1#1), ∀ (k2_h10 : k2_cond10 v137 = 1#1), ∀ a x, ((![v294] : Fin 1 → IVec S16 32) a x).toNat < S2048.size a) ∧
  (∀ (k2_h1 : k2_cond1 i = 1#1), ∀ (k2_h10 : k2_cond10 v137 = 1#1), ∀ a x, ((![v294] : Fin 1 → IVec S16 32) a x).toNat < S2048.size a)
theorem k2_idx41_inb : ∀ (i : grid2.Coords) (v137 : BitVec 32) (v294 : IVec S16 32) (k2_hw9 : k2_chk9 i v137 v294), ∀ (k2_h1 : k2_cond1 i = 1#1), ∀ (k2_h10 : k2_cond10 v137 = 1#1), ∀ a x, ((![v294] : Fin 1 → IVec S16 32) a x).toNat < S2048.size a := fun i v137 v294 k2_hw9 k2_h1 k2_h10 => k2_hw9.1 k2_h1 k2_h10
theorem k2_idx42_inb : ∀ (i : grid2.Coords) (v137 : BitVec 32) (v294 : IVec S16 32) (k2_hw9 : k2_chk9 i v137 v294), ∀ (k2_h1 : k2_cond1 i = 1#1), ∀ (k2_h10 : k2_cond10 v137 = 1#1), ∀ a x, ((![v294] : Fin 1 → IVec S16 32) a x).toNat < S2048.size a := fun i v137 v294 k2_hw9 k2_h1 k2_h10 => k2_hw9.2.1 k2_h1 k2_h10
theorem k2_idx43_inb : ∀ (i : grid2.Coords) (v137 : BitVec 32) (v294 : IVec S16 32) (k2_hw9 : k2_chk9 i v137 v294), ∀ (k2_h1 : k2_cond1 i = 1#1), ∀ (k2_h10 : k2_cond10 v137 = 1#1), ∀ a x, ((![v294] : Fin 1 → IVec S16 32) a x).toNat < S2048.size a := fun i v137 v294 k2_hw9 k2_h1 k2_h10 => k2_hw9.2.2.1 k2_h1 k2_h10
theorem k2_idx44_inb : ∀ (i : grid2.Coords) (v137 : BitVec 32) (v294 : IVec S16 32) (k2_hw9 : k2_chk9 i v137 v294), ∀ (k2_h1 : k2_cond1 i = 1#1), ∀ (k2_h10 : k2_cond10 v137 = 1#1), ∀ a x, ((![v294] : Fin 1 → IVec S16 32) a x).toNat < S2048.size a := fun i v137 v294 k2_hw9 k2_h1 k2_h10 => k2_hw9.2.2.2.1 k2_h1 k2_h10
theorem k2_idx45_inb : ∀ (i : grid2.Coords) (v137 : BitVec 32) (v294 : IVec S16 32) (k2_hw9 : k2_chk9 i v137 v294), ∀ (k2_h1 : k2_cond1 i = 1#1), ∀ (k2_h10 : k2_cond10 v137 = 1#1), ∀ a x, ((![v294] : Fin 1 → IVec S16 32) a x).toNat < S2048.size a := fun i v137 v294 k2_hw9 k2_h1 k2_h10 => k2_hw9.2.2.2.2 k2_h1 k2_h10
@[reducible] def k2_t11_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off20 (k2_t11 : Fin k2_t11_loop.trips) : Fin 1 → Nat :=
  let c0_i32_147 : BitVec 32 := 0#32
  let c1_i32_148 : BitVec 32 := 1#32
  let arg39 : BitVec 32 := Scf.iv c0_i32_147 c1_i32_148 k2_t11
  let c16_i32 : BitVec 32 := 16#32
  let v276 : BitVec 32 := Scalar.muli arg39 c16_i32
  let v277 : Index := Scalar.indexCast v276
  ![v277.toNat]
def k2_cond11 (v151 : BitVec 32) : BitVec 1 :=
  let c0_i32_77 : BitVec 32 := 0#32
  let v152 : BitVec 1 := Scalar.cmpi .sgt v151 c0_i32_77
  let v153 : BitVec 32 := Scalar.extui v152
  let c0_i32_78 : BitVec 32 := 0#32
  let v154 : BitVec 1 := Scalar.cmpi .ne v153 c0_i32_78
  v154

def k2_off21 (k2_t11 : Fin k2_t11_loop.trips) : Fin 1 → Nat :=
  let c0_i32_147 : BitVec 32 := 0#32
  let c1_i32_148 : BitVec 32 := 1#32
  let arg39 : BitVec 32 := Scf.iv c0_i32_147 c1_i32_148 k2_t11
  let c16_i32_159 : BitVec 32 := 16#32
  let v298 : BitVec 32 := Scalar.muli arg39 c16_i32_159
  let v299 : Index := Scalar.indexCast v298
  ![v299.toNat]

def k2_chk10 (i : grid2.Coords) (v151 : BitVec 32) (v294 : IVec S16 32) : Prop :=
  (∀ (k2_h1 : k2_cond1 i = 1#1), ∀ (k2_h11 : k2_cond11 v151 = 1#1), ∀ a x, ((![v294] : Fin 1 → IVec S16 32) a x).toNat < S2048.size a) ∧
  (∀ (k2_h1 : k2_cond1 i = 1#1), ∀ (k2_h11 : k2_cond11 v151 = 1#1), ∀ a x, ((![v294] : Fin 1 → IVec S16 32) a x).toNat < S2048.size a) ∧
  (∀ (k2_h1 : k2_cond1 i = 1#1), ∀ (k2_h11 : k2_cond11 v151 = 1#1), ∀ a x, ((![v294] : Fin 1 → IVec S16 32) a x).toNat < S2048.size a) ∧
  (∀ (k2_h1 : k2_cond1 i = 1#1), ∀ (k2_h11 : k2_cond11 v151 = 1#1), ∀ a x, ((![v294] : Fin 1 → IVec S16 32) a x).toNat < S2048.size a) ∧
  (∀ (k2_h1 : k2_cond1 i = 1#1), ∀ (k2_h11 : k2_cond11 v151 = 1#1), ∀ a x, ((![v294] : Fin 1 → IVec S16 32) a x).toNat < S2048.size a)
theorem k2_idx46_inb : ∀ (i : grid2.Coords) (v151 : BitVec 32) (v294 : IVec S16 32) (k2_hw10 : k2_chk10 i v151 v294), ∀ (k2_h1 : k2_cond1 i = 1#1), ∀ (k2_h11 : k2_cond11 v151 = 1#1), ∀ a x, ((![v294] : Fin 1 → IVec S16 32) a x).toNat < S2048.size a := fun i v151 v294 k2_hw10 k2_h1 k2_h11 => k2_hw10.1 k2_h1 k2_h11
theorem k2_idx47_inb : ∀ (i : grid2.Coords) (v151 : BitVec 32) (v294 : IVec S16 32) (k2_hw10 : k2_chk10 i v151 v294), ∀ (k2_h1 : k2_cond1 i = 1#1), ∀ (k2_h11 : k2_cond11 v151 = 1#1), ∀ a x, ((![v294] : Fin 1 → IVec S16 32) a x).toNat < S2048.size a := fun i v151 v294 k2_hw10 k2_h1 k2_h11 => k2_hw10.2.1 k2_h1 k2_h11
theorem k2_idx48_inb : ∀ (i : grid2.Coords) (v151 : BitVec 32) (v294 : IVec S16 32) (k2_hw10 : k2_chk10 i v151 v294), ∀ (k2_h1 : k2_cond1 i = 1#1), ∀ (k2_h11 : k2_cond11 v151 = 1#1), ∀ a x, ((![v294] : Fin 1 → IVec S16 32) a x).toNat < S2048.size a := fun i v151 v294 k2_hw10 k2_h1 k2_h11 => k2_hw10.2.2.1 k2_h1 k2_h11
theorem k2_idx49_inb : ∀ (i : grid2.Coords) (v151 : BitVec 32) (v294 : IVec S16 32) (k2_hw10 : k2_chk10 i v151 v294), ∀ (k2_h1 : k2_cond1 i = 1#1), ∀ (k2_h11 : k2_cond11 v151 = 1#1), ∀ a x, ((![v294] : Fin 1 → IVec S16 32) a x).toNat < S2048.size a := fun i v151 v294 k2_hw10 k2_h1 k2_h11 => k2_hw10.2.2.2.1 k2_h1 k2_h11
theorem k2_idx50_inb : ∀ (i : grid2.Coords) (v151 : BitVec 32) (v294 : IVec S16 32) (k2_hw10 : k2_chk10 i v151 v294), ∀ (k2_h1 : k2_cond1 i = 1#1), ∀ (k2_h11 : k2_cond11 v151 = 1#1), ∀ a x, ((![v294] : Fin 1 → IVec S16 32) a x).toNat < S2048.size a := fun i v151 v294 k2_hw10 k2_h1 k2_h11 => k2_hw10.2.2.2.2 k2_h1 k2_h11
@[reducible] def k2_t12_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off22 (k2_t12 : Fin k2_t12_loop.trips) : Fin 1 → Nat :=
  let c0_i32_147 : BitVec 32 := 0#32
  let c1_i32_148 : BitVec 32 := 1#32
  let arg39 : BitVec 32 := Scf.iv c0_i32_147 c1_i32_148 k2_t12
  let c16_i32 : BitVec 32 := 16#32
  let v276 : BitVec 32 := Scalar.muli arg39 c16_i32
  let v277 : Index := Scalar.indexCast v276
  ![v277.toNat]
def k2_cond12 (v165 : BitVec 32) : BitVec 1 :=
  let c0_i32_84 : BitVec 32 := 0#32
  let v166 : BitVec 1 := Scalar.cmpi .sgt v165 c0_i32_84
  let v167 : BitVec 32 := Scalar.extui v166
  let c0_i32_85 : BitVec 32 := 0#32
  let v168 : BitVec 1 := Scalar.cmpi .ne v167 c0_i32_85
  v168

def k2_off23 (k2_t12 : Fin k2_t12_loop.trips) : Fin 1 → Nat :=
  let c0_i32_147 : BitVec 32 := 0#32
  let c1_i32_148 : BitVec 32 := 1#32
  let arg39 : BitVec 32 := Scf.iv c0_i32_147 c1_i32_148 k2_t12
  let c16_i32_159 : BitVec 32 := 16#32
  let v298 : BitVec 32 := Scalar.muli arg39 c16_i32_159
  let v299 : Index := Scalar.indexCast v298
  ![v299.toNat]

def k2_chk11 (i : grid2.Coords) (v165 : BitVec 32) (v294 : IVec S16 32) : Prop :=
  (∀ (k2_h1 : k2_cond1 i = 1#1), ∀ (k2_h12 : k2_cond12 v165 = 1#1), ∀ a x, ((![v294] : Fin 1 → IVec S16 32) a x).toNat < S2048.size a) ∧
  (∀ (k2_h1 : k2_cond1 i = 1#1), ∀ (k2_h12 : k2_cond12 v165 = 1#1), ∀ a x, ((![v294] : Fin 1 → IVec S16 32) a x).toNat < S2048.size a) ∧
  (∀ (k2_h1 : k2_cond1 i = 1#1), ∀ (k2_h12 : k2_cond12 v165 = 1#1), ∀ a x, ((![v294] : Fin 1 → IVec S16 32) a x).toNat < S2048.size a) ∧
  (∀ (k2_h1 : k2_cond1 i = 1#1), ∀ (k2_h12 : k2_cond12 v165 = 1#1), ∀ a x, ((![v294] : Fin 1 → IVec S16 32) a x).toNat < S2048.size a) ∧
  (∀ (k2_h1 : k2_cond1 i = 1#1), ∀ (k2_h12 : k2_cond12 v165 = 1#1), ∀ a x, ((![v294] : Fin 1 → IVec S16 32) a x).toNat < S2048.size a)
theorem k2_idx51_inb : ∀ (i : grid2.Coords) (v165 : BitVec 32) (v294 : IVec S16 32) (k2_hw11 : k2_chk11 i v165 v294), ∀ (k2_h1 : k2_cond1 i = 1#1), ∀ (k2_h12 : k2_cond12 v165 = 1#1), ∀ a x, ((![v294] : Fin 1 → IVec S16 32) a x).toNat < S2048.size a := fun i v165 v294 k2_hw11 k2_h1 k2_h12 => k2_hw11.1 k2_h1 k2_h12
theorem k2_idx52_inb : ∀ (i : grid2.Coords) (v165 : BitVec 32) (v294 : IVec S16 32) (k2_hw11 : k2_chk11 i v165 v294), ∀ (k2_h1 : k2_cond1 i = 1#1), ∀ (k2_h12 : k2_cond12 v165 = 1#1), ∀ a x, ((![v294] : Fin 1 → IVec S16 32) a x).toNat < S2048.size a := fun i v165 v294 k2_hw11 k2_h1 k2_h12 => k2_hw11.2.1 k2_h1 k2_h12
theorem k2_idx53_inb : ∀ (i : grid2.Coords) (v165 : BitVec 32) (v294 : IVec S16 32) (k2_hw11 : k2_chk11 i v165 v294), ∀ (k2_h1 : k2_cond1 i = 1#1), ∀ (k2_h12 : k2_cond12 v165 = 1#1), ∀ a x, ((![v294] : Fin 1 → IVec S16 32) a x).toNat < S2048.size a := fun i v165 v294 k2_hw11 k2_h1 k2_h12 => k2_hw11.2.2.1 k2_h1 k2_h12
theorem k2_idx54_inb : ∀ (i : grid2.Coords) (v165 : BitVec 32) (v294 : IVec S16 32) (k2_hw11 : k2_chk11 i v165 v294), ∀ (k2_h1 : k2_cond1 i = 1#1), ∀ (k2_h12 : k2_cond12 v165 = 1#1), ∀ a x, ((![v294] : Fin 1 → IVec S16 32) a x).toNat < S2048.size a := fun i v165 v294 k2_hw11 k2_h1 k2_h12 => k2_hw11.2.2.2.1 k2_h1 k2_h12
theorem k2_idx55_inb : ∀ (i : grid2.Coords) (v165 : BitVec 32) (v294 : IVec S16 32) (k2_hw11 : k2_chk11 i v165 v294), ∀ (k2_h1 : k2_cond1 i = 1#1), ∀ (k2_h12 : k2_cond12 v165 = 1#1), ∀ a x, ((![v294] : Fin 1 → IVec S16 32) a x).toNat < S2048.size a := fun i v165 v294 k2_hw11 k2_h1 k2_h12 => k2_hw11.2.2.2.2 k2_h1 k2_h12
@[reducible] def k2_t13_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off24 (k2_t13 : Fin k2_t13_loop.trips) : Fin 1 → Nat :=
  let c0_i32_147 : BitVec 32 := 0#32
  let c1_i32_148 : BitVec 32 := 1#32
  let arg39 : BitVec 32 := Scf.iv c0_i32_147 c1_i32_148 k2_t13
  let c16_i32 : BitVec 32 := 16#32
  let v276 : BitVec 32 := Scalar.muli arg39 c16_i32
  let v277 : Index := Scalar.indexCast v276
  ![v277.toNat]
def k2_cond13 (v179 : BitVec 32) : BitVec 1 :=
  let c0_i32_91 : BitVec 32 := 0#32
  let v180 : BitVec 1 := Scalar.cmpi .sgt v179 c0_i32_91
  let v181 : BitVec 32 := Scalar.extui v180
  let c0_i32_92 : BitVec 32 := 0#32
  let v182 : BitVec 1 := Scalar.cmpi .ne v181 c0_i32_92
  v182

def k2_off25 (k2_t13 : Fin k2_t13_loop.trips) : Fin 1 → Nat :=
  let c0_i32_147 : BitVec 32 := 0#32
  let c1_i32_148 : BitVec 32 := 1#32
  let arg39 : BitVec 32 := Scf.iv c0_i32_147 c1_i32_148 k2_t13
  let c16_i32_159 : BitVec 32 := 16#32
  let v298 : BitVec 32 := Scalar.muli arg39 c16_i32_159
  let v299 : Index := Scalar.indexCast v298
  ![v299.toNat]

def k2_chk12 (i : grid2.Coords) (v179 : BitVec 32) (v294 : IVec S16 32) : Prop :=
  (∀ (k2_h1 : k2_cond1 i = 1#1), ∀ (k2_h13 : k2_cond13 v179 = 1#1), ∀ a x, ((![v294] : Fin 1 → IVec S16 32) a x).toNat < S2048.size a) ∧
  (∀ (k2_h1 : k2_cond1 i = 1#1), ∀ (k2_h13 : k2_cond13 v179 = 1#1), ∀ a x, ((![v294] : Fin 1 → IVec S16 32) a x).toNat < S2048.size a) ∧
  (∀ (k2_h1 : k2_cond1 i = 1#1), ∀ (k2_h13 : k2_cond13 v179 = 1#1), ∀ a x, ((![v294] : Fin 1 → IVec S16 32) a x).toNat < S2048.size a) ∧
  (∀ (k2_h1 : k2_cond1 i = 1#1), ∀ (k2_h13 : k2_cond13 v179 = 1#1), ∀ a x, ((![v294] : Fin 1 → IVec S16 32) a x).toNat < S2048.size a) ∧
  (∀ (k2_h1 : k2_cond1 i = 1#1), ∀ (k2_h13 : k2_cond13 v179 = 1#1), ∀ a x, ((![v294] : Fin 1 → IVec S16 32) a x).toNat < S2048.size a)
theorem k2_idx56_inb : ∀ (i : grid2.Coords) (v179 : BitVec 32) (v294 : IVec S16 32) (k2_hw12 : k2_chk12 i v179 v294), ∀ (k2_h1 : k2_cond1 i = 1#1), ∀ (k2_h13 : k2_cond13 v179 = 1#1), ∀ a x, ((![v294] : Fin 1 → IVec S16 32) a x).toNat < S2048.size a := fun i v179 v294 k2_hw12 k2_h1 k2_h13 => k2_hw12.1 k2_h1 k2_h13
theorem k2_idx57_inb : ∀ (i : grid2.Coords) (v179 : BitVec 32) (v294 : IVec S16 32) (k2_hw12 : k2_chk12 i v179 v294), ∀ (k2_h1 : k2_cond1 i = 1#1), ∀ (k2_h13 : k2_cond13 v179 = 1#1), ∀ a x, ((![v294] : Fin 1 → IVec S16 32) a x).toNat < S2048.size a := fun i v179 v294 k2_hw12 k2_h1 k2_h13 => k2_hw12.2.1 k2_h1 k2_h13
theorem k2_idx58_inb : ∀ (i : grid2.Coords) (v179 : BitVec 32) (v294 : IVec S16 32) (k2_hw12 : k2_chk12 i v179 v294), ∀ (k2_h1 : k2_cond1 i = 1#1), ∀ (k2_h13 : k2_cond13 v179 = 1#1), ∀ a x, ((![v294] : Fin 1 → IVec S16 32) a x).toNat < S2048.size a := fun i v179 v294 k2_hw12 k2_h1 k2_h13 => k2_hw12.2.2.1 k2_h1 k2_h13
theorem k2_idx59_inb : ∀ (i : grid2.Coords) (v179 : BitVec 32) (v294 : IVec S16 32) (k2_hw12 : k2_chk12 i v179 v294), ∀ (k2_h1 : k2_cond1 i = 1#1), ∀ (k2_h13 : k2_cond13 v179 = 1#1), ∀ a x, ((![v294] : Fin 1 → IVec S16 32) a x).toNat < S2048.size a := fun i v179 v294 k2_hw12 k2_h1 k2_h13 => k2_hw12.2.2.2.1 k2_h1 k2_h13
theorem k2_idx60_inb : ∀ (i : grid2.Coords) (v179 : BitVec 32) (v294 : IVec S16 32) (k2_hw12 : k2_chk12 i v179 v294), ∀ (k2_h1 : k2_cond1 i = 1#1), ∀ (k2_h13 : k2_cond13 v179 = 1#1), ∀ a x, ((![v294] : Fin 1 → IVec S16 32) a x).toNat < S2048.size a := fun i v179 v294 k2_hw12 k2_h1 k2_h13 => k2_hw12.2.2.2.2 k2_h1 k2_h13
@[reducible] def k2_t14_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off26 (k2_t14 : Fin k2_t14_loop.trips) : Fin 1 → Nat :=
  let c0_i32_147 : BitVec 32 := 0#32
  let c1_i32_148 : BitVec 32 := 1#32
  let arg39 : BitVec 32 := Scf.iv c0_i32_147 c1_i32_148 k2_t14
  let c16_i32 : BitVec 32 := 16#32
  let v276 : BitVec 32 := Scalar.muli arg39 c16_i32
  let v277 : Index := Scalar.indexCast v276
  ![v277.toNat]
def k2_cond14 (v193 : BitVec 32) : BitVec 1 :=
  let c0_i32_98 : BitVec 32 := 0#32
  let v194 : BitVec 1 := Scalar.cmpi .sgt v193 c0_i32_98
  let v195 : BitVec 32 := Scalar.extui v194
  let c0_i32_99 : BitVec 32 := 0#32
  let v196 : BitVec 1 := Scalar.cmpi .ne v195 c0_i32_99
  v196

def k2_off27 (k2_t14 : Fin k2_t14_loop.trips) : Fin 1 → Nat :=
  let c0_i32_147 : BitVec 32 := 0#32
  let c1_i32_148 : BitVec 32 := 1#32
  let arg39 : BitVec 32 := Scf.iv c0_i32_147 c1_i32_148 k2_t14
  let c16_i32_159 : BitVec 32 := 16#32
  let v298 : BitVec 32 := Scalar.muli arg39 c16_i32_159
  let v299 : Index := Scalar.indexCast v298
  ![v299.toNat]

def k2_chk13 (i : grid2.Coords) (v193 : BitVec 32) (v294 : IVec S16 32) : Prop :=
  (∀ (k2_h1 : k2_cond1 i = 1#1), ∀ (k2_h14 : k2_cond14 v193 = 1#1), ∀ a x, ((![v294] : Fin 1 → IVec S16 32) a x).toNat < S2048.size a) ∧
  (∀ (k2_h1 : k2_cond1 i = 1#1), ∀ (k2_h14 : k2_cond14 v193 = 1#1), ∀ a x, ((![v294] : Fin 1 → IVec S16 32) a x).toNat < S2048.size a) ∧
  (∀ (k2_h1 : k2_cond1 i = 1#1), ∀ (k2_h14 : k2_cond14 v193 = 1#1), ∀ a x, ((![v294] : Fin 1 → IVec S16 32) a x).toNat < S2048.size a) ∧
  (∀ (k2_h1 : k2_cond1 i = 1#1), ∀ (k2_h14 : k2_cond14 v193 = 1#1), ∀ a x, ((![v294] : Fin 1 → IVec S16 32) a x).toNat < S2048.size a) ∧
  (∀ (k2_h1 : k2_cond1 i = 1#1), ∀ (k2_h14 : k2_cond14 v193 = 1#1), ∀ a x, ((![v294] : Fin 1 → IVec S16 32) a x).toNat < S2048.size a)
theorem k2_idx61_inb : ∀ (i : grid2.Coords) (v193 : BitVec 32) (v294 : IVec S16 32) (k2_hw13 : k2_chk13 i v193 v294), ∀ (k2_h1 : k2_cond1 i = 1#1), ∀ (k2_h14 : k2_cond14 v193 = 1#1), ∀ a x, ((![v294] : Fin 1 → IVec S16 32) a x).toNat < S2048.size a := fun i v193 v294 k2_hw13 k2_h1 k2_h14 => k2_hw13.1 k2_h1 k2_h14
theorem k2_idx62_inb : ∀ (i : grid2.Coords) (v193 : BitVec 32) (v294 : IVec S16 32) (k2_hw13 : k2_chk13 i v193 v294), ∀ (k2_h1 : k2_cond1 i = 1#1), ∀ (k2_h14 : k2_cond14 v193 = 1#1), ∀ a x, ((![v294] : Fin 1 → IVec S16 32) a x).toNat < S2048.size a := fun i v193 v294 k2_hw13 k2_h1 k2_h14 => k2_hw13.2.1 k2_h1 k2_h14
theorem k2_idx63_inb : ∀ (i : grid2.Coords) (v193 : BitVec 32) (v294 : IVec S16 32) (k2_hw13 : k2_chk13 i v193 v294), ∀ (k2_h1 : k2_cond1 i = 1#1), ∀ (k2_h14 : k2_cond14 v193 = 1#1), ∀ a x, ((![v294] : Fin 1 → IVec S16 32) a x).toNat < S2048.size a := fun i v193 v294 k2_hw13 k2_h1 k2_h14 => k2_hw13.2.2.1 k2_h1 k2_h14
theorem k2_idx64_inb : ∀ (i : grid2.Coords) (v193 : BitVec 32) (v294 : IVec S16 32) (k2_hw13 : k2_chk13 i v193 v294), ∀ (k2_h1 : k2_cond1 i = 1#1), ∀ (k2_h14 : k2_cond14 v193 = 1#1), ∀ a x, ((![v294] : Fin 1 → IVec S16 32) a x).toNat < S2048.size a := fun i v193 v294 k2_hw13 k2_h1 k2_h14 => k2_hw13.2.2.2.1 k2_h1 k2_h14
theorem k2_idx65_inb : ∀ (i : grid2.Coords) (v193 : BitVec 32) (v294 : IVec S16 32) (k2_hw13 : k2_chk13 i v193 v294), ∀ (k2_h1 : k2_cond1 i = 1#1), ∀ (k2_h14 : k2_cond14 v193 = 1#1), ∀ a x, ((![v294] : Fin 1 → IVec S16 32) a x).toNat < S2048.size a := fun i v193 v294 k2_hw13 k2_h1 k2_h14 => k2_hw13.2.2.2.2 k2_h1 k2_h14
@[reducible] def k2_t15_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off28 (k2_t15 : Fin k2_t15_loop.trips) : Fin 1 → Nat :=
  let c0_i32_147 : BitVec 32 := 0#32
  let c1_i32_148 : BitVec 32 := 1#32
  let arg39 : BitVec 32 := Scf.iv c0_i32_147 c1_i32_148 k2_t15
  let c16_i32 : BitVec 32 := 16#32
  let v276 : BitVec 32 := Scalar.muli arg39 c16_i32
  let v277 : Index := Scalar.indexCast v276
  ![v277.toNat]
def k2_cond15 (v207 : BitVec 32) : BitVec 1 :=
  let c0_i32_105 : BitVec 32 := 0#32
  let v208 : BitVec 1 := Scalar.cmpi .sgt v207 c0_i32_105
  let v209 : BitVec 32 := Scalar.extui v208
  let c0_i32_106 : BitVec 32 := 0#32
  let v210 : BitVec 1 := Scalar.cmpi .ne v209 c0_i32_106
  v210

def k2_off29 (k2_t15 : Fin k2_t15_loop.trips) : Fin 1 → Nat :=
  let c0_i32_147 : BitVec 32 := 0#32
  let c1_i32_148 : BitVec 32 := 1#32
  let arg39 : BitVec 32 := Scf.iv c0_i32_147 c1_i32_148 k2_t15
  let c16_i32_159 : BitVec 32 := 16#32
  let v298 : BitVec 32 := Scalar.muli arg39 c16_i32_159
  let v299 : Index := Scalar.indexCast v298
  ![v299.toNat]

def k2_chk14 (i : grid2.Coords) (v207 : BitVec 32) (v294 : IVec S16 32) : Prop :=
  (∀ (k2_h1 : k2_cond1 i = 1#1), ∀ (k2_h15 : k2_cond15 v207 = 1#1), ∀ a x, ((![v294] : Fin 1 → IVec S16 32) a x).toNat < S2048.size a) ∧
  (∀ (k2_h1 : k2_cond1 i = 1#1), ∀ (k2_h15 : k2_cond15 v207 = 1#1), ∀ a x, ((![v294] : Fin 1 → IVec S16 32) a x).toNat < S2048.size a) ∧
  (∀ (k2_h1 : k2_cond1 i = 1#1), ∀ (k2_h15 : k2_cond15 v207 = 1#1), ∀ a x, ((![v294] : Fin 1 → IVec S16 32) a x).toNat < S2048.size a) ∧
  (∀ (k2_h1 : k2_cond1 i = 1#1), ∀ (k2_h15 : k2_cond15 v207 = 1#1), ∀ a x, ((![v294] : Fin 1 → IVec S16 32) a x).toNat < S2048.size a) ∧
  (∀ (k2_h1 : k2_cond1 i = 1#1), ∀ (k2_h15 : k2_cond15 v207 = 1#1), ∀ a x, ((![v294] : Fin 1 → IVec S16 32) a x).toNat < S2048.size a)
theorem k2_idx66_inb : ∀ (i : grid2.Coords) (v207 : BitVec 32) (v294 : IVec S16 32) (k2_hw14 : k2_chk14 i v207 v294), ∀ (k2_h1 : k2_cond1 i = 1#1), ∀ (k2_h15 : k2_cond15 v207 = 1#1), ∀ a x, ((![v294] : Fin 1 → IVec S16 32) a x).toNat < S2048.size a := fun i v207 v294 k2_hw14 k2_h1 k2_h15 => k2_hw14.1 k2_h1 k2_h15
theorem k2_idx67_inb : ∀ (i : grid2.Coords) (v207 : BitVec 32) (v294 : IVec S16 32) (k2_hw14 : k2_chk14 i v207 v294), ∀ (k2_h1 : k2_cond1 i = 1#1), ∀ (k2_h15 : k2_cond15 v207 = 1#1), ∀ a x, ((![v294] : Fin 1 → IVec S16 32) a x).toNat < S2048.size a := fun i v207 v294 k2_hw14 k2_h1 k2_h15 => k2_hw14.2.1 k2_h1 k2_h15
theorem k2_idx68_inb : ∀ (i : grid2.Coords) (v207 : BitVec 32) (v294 : IVec S16 32) (k2_hw14 : k2_chk14 i v207 v294), ∀ (k2_h1 : k2_cond1 i = 1#1), ∀ (k2_h15 : k2_cond15 v207 = 1#1), ∀ a x, ((![v294] : Fin 1 → IVec S16 32) a x).toNat < S2048.size a := fun i v207 v294 k2_hw14 k2_h1 k2_h15 => k2_hw14.2.2.1 k2_h1 k2_h15
theorem k2_idx69_inb : ∀ (i : grid2.Coords) (v207 : BitVec 32) (v294 : IVec S16 32) (k2_hw14 : k2_chk14 i v207 v294), ∀ (k2_h1 : k2_cond1 i = 1#1), ∀ (k2_h15 : k2_cond15 v207 = 1#1), ∀ a x, ((![v294] : Fin 1 → IVec S16 32) a x).toNat < S2048.size a := fun i v207 v294 k2_hw14 k2_h1 k2_h15 => k2_hw14.2.2.2.1 k2_h1 k2_h15
theorem k2_idx70_inb : ∀ (i : grid2.Coords) (v207 : BitVec 32) (v294 : IVec S16 32) (k2_hw14 : k2_chk14 i v207 v294), ∀ (k2_h1 : k2_cond1 i = 1#1), ∀ (k2_h15 : k2_cond15 v207 = 1#1), ∀ a x, ((![v294] : Fin 1 → IVec S16 32) a x).toNat < S2048.size a := fun i v207 v294 k2_hw14 k2_h1 k2_h15 => k2_hw14.2.2.2.2 k2_h1 k2_h15
@[reducible] def k2_t16_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off30 (k2_t16 : Fin k2_t16_loop.trips) : Fin 1 → Nat :=
  let c0_i32_147 : BitVec 32 := 0#32
  let c1_i32_148 : BitVec 32 := 1#32
  let arg39 : BitVec 32 := Scf.iv c0_i32_147 c1_i32_148 k2_t16
  let c16_i32 : BitVec 32 := 16#32
  let v276 : BitVec 32 := Scalar.muli arg39 c16_i32
  let v277 : Index := Scalar.indexCast v276
  ![v277.toNat]
def k2_cond16 (v221 : BitVec 32) : BitVec 1 :=
  let c0_i32_112 : BitVec 32 := 0#32
  let v222 : BitVec 1 := Scalar.cmpi .sgt v221 c0_i32_112
  let v223 : BitVec 32 := Scalar.extui v222
  let c0_i32_113 : BitVec 32 := 0#32
  let v224 : BitVec 1 := Scalar.cmpi .ne v223 c0_i32_113
  v224

def k2_off31 (k2_t16 : Fin k2_t16_loop.trips) : Fin 1 → Nat :=
  let c0_i32_147 : BitVec 32 := 0#32
  let c1_i32_148 : BitVec 32 := 1#32
  let arg39 : BitVec 32 := Scf.iv c0_i32_147 c1_i32_148 k2_t16
  let c16_i32_159 : BitVec 32 := 16#32
  let v298 : BitVec 32 := Scalar.muli arg39 c16_i32_159
  let v299 : Index := Scalar.indexCast v298
  ![v299.toNat]

def k2_chk15 (i : grid2.Coords) (v221 : BitVec 32) (v294 : IVec S16 32) : Prop :=
  (∀ (k2_h1 : k2_cond1 i = 1#1), ∀ (k2_h16 : k2_cond16 v221 = 1#1), ∀ a x, ((![v294] : Fin 1 → IVec S16 32) a x).toNat < S2048.size a) ∧
  (∀ (k2_h1 : k2_cond1 i = 1#1), ∀ (k2_h16 : k2_cond16 v221 = 1#1), ∀ a x, ((![v294] : Fin 1 → IVec S16 32) a x).toNat < S2048.size a) ∧
  (∀ (k2_h1 : k2_cond1 i = 1#1), ∀ (k2_h16 : k2_cond16 v221 = 1#1), ∀ a x, ((![v294] : Fin 1 → IVec S16 32) a x).toNat < S2048.size a) ∧
  (∀ (k2_h1 : k2_cond1 i = 1#1), ∀ (k2_h16 : k2_cond16 v221 = 1#1), ∀ a x, ((![v294] : Fin 1 → IVec S16 32) a x).toNat < S2048.size a) ∧
  (∀ (k2_h1 : k2_cond1 i = 1#1), ∀ (k2_h16 : k2_cond16 v221 = 1#1), ∀ a x, ((![v294] : Fin 1 → IVec S16 32) a x).toNat < S2048.size a)
theorem k2_idx71_inb : ∀ (i : grid2.Coords) (v221 : BitVec 32) (v294 : IVec S16 32) (k2_hw15 : k2_chk15 i v221 v294), ∀ (k2_h1 : k2_cond1 i = 1#1), ∀ (k2_h16 : k2_cond16 v221 = 1#1), ∀ a x, ((![v294] : Fin 1 → IVec S16 32) a x).toNat < S2048.size a := fun i v221 v294 k2_hw15 k2_h1 k2_h16 => k2_hw15.1 k2_h1 k2_h16
theorem k2_idx72_inb : ∀ (i : grid2.Coords) (v221 : BitVec 32) (v294 : IVec S16 32) (k2_hw15 : k2_chk15 i v221 v294), ∀ (k2_h1 : k2_cond1 i = 1#1), ∀ (k2_h16 : k2_cond16 v221 = 1#1), ∀ a x, ((![v294] : Fin 1 → IVec S16 32) a x).toNat < S2048.size a := fun i v221 v294 k2_hw15 k2_h1 k2_h16 => k2_hw15.2.1 k2_h1 k2_h16
theorem k2_idx73_inb : ∀ (i : grid2.Coords) (v221 : BitVec 32) (v294 : IVec S16 32) (k2_hw15 : k2_chk15 i v221 v294), ∀ (k2_h1 : k2_cond1 i = 1#1), ∀ (k2_h16 : k2_cond16 v221 = 1#1), ∀ a x, ((![v294] : Fin 1 → IVec S16 32) a x).toNat < S2048.size a := fun i v221 v294 k2_hw15 k2_h1 k2_h16 => k2_hw15.2.2.1 k2_h1 k2_h16
theorem k2_idx74_inb : ∀ (i : grid2.Coords) (v221 : BitVec 32) (v294 : IVec S16 32) (k2_hw15 : k2_chk15 i v221 v294), ∀ (k2_h1 : k2_cond1 i = 1#1), ∀ (k2_h16 : k2_cond16 v221 = 1#1), ∀ a x, ((![v294] : Fin 1 → IVec S16 32) a x).toNat < S2048.size a := fun i v221 v294 k2_hw15 k2_h1 k2_h16 => k2_hw15.2.2.2.1 k2_h1 k2_h16
theorem k2_idx75_inb : ∀ (i : grid2.Coords) (v221 : BitVec 32) (v294 : IVec S16 32) (k2_hw15 : k2_chk15 i v221 v294), ∀ (k2_h1 : k2_cond1 i = 1#1), ∀ (k2_h16 : k2_cond16 v221 = 1#1), ∀ a x, ((![v294] : Fin 1 → IVec S16 32) a x).toNat < S2048.size a := fun i v221 v294 k2_hw15 k2_h1 k2_h16 => k2_hw15.2.2.2.2 k2_h1 k2_h16
@[reducible] def k2_t17_loop : Scf.Loop 32 :=
  let c0_i32_147 : BitVec 32 := 0#32
  let c80_i32 : BitVec 32 := 80#32
  let v270 : BitVec 32 := Scalar.addi c0_i32_147 c80_i32
  let c1_i32_148 : BitVec 32 := 1#32
  ⟨c0_i32_147, v270, c1_i32_148⟩
def k2_off32 (k2_t17 : Fin k2_t17_loop.trips) : Fin 1 → Nat :=
  let c0_i32_147 : BitVec 32 := 0#32
  let c1_i32_148 : BitVec 32 := 1#32
  let arg39 : BitVec 32 := Scf.iv c0_i32_147 c1_i32_148 k2_t17
  let c16_i32 : BitVec 32 := 16#32
  let v276 : BitVec 32 := Scalar.muli arg39 c16_i32
  let v277 : Index := Scalar.indexCast v276
  ![v277.toNat]
def k2_cond17 (v235 : BitVec 32) : BitVec 1 :=
  let c0_i32_119 : BitVec 32 := 0#32
  let v236 : BitVec 1 := Scalar.cmpi .sgt v235 c0_i32_119
  let v237 : BitVec 32 := Scalar.extui v236
  let c0_i32_120 : BitVec 32 := 0#32
  let v238 : BitVec 1 := Scalar.cmpi .ne v237 c0_i32_120
  v238

def k2_off33 (k2_t17 : Fin k2_t17_loop.trips) : Fin 1 → Nat :=
  let c0_i32_147 : BitVec 32 := 0#32
  let c1_i32_148 : BitVec 32 := 1#32
  let arg39 : BitVec 32 := Scf.iv c0_i32_147 c1_i32_148 k2_t17
  let c16_i32_159 : BitVec 32 := 16#32
  let v298 : BitVec 32 := Scalar.muli arg39 c16_i32_159
  let v299 : Index := Scalar.indexCast v298
  ![v299.toNat]

def k2_chk16 (i : grid2.Coords) (v235 : BitVec 32) (v294 : IVec S16 32) : Prop :=
  (∀ (k2_h1 : k2_cond1 i = 1#1), ∀ (k2_h17 : k2_cond17 v235 = 1#1), ∀ a x, ((![v294] : Fin 1 → IVec S16 32) a x).toNat < S2048.size a) ∧
  (∀ (k2_h1 : k2_cond1 i = 1#1), ∀ (k2_h17 : k2_cond17 v235 = 1#1), ∀ a x, ((![v294] : Fin 1 → IVec S16 32) a x).toNat < S2048.size a) ∧
  (∀ (k2_h1 : k2_cond1 i = 1#1), ∀ (k2_h17 : k2_cond17 v235 = 1#1), ∀ a x, ((![v294] : Fin 1 → IVec S16 32) a x).toNat < S2048.size a) ∧
  (∀ (k2_h1 : k2_cond1 i = 1#1), ∀ (k2_h17 : k2_cond17 v235 = 1#1), ∀ a x, ((![v294] : Fin 1 → IVec S16 32) a x).toNat < S2048.size a) ∧
  (∀ (k2_h1 : k2_cond1 i = 1#1), ∀ (k2_h17 : k2_cond17 v235 = 1#1), ∀ a x, ((![v294] : Fin 1 → IVec S16 32) a x).toNat < S2048.size a)
theorem k2_idx76_inb : ∀ (i : grid2.Coords) (v235 : BitVec 32) (v294 : IVec S16 32) (k2_hw16 : k2_chk16 i v235 v294), ∀ (k2_h1 : k2_cond1 i = 1#1), ∀ (k2_h17 : k2_cond17 v235 = 1#1), ∀ a x, ((![v294] : Fin 1 → IVec S16 32) a x).toNat < S2048.size a := fun i v235 v294 k2_hw16 k2_h1 k2_h17 => k2_hw16.1 k2_h1 k2_h17
theorem k2_idx77_inb : ∀ (i : grid2.Coords) (v235 : BitVec 32) (v294 : IVec S16 32) (k2_hw16 : k2_chk16 i v235 v294), ∀ (k2_h1 : k2_cond1 i = 1#1), ∀ (k2_h17 : k2_cond17 v235 = 1#1), ∀ a x, ((![v294] : Fin 1 → IVec S16 32) a x).toNat < S2048.size a := fun i v235 v294 k2_hw16 k2_h1 k2_h17 => k2_hw16.2.1 k2_h1 k2_h17
theorem k2_idx78_inb : ∀ (i : grid2.Coords) (v235 : BitVec 32) (v294 : IVec S16 32) (k2_hw16 : k2_chk16 i v235 v294), ∀ (k2_h1 : k2_cond1 i = 1#1), ∀ (k2_h17 : k2_cond17 v235 = 1#1), ∀ a x, ((![v294] : Fin 1 → IVec S16 32) a x).toNat < S2048.size a := fun i v235 v294 k2_hw16 k2_h1 k2_h17 => k2_hw16.2.2.1 k2_h1 k2_h17
theorem k2_idx79_inb : ∀ (i : grid2.Coords) (v235 : BitVec 32) (v294 : IVec S16 32) (k2_hw16 : k2_chk16 i v235 v294), ∀ (k2_h1 : k2_cond1 i = 1#1), ∀ (k2_h17 : k2_cond17 v235 = 1#1), ∀ a x, ((![v294] : Fin 1 → IVec S16 32) a x).toNat < S2048.size a := fun i v235 v294 k2_hw16 k2_h1 k2_h17 => k2_hw16.2.2.2.1 k2_h1 k2_h17
theorem k2_idx80_inb : ∀ (i : grid2.Coords) (v235 : BitVec 32) (v294 : IVec S16 32) (k2_hw16 : k2_chk16 i v235 v294), ∀ (k2_h1 : k2_cond1 i = 1#1), ∀ (k2_h17 : k2_cond17 v235 = 1#1), ∀ a x, ((![v294] : Fin 1 → IVec S16 32) a x).toNat < S2048.size a := fun i v235 v294 k2_hw16 k2_h1 k2_h17 => k2_hw16.2.2.2.2 k2_h1 k2_h17
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x2 : Shape := ⟨2, ![20000, 2]⟩
abbrev S_ : Shape := ⟨0, ![]⟩
abbrev S20000x1 : Shape := ⟨2, ![20000, 1]⟩
abbrev S2000 : Shape := ⟨1, ![2000]⟩
abbrev S1 : Shape := ⟨1, ![1]⟩
abbrev S2000x1 : Shape := ⟨2, ![2000, 1]⟩
abbrev S2000x4 : Shape := ⟨2, ![2000, 4]⟩
abbrev S2000x5 : Shape := ⟨2, ![2000, 5]⟩

abbrev nBuf : Space → Nat
  | .hbm => 219
  | .vmem => 0
  | .smem => 0
  | _ => 0

abbrev hbmTy0_0 (i : Nat) : BufTy := match i % 128 with
  | 0 => ⟨S20000x4, .f32⟩
  | 1 => ⟨S20000, .f32⟩
  | 2 => ⟨S20000x2, .f32⟩
  | 3 => ⟨S_, .f32⟩
  | 4 => ⟨S_, .f32⟩
  | 5 => ⟨S_, .f32⟩
  | 6 => ⟨S20000x2, .f32⟩
  | 7 => ⟨S20000x2, .f32⟩
  | 8 => ⟨S_, .f32⟩
  | 9 => ⟨S20000x2, .f32⟩
  | 10 => ⟨S20000x2, .f32⟩
  | 11 => ⟨S20000x2, .f32⟩
  | 12 => ⟨S_, .f32⟩
  | 13 => ⟨S_, .f32⟩
  | 14 => ⟨S_, .f32⟩
  | 15 => ⟨S20000x2, .f32⟩
  | 16 => ⟨S20000x2, .f32⟩
  | 17 => ⟨S_, .f32⟩
  | 18 => ⟨S20000x2, .f32⟩
  | 19 => ⟨S20000x2, .f32⟩
  | 20 => ⟨S20000x1, .f32⟩
  | 21 => ⟨S20000, .f32⟩
  | 22 => ⟨S20000x1, .f32⟩
  | 23 => ⟨S20000, .f32⟩
  | 24 => ⟨S20000x1, .f32⟩
  | 25 => ⟨S20000, .f32⟩
  | 26 => ⟨S20000x1, .f32⟩
  | 27 => ⟨S20000, .f32⟩
  | 28 => ⟨S20000x1, .f32⟩
  | 29 => ⟨S20000x1, .f32⟩
  | 30 => ⟨S20000x1, .f32⟩
  | 31 => ⟨S20000x1, .f32⟩
  | 32 => ⟨S20000x4, .f32⟩
  | 33 => ⟨S20000x1, .f32⟩
  | 34 => ⟨S20000, .f32⟩
  | 35 => ⟨S20000x1, .f32⟩
  | 36 => ⟨S20000, .f32⟩
  | 37 => ⟨S20000, .f32⟩
  | 38 => ⟨S20000x1, .f32⟩
  | 39 => ⟨S20000, .f32⟩
  | 40 => ⟨S20000x1, .f32⟩
  | 41 => ⟨S20000, .f32⟩
  | 42 => ⟨S20000, .f32⟩
  | 43 => ⟨S_, .f32⟩
  | 44 => ⟨S20000, .f32⟩
  | 45 => ⟨S20000, .i1⟩
  | 46 => ⟨S_, .f32⟩
  | 47 => ⟨S20000, .f32⟩
  | 48 => ⟨S20000, .i1⟩
  | 49 => ⟨S20000, .i1⟩
  | 50 => ⟨S_, .f32⟩
  | 51 => ⟨S20000, .f32⟩
  | 52 => ⟨S20000, .i1⟩
  | 53 => ⟨S20000, .i1⟩
  | 54 => ⟨S_, .f32⟩
  | 55 => ⟨S_, .f32⟩
  | 56 => ⟨S20000, .f32⟩
  | 57 => ⟨S20000, .f32⟩
  | 58 => ⟨S20000x1, .f32⟩
  | 59 => ⟨S20000, .f32⟩
  | 60 => ⟨S20000x1, .f32⟩
  | 61 => ⟨S20000, .f32⟩
  | 62 => ⟨S20000x1, .f32⟩
  | 63 => ⟨S20000, .f32⟩
  | 64 => ⟨S20000x1, .f32⟩
  | 65 => ⟨S20000, .f32⟩
  | 66 => ⟨S20000, .f32⟩
  | 67 => ⟨S20000, .f32⟩
  | 68 => ⟨S20000, .f32⟩
  | 69 => ⟨S_, .i32⟩
  | 70 => ⟨S2000, .i32⟩
  | 71 => ⟨S_, .i32⟩
  | 72 => ⟨S_, .i32⟩
  | 73 => ⟨S20000, .f32⟩
  | 74 => ⟨S20000, .f32⟩
  | 75 => ⟨S20000, .f32⟩
  | 76 => ⟨S20000, .f32⟩
  | 77 => ⟨S20000, .f32⟩
  | 78 => ⟨S_, .i32⟩
  | 79 => ⟨S_, .i32⟩
  | 80 => ⟨S20000, .f32⟩
  | 81 => ⟨S2000, .i32⟩
  | 82 => ⟨S_, .i32⟩
  | 83 => ⟨S_, .i1⟩
  | 84 => ⟨S_, .i32⟩
  | 85 => ⟨S_, .i32⟩
  | 86 => ⟨S20000, .i32⟩
  | 87 => ⟨S_, .f32⟩
  | 88 => ⟨S_, .i32⟩
  | 89 => ⟨S_, .f32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S1, .f32⟩
  | 97 => ⟨S_, .f32⟩
  | 98 => ⟨S_, .f32⟩
  | 99 => ⟨S_, .i1⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1, .i32⟩
  | 109 => ⟨S2000, .i32⟩
  | 110 => ⟨S_, .i32⟩
  | 111 => ⟨S_, .i1⟩
  | 112 => ⟨S_, .i32⟩
  | 113 => ⟨S_, .i32⟩
  | 114 => ⟨S_, .i32⟩
  | 115 => ⟨S1, .f32⟩
  | 116 => ⟨S_, .f32⟩
  | 117 => ⟨S20000, .f32⟩
  | 118 => ⟨S20000, .f32⟩
  | 119 => ⟨S_, .i32⟩
  | 120 => ⟨S_, .i1⟩
  | 121 => ⟨S_, .i32⟩
  | 122 => ⟨S_, .i32⟩
  | 123 => ⟨S_, .i32⟩
  | 124 => ⟨S1, .f32⟩
  | 125 => ⟨S_, .f32⟩
  | 126 => ⟨S20000, .f32⟩
  | 127 => ⟨S20000, .f32⟩
  | _ => ⟨S20000x4, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1, .f32⟩
  | 6 => ⟨S_, .f32⟩
  | 7 => ⟨S20000, .f32⟩
  | 8 => ⟨S20000, .f32⟩
  | 9 => ⟨S_, .i32⟩
  | 10 => ⟨S_, .i1⟩
  | 11 => ⟨S_, .i32⟩
  | 12 => ⟨S_, .i32⟩
  | 13 => ⟨S_, .i32⟩
  | 14 => ⟨S1, .f32⟩
  | 15 => ⟨S_, .f32⟩
  | 16 => ⟨S20000, .f32⟩
  | 17 => ⟨S20000, .f32⟩
  | 18 => ⟨S20000, .f32⟩
  | 19 => ⟨S_, .f32⟩
  | 20 => ⟨S_, .f32⟩
  | 21 => ⟨S20000, .f32⟩
  | 22 => ⟨S20000, .f32⟩
  | 23 => ⟨S20000, .f32⟩
  | 24 => ⟨S_, .f32⟩
  | 25 => ⟨S_, .f32⟩
  | 26 => ⟨S20000, .f32⟩
  | 27 => ⟨S20000, .f32⟩
  | 28 => ⟨S20000, .f32⟩
  | 29 => ⟨S_, .i32⟩
  | 30 => ⟨S_, .i1⟩
  | 31 => ⟨S_, .i32⟩
  | 32 => ⟨S_, .i32⟩
  | 33 => ⟨S_, .i32⟩
  | 34 => ⟨S1, .f32⟩
  | 35 => ⟨S_, .f32⟩
  | 36 => ⟨S20000, .f32⟩
  | 37 => ⟨S20000, .f32⟩
  | 38 => ⟨S20000, .f32⟩
  | 39 => ⟨S_, .f32⟩
  | 40 => ⟨S20000, .f32⟩
  | 41 => ⟨S20000, .f32⟩
  | 42 => ⟨S20000, .f32⟩
  | 43 => ⟨S_, .f32⟩
  | 44 => ⟨S20000, .f32⟩
  | 45 => ⟨S20000, .i1⟩
  | 46 => ⟨S_, .f32⟩
  | 47 => ⟨S_, .f32⟩
  | 48 => ⟨S20000, .f32⟩
  | 49 => ⟨S20000, .f32⟩
  | 50 => ⟨S_, .i32⟩
  | 51 => ⟨S_, .i1⟩
  | 52 => ⟨S_, .i32⟩
  | 53 => ⟨S_, .i32⟩
  | 54 => ⟨S_, .i32⟩
  | 55 => ⟨S1, .i32⟩
  | 56 => ⟨S_, .f32⟩
  | 57 => ⟨S20000, .f32⟩
  | 58 => ⟨S_, .i32⟩
  | 59 => ⟨S_, .i32⟩
  | 60 => ⟨S_, .i32⟩
  | 61 => ⟨S2000, .i32⟩
  | 62 => ⟨S2000, .i1⟩
  | 63 => ⟨S2000, .f32⟩
  | 64 => ⟨S_, .i32⟩
  | 65 => ⟨S2000, .i32⟩
  | 66 => ⟨S2000, .i32⟩
  | 67 => ⟨S_, .i32⟩
  | 68 => ⟨S2000, .i32⟩
  | 69 => ⟨S2000, .i1⟩
  | 70 => ⟨S_, .i32⟩
  | 71 => ⟨S2000, .i32⟩
  | 72 => ⟨S2000, .i32⟩
  | 73 => ⟨S2000, .i32⟩
  | 74 => ⟨S2000x1, .i32⟩
  | 75 => ⟨S2000x4, .f32⟩
  | 76 => ⟨S2000x1, .f32⟩
  | 77 => ⟨S2000x4, .f32⟩
  | 78 => ⟨S2000x4, .f32⟩
  | 79 => ⟨S_, .i32⟩
  | 80 => ⟨S2000, .i32⟩
  | 81 => ⟨S2000, .i1⟩
  | 82 => ⟨S_, .i32⟩
  | 83 => ⟨S2000, .i32⟩
  | 84 => ⟨S2000, .i32⟩
  | 85 => ⟨S2000, .i32⟩
  | 86 => ⟨S2000x1, .i32⟩
  | 87 => ⟨S2000, .f32⟩
  | 88 => ⟨S2000, .f32⟩
  | 89 => ⟨S2000x1, .f32⟩
  | 90 => ⟨S2000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_call2_v0 : Ref sig .tc := ⟨.hbm, 55, rfl⟩
abbrev main_call2_v1 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c : Ref sig .tc := ⟨.hbm, 69, rfl⟩
abbrev main_v47 : Ref sig .tc := ⟨.hbm, 70, rfl⟩
abbrev main_c_7 : Ref sig .tc := ⟨.hbm, 71, rfl⟩
abbrev main_c_8 : Ref sig .tc := ⟨.hbm, 72, rfl⟩
abbrev main_v48_0 : Ref sig .tc := ⟨.hbm, 73, rfl⟩
abbrev main_v48_1 : Ref sig .tc := ⟨.hbm, 74, rfl⟩
abbrev main_v48_2 : Ref sig .tc := ⟨.hbm, 75, rfl⟩
abbrev main_v48_3 : Ref sig .tc := ⟨.hbm, 76, rfl⟩
abbrev main_v48_4 : Ref sig .tc := ⟨.hbm, 77, rfl⟩
abbrev main_v48_5 : Ref sig .tc := ⟨.hbm, 78, rfl⟩
abbrev main_v48_6 : Ref sig .tc := ⟨.hbm, 79, rfl⟩
abbrev main_v48_7 : Ref sig .tc := ⟨.hbm, 80, rfl⟩
abbrev main_v48_8 : Ref sig .tc := ⟨.hbm, 81, rfl⟩
abbrev main_while0c_c_23 : Ref sig .tc := ⟨.hbm, 82, rfl⟩
abbrev main_while0c_v74 : Ref sig .tc := ⟨.hbm, 83, rfl⟩
abbrev main_while0b_c_23 : Ref sig .tc := ⟨.hbm, 84, rfl⟩
abbrev main_while0b_v74 : Ref sig .tc := ⟨.hbm, 85, rfl⟩
abbrev main_while0b_call3_v0 : Ref sig .tc := ⟨.hbm, 86, rfl⟩
abbrev main_while0b_call3_cst : Ref sig .tc := ⟨.hbm, 87, rfl⟩
abbrev main_while0b_call3_c : Ref sig .tc := ⟨.hbm, 88, rfl⟩
abbrev main_while0b_call3_v1_0 : Ref sig .tc := ⟨.hbm, 89, rfl⟩
abbrev main_while0b_v75 : Ref sig .tc := ⟨.hbm, 90, rfl⟩
abbrev main_while0b_c_24 : Ref sig .tc := ⟨.hbm, 91, rfl⟩
abbrev main_while0b_v76 : Ref sig .tc := ⟨.hbm, 92, rfl⟩
abbrev main_while0b_c_25 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_v80 : Ref sig .tc := ⟨.hbm, 97, rfl⟩
abbrev main_while0b_cst_26 : Ref sig .tc := ⟨.hbm, 98, rfl⟩
abbrev main_while0b_v81 : Ref sig .tc := ⟨.hbm, 99, rfl⟩
abbrev main_while0b_c_27 : Ref sig .tc := ⟨.hbm, 100, rfl⟩
abbrev main_while0b_v82 : Ref sig .tc := ⟨.hbm, 101, rfl⟩
abbrev main_while0b_c_28 : Ref sig .tc := ⟨.hbm, 102, rfl⟩
abbrev main_while0b_v83 : Ref sig .tc := ⟨.hbm, 103, rfl⟩
abbrev main_while0b_c_29 : Ref sig .tc := ⟨.hbm, 104, rfl⟩
abbrev main_while0b_v84 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_c_30 : Ref sig .tc := ⟨.hbm, 110, rfl⟩
abbrev main_while0b_v89 : Ref sig .tc := ⟨.hbm, 111, rfl⟩
abbrev main_while0b_c_31 : Ref sig .tc := ⟨.hbm, 112, rfl⟩
abbrev main_while0b_v90 : Ref sig .tc := ⟨.hbm, 113, rfl⟩
abbrev main_while0b_v91 : Ref sig .tc := ⟨.hbm, 114, rfl⟩
abbrev main_while0b_v92 : Ref sig .tc := ⟨.hbm, 115, rfl⟩
abbrev main_while0b_v93 : Ref sig .tc := ⟨.hbm, 116, rfl⟩
abbrev main_while0b_v94 : Ref sig .tc := ⟨.hbm, 117, rfl⟩
abbrev main_while0b_v95 : Ref sig .tc := ⟨.hbm, 118, rfl⟩
abbrev main_while0b_c_32 : Ref sig .tc := ⟨.hbm, 119, rfl⟩
abbrev main_while0b_v96 : Ref sig .tc := ⟨.hbm, 120, rfl⟩
abbrev main_while0b_c_33 : Ref sig .tc := ⟨.hbm, 121, rfl⟩
abbrev main_while0b_v97 : Ref sig .tc := ⟨.hbm, 122, rfl⟩
abbrev main_while0b_v98 : Ref sig .tc := ⟨.hbm, 123, rfl⟩
abbrev main_while0b_v99 : Ref sig .tc := ⟨.hbm, 124, rfl⟩
abbrev main_while0b_v100 : Ref sig .tc := ⟨.hbm, 125, rfl⟩
abbrev main_while0b_v101 : Ref sig .tc := ⟨.hbm, 126, rfl⟩
abbrev main_while0b_v102 : Ref sig .tc := ⟨.hbm, 127, rfl⟩
abbrev main_while0b_c_34 : Ref sig .tc := ⟨.hbm, 128, rfl⟩
abbrev main_while0b_v103 : Ref sig .tc := ⟨.hbm, 129, rfl⟩
abbrev main_while0b_c_35 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_v107 : Ref sig .tc := ⟨.hbm, 134, rfl⟩
abbrev main_while0b_v108 : Ref sig .tc := ⟨.hbm, 135, rfl⟩
abbrev main_while0b_v109 : Ref sig .tc := ⟨.hbm, 136, rfl⟩
abbrev main_while0b_c_36 : Ref sig .tc := ⟨.hbm, 137, rfl⟩
abbrev main_while0b_v110 : Ref sig .tc := ⟨.hbm, 138, rfl⟩
abbrev main_while0b_c_37 : Ref sig .tc := ⟨.hbm, 139, rfl⟩
abbrev main_while0b_v111 : Ref sig .tc := ⟨.hbm, 140, rfl⟩
abbrev main_while0b_v112 : Ref sig .tc := ⟨.hbm, 141, rfl⟩
abbrev main_while0b_v113 : Ref sig .tc := ⟨.hbm, 142, rfl⟩
abbrev main_while0b_v114 : Ref sig .tc := ⟨.hbm, 143, rfl⟩
abbrev main_while0b_v115 : Ref sig .tc := ⟨.hbm, 144, rfl⟩
abbrev main_while0b_v116 : Ref sig .tc := ⟨.hbm, 145, rfl⟩
abbrev main_while0b_v117 : Ref sig .tc := ⟨.hbm, 146, rfl⟩
abbrev main_while0b_cst_38 : Ref sig .tc := ⟨.hbm, 147, rfl⟩
abbrev main_while0b_call5_v0 : Ref sig .tc := ⟨.hbm, 148, rfl⟩
abbrev main_while0b_call5_v1 : Ref sig .tc := ⟨.hbm, 149, rfl⟩
abbrev main_while0b_v118 : Ref sig .tc := ⟨.hbm, 150, rfl⟩
abbrev main_while0b_v119 : Ref sig .tc := ⟨.hbm, 151, rfl⟩
abbrev main_while0b_cst_39 : Ref sig .tc := ⟨.hbm, 152, rfl⟩
abbrev main_while0b_call6_v0 : Ref sig .tc := ⟨.hbm, 153, rfl⟩
abbrev main_while0b_call6_v1 : Ref sig .tc := ⟨.hbm, 154, rfl⟩
abbrev main_while0b_v120 : Ref sig .tc := ⟨.hbm, 155, rfl⟩
abbrev main_while0b_v121 : Ref sig .tc := ⟨.hbm, 156, rfl⟩
abbrev main_while0b_c_40 : Ref sig .tc := ⟨.hbm, 157, rfl⟩
abbrev main_while0b_v122 : Ref sig .tc := ⟨.hbm, 158, rfl⟩
abbrev main_while0b_c_41 : Ref sig .tc := ⟨.hbm, 159, rfl⟩
abbrev main_while0b_v123 : Ref sig .tc := ⟨.hbm, 160, rfl⟩
abbrev main_while0b_v124 : Ref sig .tc := ⟨.hbm, 161, rfl⟩
abbrev main_while0b_v125 : Ref sig .tc := ⟨.hbm, 162, rfl⟩
abbrev main_while0b_v126 : Ref sig .tc := ⟨.hbm, 163, rfl⟩
abbrev main_while0b_v127 : Ref sig .tc := ⟨.hbm, 164, rfl⟩
abbrev main_while0b_v128 : Ref sig .tc := ⟨.hbm, 165, rfl⟩
abbrev main_while0b_v129 : Ref sig .tc := ⟨.hbm, 166, rfl⟩
abbrev main_while0b_cst_42 : Ref sig .tc := ⟨.hbm, 167, rfl⟩
abbrev main_while0b_v130 : Ref sig .tc := ⟨.hbm, 168, rfl⟩
abbrev main_while0b_v131 : Ref sig .tc := ⟨.hbm, 169, rfl⟩
abbrev main_while0b_v132 : Ref sig .tc := ⟨.hbm, 170, rfl⟩
abbrev main_while0b_cst_43 : Ref sig .tc := ⟨.hbm, 171, rfl⟩
abbrev main_while0b_v133 : Ref sig .tc := ⟨.hbm, 172, rfl⟩
abbrev main_while0b_v134 : Ref sig .tc := ⟨.hbm, 173, rfl⟩
abbrev main_while0b_cst_44 : Ref sig .tc := ⟨.hbm, 174, rfl⟩
abbrev main_while0b_call7_v0 : Ref sig .tc := ⟨.hbm, 175, rfl⟩
abbrev main_while0b_call7_v1 : Ref sig .tc := ⟨.hbm, 176, rfl⟩
abbrev main_while0b_v135 : Ref sig .tc := ⟨.hbm, 177, rfl⟩
abbrev main_while0b_c_45 : Ref sig .tc := ⟨.hbm, 178, rfl⟩
abbrev main_while0b_v136 : Ref sig .tc := ⟨.hbm, 179, rfl⟩
abbrev main_while0b_c_46 : Ref sig .tc := ⟨.hbm, 180, rfl⟩
abbrev main_while0b_v137 : Ref sig .tc := ⟨.hbm, 181, rfl⟩
abbrev main_while0b_v138 : Ref sig .tc := ⟨.hbm, 182, rfl⟩
abbrev main_while0b_v139 : Ref sig .tc := ⟨.hbm, 183, rfl⟩
abbrev main_while0b_cst_47 : Ref sig .tc := ⟨.hbm, 184, rfl⟩
abbrev main_while0b_v140 : Ref sig .tc := ⟨.hbm, 185, rfl⟩
abbrev main_while0b_c_48 : Ref sig .tc := ⟨.hbm, 186, rfl⟩
abbrev main_while0b_v141 : Ref sig .tc := ⟨.hbm, 187, rfl⟩
abbrev main_c_9 : Ref sig .tc := ⟨.hbm, 188, rfl⟩
abbrev main_v49 : Ref sig .tc := ⟨.hbm, 189, rfl⟩
abbrev main_v50 : Ref sig .tc := ⟨.hbm, 190, rfl⟩
abbrev main_v51 : Ref sig .tc := ⟨.hbm, 191, rfl⟩
abbrev main_c_10 : Ref sig .tc := ⟨.hbm, 192, rfl⟩
abbrev main_v52 : Ref sig .tc := ⟨.hbm, 193, rfl⟩
abbrev main_v53 : Ref sig .tc := ⟨.hbm, 194, rfl⟩
abbrev main_c_11 : Ref sig .tc := ⟨.hbm, 195, rfl⟩
abbrev main_v54 : Ref sig .tc := ⟨.hbm, 196, rfl⟩
abbrev main_v55 : Ref sig .tc := ⟨.hbm, 197, rfl⟩
abbrev main_c_12 : Ref sig .tc := ⟨.hbm, 198, rfl⟩
abbrev main_v56 : Ref sig .tc := ⟨.hbm, 199, rfl⟩
abbrev main_v57 : Ref sig .tc := ⟨.hbm, 200, rfl⟩
abbrev main_v58 : Ref sig .tc := ⟨.hbm, 201, rfl⟩
abbrev main_v59 : Ref sig .tc := ⟨.hbm, 202, rfl⟩
abbrev main_v60 : Ref sig .tc := ⟨.hbm, 203, rfl⟩
abbrev main_v61 : Ref sig .tc := ⟨.hbm, 204, rfl⟩
abbrev main_v62 : Ref sig .tc := ⟨.hbm, 205, rfl⟩
abbrev main_v63 : Ref sig .tc := ⟨.hbm, 206, rfl⟩
abbrev main_c_13 : Ref sig .tc := ⟨.hbm, 207, rfl⟩
abbrev main_v64 : Ref sig .tc := ⟨.hbm, 208, rfl⟩
abbrev main_v65 : Ref sig .tc := ⟨.hbm, 209, rfl⟩
abbrev main_c_14 : Ref sig .tc := ⟨.hbm, 210, rfl⟩
abbrev main_v66 : Ref sig .tc := ⟨.hbm, 211, rfl⟩
abbrev main_v67 : Ref sig .tc := ⟨.hbm, 212, rfl⟩
abbrev main_v68 : Ref sig .tc := ⟨.hbm, 213, rfl⟩
abbrev main_v69 : Ref sig .tc := ⟨.hbm, 214, rfl⟩
abbrev main_v70 : Ref sig .tc := ⟨.hbm, 215, rfl⟩
abbrev main_v71 : Ref sig .tc := ⟨.hbm, 216, rfl⟩
abbrev main_v72 : Ref sig .tc := ⟨.hbm, 217, rfl⟩
abbrev main_v73 : Ref sig .tc := ⟨.hbm, 218, rfl⟩

abbrev nD : Nat := 1
abbrev τ : Topo := Topo.v7x

variable {F : FTy → Type} [FloatOps F]

abbrev main_while0_count : Scf.Loop 32 := ⟨0#32, 2000#32, 1#32⟩
-- ==== Proof.Compact.lean ====
/-
  Compaction by lanes, apart from any program. A vector of sixteen flags is turned into running counts, the counts into
  slots, and each flagged lane's value is stored at its slot. `Packed K xs n u` says that `u` holds, at each slot below its
  length, the value of the flagged position whose rank is the slot, among the positions below `n`, and zero at the slots
  no such position has. One step of sixteen lanes takes it from `n` to `n + 16`.
-/
module

public import Idealize.ShloMosaic.PureOps
public import Mathlib.Order.Interval.Finset.Nat
public import Mathlib.Data.Nat.Count

@[expose] public section

namespace Cert.Compact

open Idealize.ShloMosaic

/-- Sixteen lanes. -/
abbrev V16 : Shape := ⟨1, ![16]⟩
/-- The slots. -/
abbrev V2048 : Shape := ⟨1, ![2048]⟩

/-- The lane numbered `k`. -/
def ln (k : Fin 16) : V16.Idx := Shape.ofLane (d := ![16]) k

theorem ln_val (k : Fin 16) : ((ln k) 0).val = k.val := rfl

theorem eq_ln (x : V16.Idx) : x = ln (x 0) := by
  funext a
  have ha : a = 0 := Subsingleton.elim _ _
  subst ha
  rfl

theorem scan_eq (kind : ScanKind) (v : IVec V16 32) (j : Fin 16) :
    scan kind v (ln j) = List.foldl (fun (r : BitVec 32) (k : Fin 16) => kind.step r (v (ln k))) (v (ln 0))
      ((List.finRange 16).filter fun k => decide (0 < k.val ∧ k.val ≤ j.val)) := rfl

/-- The running combination, up to and including lane `j`. -/
theorem scan_zero (kind : ScanKind) (v : IVec V16 32) : scan kind v (ln 0) = v (ln 0) := by
  rw [scan_eq, show ((List.finRange 16).filter fun k => decide (0 < k.val ∧ k.val ≤ (0 : Fin 16).val)) = [] by decide]
  rfl

theorem filter_succ (j : Fin 15) :
    ((List.finRange 16).filter fun k => decide (0 < k.val ∧ k.val ≤ j.val + 1))
      = ((List.finRange 16).filter fun k => decide (0 < k.val ∧ k.val ≤ j.val)) ++ [j.succ] := by
  revert j; decide

theorem scan_succ (kind : ScanKind) (v : IVec V16 32) (j : Fin 15) :
    scan kind v (ln j.succ) = kind.step (scan kind v (ln j.castSucc)) (v (ln j.succ)) := by
  rw [scan_eq, scan_eq, Fin.val_succ, filter_succ, List.foldl_append]
  rfl

open Classical in
/-- The running sum of the flags counts the flagged positions. -/
theorem scan_count (K : ℕ → Prop) (n : ℕ) (v : IVec V16 32)
    (hv : ∀ k : Fin 16, v (ln k) = if K (n + k.val) then 1#32 else 0#32) (j : Fin 16) :
    BitVec.ofNat 32 (Nat.count K n) + scan .sum v (ln j) = BitVec.ofNat 32 (Nat.count K (n + j.val + 1)) := by
  induction j using Fin.induction with
  | zero =>
    rw [scan_zero, hv 0]
    show _ = BitVec.ofNat 32 (Nat.count K (n + 1))
    rw [Nat.count_succ]
    simp only [Fin.val_zero, Nat.add_zero]
    split <;> simp [BitVec.ofNat_add]
  | succ j ih =>
    rw [scan_succ]
    show _ + (_ + _) = _
    rw [← BitVec.add_assoc, ih, hv j.succ, show n + j.succ.val + 1 = (n + j.val + 1) + 1 by simp; omega, Nat.count_succ K (n + j.val + 1),
      show n + j.succ.val = n + j.val + 1 by simp; omega]
    simp only [Fin.val_castSucc]
    split <;> simp [BitVec.ofNat_add]

/-- A lane-wise store, taken over a list of lanes. -/
theorem foldl_none {β : Type} (L : List (Fin 16)) (hit : Fin 16 → V2048.Idx → Prop) [∀ k i, Decidable (hit k i)] (m : Fin 16 → Prop) [DecidablePred m]
    (v : Fin 16 → β) (f : V2048.Idx → β) (i : V2048.Idx) (h : ∀ k ∈ L, m k → ¬ hit k i) :
    L.foldl (fun g k => if m k then (fun j => if hit k j then v k else g j) else g) f i = f i := by
  induction L generalizing f with
  | nil => rfl
  | cons k L ih =>
    rw [List.foldl_cons, ih _ (fun k' hk' => h k' (List.mem_cons_of_mem _ hk'))]
    by_cases hm : m k
    · simp only [hm, if_true, if_neg (h k (List.mem_cons_self ..) hm)]
    · simp only [hm, if_false]

theorem foldl_some {β : Type} (L : List (Fin 16)) (hit : Fin 16 → V2048.Idx → Prop) [∀ k i, Decidable (hit k i)] (m : Fin 16 → Prop) [DecidablePred m]
    (v : Fin 16 → β) (f : V2048.Idx → β) (i : V2048.Idx) (k₀ : Fin 16) (hk : k₀ ∈ L) (hm : m k₀) (hh : hit k₀ i)
    (hu : ∀ k ∈ L, m k → hit k i → k = k₀) :
    L.foldl (fun g k => if m k then (fun j => if hit k j then v k else g j) else g) f i = v k₀ := by
  induction L generalizing f with
  | nil => exact absurd hk (by simp)
  | cons k L ih =>
    rw [List.foldl_cons]
    by_cases hkL : k₀ ∈ L
    · exact ih _ hkL fun k' hk' => hu k' (List.mem_cons_of_mem _ hk')
    · have hkk : k₀ = k := by
        rcases List.mem_cons.mp hk with h | h
        · exact h
        · exact absurd h hkL
      subst hkk
      rw [foldl_none L hit m v _ i (fun k' hk' hm' hh' => hkL (hu k' (List.mem_cons_of_mem _ hk') hm' hh' ▸ hk'))]
      simp only [hm, if_true, hh]

variable {F : FTy → Type} [FloatOps F]

/-- A masked store by lane where no lane names the slot. -/
theorem storeIdx_none (f : Vec F V2048 .f32) (ix : IVec V16 32) (v : Vec F V16 .f32) (mask : IVec V16 1)
    (h : ∀ (a : Fin 1) x, ((![ix] : Fin 1 → IVec V16 32) a x).toNat < V2048.size a) (i : V2048.Idx)
    (hn : ∀ k : Fin 16, mask (ln k) = 1#1 → (ix (ln k)).toNat ≠ (i 0).val) :
    storeIdx (F := F) (s := V2048) (e := .f32) (d := ![16]) f ![ix] v mask false h i = f i :=
  foldl_none (List.finRange 16) (fun k i => ∀ a, (i a).val = (idxAt (s := V2048) (t := V16) ![ix] h (ln k) a).val) (fun k => mask (ln k) = 1#1)
    (fun k => v (ln k)) f i fun k _ hm hh => hn k hm (hh 0).symm

/-- A masked store by lane where one lane alone names the slot. -/
theorem storeIdx_some (f : Vec F V2048 .f32) (ix : IVec V16 32) (v : Vec F V16 .f32) (mask : IVec V16 1)
    (h : ∀ (a : Fin 1) x, ((![ix] : Fin 1 → IVec V16 32) a x).toNat < V2048.size a) (i : V2048.Idx) (k₀ : Fin 16)
    (hm : mask (ln k₀) = 1#1) (hi : (ix (ln k₀)).toNat = (i 0).val)
    (hu : ∀ k : Fin 16, mask (ln k) = 1#1 → (ix (ln k)).toNat = (i 0).val → k = k₀) :
    storeIdx (F := F) (s := V2048) (e := .f32) (d := ![16]) f ![ix] v mask false h i = v (ln k₀) :=
  foldl_some (List.finRange 16) (fun k i => ∀ a, (i a).val = (idxAt (s := V2048) (t := V16) ![ix] h (ln k) a).val) (fun k => mask (ln k) = 1#1)
    (fun k => v (ln k)) f i k₀ (List.mem_finRange _) hm
    (fun a => by have ha : a = 0 := Subsingleton.elim _ _; subst ha; exact hi.symm)
    fun k _ hm hh => hu k hm (hh 0).symm

open Classical in
/-- The slots hold the flagged values below `n`, in order, and `z` after them. -/
def Packed {β : Type} (K : ℕ → Prop) (xs : ℕ → β) (z : β) (n : ℕ) (u : V2048.Idx → β) : Prop :=
  ∀ i : V2048.Idx, (∀ p < n, K p → Nat.count K p = (i 0).val → u i = xs p) ∧ (Nat.count K n ≤ (i 0).val → u i = z)

open Classical in
theorem Packed.zero {β : Type} (K : ℕ → Prop) (xs : ℕ → β) (z : β) (u : V2048.Idx → β) (h : ∀ i, u i = z) : Packed K xs z 0 u :=
  fun i => ⟨fun p hp => absurd hp (Nat.not_lt_zero p), fun _ => h i⟩

open Classical in
/-- Positions no flag marks change nothing. -/
theorem Packed.skip {β : Type} {K : ℕ → Prop} {xs : ℕ → β} {z : β} {n : ℕ} {u : V2048.Idx → β} (h : Packed K xs z n u) (k : ℕ)
    (hK : ∀ p, n ≤ p → p < n + k → ¬ K p) : Packed K xs z (n + k) u ∧ Nat.count K (n + k) = Nat.count K n := by
  have hc : Nat.count K (n + k) = Nat.count K n := by
    rw [Nat.count_add]
    have : Nat.count (fun q => K (n + q)) k = 0 := by
      rw [Nat.count_eq_card_filter_range, Finset.card_eq_zero, Finset.filter_eq_empty_iff]
      intro q hq
      exact hK _ (by omega) (by have := Finset.mem_range.mp hq; omega)
    omega
  refine ⟨fun i => ⟨fun p hp hKp hcp => ?_, fun hle => (h i).2 (hc ▸ hle)⟩, hc⟩
  by_cases hpn : p < n
  · exact (h i).1 p hpn hKp hcp
  · exact absurd hKp (hK p (by omega) hp)

/-- The slots of one step, before those past the end are set aside. -/
abbrev slotRaw (cnt : BitVec 32) (fl : IVec V16 1) : IVec V16 32 :=
  subi (addi (broadcast V16 cnt) (scan .sum (select fl (broadcast V16 1#32) (broadcast V16 0#32)))) (broadcast V16 1#32)
/-- The lanes that store. -/
abbrev slotMask (cnt : BitVec 32) (fl : IVec V16 1) : IVec V16 1 := andi fl (cmpi .slt (slotRaw cnt fl) (broadcast V16 2048#32))
/-- The slots they store at. -/
abbrev slotAt (cnt : BitVec 32) (fl : IVec V16 1) : IVec V16 32 := select (slotMask cnt fl) (slotRaw cnt fl) (broadcast V16 0#32)
/-- The count after the step. -/
abbrev cntNext (cnt : BitVec 32) (fl : IVec V16 1) : BitVec 32 :=
  Scalar.addi cnt (extractAt ![15] (scan .sum (select fl (broadcast V16 1#32) (broadcast V16 0#32))) (by decide))

section Step

open Classical

variable {K : ℕ → Prop} {n : ℕ} {fl : IVec V16 1} (hn : n + 16 ≤ 2 ^ 20) (hfl : ∀ k : Fin 16, fl (ln k) = 1#1 ↔ K (n + k.val))

include hfl

theorem flags_val (k : Fin 16) :
    select fl (broadcast V16 1#32) (broadcast V16 0#32) (ln k) = if K (n + k.val) then 1#32 else 0#32 := by
  by_cases h : K (n + k.val)
  · rw [if_pos h]; exact if_pos ((hfl k).mpr h)
  · rw [if_neg h]; exact if_neg (fun h' => h ((hfl k).mp h'))

theorem cntNext_eq : cntNext (BitVec.ofNat 32 (Nat.count K n)) fl = BitVec.ofNat 32 (Nat.count K (n + 16)) :=
  scan_count K n _ (flags_val hfl) 15

theorem slotRaw_eq (k : Fin 16) (hK : K (n + k.val)) :
    slotRaw (BitVec.ofNat 32 (Nat.count K n)) fl (ln k) = BitVec.ofNat 32 (Nat.count K (n + k.val)) := by
  show (BitVec.ofNat 32 (Nat.count K n) + scan .sum _ (ln k)) - 1#32 = _
  rw [scan_count K n _ (flags_val hfl) k, Nat.count_succ, if_pos hK, BitVec.ofNat_add]
  exact BitVec.add_sub_cancel _ _

include hn

theorem slotMask_iff (k : Fin 16) :
    slotMask (BitVec.ofNat 32 (Nat.count K n)) fl (ln k) = 1#1 ↔ K (n + k.val) ∧ Nat.count K (n + k.val) < 2048 := by
  have hle : Nat.count K (n + k.val) ≤ 2 ^ 20 := (Nat.count_le (p := K)).trans (by have := k.isLt; omega)
  show fl (ln k) &&& BitVec.ofBool ((slotRaw _ fl (ln k)).slt 2048#32) = 1#1 ↔ _
  by_cases hK : K (n + k.val)
  · rw [slotRaw_eq hfl k hK, (hfl k).mpr hK]
    have : (BitVec.ofNat 32 (Nat.count K (n + k.val))).slt 2048#32 = decide (Nat.count K (n + k.val) < 2048) := by
      rw [BitVec.slt_eq_decide, BitVec.toInt_eq_toNat_of_lt (by rw [BitVec.toNat_ofNat]; omega), BitVec.toNat_ofNat, Nat.mod_eq_of_lt (by omega)]
      rw [show (2048#32).toInt = ((2048 : ℕ) : ℤ) by decide]
      exact decide_eq_decide.mpr Int.ofNat_lt
    rw [this]
    by_cases h2 : Nat.count K (n + k.val) < 2048 <;> simp [h2, hK]
  · have h0 : fl (ln k) = 0#1 := by
      have := fun h' => hK ((hfl k).mp h')
      revert this; generalize fl (ln k) = b; revert b; decide
    rw [h0]; simp [hK]

theorem slotAt_of (k : Fin 16) (h : slotMask (BitVec.ofNat 32 (Nat.count K n)) fl (ln k) = 1#1) :
    slotAt (BitVec.ofNat 32 (Nat.count K n)) fl (ln k) = BitVec.ofNat 32 (Nat.count K (n + k.val)) :=
  (if_pos h).trans (slotRaw_eq hfl k ((slotMask_iff hn hfl k).mp h).1)

theorem slotAt_lt (x : V16.Idx) : (slotAt (BitVec.ofNat 32 (Nat.count K n)) fl x).toNat < 2048 := by
  rw [eq_ln x]; generalize x 0 = k
  by_cases h : slotMask (BitVec.ofNat 32 (Nat.count K n)) fl (ln k) = 1#1
  · obtain ⟨hK, hlt⟩ := (slotMask_iff hn hfl k).mp h
    rw [slotAt_of hn hfl k h, BitVec.toNat_ofNat, Nat.mod_eq_of_lt (by omega)]
    exact hlt
  · rw [show slotAt (BitVec.ofNat 32 (Nat.count K n)) fl (ln k) = 0#32 from if_neg h]; decide

theorem slotAt_eq (k : Fin 16) (h : slotMask (BitVec.ofNat 32 (Nat.count K n)) fl (ln k) = 1#1) :
    (slotAt (BitVec.ofNat 32 (Nat.count K n)) fl (ln k)).toNat = Nat.count K (n + k.val) := by
  obtain ⟨hK, hlt⟩ := (slotMask_iff hn hfl k).mp h
  rw [slotAt_of hn hfl k h, BitVec.toNat_ofNat, Nat.mod_eq_of_lt (by omega)]

/-- One step of sixteen lanes. -/
theorem Packed.step {xs : ℕ → F .f32} {z : F .f32} {u : Vec F V2048 .f32} (hu : Packed K xs z n u) (v : Vec F V16 .f32)
    (hv : ∀ k : Fin 16, v (ln k) = xs (n + k.val))
    (h : ∀ (a : Fin 1) x, ((![slotAt (BitVec.ofNat 32 (Nat.count K n)) fl] : Fin 1 → IVec V16 32) a x).toNat < V2048.size a) :
    Packed K xs z (n + 16) (storeIdx (F := F) (s := V2048) (e := .f32) (d := ![16]) u ![slotAt (BitVec.ofNat 32 (Nat.count K n)) fl] v
      (slotMask (BitVec.ofNat 32 (Nat.count K n)) fl) false h) := by
  intro i
  have hi : (i 0).val < 2048 := (i 0).isLt
  constructor
  · intro p hp hKp hcp
    by_cases hpn : p < n
    · rw [storeIdx_none]
      · exact (hu i).1 p hpn hKp hcp
      · intro k hm he
        rw [slotAt_eq hn hfl k hm] at he
        have := Nat.count_strict_mono (p := K) hKp (show p < n + k.val by omega)
        omega
    · obtain ⟨k, rfl⟩ : ∃ k, p = n + k := ⟨p - n, by omega⟩
      have hk : k < 16 := by omega
      rw [storeIdx_some u _ v _ h i ⟨k, hk⟩]
      · exact hv ⟨k, hk⟩
      · exact (slotMask_iff hn hfl ⟨k, hk⟩).mpr ⟨hKp, hcp ▸ hi⟩
      · rw [slotAt_eq hn hfl ⟨k, hk⟩ ((slotMask_iff hn hfl ⟨k, hk⟩).mpr ⟨hKp, hcp ▸ hi⟩)]; exact hcp
      · intro k' hm' he'
        rw [slotAt_eq hn hfl k' hm'] at he'
        have hK' := ((slotMask_iff hn hfl k').mp hm').1
        have := Nat.count_injective hK' hKp (he'.trans hcp.symm)
        exact Fin.ext (by simp; omega)
  · intro hle
    rw [storeIdx_none]
    · exact (hu i).2 ((Nat.count_monotone K (by omega : n ≤ n + 16)).trans hle)
    · intro k hm he
      rw [slotAt_eq hn hfl k hm] at he
      have := Nat.count_strict_mono (p := K) ((slotMask_iff hn hfl k).mp hm).1 (show n + k.val < n + 16 by have := k.isLt; omega)
      omega

end Step

end Cert.Compact
-- ==== Proof.PI.Setup.lean ====
/-
  What every proof module of this program shares: the program as the launch theorem sees it, the
  algebra of the handshakes, of the TensorCore regions' rounds and of the transfers' counters, and
  the names of the buffers.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Compact

@[expose] public section

noncomputable section

namespace Cert.KernelIdeal.Prf

open Cert.KernelIdeal Cert.KernelIdeal.Gen

open Idealize.ShloMosaic
open Idealize.ShloMosaic.SparseCore (S V T)
open Idealize.ShloMosaic.SparseCore.Cfg (HIx Pay)
open Idealize.SL
open RA BI BI.BIBase BI.Laws ProofMode Sem
open Idealize.ShloMosaic.Rounds Idealize.ShloMosaic.Tactic

variable {F : FTy → Type}

/-! ## The program as the launch theorem sees it -/

abbrev ΛP : Labels := Pipeline.Sig (Λ₀ F) (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.nat
abbrev 𝒱 : Variants := 𝒱₀.lift
abbrev v₀ : 𝒱.V := Sum.inl none

/-- The side conditions of the SparseCore call's hand-shake: which semaphores it uses and which
    memory is nobody's scratch. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The algebra -/

abbrev UH : Type := URounds (GSem nD τ sig) ℕ
abbrev UP : Type := URounds (GSem nD τ sig) Unit
abbrev UU : Type := UH × (UP × Counters)

abbrev MM (F : FTy → Type) : Type _ := MT nD τ sig (HIx 1) (Elt F) ℕ UU ℕ

abbrev EH : Emb UH (MM F) := embL
abbrev EP : Emb UP (MM F) := (Emb.inl : Emb UP (UP × Counters)).trans embR

instance : (EP (F := F)).LandsIn (upEmb : UEmb _ (MM F)) := by
  unfold EP; infer_instance

/-- The place of a tile's program. -/
abbrev cV (L : grid2.Coords) : Fin τ.nSC := (L 0).castLE hcore2
abbrev jV (L : grid2.Coords) : Fin τ.nSub := (L 1).castLE hsub2

/-! Every array of a call is a whole buffer. -/

theorem wI1 : (Memref.whole main_v25_1_scv).IsWhole := Memref.isWhole_whole main_v25_1_scv
theorem wI2 : (Memref.whole main_v25_2_scv).IsWhole := Memref.isWhole_whole main_v25_2_scv
theorem wI3 : (Memref.whole main_v25_3_scv).IsWhole := Memref.isWhole_whole main_v25_3_scv
theorem wI4 : (Memref.whole main_v25_4_scv).IsWhole := Memref.isWhole_whole main_v25_4_scv
theorem wI5 : (Memref.whole main_v25_5_scv).IsWhole := Memref.isWhole_whole main_v25_5_scv
theorem wI6 : (Memref.whole main_v36_scv).IsWhole := Memref.isWhole_whole main_v36_scv
theorem wI7 : (Memref.whole main_v37_scv).IsWhole := Memref.isWhole_whole main_v37_scv
theorem wO0 : (Memref.whole main_v38_0_scv).IsWhole := Memref.isWhole_whole main_v38_0_scv
theorem wO1 : (Memref.whole main_v38_1_scv).IsWhole := Memref.isWhole_whole main_v38_1_scv
theorem wO2 : (Memref.whole main_v38_2_scv).IsWhole := Memref.isWhole_whole main_v38_2_scv
theorem wO3 : (Memref.whole main_v38_3_scv).IsWhole := Memref.isWhole_whole main_v38_3_scv
theorem wO4 : (Memref.whole main_v38_4_scv).IsWhole := Memref.isWhole_whole main_v38_4_scv
theorem wB0 : (Memref.whole cc2_scratch0).IsWhole := Memref.isWhole_whole cc2_scratch0
theorem wB1 : (Memref.whole cc2_scratch1).IsWhole := Memref.isWhole_whole cc2_scratch1
theorem wB2 : (Memref.whole cc2_scratch2).IsWhole := Memref.isWhole_whole cc2_scratch2
theorem wB3 : (Memref.whole cc2_scratch3).IsWhole := Memref.isWhole_whole cc2_scratch3
theorem wB4 : (Memref.whole cc2_scratch4).IsWhole := Memref.isWhole_whole cc2_scratch4
theorem wB5 : (Memref.whole cc2_scratch5).IsWhole := Memref.isWhole_whole cc2_scratch5
theorem wB6 : (Memref.whole cc2_scratch6).IsWhole := Memref.isWhole_whole cc2_scratch6
theorem wB7 : (Memref.whole cc2_scratch7).IsWhole := Memref.isWhole_whole cc2_scratch7
theorem wB8 : (Memref.whole cc2_scratch8).IsWhole := Memref.isWhole_whole cc2_scratch8
theorem wB9 : (Memref.whole cc2_scratch9).IsWhole := Memref.isWhole_whole cc2_scratch9
theorem wB10 : (Memref.whole cc2_scratch10).IsWhole := Memref.isWhole_whole cc2_scratch10
theorem wB11 : (Memref.whole cc2_scratch11).IsWhole := Memref.isWhole_whole cc2_scratch11
theorem wB12 : (Memref.whole cc2_scratch12).IsWhole := Memref.isWhole_whole cc2_scratch12
theorem wP0 : (Memref.whole cc0_stg0_0).IsWhole := Memref.isWhole_whole cc0_stg0_0
theorem wP10 : (Memref.whole cc0_stg10_0).IsWhole := Memref.isWhole_whole cc0_stg10_0
theorem wP1 : (Memref.whole cc0_stg1_0).IsWhole := Memref.isWhole_whole cc0_stg1_0
theorem wP2 : (Memref.whole cc0_stg2_0).IsWhole := Memref.isWhole_whole cc0_stg2_0
theorem wP3 : (Memref.whole cc0_stg3_0).IsWhole := Memref.isWhole_whole cc0_stg3_0
theorem wP4 : (Memref.whole cc0_stg4_0).IsWhole := Memref.isWhole_whole cc0_stg4_0
theorem wP5 : (Memref.whole cc0_stg5_0).IsWhole := Memref.isWhole_whole cc0_stg5_0
theorem wP6 : (Memref.whole cc0_stg6_0).IsWhole := Memref.isWhole_whole cc0_stg6_0
theorem wP7 : (Memref.whole cc0_stg7_0).IsWhole := Memref.isWhole_whole cc0_stg7_0
theorem wP8 : (Memref.whole cc0_stg8_0).IsWhole := Memref.isWhole_whole cc0_stg8_0
theorem wP9 : (Memref.whole cc0_stg9_0).IsWhole := Memref.isWhole_whole cc0_stg9_0
theorem wT0 : (Memref.whole cc1_scratch0).IsWhole := Memref.isWhole_whole cc1_scratch0
theorem wT1 : (Memref.whole cc1_scratch1).IsWhole := Memref.isWhole_whole cc1_scratch1
theorem wS0 : (Memref.whole cc1_stg0_0).IsWhole := Memref.isWhole_whole cc1_stg0_0
theorem wS10 : (Memref.whole cc1_stg10_0).IsWhole := Memref.isWhole_whole cc1_stg10_0
theorem wS1 : (Memref.whole cc1_stg1_0).IsWhole := Memref.isWhole_whole cc1_stg1_0
theorem wS2 : (Memref.whole cc1_stg2_0).IsWhole := Memref.isWhole_whole cc1_stg2_0
theorem wS3 : (Memref.whole cc1_stg3_0).IsWhole := Memref.isWhole_whole cc1_stg3_0
theorem wS4 : (Memref.whole cc1_stg4_0).IsWhole := Memref.isWhole_whole cc1_stg4_0
theorem wS5 : (Memref.whole cc1_stg5_0).IsWhole := Memref.isWhole_whole cc1_stg5_0
theorem wS6 : (Memref.whole cc1_stg6_0).IsWhole := Memref.isWhole_whole cc1_stg6_0
theorem wS7 : (Memref.whole cc1_stg7_0).IsWhole := Memref.isWhole_whole cc1_stg7_0
theorem wS8 : (Memref.whole cc1_stg8_0).IsWhole := Memref.isWhole_whole cc1_stg8_0
theorem wS9 : (Memref.whole cc1_stg9_0).IsWhole := Memref.isWhole_whole cc1_stg9_0

end Cert.KernelIdeal.Prf
-- ==== Proof.PI.Model.lean ====
/-
  What the blocked scan computes, as functions: the suppression by earlier blocks (`sup`), the block's
  own overlap matrix (`smat`), the fixpoint inside a block (`inner`) and the walk over the blocks
  (`outer`). Each is put together from the kernel's own arithmetic on whole vectors, at any reading of
  the floats. Also the arithmetic of the walk's counters.
-/
module

public import proofs.«01_k».proof.Proof.PI.Setup

@[expose] public section

noncomputable section

namespace Cert.KernelIdeal.Prf

open Cert.KernelIdeal Cert.KernelIdeal.Gen
open Idealize.ShloMosaic

variable {F : FTy → Type} [FloatOps F]

abbrev A160 (F : FTy → Type) : Type := S160x128.Idx → F .f32
abbrev A20480 (F : FTy → Type) : Type := S20480x1.Idx → F .f32
abbrev A512 (F : FTy → Type) : Type := S512x1.Idx → F .f32
abbrev A4 (F : FTy → Type) : Type := S4x128.Idx → F .f32
abbrev ASq (F : FTy → Type) : Type := S512x512.Idx → F .f32

def ix160 (i j : ℕ) (hi : i < 160) (hj : j < 128) : S160x128.Idx := fun | 0 => ⟨i, hi⟩ | 1 => ⟨j, hj⟩
def ix20480 (i : ℕ) (hi : i < 20480) : S20480x1.Idx := fun | 0 => ⟨i, hi⟩ | 1 => ⟨0, Nat.one_pos⟩
def ix4 (i j : ℕ) (hi : i < 4) (hj : j < 128) : S4x128.Idx := fun | 0 => ⟨i, hi⟩ | 1 => ⟨j, hj⟩
def ix512 (i j : ℕ) (hi : i < 512) (hj : j < 128) : S512x128.Idx := fun | 0 => ⟨i, hi⟩ | 1 => ⟨j, hj⟩

/-- Four rows of 128, the `t`-th group. -/
def rowsAt (X : A160 F) (t : ℕ) : A4 F :=
  fun j => X (ix160 ((4 * t + (j 0).val) % 160) (j 1).val (Nat.mod_lt _ (by decide)) (j 1).isLt)

/-- The `b`-th block of 512 of a column. -/
def blkAt (X : A20480 F) (b : ℕ) : A512 F :=
  fun j => X (ix20480 ((512 * b + (j 0).val) % 20480) (Nat.mod_lt _ (by decide)))

/-- The `t`-th group of four rows replaced. -/
def setRows (X : A160 F) (t : ℕ) (r : A4 F) : A160 F :=
  fun j => if h : 4 * t ≤ (j 0).val ∧ (j 0).val < 4 * t + 4 then r (ix4 ((j 0).val - 4 * t) (j 1).val (by omega) (j 1).isLt) else X j

/-- One earlier block's suppression joined to that found so far. -/
def supStep (a b c d : A512 F) (x y z w k : A4 F) (s : A512 F) : A512 F :=
  k1_pay31 a b c d (k1_pay14 k) (k1_pay15 x y z w) (k1_pay16 (k1_pay25 a) (k1_pay26 b) (k1_pay27 c) (k1_pay28 d) x y z w) s

/-- The suppression of a block's positions by the kept ones of the first `t` blocks. -/
def sup (a b c d : A512 F) (Y : Fin 4 → A160 F) (k : A160 F) : ℕ → A512 F
  | 0 => k1_pay30
  | t + 1 => supStep a b c d (rowsAt (Y 0) t) (rowsAt (Y 1) t) (rowsAt (Y 2) t) (rowsAt (Y 3) t) (rowsAt k t) (sup a b c d Y k t)

/-- The four groups of columns of a block's overlap matrix. -/
def sqCol (a b c d : A512 F) (x y z w : A4 F) : Fin 4 → (S512x128.Idx → F .f32)
  | 0 => k1_pay44 (iota .tc S512x128 32 [0] iota_S512x128_d0_w32) (k1_pay42 (k1_pay25 a) (k1_pay26 b) (k1_pay27 c) (k1_pay28 d) x y z w)
      (k1_pay43 (k1_pay29 a b c d) x y z w)
  | 1 => k1_pay51 (iota .tc S512x128 32 [0] iota_S512x128_d0_w32) (k1_pay49 (k1_pay25 a) (k1_pay26 b) (k1_pay27 c) (k1_pay28 d) (k1_pay34 x) (k1_pay35 y) (k1_pay36 z) (k1_pay37 w))
      (k1_pay50 (k1_pay25 a) (k1_pay26 b) (k1_pay27 c) (k1_pay28 d) (k1_pay29 a b c d) (k1_pay34 x) (k1_pay35 y) (k1_pay36 z) (k1_pay37 w))
  | 2 => k1_pay54 (iota .tc S512x128 32 [0] iota_S512x128_d0_w32) (k1_pay52 (k1_pay25 a) (k1_pay26 b) (k1_pay27 c) (k1_pay28 d) (k1_pay29 a b c d) (k1_pay34 x) (k1_pay35 y) (k1_pay36 z) (k1_pay37 w))
      (iota .tc S512x128 32 [1] iota_S512x128_d1_w32) k1_pay53
  | 3 => k1_pay3 (iota .tc S512x128 32 [0] iota_S512x128_d0_w32) k1_pay55
      (k1_pay56 (k1_pay25 a) (k1_pay26 b) (k1_pay27 c) (k1_pay28 d) (k1_pay29 a b c d) (k1_pay34 x) (k1_pay35 y) (k1_pay36 z) (k1_pay37 w))

theorem col_lt (j : S512x512.Idx) : (j 1).val / 128 < 4 := by
  have h : (j 1).val < 512 := (j 1).isLt
  omega

/-- A block's overlap matrix. -/
def smat (a b c d : A512 F) (x y z w : A4 F) : ASq F :=
  fun j => sqCol a b c d x y z w ⟨(j 1).val / 128, col_lt j⟩ (ix512 (j 0).val ((j 1).val % 128) (j 0).isLt (Nat.mod_lt _ (by decide)))

/-- The fixpoint inside a block, with `n` rounds to go. -/
def inner (s : ASq F) (v : IVec S512x1 1) : ℕ → BitVec 32 × A512 F × BitVec 32 → BitVec 32 × A512 F × BitVec 32
  | 0, r => r
  | n + 1, r => if Scalar.andi (Scalar.cmpi .sgt r.2.2 0#32) (Scalar.cmpi .slt r.1 514#32) = 1#1
      then inner s v n (Scalar.addi r.1 1#32, k1_pay8 v r.2.1 s, Scalar.fptosi 32 (k1_pay9 v r.2.1 s)) else r

/-- Which of a block's positions are valid. -/
abbrev alive0 (X : Fin 5 → A20480 F) (n : ℕ) : IVec S512x1 1 := k1_pay24 (blkAt (X 4) n)

/-- Which of them no earlier kept one suppresses. -/
abbrev alive (X : Fin 5 → A20480 F) (Y : Fin 4 → A160 F) (k : A160 F) (n : ℕ) : IVec S512x1 1 :=
  k1_pay33 (alive0 X n) (sup (blkAt (X 0) n) (blkAt (X 1) n) (blkAt (X 2) n) (blkAt (X 3) n) Y k n)

/-- The overlap matrix of the `n`-th block. -/
def sqAt (X : Fin 5 → A20480 F) (Y : Fin 4 → A160 F) (n : ℕ) : ASq F :=
  smat (blkAt (X 0) n) (blkAt (X 1) n) (blkAt (X 2) n) (blkAt (X 3) n) (rowsAt (Y 0) n) (rowsAt (Y 1) n) (rowsAt (Y 2) n) (rowsAt (Y 3) n)

/-- What the fixpoint leaves of the `n`-th block. -/
def keptAt (X : Fin 5 → A20480 F) (Y : Fin 4 → A160 F) (k : A160 F) (n : ℕ) : A512 F :=
  (inner (sqAt X Y n) (alive X Y k n) 514 (0#32, k1_pay4 (alive X Y k n), 1#32)).2.1

abbrev goOn (r : BitVec 32 × BitVec 32 × BitVec 32) : Prop :=
  Scalar.andi (Scalar.andi (Scalar.cmpi .slt r.1 40#32) (Scalar.cmpi .slt r.2.1 2000#32)) (Scalar.cmpi .sgt r.2.2 0#32) = 1#1

/-- The walk over the blocks, with `n` blocks to go: the counters and the kept array. -/
def outer (X : Fin 5 → A20480 F) (Y : Fin 4 → A160 F) : ℕ → (BitVec 32 × BitVec 32 × BitVec 32) × A160 F → (BitVec 32 × BitVec 32 × BitVec 32) × A160 F
  | 0, s => s
  | n + 1, s => if goOn s.1
      then outer X Y n ((Scalar.addi s.1.1 1#32, Scalar.addi s.1.2.1 (Scalar.fptosi 32 (k1_pay7 (keptAt X Y s.2 s.1.1.toNat))),
          Scalar.fptosi 32 (k1_pay6 (F := F) (alive0 X s.1.1.toNat))), setRows s.2 s.1.1.toNat (k1_pay5 (keptAt X Y s.2 s.1.1.toNat)))
      else s

/-- The whole scan: the kept flags and the number of positions scanned, spread over a tile. -/
def scanRes (X : Fin 5 → A20480 F) (Y : Fin 4 → A160 F) : A160 F := (outer X Y 40 ((0#32, 0#32, 1#32), k1_pay1)).2
def scanEnd (X : Fin 5 → A20480 F) (Y : Fin 4 → A160 F) : S8x128.Idx → F .f32 := k1_pay2 (outer X Y 40 ((0#32, 0#32, 1#32), k1_pay1)).1.1

/-! ## The counters -/

theorem ofNat_toNat (b : BitVec 32) : BitVec.ofNat 32 b.toNat = b := by simp

theorem chk_lt : ∀ n < 40, k1_chk1 (BitVec.ofNat 32 n) := by
  intro n hn
  rw [k1_chk1.eq_1]
  revert n; decide +kernel

theorem trips1 : ∀ n < 40, (k1_t1_loop (BitVec.ofNat 32 n)).trips = n := by decide +kernel
theorem trips2 : ∀ n < 40, (k1_t2_loop (BitVec.ofNat 32 n)).trips = 0 := by decide +kernel
theorem off1_eq : ∀ n < 40, k1_off1 (BitVec.ofNat 32 n) = ![512 * n, 0] := by decide +kernel
theorem off4_eq : ∀ n < 40, k1_off4 (BitVec.ofNat 32 n) = ![4 * n, 0] := by decide +kernel
theorem off2_eq : ∀ n < 40, ∀ t : Fin (k1_t1_loop (BitVec.ofNat 32 n)).trips, k1_off2 (BitVec.ofNat 32 n) t = ![4 * t.val, 0] := by decide +kernel

/-- A block to go: its number is below 40. -/
theorem goOn_lt {r : BitVec 32 × BitVec 32 × BitVec 32} (hr : r.1.toNat ≤ 40) (h : goOn r) : r.1.toNat < 40 := by
  by_contra hn
  have h40 : r.1 = 40#32 := by rw [← ofNat_toNat r.1, show r.1.toNat = 40 by omega]
  rw [goOn, h40] at h
  rcases BitVec.eq_zero_or_eq_one (Scalar.cmpi .slt r.2.1 2000#32) with h1 | h1 <;>
    rcases BitVec.eq_zero_or_eq_one (Scalar.cmpi .sgt r.2.2 0#32) with h2 | h2 <;> rw [h1, h2] at h <;> revert h <;> decide

/-- At 40 the walk is over. -/
theorem not_goOn {r : BitVec 32 × BitVec 32 × BitVec 32} (hr : r.1.toNat = 40) : ¬ goOn r := fun h => absurd (goOn_lt hr.le h) (by omega)

theorem addi_one {b : BitVec 32} (h : b.toNat < 1000) : (Scalar.addi b 1#32).toNat = b.toNat + 1 := by
  unfold Scalar.addi IntOp.addi
  rw [BitVec.toNat_add]
  show (b.toNat + 1) % 2 ^ 32 = _
  omega

/-- A round to go: fewer than 514 have run. -/
theorem round_lt {i ch : BitVec 32} (hi : i.toNat ≤ 514) (h : Scalar.andi (Scalar.cmpi .sgt ch 0#32) (Scalar.cmpi .slt i 514#32) = 1#1) : i.toNat < 514 := by
  by_contra hn
  have h514 : i = 514#32 := by rw [← ofNat_toNat i, show i.toNat = 514 by omega]
  rw [h514] at h
  rcases BitVec.eq_zero_or_eq_one (Scalar.cmpi .sgt ch 0#32) with h1 | h1 <;> rw [h1] at h <;> revert h <;> decide

end Cert.KernelIdeal.Prf

end
-- ==== Proof.PI.Trip.lean ====
/-
  One trip of the compaction's inner loop, and the loop: sixteen positions of the staged chunk are
  looked at, and the flagged ones are stored at the next free slots of the five packed arrays.
-/
module

public import proofs.«01_k».proof.Proof.PI.Setup

@[expose] public section

set_option maxRecDepth 16384

noncomputable section

namespace Cert.KernelIdeal.Prf

open Cert.KernelIdeal Cert.KernelIdeal.Gen
open Idealize.ShloMosaic
open Idealize.ShloMosaic.SparseCore (S V T)
open Idealize.ShloMosaic.SparseCore.Cfg (HIx Pay)
open Idealize.SL
open RA BI BI.BIBase BI.Laws ProofMode Sem
open Idealize.ShloMosaic.Rounds Idealize.ShloMosaic.Tactic
open Cert.Compact (ln V16 V2048 Packed slotRaw slotMask slotAt cntNext)

variable {F : FTy → Type} [FloatOps F]

/-! ## The tile's scratch buffers -/

abbrev b14 : Memref sig .scVector .vmem S1280 .f32 := Memref.whole cc2_scratch0
abbrev b15 : Memref sig .scVector .vmem S1280 .f32 := Memref.whole cc2_scratch1
abbrev b16 : Memref sig .scVector .vmem S1280 .f32 := Memref.whole cc2_scratch2
abbrev b17 : Memref sig .scVector .vmem S1280 .f32 := Memref.whole cc2_scratch3
abbrev b18 : Memref sig .scVector .vmem S1280 .f32 := Memref.whole cc2_scratch4
abbrev b19 : Memref sig .scVector .vmem S1280 .f32 := Memref.whole cc2_scratch5
abbrev b20 : Memref sig .scVector .vmem S2048 .f32 := Memref.whole cc2_scratch6
abbrev b21 : Memref sig .scVector .vmem S2048 .f32 := Memref.whole cc2_scratch7
abbrev b22 : Memref sig .scVector .vmem S2048 .f32 := Memref.whole cc2_scratch8
abbrev b23 : Memref sig .scVector .vmem S2048 .f32 := Memref.whole cc2_scratch9
abbrev b24 : Memref sig .scVector .vmem S2048 .f32 := Memref.whole cc2_scratch10
abbrev b25 : Memref sig .scVector .vmem S16 .f32 := Memref.whole cc2_scratch11
abbrev b26 : Memref sig .scVector .vmem S16 .i32 := Memref.whole cc2_scratch12

/-- The trip of the loop, its offsets and the evidence about them open. -/
def tripBody (i : grid2.Coords) (o₁ o₂ : Fin 1 → ℕ) (h₁ : ∀ a, o₁ a + S16.size a ≤ S1280.size a) (h₂ : ∀ a, o₂ a + S16.size a ≤ S1280.size a)
    (chk : IVec S16 32 → Prop) (dec : ∀ v, Decidable (chk v)) (hix : ∀ v, chk v → ∀ (a : Fin 1) x, ((![v] : Fin 1 → IVec S16 32) a x).toNat < S2048.size a)
    (cnt : BitVec 32) : Prog (TpuEff nD τ sig (Elt F) (Λ₀ F) (.scVector ((i 0).castLE hcore2) ((i 1).castLE hsub2))) (BitVec 32) := do
  let v278 : Vec F S16 .f32 ← Prog.lift (.load b19 (Rect.unit (s := S1280) o₁ S16.size h₁).toLoadRect (View.loadsAt_vmem h_S16))
  have v280 : IVec S16 1 := cmpf .ogt v278 (broadcast S16 (Scalar.ofBits .f32 0x3F000000#32 : F .f32))
  have v283 : IVec S16 32 := select v280 (broadcast S16 1#32) (broadcast S16 0#32)
  have v285 : IVec S16 32 := scan .sum v283
  have v286 : IVec S16 32 := broadcast S16 cnt
  have v287 : IVec S16 32 := addi v286 v285
  have v288 : IVec S16 32 := broadcast S16 1#32
  have v289 : IVec S16 32 := subi v287 v288
  have v290 : IVec S16 32 := broadcast S16 2048#32
  have v291 : IVec S16 1 := cmpi .slt v289 v290
  have v292 : IVec S16 1 := andi v280 v291
  have v293 : IVec S16 32 := broadcast S16 0#32
  have v294 : IVec S16 32 := select v292 v289 v293
  have hw : chk v294 := (← Prog.lift (TpuEff.assume (chk v294) (dec v294))).down
  let v297 : Vec F S16 .f32 ← Prog.lift (.load b14 (Rect.unit (s := S1280) o₁ S16.size h₁).toLoadRect (View.loadsAt_vmem h_S16))
  SparseCore.vectorStoreIdx b20 ![v294] v297 v292 false (hix v294 hw) (View.stores_vmem_bits_univ h_S2048 rfl)
  let v300 : Vec F S16 .f32 ← Prog.lift (.load b15 (Rect.unit (s := S1280) o₂ S16.size h₂).toLoadRect (View.loadsAt_vmem h_S16))
  SparseCore.vectorStoreIdx b21 ![v294] v300 v292 false (hix v294 hw) (View.stores_vmem_bits_univ h_S2048 rfl)
  let v303 : Vec F S16 .f32 ← Prog.lift (.load b16 (Rect.unit (s := S1280) o₂ S16.size h₂).toLoadRect (View.loadsAt_vmem h_S16))
  SparseCore.vectorStoreIdx b22 ![v294] v303 v292 false (hix v294 hw) (View.stores_vmem_bits_univ h_S2048 rfl)
  let v306 : Vec F S16 .f32 ← Prog.lift (.load b17 (Rect.unit (s := S1280) o₂ S16.size h₂).toLoadRect (View.loadsAt_vmem h_S16))
  SparseCore.vectorStoreIdx b23 ![v294] v306 v292 false (hix v294 hw) (View.stores_vmem_bits_univ h_S2048 rfl)
  let v309 : Vec F S16 .f32 ← Prog.lift (.load b18 (Rect.unit (s := S1280) o₂ S16.size h₂).toLoadRect (View.loadsAt_vmem h_S16))
  SparseCore.vectorStoreIdx b24 ![v294] v309 v292 false (hix v294 hw) (View.stores_vmem_bits_univ h_S2048 rfl)
  have v311 : IVec S16 32 := scan .sum v283
  let v312 : BitVec 32 := extractAt ![15] v311 inpos_S16_p15
  let v313 : BitVec 32 := Scalar.addi cnt v312
  pure v313

section
variable (d : Dev nD) (i : grid2.Coords)

/-- A scratch of a tile holding the values `f`. -/
abbrev pin (b : Memref sig .scVector .vmem S1280 .f32) (f : Buf (Elt F) (b.view.loc (V d (cV i) (jV i)))) : sProp (MM F) := b.view.loc (V d (cV i) (jV i)) ↦{fullShare} f
abbrev pout (b : Memref sig .scVector .vmem S2048 .f32) (f : Buf (Elt F) (b.view.loc (V d (cV i) (jV i)))) : sProp (MM F) := b.view.loc (V d (cV i) (jV i)) ↦{fullShare} f

/-- The staged chunk. -/
def Staged (g : Fin 6 → (S1280.Idx → F .f32)) : sProp (MM F) :=
  iprop(pin d i b14 (g 0) ∗ pin d i b15 (g 1) ∗ pin d i b16 (g 2) ∗ pin d i b17 (g 3) ∗ pin d i b18 (g 4) ∗ pin d i b19 (g 5))

/-- The five packed arrays after position `n`. -/
def Out (K : ℕ → Prop) (xs : Fin 5 → ℕ → F .f32) (z : F .f32) (n : ℕ) : sProp (MM F) :=
  iprop(∃ u : Fin 5 → (S2048.Idx → F .f32), ⌜∀ k, Packed K (xs k) z n (u k)⌝ ∗
    pout d i b20 (u 0) ∗ pout d i b21 (u 1) ∗ pout d i b22 (u 2) ∗ pout d i b23 (u 3) ∗ pout d i b24 (u 4))

/-- The sixteen elements from `o` on. -/
def blk (f : S1280.Idx → F .f32) (o : ℕ) (h : ∀ a, (![o] : Fin 1 → ℕ) a + S16.size a ≤ S1280.size a) : Vec F S16 .f32 :=
  fun x => f ((Rect.unit (s := S1280) ![o] S16.size h).emb x)

theorem emb_val (o : ℕ) (h : ∀ a, (![o] : Fin 1 → ℕ) a + S16.size a ≤ S1280.size a) (l : Fin 16) :
    (((Rect.unit (s := S1280) ![o] S16.size h).emb (ln l)) 0).val = o + l.val := by
  show o + 1 * l.val = _
  rw [Nat.one_mul]

/-- The flag of one element: it is more than a half. -/
abbrev flg1 (v : F .f32) : BitVec 1 := FloatOps.cmpf .ogt v (Scalar.ofBits .f32 0x3F000000#32 : F .f32)
/-- The flags of sixteen elements. -/
abbrev flg (v : Vec F S16 .f32) : IVec S16 1 := cmpf .ogt v (broadcast S16 (Scalar.ofBits .f32 0x3F000000#32 : F .f32))

theorem scat_pre (c : Thread nD τ) (b : Ref sig c.2.kind) (f : Buf (Elt F) ((Memref.whole b).view.loc c)) :
    ((Memref.whole b).view.loc c ↦{fullShare} f : sProp (MM F))
      ⊢ ((Memref.whole b).access (.whole _)).loc c ↦[((Memref.whole b).access (.whole _)).set]{fullShare} f := by
  rw [Memref.set_access_whole]

theorem scat_post (c : Thread nD τ) (b : Ref sig c.2.kind) (f w : Buf (Elt F) ((Memref.whole b).view.loc c)) :
    (((Memref.whole b).access (.whole _)).loc c ↦[((Memref.whole b).access (.whole _)).set]{fullShare}
        ((Memref.whole b).access (.whole _)).write (Elt F) f w Finset.univ : sProp (MM F))
      ⊢ (Memref.whole b).view.loc c ↦{fullShare} w := by
  rw [Memref.write_access_whole_univ, Memref.set_access_whole]

/-- The five stores of a trip: each puts the flagged lanes of `v` at the next slots of `w`. -/
abbrev scat (cnt : BitVec 32) (fl : IVec S16 1) (h : ∀ (a : Fin 1) x, ((![slotAt cnt fl] : Fin 1 → IVec S16 32) a x).toNat < S2048.size a)
    (w : Vec F S2048 .f32) (v : Vec F S16 .f32) : Vec F S2048 .f32 :=
  storeIdx (F := F) (s := S2048) (e := .f32) (d := ![16]) w ![slotAt cnt fl] v (slotMask cnt fl) false h

open Classical in
theorem trip_wp (K : ℕ → Prop) (xs : Fin 5 → ℕ → F .f32) (z : F .f32) (n : ℕ) (hn : n + 16 ≤ 2 ^ 20) (o : ℕ) (o₁ o₂ : Fin 1 → ℕ) (ho₁ : o₁ = ![o]) (ho₂ : o₂ = ![o])
    (h₁ : ∀ a, o₁ a + S16.size a ≤ S1280.size a) (h₂ : ∀ a, o₂ a + S16.size a ≤ S1280.size a)
    (chk : IVec S16 32 → Prop) (dec : ∀ v, Decidable (chk v)) (hix : ∀ v, chk v → ∀ (a : Fin 1) x, ((![v] : Fin 1 → IVec S16 32) a x).toNat < S2048.size a)
    (hchk : ∀ v, (∀ (a : Fin 1) x, ((![v] : Fin 1 → IVec S16 32) a x).toNat < S2048.size a) → chk v)
    (g : Fin 6 → (S1280.Idx → F .f32))
    (hx : ∀ (k : Fin 5) (j : S1280.Idx) (l : Fin 16), (j 0).val = o + l.val → g k.castSucc j = xs k (n + l.val))
    (hK : ∀ (j : S1280.Idx) (l : Fin 16), (j 0).val = o + l.val → (flg1 (g 5 j) = 1#1 ↔ K (n + l.val))) :
    iprop(Staged d i g ∗ Out d i K xs z n)
      ⊢ wp frame (wpE (defs₀ (F := F)) 𝒱₀ (V d (cV i) (jV i)) none) Set.univ
        (tripBody (F := F) i o₁ o₂ h₁ h₂ chk dec hix (BitVec.ofNat 32 (Nat.count K n)))
        fun c => iprop(⌜c = BitVec.ofNat 32 (Nat.count K (n + 16))⌝ ∗ Staged d i g ∗ Out d i K xs z (n + 16)) := by
  subst ho₁ ho₂
  unfold Staged Out
  iintro ⟨⟨H14, H15, H16, H17, H18, H19⟩, %u, %hu, H20, H21, H22, H23, H24⟩
  unfold tripBody
  sl_exec
  have hfl : ∀ l : Fin 16, flg (blk (g 5) o h₁) (ln l) = 1#1 ↔ K (n + l.val) := fun l => hK _ l (emb_val o h₁ l)
  have hv : ∀ (k : Fin 5) (l : Fin 16), blk (g k.castSucc) o h₁ (ln l) = xs k (n + l.val) := fun k l => hx k _ l (emb_val o h₁ l)
  have hlt : ∀ (a : Fin 1) x, ((![slotAt (BitVec.ofNat 32 (Nat.count K n)) (flg (blk (g 5) o h₁))] : Fin 1 → IVec S16 32) a x).toNat < S2048.size a := by
    intro a x
    have ha : a = 0 := Subsingleton.elim _ _
    subst ha
    exact Cert.Compact.slotAt_lt hn hfl x
  iapply (wp_assume _ _ _ _ (hchk _ hlt))
  sl_exec
  ihave H20 := (scat_pre (V d (cV i) (jV i)) cc2_scratch6 (u 0)) $$ H20
  iapply (SparseCore.wp_vectorStoreIdx 𝒱₀ (V d (cV i) (jV i)) none Set.univ (base := b20)) $$ H20; iintro H20
  ihave H20 := (scat_post (V d (cV i) (jV i)) cc2_scratch6 _ _) $$ H20
  sl_exec
  ihave H21 := (scat_pre (V d (cV i) (jV i)) cc2_scratch7 (u 1)) $$ H21
  iapply (SparseCore.wp_vectorStoreIdx 𝒱₀ (V d (cV i) (jV i)) none Set.univ (base := b21)) $$ H21; iintro H21
  ihave H21 := (scat_post (V d (cV i) (jV i)) cc2_scratch7 _ _) $$ H21
  sl_exec
  ihave H22 := (scat_pre (V d (cV i) (jV i)) cc2_scratch8 (u 2)) $$ H22
  iapply (SparseCore.wp_vectorStoreIdx 𝒱₀ (V d (cV i) (jV i)) none Set.univ (base := b22)) $$ H22; iintro H22
  ihave H22 := (scat_post (V d (cV i) (jV i)) cc2_scratch8 _ _) $$ H22
  sl_exec
  ihave H23 := (scat_pre (V d (cV i) (jV i)) cc2_scratch9 (u 3)) $$ H23
  iapply (SparseCore.wp_vectorStoreIdx 𝒱₀ (V d (cV i) (jV i)) none Set.univ (base := b23)) $$ H23; iintro H23
  ihave H23 := (scat_post (V d (cV i) (jV i)) cc2_scratch9 _ _) $$ H23
  sl_exec
  ihave H24 := (scat_pre (V d (cV i) (jV i)) cc2_scratch10 (u 4)) $$ H24
  iapply (SparseCore.wp_vectorStoreIdx 𝒱₀ (V d (cV i) (jV i)) none Set.univ (base := b24)) $$ H24; iintro H24
  ihave H24 := (scat_post (V d (cV i) (jV i)) cc2_scratch10 _ _) $$ H24
  sl_exec
  sl_step
  isplitr
  · ipureintro; exact Cert.Compact.cntNext_eq hfl
  isplitl [H14 H15 H16 H17 H18 H19]
  · iframe
  iexists fun k => scat (BitVec.ofNat 32 (Nat.count K n)) (flg (blk (g 5) o h₁)) hlt (u k) (blk (g k.castSucc) o h₁)
  isplitr
  · ipureintro; exact fun k => Cert.Compact.Packed.step hn hfl (hu k) _ (hv k) _
  isplitl [H20]
  · istop; exact Entails.of_eq (congrArg (fun w => pout d i b20 (scat (BitVec.ofNat 32 (Nat.count K n)) (flg (blk (g 5) o h₁)) hlt w (blk (g 0) o h₁))) (Memref.read_access_whole (Elt F) cc2_scratch6 (u 0)))
  isplitl [H21]
  · istop; exact Entails.of_eq (congrArg (fun w => pout d i b21 (scat (BitVec.ofNat 32 (Nat.count K n)) (flg (blk (g 5) o h₁)) hlt w (blk (g 1) o h₁))) (Memref.read_access_whole (Elt F) cc2_scratch7 (u 1)))
  isplitl [H22]
  · istop; exact Entails.of_eq (congrArg (fun w => pout d i b22 (scat (BitVec.ofNat 32 (Nat.count K n)) (flg (blk (g 5) o h₁)) hlt w (blk (g 2) o h₁))) (Memref.read_access_whole (Elt F) cc2_scratch8 (u 2)))
  isplitl [H23]
  · istop; exact Entails.of_eq (congrArg (fun w => pout d i b23 (scat (BitVec.ofNat 32 (Nat.count K n)) (flg (blk (g 5) o h₁)) hlt w (blk (g 3) o h₁))) (Memref.read_access_whole (Elt F) cc2_scratch9 (u 3)))
  · istop; exact Entails.of_eq (congrArg (fun w => pout d i b24 (scat (BitVec.ofNat 32 (Nat.count K n)) (flg (blk (g 5) o h₁)) hlt w (blk (g 4) o h₁))) (Memref.read_access_whole (Elt F) cc2_scratch10 (u 4)))
end

end Cert.KernelIdeal.Prf
-- ==== Proof.PI.Chunk.lean ====
/-
  One chunk of the compaction: its 1280 positions are fetched, looked at sixteen at a time, and the
  running count is stored back.
-/
module

public import proofs.«01_k».proof.Proof.PI.Trip

@[expose] public section

set_option maxRecDepth 16384

noncomputable section

namespace Cert.KernelIdeal.Prf

open Cert.KernelIdeal Cert.KernelIdeal.Gen
open Idealize.ShloMosaic
open Idealize.ShloMosaic.SparseCore (S V T)
open Idealize.ShloMosaic.SparseCore.Cfg (HIx Pay)
open Idealize.SL
open RA BI BI.BIBase BI.Laws ProofMode Sem
open Idealize.ShloMosaic.Rounds Idealize.ShloMosaic.Tactic
open Cert.Compact (ln V16 V2048 Packed slotRaw slotMask slotAt cntNext)

variable {F : FTy → Type} [FloatOps F]

open Cert.Compact (ln V16 V2048 Packed slotRaw slotMask slotAt cntNext)

variable {F : FTy → Type} [FloatOps F]

/-- The six arrays the tile reads, as it sees them. -/
abbrev a2 : Memref sig .scVector .hbm S20480 .f32 := Memref.whole main_v25_1_scv
abbrev a3 : Memref sig .scVector .hbm S20480 .f32 := Memref.whole main_v25_2_scv
abbrev a4 : Memref sig .scVector .hbm S20480 .f32 := Memref.whole main_v25_3_scv
abbrev a5 : Memref sig .scVector .hbm S20480 .f32 := Memref.whole main_v25_4_scv
abbrev a6 : Memref sig .scVector .hbm S20480 .f32 := Memref.whole main_v25_5_scv
abbrev a7 : Memref sig .scVector .hbm S20480 .f32 := Memref.whole main_v36_scv

/-- The 1280 elements from `base` on. -/
abbrev win (a : Memref sig .scVector .hbm S20480 .f32) (base : ℕ) (hb : ∀ x, (![base] : Fin 1 → ℕ) x + S1280.size x ≤ S20480.size x) :
    Memref sig .scVector .hbm S1280 .f32 := a.slice (Rect.unit (s := S20480) ![base] S1280.size hb) (fun _ => rfl)

/-- A tile's program. -/
abbrev TileProg (F : FTy → Type) (i : grid2.Coords) := Prog (TpuEff nD τ sig (Elt F) (Λ₀ F) (.scVector ((i 0).castLE hcore2) ((i 1).castLE hsub2)))

/-- The fetch of one chunk: six copies are started, then waited for. -/
def fetch (i : grid2.Coords) (base : ℕ) (hb : ∀ x, (![base] : Fin 1 → ℕ) x + S1280.size x ≤ S20480.size x) :
    TileProg F i PUnit := do
  Prog.lift (.enqueueDma (win a2 base hb) (.here b14) (.dma cc2_scratch13.sem) (View.wordExact_bits rfl) wB0.wordExact ⟨Or.inl rfl, trivial⟩)
  Prog.lift (.enqueueDma (win a3 base hb) (.here b15) (.dma cc2_scratch14.sem) (View.wordExact_bits rfl) wB1.wordExact ⟨Or.inl rfl, trivial⟩)
  Prog.lift (.enqueueDma (win a4 base hb) (.here b16) (.dma cc2_scratch15.sem) (View.wordExact_bits rfl) wB2.wordExact ⟨Or.inl rfl, trivial⟩)
  Prog.lift (.enqueueDma (win a5 base hb) (.here b17) (.dma cc2_scratch16.sem) (View.wordExact_bits rfl) wB3.wordExact ⟨Or.inl rfl, trivial⟩)
  Prog.lift (.enqueueDma (win a6 base hb) (.here b18) (.dma cc2_scratch17.sem) (View.wordExact_bits rfl) wB4.wordExact ⟨Or.inl rfl, trivial⟩)
  Prog.lift (.enqueueDma (win a7 base hb) (.here b19) (.dma cc2_scratch18.sem) (View.wordExact_bits rfl) wB5.wordExact ⟨Or.inl rfl, trivial⟩)
  Prog.lift (.waitDma2 cc2_scratch13.sem (win a2 base hb) b14 (View.wordExact_bits rfl) wB0.wordExact)
  Prog.lift (.waitDma2 cc2_scratch14.sem (win a3 base hb) b15 (View.wordExact_bits rfl) wB1.wordExact)
  Prog.lift (.waitDma2 cc2_scratch15.sem (win a4 base hb) b16 (View.wordExact_bits rfl) wB2.wordExact)
  Prog.lift (.waitDma2 cc2_scratch16.sem (win a5 base hb) b17 (View.wordExact_bits rfl) wB3.wordExact)
  Prog.lift (.waitDma2 cc2_scratch17.sem (win a6 base hb) b18 (View.wordExact_bits rfl) wB4.wordExact)
  Prog.lift (.waitDma2 cc2_scratch18.sem (win a7 base hb) b19 (View.wordExact_bits rfl) wB5.wordExact)
  pure ⟨⟩

section
variable (d : Dev nD) (i : grid2.Coords)

abbrev psrc (a : Memref sig .scVector .hbm S20480 .f32) (f : Buf (Elt F) (a.view.loc (V d (cV i) (jV i)))) : sProp (MM F) := a.view.loc (V d (cV i) (jV i)) ↦{fullShare} f
abbrev psem (s : DmaSems sig S_) : sProp (MM F) := semVal (V d (cV i) (jV i), SemLoc.dma s.sem) 0

/-- The six arrays the tile reads. -/
def Src (f : Fin 6 → (S20480.Idx → F .f32)) : sProp (MM F) :=
  iprop(psrc d i a2 (f 0) ∗ psrc d i a3 (f 1) ∗ psrc d i a4 (f 2) ∗ psrc d i a5 (f 3) ∗ psrc d i a6 (f 4) ∗ psrc d i a7 (f 5))

/-- The six semaphores of the fetches, at rest. -/
def Sems : sProp (MM F) :=
  iprop(psem d i cc2_scratch13 ∗ psem d i cc2_scratch14 ∗ psem d i cc2_scratch15 ∗ psem d i cc2_scratch16 ∗ psem d i cc2_scratch17 ∗ psem d i cc2_scratch18)

/-- The chunk of `f` from `base` on. -/
def cut (f : S20480.Idx → F .f32) (base : ℕ) (hb : ∀ x, (![base] : Fin 1 → ℕ) x + S1280.size x ≤ S20480.size x) : S1280.Idx → F .f32 :=
  fun x => f ((Rect.unit (s := S20480) ![base] S1280.size hb).emb x)

theorem cut_at (f : S20480.Idx → F .f32) (base : ℕ) (hb : ∀ x, (![base] : Fin 1 → ℕ) x + S1280.size x ≤ S20480.size x) (j : S1280.Idx) :
    ∃ J : S20480.Idx, (J 0).val = base + (j 0).val ∧ cut f base hb j = f J := by
  refine ⟨(Rect.unit (s := S20480) ![base] S1280.size hb).emb j, ?_, rfl⟩
  show base + 1 * (j 0).val = _
  rw [Nat.one_mul]

theorem fetch_wp (O : CellTallies nD τ sig (HIx 1)) (base : ℕ) (hb : ∀ x, (![base] : Fin 1 → ℕ) x + S1280.size x ≤ S20480.size x)
    (f : Fin 6 → (S20480.Idx → F .f32)) (g : Fin 6 → (S1280.Idx → F .f32)) :
    iprop(Transfers.MayWaits (V d (cV i) (jV i)) (default : HIx 1) O ∗ Src d i f ∗ Staged d i g ∗ Sems d i ∗ ∃ W, owes (V d (cV i) (jV i)) O W)
      ⊢ wp frame (wpE (defs₀ (F := F)) 𝒱₀ (V d (cV i) (jV i)) none) Set.univ (fetch (F := F) i base hb)
        fun _ => iprop(Src d i f ∗ Staged d i (fun k => cut (f k) base hb) ∗ Sems d i ∗ ∃ W, owes (V d (cV i) (jV i)) O W) := by
  unfold Src Staged Sems
  iintro ⟨#Hmw, ⟨S0, S1, S2, S3, S4, S5⟩, ⟨H0, H1, H2, H3, H4, H5⟩, ⟨M0, M1, M2, M3, M4, M5⟩, %W, HO⟩
  unfold fetch
  sl_exec (disch := exact View.amount_pos _ _ (show 0 < S1280.numel by decide))
  sl_step
  isplitl [S0 S1 S2 S3 S4 S5]
  · iframe
  isplitl [H0 H1 H2 H3 H4 H5]
  · isplitl [H0]
    · iclear Hmw; istop; exact Entails.of_eq (congrArg (pin d i b14) (View.write_whole_univ (Val := Elt F) (cc2_scratch0) (g 0) _))
    isplitl [H1]
    · iclear Hmw; istop; exact Entails.of_eq (congrArg (pin d i b15) (View.write_whole_univ (Val := Elt F) (cc2_scratch1) (g 1) _))
    isplitl [H2]
    · iclear Hmw; istop; exact Entails.of_eq (congrArg (pin d i b16) (View.write_whole_univ (Val := Elt F) (cc2_scratch2) (g 2) _))
    isplitl [H3]
    · iclear Hmw; istop; exact Entails.of_eq (congrArg (pin d i b17) (View.write_whole_univ (Val := Elt F) (cc2_scratch3) (g 3) _))
    isplitl [H4]
    · iclear Hmw; istop; exact Entails.of_eq (congrArg (pin d i b18) (View.write_whole_univ (Val := Elt F) (cc2_scratch4) (g 4) _))
    · iclear Hmw; istop; exact Entails.of_eq (congrArg (pin d i b19) (View.write_whole_univ (Val := Elt F) (cc2_scratch5) (g 5) _))
  isplitl [M0 M1 M2 M3 M4 M5]
  · isplitl [M0]; · iexact M0
    isplitl [M1]; · iexact M1
    isplitl [M2]; · iexact M2
    isplitl [M3]; · iexact M3
    isplitl [M4]; · iexact M4
    iexact M5
  iexists _; iexact HO
/-! ## The chunk -/

theorem zero_off : (![0] : Fin 1 → ℕ) = fun _ => 0 := by
  funext a
  rw [Subsingleton.elim a 0]
  rfl

/-- One chunk's program: its fetch `P`, its loop with the offsets and the evidence about them open, and the rest `kk`. -/
def chunkBody {β : Type} (i : grid2.Coords) (P : TileProg F i PUnit)
    (L : Scf.Loop 32) (hL : L.OK) (o₁ o₂ : Fin L.trips → Fin 1 → ℕ)
    (h₁ : ∀ t a, o₁ t a + S16.size a ≤ S1280.size a) (h₂ : ∀ t a, o₂ t a + S16.size a ≤ S1280.size a)
    (chk : IVec S16 32 → Prop) (dec : ∀ v, Decidable (chk v)) (hix : ∀ v, chk v → ∀ (a : Fin 1) x, ((![v] : Fin 1 → IVec S16 32) a x).toNat < S2048.size a)
    (kk : TileProg F i β) :
    TileProg F i β := do
  P
  let v263 : Vec F S16 .i32 ← Prog.lift (.load b26 (Rect.unit (s := S16) ![0] S16.size inb_S16_S16_0).toLoadRect (View.loadsAt_vmem h_S16))
  have v265 : IVec S16 32 := broadcast S16 2147483648#32
  have v266 : IVec S16 32 := xori v263 v265
  have v267 : IVec S16 32 := scan .max v266
  have v268 : IVec S16 32 := xori v267 v265
  let v269 : BitVec 32 := extractAt ![15] v268 inpos_S16_p15
  let v271 : BitVec 32 ← Scf.Loop.for L hL v269 fun t cnt => tripBody i (o₁ t) (o₂ t) (h₁ t) (h₂ t) chk dec hix cnt
  have v272 : IVec S16 32 := broadcast S16 1#32
  have v273 : IVec S16 32 := broadcast S16 v271
  have v274 : IVec S16 32 := muli v272 v273
  let _v275 : Vec F S16 .i32 ← Prog.lift (.load b26 (Rect.unit (s := S16) ![0] S16.size inb_S16_S16_0).toLoadRect (View.loadsAt_vmem h_S16))
  Prog.lift (.store b26 (Rect.unit (s := S16) ![0] S16.size inb_S16_S16_0) v274 Finset.univ (View.stores_vmem_bits_univ h_S16 rfl) (.inl rfl))
  kk

abbrev pcnt (v : Buf (Elt F) (b26.view.loc (V d (cV i) (jV i)))) : sProp (MM F) := b26.view.loc (V d (cV i) (jV i)) ↦{fullShare} v

open Classical in
/-- What holds before chunk `n`: the inputs, the packed arrays so far, the running count in every lane, and the semaphores at rest. -/
def Inv (O : CellTallies nD τ sig (HIx 1)) (f : Fin 6 → (S20480.Idx → F .f32)) (K : ℕ → Prop) (xs : Fin 5 → ℕ → F .f32) (z : F .f32) (n : ℕ) : sProp (MM F) :=
  iprop(Transfers.MayWaits (V d (cV i) (jV i)) (default : HIx 1) O ∗ Src d i f ∗ (∃ g, Staged d i g) ∗ Sems d i ∗ (∃ W, owes (V d (cV i) (jV i)) O W)
    ∗ Out d i K xs z (1280 * n) ∗ pcnt d i (broadcast S16 (BitVec.ofNat 32 (Nat.count K (1280 * n))) : IVec S16 32))

/-- The count, read back as the kernel reads it: the largest lane of a vector whose lanes are all equal. -/
theorem scan_max_const (c : BitVec 32) (j : Fin 16) : scan .max (broadcast S16 c : IVec S16 32) (ln j) = c := by
  induction j using Fin.induction with
  | zero => rw [Cert.Compact.scan_zero]; rfl
  | succ j ih =>
    rw [Cert.Compact.scan_succ, ih]
    show (if c.ult c then c else c) = c
    split <;> rfl

theorem read_back (c : BitVec 32) :
    extractAt ![15] (xori (scan .max (xori (broadcast S16 c : IVec S16 32) (broadcast S16 2147483648#32))) (broadcast S16 2147483648#32)) inpos_S16_p15 = c := by
  show (scan .max (broadcast S16 (c ^^^ 2147483648#32) : IVec S16 32) (ln 15)) ^^^ 2147483648#32 = c
  rw [scan_max_const, BitVec.xor_assoc, BitVec.xor_self, BitVec.xor_zero]

/-- What holds whatever the conditions, five times. -/
theorem five {A B C : Prop} (h : C) : (A → B → C) ∧ (A → B → C) ∧ (A → B → C) ∧ (A → B → C) ∧ (A → B → C) :=
  ⟨fun _ _ => h, fun _ _ => h, fun _ _ => h, fun _ _ => h, fun _ _ => h⟩

open Classical in
/-- A chunk's program, run when its condition holds, takes the invariant to the next chunk; when the condition
    fails no position of the chunk counts, and nothing is done. -/
theorem chunk_wp {β : Type} (O : CellTallies nD τ sig (HIx 1)) (f : Fin 6 → (S20480.Idx → F .f32)) (K : ℕ → Prop) (xs : Fin 5 → ℕ → F .f32) (z : F .f32) (E : ℕ → Prop)
    (hx : ∀ (k : Fin 5) (j : S20480.Idx), xs k (j 0).val = f k.castSucc j)
    (hK : ∀ j : S20480.Idx, K (j 0).val ↔ E ((j 0).val / 1280) ∧ flg1 (f 5 j) = 1#1)
    (n : ℕ) (hn : n < 16) (c : BitVec 1) (hc : E n ↔ c = 1#1)
    (base : ℕ) (hbase : base = 1280 * n) (hb : ∀ x, (![base] : Fin 1 → ℕ) x + S1280.size x ≤ S20480.size x)
    (L : Scf.Loop 32) (hL : L.OK) (hLt : L.trips = 80) (o₁ o₂ : Fin L.trips → Fin 1 → ℕ) (ho₁ : ∀ t, o₁ t = ![16 * t.val]) (ho₂ : ∀ t, o₂ t = ![16 * t.val])
    (h₁ : ∀ t a, o₁ t a + S16.size a ≤ S1280.size a) (h₂ : ∀ t a, o₂ t a + S16.size a ≤ S1280.size a)
    (chk : IVec S16 32 → Prop) (dec : ∀ v, Decidable (chk v))
    (hix : c = 1#1 → ∀ v, chk v → ∀ (a : Fin 1) x, ((![v] : Fin 1 → IVec S16 32) a x).toNat < S2048.size a)
    (hchk : ∀ v, (∀ (a : Fin 1) x, ((![v] : Fin 1 → IVec S16 32) a x).toNat < S2048.size a) → chk v)
    (P : TileProg F i PUnit) (hP : P = fetch i base hb)
    (kk p : TileProg F i β)
    (hp : p = if h : c = 1#1 then chunkBody (F := F) i P L hL o₁ o₂ h₁ h₂ chk dec (hix h) kk else kk) (Q : β → sProp (MM F)) :
    iprop(Inv d i O f K xs z n ∗ (Inv d i O f K xs z (n + 1) -∗ wp frame (wpE (defs₀ (F := F)) 𝒱₀ (V d (cV i) (jV i)) none) Set.univ kk Q))
      ⊢ wp frame (wpE (defs₀ (F := F)) 𝒱₀ (V d (cV i) (jV i)) none) Set.univ p Q := by
  rw [hp]
  split
  next h =>
    have hE : E n := hc.mpr h
    unfold Inv chunkBody
    iintro ⟨⟨#Hmw, HS, ⟨%g, HG⟩, HM, HW, HO, HC⟩, HK⟩
    rw [hP, wp_bind]
    iapply (wp_wand_r _ _ _)
    isplitl [HS HG HM HW]
    · iapply (fetch_wp d i O base hb f g)
      isplitr
      · iexact Hmw
      iframe
    iintro %_u ⟨HS, HG, HM, HW⟩
    sl_exec
    have hrb : chunk_wp.sl.v269 (F := F) K n = BitVec.ofNat 32 (Nat.count K (1280 * n)) := by
      exact read_back _
    have hcut : ∀ (k : Fin 6) (j : S1280.Idx), ∃ J : S20480.Idx, (J 0).val = base + (j 0).val ∧ cut (f k) base hb j = f k J :=
      fun k j => cut_at (f k) base hb j
    sl_for (fun t c => iprop(⌜c = BitVec.ofNat 32 (Nat.count K (1280 * n + 16 * t))⌝ ∗ Staged d i (fun k => cut (f k) base hb) ∗ Out d i K xs z (1280 * n + 16 * t))) $$ [HG HO]
    case region =>
      intro t acc
      have ht : t.val < 80 := hLt ▸ t.isLt
      iintro ⟨%hacc, HG, HO⟩
      subst hacc
      iapply (trip_wp d i K xs z (1280 * n + 16 * t.val) (by omega) (16 * t.val) (o₁ t) (o₂ t) (ho₁ t) (ho₂ t) (h₁ t) (h₂ t) chk dec (hix h) hchk
        (fun k => cut (f k) base hb) ?_ ?_)
      · intro k j l hj
        obtain ⟨J, hJ, e⟩ := hcut k.castSucc j
        rw [e, ← hx k J, hJ, hbase, hj]
        congr 1; omega
      · intro j l hj
        obtain ⟨J, hJ, e⟩ := hcut 5 j
        have hq : 1280 * n + 16 * t.val + l.val = (J 0).val := by omega
        have hd : (J 0).val / 1280 = n := by have := l.isLt; omega
        rw [e, hq, hK J, hd]
        exact ⟨fun e => ⟨hE, e⟩, fun e => e.2⟩
      · isplitl [HG]
        · iexact HG
        · iexact HO
    · isplitr
      · ipureintro; exact hrb
      · isplitl [HG]
        · iexact HG
        · iexact HO
    iintro %acc ⟨%hacc, HG, HO⟩
    sl_exec
    have hc' : 1280 * n + 16 * Scf.trips L.lb L.ub L.st = 1280 * (n + 1) := by
      rw [show Scf.trips L.lb L.ub L.st = 80 from hLt]; ring
    iapply HK
    isplitr
    · iexact Hmw
    isplitl [HS]; · iexact HS
    isplitl [HG]; · iexists _; iexact HG
    isplitl [HM]; · iexact HM
    isplitl [HW]; · iexact HW
    isplitl [HO]
    · iclear Hmw; istop; exact Entails.of_eq (congrArg (Out d i K xs z) hc')
    · iclear Hmw; istop
      refine Entails.of_eq (congrArg (pcnt d i) ?_)
      rw [View.writes_singleton]
      refine (Memref.write_access_unit_zero_univ (Elt F) cc2_scratch12 (off := ![0]) zero_off inb_S16_S16_0 _ _).trans ?_
      rw [← hc', ← hacc]
      exact congrArg (fun e => (broadcast S16 e : IVec S16 32)) (BitVec.one_mul acc)
  next h =>
    have hE : ¬ E n := fun e => h (hc.mp e)
    have hno : ∀ p, 1280 * n ≤ p → p < 1280 * n + 1280 → ¬ K p := by
      intro p h1 h2 hp
      obtain ⟨J, hJ⟩ : ∃ J : S20480.Idx, (J 0).val = p := ⟨fun a => ⟨p, by have : a = 0 := Subsingleton.elim _ _; subst this; show p < 20480; omega⟩, rfl⟩
      have := ((hK J).mp (hJ ▸ hp)).1
      rw [hJ, show p / 1280 = n by omega] at this
      exact hE this
    unfold Inv Out
    iintro ⟨⟨#Hmw, HS, HG, HM, HW, ⟨%u, %hu, H20, H21, H22, H23, H24⟩, HC⟩, HK⟩
    have hc' := ((hu 0).skip 1280 hno).2
    rw [show 1280 * (n + 1) = 1280 * n + 1280 by ring, hc']
    iapply HK
    isplitr
    · iexact Hmw
    iframe
    iexists u
    isplitr
    · ipureintro; exact fun k => ((hu k).skip 1280 hno).1
    iframe
open Classical in
/-- The same with the rest's own rule, what the rest needs besides the invariant being `R`. -/
theorem chunk_next {β : Type} (O : CellTallies nD τ sig (HIx 1)) (f : Fin 6 → (S20480.Idx → F .f32)) (K : ℕ → Prop) (xs : Fin 5 → ℕ → F .f32) (z : F .f32) (E : ℕ → Prop)
    (hx : ∀ (k : Fin 5) (j : S20480.Idx), xs k (j 0).val = f k.castSucc j)
    (hK : ∀ j : S20480.Idx, K (j 0).val ↔ E ((j 0).val / 1280) ∧ flg1 (f 5 j) = 1#1)
    (n : ℕ) (hn : n < 16) (c : BitVec 1) (hc : E n ↔ c = 1#1)
    (hb : ∀ x, (![1280 * n] : Fin 1 → ℕ) x + S1280.size x ≤ S20480.size x)
    (L : Scf.Loop 32) (hL : L.OK) (hLt : L.trips = 80) (o₁ o₂ : Fin L.trips → Fin 1 → ℕ) (ho₁ : ∀ t, o₁ t = ![16 * t.val]) (ho₂ : ∀ t, o₂ t = ![16 * t.val])
    (h₁ : ∀ t a, o₁ t a + S16.size a ≤ S1280.size a) (h₂ : ∀ t a, o₂ t a + S16.size a ≤ S1280.size a)
    (chk : IVec S16 32 → Prop) (dec : ∀ v, Decidable (chk v))
    (hix : c = 1#1 → ∀ v, chk v → ∀ (a : Fin 1) x, ((![v] : Fin 1 → IVec S16 32) a x).toNat < S2048.size a)
    (hchk : ∀ v, (∀ (a : Fin 1) x, ((![v] : Fin 1 → IVec S16 32) a x).toNat < S2048.size a) → chk v)
    (kk p : TileProg F i β)
    (hp : p = if h : c = 1#1 then chunkBody (F := F) i (fetch i (1280 * n) hb) L hL o₁ o₂ h₁ h₂ chk dec (hix h) kk else kk)
    (Q : β → sProp (MM F)) (R : sProp (MM F))
    (hk : iprop(Inv d i O f K xs z (n + 1) ∗ R) ⊢ wp frame (wpE (defs₀ (F := F)) 𝒱₀ (V d (cV i) (jV i)) none) Set.univ kk Q) :
    iprop(Inv d i O f K xs z n ∗ R) ⊢ wp frame (wpE (defs₀ (F := F)) 𝒱₀ (V d (cV i) (jV i)) none) Set.univ p Q := by
  iintro ⟨HI, HR⟩
  iapply (chunk_wp d i O f K xs z E hx hK n hn c hc _ rfl hb L hL hLt o₁ o₂ ho₁ ho₂ h₁ h₂ chk dec hix hchk _ rfl kk p hp Q)
  isplitl [HI]
  · iexact HI
  iintro HI
  iapply hk
  isplitl [HI]
  · iexact HI
  · iexact HR

end

end Cert.KernelIdeal.Prf
-- ==== Proof.PI.Tile.lean ====
/-
  The compaction's program: its sixteen chunks in order, after the count of positions is read and the
  packed arrays are zeroed, and the copies out at the end.
-/
module

public import proofs.«01_k».proof.Proof.PI.Chunk

@[expose] public section

set_option maxRecDepth 16384

noncomputable section

namespace Cert.KernelIdeal.Prf

open Cert.KernelIdeal Cert.KernelIdeal.Gen
open Idealize.ShloMosaic
open Idealize.ShloMosaic.SparseCore (S V T)
open Idealize.ShloMosaic.SparseCore.Cfg (HIx Pay)
open Idealize.SL
open RA BI BI.BIBase BI.Laws ProofMode Sem
open Idealize.ShloMosaic.Rounds Idealize.ShloMosaic.Tactic
open Cert.Compact (ln V16 V2048 Packed)

variable {F : FTy → Type} [FloatOps F]

/-- Where chunk `n` begins, as the bits of a float. -/
def limit : ℕ → BitVec 32
  | 0 => 0x00000000#32 | 1 => 0x44A00000#32 | 2 => 0x45200000#32 | 3 => 0x45700000#32
  | 4 => 0x45A00000#32 | 5 => 0x45C80000#32 | 6 => 0x45F00000#32 | 7 => 0x460C0000#32
  | 8 => 0x46200000#32 | 9 => 0x46340000#32 | 10 => 0x46480000#32 | 11 => 0x465C0000#32
  | 12 => 0x46700000#32 | 13 => 0x46820000#32 | 14 => 0x468C0000#32 | _ => 0x46960000#32

/-- Which lanes of the count of positions exceed the beginning of chunk `n`. -/
def exLanes (v9 : Vec F S16 .f32) (n : ℕ) : IVec S16 32 :=
  select (cmpf .olt (broadcast S16 (Scalar.ofBits .f32 (limit n) : F .f32)) v9) (broadcast S16 1#32) (broadcast S16 0#32)
def exceeds (v9 : Vec F S16 .f32) (n : ℕ) : BitVec 32 :=
  extractAt ![15] (xori (scan .max (xori (exLanes v9 n) (broadcast S16 2147483648#32))) (broadcast S16 2147483648#32)) inpos_S16_p15
/-- Chunk `n` is looked at. -/
def Runs (v9 : Vec F S16 .f32) (n : ℕ) : Prop :=
  Scalar.cmpi .ne (Scalar.extui (Scalar.cmpi .sgt (exceeds v9 n) 0#32) : BitVec 32) 0#32 = 1#1

theorem ret_wp {d : Dev nD} {i : grid2.Coords} {β : Type} {P : sProp (MM F)} {Q : β → sProp (MM F)} {a : β} (hk : P ⊢ Q a) :
    P ⊢ wp frame (wpE (defs₀ (F := F)) 𝒱₀ (V d (cV i) (jV i)) none) Set.univ (.ret a) Q := hk.trans fupd_intro

section
variable (d : Dev nD) (i : grid2.Coords) (O : CellTallies nD τ sig (HIx 1)) (f : Fin 6 → (S20480.Idx → F .f32)) (K : ℕ → Prop) (xs : Fin 5 → ℕ → F .f32) (z : F .f32)
  (v9 : Vec F S16 .f32) (hx : ∀ (k : Fin 5) (j : S20480.Idx), xs k (j 0).val = f k.castSucc j)
  (hK : ∀ j : S20480.Idx, K (j 0).val ↔ Runs v9 ((j 0).val / 1280) ∧ flg1 (f 5 j) = 1#1)
  (h : k2_cond1 i = 1#1)
include hx hK

theorem part18_wp (R : sProp (MM F)) (Q : (Σ' (_ : IVec S16 1) (_ : BitVec 32), IVec S16 32) → sProp (MM F))
    (hk : iprop(Inv d i O f K xs z 4 ∗ R) ⊢ Q ⟨cmpf .olt (broadcast S16 (Scalar.ofBits .f32 (limit 4) : F .f32)) v9, 0#32, broadcast S16 1#32⟩) :
    iprop(Inv d i O f K xs z 1 ∗ R) ⊢ wp frame (wpE (defs₀ (F := F)) 𝒱₀ (V d (cV i) (jV i)) none) Set.univ
      (k2_part18 (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24 h v9 (exLanes v9 1) (broadcast S16 2147483648#32)) Q := by
  unfold k2_part18
  refine chunk_next d i O f K xs z (Runs v9) hx hK 1 (by decide) (k2_cond3 (exceeds v9 1)) Iff.rfl _
    k2_t3_loop (k2_t3_ok i h) (by decide) k2_off4 k2_off5 k2_off4_eq k2_off5_eq
    (fun t => k2_off4_inb i t h) (fun t => k2_off5_inb i t h)
    (k2_chk2 i (exceeds v9 1)) (k2_chk2.dec i (exceeds v9 1)) (fun hc v hv => k2_idx6_inb i _ v hv h hc)
    (fun _ => five) _ _ rfl Q R ?_
  refine chunk_next d i O f K xs z (Runs v9) hx hK 2 (by decide) (k2_cond4 (exceeds v9 2)) Iff.rfl _
    k2_t4_loop (k2_t4_ok i h) (by decide) k2_off6 k2_off7 k2_off6_eq k2_off7_eq
    (fun t => k2_off6_inb i t h) (fun t => k2_off7_inb i t h)
    (k2_chk3 i (exceeds v9 2)) (k2_chk3.dec i (exceeds v9 2)) (fun hc v hv => k2_idx11_inb i _ v hv h hc)
    (fun _ => five) _ _ rfl Q R ?_
  refine chunk_next d i O f K xs z (Runs v9) hx hK 3 (by decide) (k2_cond5 (exceeds v9 3)) Iff.rfl _
    k2_t5_loop (k2_t5_ok i h) (by decide) k2_off8 k2_off9 k2_off8_eq k2_off9_eq
    (fun t => k2_off8_inb i t h) (fun t => k2_off9_inb i t h)
    (k2_chk4 i (exceeds v9 3)) (k2_chk4.dec i (exceeds v9 3)) (fun hc v hv => k2_idx16_inb i _ v hv h hc)
    (fun _ => five) _ _ rfl Q R ?_
  exact ret_wp hk

theorem part19_wp (R : sProp (MM F)) (Q : PUnit → sProp (MM F))
    (hk : iprop(Inv d i O f K xs z 7 ∗ R) ⊢ Q ⟨⟩) :
    iprop(Inv d i O f K xs z 4 ∗ R) ⊢ wp frame (wpE (defs₀ (F := F)) 𝒱₀ (V d (cV i) (jV i)) none) Set.univ
      (k2_part19 (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24 h v9 (cmpf .olt (broadcast S16 (Scalar.ofBits .f32 (limit 4) : F .f32)) v9) 0#32 (broadcast S16 1#32)) Q := by
  unfold k2_part19
  refine chunk_next d i O f K xs z (Runs v9) hx hK 4 (by decide) (k2_cond6 (exceeds v9 4)) Iff.rfl _
    k2_t6_loop (k2_t6_ok i h) (by decide) k2_off10 k2_off11 k2_off10_eq k2_off11_eq
    (fun t => k2_off10_inb i t h) (fun t => k2_off11_inb i t h)
    (k2_chk5 i (exceeds v9 4)) (k2_chk5.dec i (exceeds v9 4)) (fun hc v hv => k2_idx21_inb i _ v hv h hc)
    (fun _ => five) _ _ rfl Q R ?_
  refine chunk_next d i O f K xs z (Runs v9) hx hK 5 (by decide) (k2_cond7 (exceeds v9 5)) Iff.rfl _
    k2_t7_loop (k2_t7_ok i h) (by decide) k2_off12 k2_off13 k2_off12_eq k2_off13_eq
    (fun t => k2_off12_inb i t h) (fun t => k2_off13_inb i t h)
    (k2_chk6 i (exceeds v9 5)) (k2_chk6.dec i (exceeds v9 5)) (fun hc v hv => k2_idx26_inb i _ v hv h hc)
    (fun _ => five) _ _ rfl Q R ?_
  refine chunk_next d i O f K xs z (Runs v9) hx hK 6 (by decide) (k2_cond8 (exceeds v9 6)) Iff.rfl _
    k2_t8_loop (k2_t8_ok i h) (by decide) k2_off14 k2_off15 k2_off14_eq k2_off15_eq
    (fun t => k2_off14_inb i t h) (fun t => k2_off15_inb i t h)
    (k2_chk7 i (exceeds v9 6)) (k2_chk7.dec i (exceeds v9 6)) (fun hc v hv => k2_idx31_inb i _ v hv h hc)
    (fun _ => five) _ _ rfl Q R ?_
  exact ret_wp hk

theorem part20_wp (R : sProp (MM F)) (Q : BitVec 32 → sProp (MM F))
    (hk : iprop(Inv d i O f K xs z 9 ∗ R) ⊢ Q (exceeds v9 9)) :
    iprop(Inv d i O f K xs z 7 ∗ R) ⊢ wp frame (wpE (defs₀ (F := F)) 𝒱₀ (V d (cV i) (jV i)) none) Set.univ
      (k2_part20 (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24 h v9) Q := by
  unfold k2_part20
  refine chunk_next d i O f K xs z (Runs v9) hx hK 7 (by decide) (k2_cond9 (exceeds v9 7)) Iff.rfl _
    k2_t9_loop (k2_t9_ok i h) (by decide) k2_off16 k2_off17 k2_off16_eq k2_off17_eq
    (fun t => k2_off16_inb i t h) (fun t => k2_off17_inb i t h)
    (k2_chk8 i (exceeds v9 7)) (k2_chk8.dec i (exceeds v9 7)) (fun hc v hv => k2_idx36_inb i _ v hv h hc)
    (fun _ => five) _ _ rfl Q R ?_
  refine chunk_next d i O f K xs z (Runs v9) hx hK 8 (by decide) (k2_cond10 (exceeds v9 8)) Iff.rfl _
    k2_t10_loop (k2_t10_ok i h) (by decide) k2_off18 k2_off19 k2_off18_eq k2_off19_eq
    (fun t => k2_off18_inb i t h) (fun t => k2_off19_inb i t h)
    (k2_chk9 i (exceeds v9 8)) (k2_chk9.dec i (exceeds v9 8)) (fun hc v hv => k2_idx41_inb i _ v hv h hc)
    (fun _ => five) _ _ rfl Q R ?_
  exact ret_wp hk

theorem part21_wp (R : sProp (MM F)) (Q : IVec S16 32 → sProp (MM F))
    (hk : iprop(Inv d i O f K xs z 12 ∗ R) ⊢ Q (exLanes v9 12)) :
    iprop(Inv d i O f K xs z 9 ∗ R) ⊢ wp frame (wpE (defs₀ (F := F)) 𝒱₀ (V d (cV i) (jV i)) none) Set.univ
      (k2_part21 (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24 h v9 (exceeds v9 9)) Q := by
  unfold k2_part21
  refine chunk_next d i O f K xs z (Runs v9) hx hK 9 (by decide) (k2_cond11 (exceeds v9 9)) Iff.rfl _
    k2_t11_loop (k2_t11_ok i h) (by decide) k2_off20 k2_off21 k2_off20_eq k2_off21_eq
    (fun t => k2_off20_inb i t h) (fun t => k2_off21_inb i t h)
    (k2_chk10 i (exceeds v9 9)) (k2_chk10.dec i (exceeds v9 9)) (fun hc v hv => k2_idx46_inb i _ v hv h hc)
    (fun _ => five) _ _ rfl Q R ?_
  refine chunk_next d i O f K xs z (Runs v9) hx hK 10 (by decide) (k2_cond12 (exceeds v9 10)) Iff.rfl _
    k2_t12_loop (k2_t12_ok i h) (by decide) k2_off22 k2_off23 k2_off22_eq k2_off23_eq
    (fun t => k2_off22_inb i t h) (fun t => k2_off23_inb i t h)
    (k2_chk11 i (exceeds v9 10)) (k2_chk11.dec i (exceeds v9 10)) (fun hc v hv => k2_idx51_inb i _ v hv h hc)
    (fun _ => five) _ _ rfl Q R ?_
  refine chunk_next d i O f K xs z (Runs v9) hx hK 11 (by decide) (k2_cond13 (exceeds v9 11)) Iff.rfl _
    k2_t13_loop (k2_t13_ok i h) (by decide) k2_off24 k2_off25 k2_off24_eq k2_off25_eq
    (fun t => k2_off24_inb i t h) (fun t => k2_off25_inb i t h)
    (k2_chk12 i (exceeds v9 11)) (k2_chk12.dec i (exceeds v9 11)) (fun hc v hv => k2_idx56_inb i _ v hv h hc)
    (fun _ => five) _ _ rfl Q R ?_
  exact ret_wp hk

theorem part22_wp (R : sProp (MM F)) (Q : (Σ' (_ : IVec S16 1), BitVec 32) → sProp (MM F))
    (hk : iprop(Inv d i O f K xs z 15 ∗ R) ⊢ Q ⟨cmpf .olt (broadcast S16 (Scalar.ofBits .f32 (limit 15) : F .f32)) v9, 1#32⟩) :
    iprop(Inv d i O f K xs z 12 ∗ R) ⊢ wp frame (wpE (defs₀ (F := F)) 𝒱₀ (V d (cV i) (jV i)) none) Set.univ
      (k2_part22 (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24 h v9 (exLanes v9 12)) Q := by
  unfold k2_part22
  refine chunk_next d i O f K xs z (Runs v9) hx hK 12 (by decide) (k2_cond14 (exceeds v9 12)) Iff.rfl _
    k2_t14_loop (k2_t14_ok i h) (by decide) k2_off26 k2_off27 k2_off26_eq k2_off27_eq
    (fun t => k2_off26_inb i t h) (fun t => k2_off27_inb i t h)
    (k2_chk13 i (exceeds v9 12)) (k2_chk13.dec i (exceeds v9 12)) (fun hc v hv => k2_idx61_inb i _ v hv h hc)
    (fun _ => five) _ _ rfl Q R ?_
  refine chunk_next d i O f K xs z (Runs v9) hx hK 13 (by decide) (k2_cond15 (exceeds v9 13)) Iff.rfl _
    k2_t15_loop (k2_t15_ok i h) (by decide) k2_off28 k2_off29 k2_off28_eq k2_off29_eq
    (fun t => k2_off28_inb i t h) (fun t => k2_off29_inb i t h)
    (k2_chk14 i (exceeds v9 13)) (k2_chk14.dec i (exceeds v9 13)) (fun hc v hv => k2_idx66_inb i _ v hv h hc)
    (fun _ => five) _ _ rfl Q R ?_
  refine chunk_next d i O f K xs z (Runs v9) hx hK 14 (by decide) (k2_cond16 (exceeds v9 14)) Iff.rfl _
    k2_t16_loop (k2_t16_ok i h) (by decide) k2_off30 k2_off31 k2_off30_eq k2_off31_eq
    (fun t => k2_off30_inb i t h) (fun t => k2_off31_inb i t h)
    (k2_chk15 i (exceeds v9 14)) (k2_chk15.dec i (exceeds v9 14)) (fun hc v hv => k2_idx71_inb i _ v hv h hc)
    (fun _ => five) _ _ rfl Q R ?_
  exact ret_wp hk

end

end Cert.KernelIdeal.Prf
-- ==== Proof.PI.Body.lean ====
/-
  The compaction's program from its beginning: the count of positions is read, the packed arrays are
  zeroed, the chunks follow, and the packed arrays are copied out.
-/
module

public import proofs.«01_k».proof.Proof.PI.Tile
public import Idealize.ShloMosaic.Lib.Pipeline.Value

@[expose] public section

set_option maxRecDepth 16384

noncomputable section

namespace Cert.KernelIdeal.Prf

open Cert.KernelIdeal Cert.KernelIdeal.Gen
open Idealize.ShloMosaic
open Idealize.ShloMosaic.SparseCore (S V T)
open Idealize.ShloMosaic.SparseCore.Cfg (HIx Pay)
open Idealize.SL
open RA BI BI.BIBase BI.Laws ProofMode Sem
open Idealize.ShloMosaic.Rounds Idealize.ShloMosaic.Tactic
open Cert.Compact (ln V16 V2048 Packed)

variable {F : FTy → Type} [FloatOps F]

abbrev a8 : Memref sig .scVector .hbm S1024 .f32 := Memref.whole main_v37_scv
abbrev a9 : Memref sig .scVector .hbm S2048 .f32 := Memref.whole main_v38_0_scv
abbrev a10 : Memref sig .scVector .hbm S2048 .f32 := Memref.whole main_v38_1_scv
abbrev a11 : Memref sig .scVector .hbm S2048 .f32 := Memref.whole main_v38_2_scv
abbrev a12 : Memref sig .scVector .hbm S2048 .f32 := Memref.whole main_v38_3_scv
abbrev a13 : Memref sig .scVector .hbm S2048 .f32 := Memref.whole main_v38_4_scv

/-- The first sixteen lanes of the array that holds the count of positions. -/
def endVec (e : S1024.Idx → F .f32) : Vec F S16 .f32 := fun x => e ((Rect.unit (s := S1024) ![0] S16.size inb_S1024_S16_0).emb x)

section
variable (d : Dev nD) (i : grid2.Coords)

abbrev pend (f : Buf (Elt F) (a8.view.loc (V d (cV i) (jV i)))) : sProp (MM F) := a8.view.loc (V d (cV i) (jV i)) ↦{fullShare} f
abbrev pstg (f : Buf (Elt F) (b25.view.loc (V d (cV i) (jV i)))) : sProp (MM F) := b25.view.loc (V d (cV i) (jV i)) ↦{fullShare} f

/-- The zeroing of one packed array, sixteen slots more. -/
theorem zero_step (u : S2048.Idx → F .f32) (z : F .f32) (n : ℕ) (o : Fin 1 → ℕ) (ho : o = ![n]) (ho' : ∀ a, o a + S16.size a ≤ S2048.size a)
    (hu : ∀ j : S2048.Idx, (j 0).val < n → u j = z) (j : S2048.Idx) (hj : (j 0).val < n + 16) :
    updateSlice u (broadcast S16 z : FVec F S16 .f32) o ⟨rfl, ho'⟩ j = z := by
  subst ho
  unfold updateSlice
  split
  · rfl
  · next hn =>
    refine hu j ?_
    by_contra hc
    refine hn fun a => ?_
    rw [Subsingleton.elim a 0]
    show n ≤ (j 0).val ∧ (j 0).val < n + 16
    omega

open Classical in
theorem part17_wp (O : CellTallies nD τ sig (HIx 1)) (f : Fin 6 → (S20480.Idx → F .f32)) (e : S1024.Idx → F .f32) (K : ℕ → Prop) (xs : Fin 5 → ℕ → F .f32)
    (hx : ∀ (k : Fin 5) (j : S20480.Idx), xs k (j 0).val = f k.castSucc j)
    (hK : ∀ j : S20480.Idx, K (j 0).val ↔ Runs (endVec e) ((j 0).val / 1280) ∧ flg1 (f 5 j) = 1#1)
    (h : k2_cond1 i = 1#1) (g : Fin 6 → (S1280.Idx → F .f32)) (u : Fin 5 → (S2048.Idx → F .f32)) (v : S16.Idx → F .f32) (c : IVec S16 32)
    (R : sProp (MM F)) (Q : (Σ' (_ : Vec F S16 .f32) (_ : IVec S16 32), IVec S16 32) → sProp (MM F))
    (hk : iprop(Inv d i O f K xs (Scalar.ofBits .f32 0x00000000#32) 1 ∗ (pend d i e ∗ (∃ v, pstg d i v) ∗ psem d i cc2_scratch19 ∗ R)) ⊢ Q ⟨endVec e, exLanes (endVec e) 1, broadcast S16 2147483648#32⟩) :
    iprop(Transfers.MayWaits (V d (cV i) (jV i)) (default : HIx 1) O ∗ Src d i f ∗ Staged d i g ∗ Sems d i ∗ (∃ W, owes (V d (cV i) (jV i)) O W)
      ∗ (pout d i b20 (u 0) ∗ pout d i b21 (u 1) ∗ pout d i b22 (u 2) ∗ pout d i b23 (u 3) ∗ pout d i b24 (u 4)) ∗ pcnt d i c
      ∗ pend d i e ∗ pstg d i v ∗ psem d i cc2_scratch19 ∗ R)
      ⊢ wp frame (wpE (defs₀ (F := F)) 𝒱₀ (V d (cV i) (jV i)) none) Set.univ
      (k2_part17 (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24 h) Q := by
  iintro ⟨#Hmw, HS, HG, HM, ⟨%W, HW⟩, ⟨H20, H21, H22, H23, H24⟩, HC, HE, HV, HM19, HR⟩
  sl_unfold [k2_part17]
  sl_exec
  have hv : View.readAt (Elt F) b25.view (Rect.unit (s := S16) ![0] S16.size inb_S16_S16_0).toLoadRect
      (View.write (Elt F) (Memref.whole cc2_scratch11).view v (part17_wp.sl.dma0 e) Finset.univ) = endVec e := by
    refine (Memref.readAt_unit_zero (Elt F) cc2_scratch11 (off := ![0]) zero_off inb_S16_S16_0 _).trans ?_
    exact View.write_whole_univ _ _ _
  rw [hv]
  sl_for (fun t _ => iprop(∃ u : Fin 5 → (S2048.Idx → F .f32), ⌜∀ (k : Fin 5) (j : S2048.Idx), (j 0).val < 16 * t → u k j = (Scalar.ofBits .f32 0x00000000#32 : F .f32)⌝ ∗
    pout d i b20 (u 0) ∗ pout d i b21 (u 1) ∗ pout d i b22 (u 2) ∗ pout d i b23 (u 3) ∗ pout d i b24 (u 4))) $$ [H20 H21 H22 H23 H24]
  case region =>
    intro t acc
    iintro ⟨%u, %hu, H20, H21, H22, H23, H24⟩
    sl_exec
    sl_step
    iexists (fun k => updateSlice (u k) (broadcast S16 (Scalar.ofBits .f32 0x00000000#32 : F .f32) : FVec F S16 .f32) (k2_off1 t) ⟨rfl, k2_off1_inb i t h⟩)
    isplitr
    · ipureintro
      exact fun k j hj => zero_step (u k) _ (16 * t.val) _ (k2_off1_eq t) (k2_off1_inb i t h) (hu k) j (by omega)
    isplitl [H20]
    · istop; exact Entails.of_eq (congrArg (pout d i b20) (View.write_whole_slice_unit cc2_scratch6 (k2_off1 t) S16.size (k2_off1_inb i t h) _ _))
    isplitl [H21]
    · istop; exact Entails.of_eq (congrArg (pout d i b21) (View.write_whole_slice_unit cc2_scratch7 (k2_off1 t) S16.size (k2_off1_inb i t h) _ _))
    isplitl [H22]
    · istop; exact Entails.of_eq (congrArg (pout d i b22) (View.write_whole_slice_unit cc2_scratch8 (k2_off1 t) S16.size (k2_off1_inb i t h) _ _))
    isplitl [H23]
    · istop; exact Entails.of_eq (congrArg (pout d i b23) (View.write_whole_slice_unit cc2_scratch9 (k2_off1 t) S16.size (k2_off1_inb i t h) _ _))
    · istop; exact Entails.of_eq (congrArg (pout d i b24) (View.write_whole_slice_unit cc2_scratch10 (k2_off1 t) S16.size (k2_off1_inb i t h) _ _))
  · iexists u
    isplitr
    · ipureintro; exact fun k j hj => absurd hj (Nat.not_lt_zero _)
    iframe
  iintro %acc ⟨%u', %hu', H20, H21, H22, H23, H24⟩
  have hstart := chunk_next d i O f K xs (Scalar.ofBits .f32 0x00000000#32) (Runs (endVec e)) hx hK 0 (by decide) (k2_cond2 (exceeds (endVec e) 0)) Iff.rfl (by decide)
    k2_t2_loop (k2_t2_ok i h) (by decide) k2_off2 k2_off3 k2_off2_eq k2_off3_eq
    (fun t => k2_off2_inb i t h) (fun t => k2_off3_inb i t h)
    (k2_chk1 i (exceeds (endVec e) 0)) (k2_chk1.dec i (exceeds (endVec e) 0)) (fun hc v hv => k2_idx1_inb i _ v hv h hc)
    (fun _ => five) _ (part17_wp.sl.prog.cont_1 i e h acc) rfl Q
    iprop(pend d i e ∗ (∃ v, pstg d i v) ∗ psem d i cc2_scratch19 ∗ R) (ret_wp hk)
  iapply hstart
  unfold Inv Out
  isplitl [HS HG HM HW H20 H21 H22 H23 H24 HC]
  · isplitr
    · iexact Hmw
    isplitl [HS]; · iexact HS
    isplitl [HG]; · iexists g; iexact HG
    isplitl [HM]; · iexact HM
    isplitl [HW]; · iexists _; iexact HW
    isplitl [H20 H21 H22 H23 H24]
    · iexists u'
      isplitr
      · ipureintro
        exact fun k => Packed.zero K (xs k) _ (u' k) fun j => hu' k j (by
          have := (j 0).isLt
          show (j 0).val < 16 * 128
          exact this)
      iframe
    · iclear Hmw; istop
      refine Entails.of_eq (congrArg (pcnt d i) ?_)
      refine (Memref.write_access_unit_zero_univ (Elt F) cc2_scratch12 (off := ![0]) zero_off inb_S16_S16_0 _ _).trans ?_
      rw [Nat.mul_zero, Nat.count_zero]
      rfl
  · isplitl [HE]; · iexact HE
    isplitl [HV]; · iexists _; iexact HV
    isplitl [HM19]; · iexact HM19
    iexact HR

abbrev pres (a : Memref sig .scVector .hbm S2048 .f32) (f : Buf (Elt F) (a.view.loc (V d (cV i) (jV i)))) : sProp (MM F) := a.view.loc (V d (cV i) (jV i)) ↦{fullShare} f

/-- The semaphores of the other copies, at rest. -/
def Sems' : sProp (MM F) :=
  iprop(psem d i cc2_scratch19 ∗ psem d i cc2_scratch20 ∗ psem d i cc2_scratch21 ∗ psem d i cc2_scratch22 ∗ psem d i cc2_scratch23 ∗ psem d i cc2_scratch24)

/-- The results in the shared memory. -/
def Res (u : Fin 5 → (S2048.Idx → F .f32)) : sProp (MM F) :=
  iprop(pres d i a9 (u 0) ∗ pres d i a10 (u 1) ∗ pres d i a11 (u 2) ∗ pres d i a12 (u 3) ∗ pres d i a13 (u 4))

open Classical in
/-- The whole program on the tile that works: the results are the packed arrays after the last position. -/
theorem body_wp (O : CellTallies nD τ sig (HIx 1)) (f : Fin 6 → (S20480.Idx → F .f32)) (e : S1024.Idx → F .f32) (K : ℕ → Prop) (xs : Fin 5 → ℕ → F .f32)
    (hx : ∀ (k : Fin 5) (j : S20480.Idx), xs k (j 0).val = f k.castSucc j)
    (hK : ∀ j : S20480.Idx, K (j 0).val ↔ Runs (endVec e) ((j 0).val / 1280) ∧ flg1 (f 5 j) = 1#1)
    (h : k2_cond1 i = 1#1) (g : Fin 6 → (S1280.Idx → F .f32)) (u r : Fin 5 → (S2048.Idx → F .f32)) (v : S16.Idx → F .f32) (c : IVec S16 32) :
    iprop(Transfers.MayWaits (V d (cV i) (jV i)) (default : HIx 1) O ∗ Src d i f ∗ Staged d i g ∗ Sems d i ∗ (∃ W, owes (V d (cV i) (jV i)) O W)
      ∗ (pout d i b20 (u 0) ∗ pout d i b21 (u 1) ∗ pout d i b22 (u 2) ∗ pout d i b23 (u 3) ∗ pout d i b24 (u 4)) ∗ pcnt d i c
      ∗ pend d i e ∗ pstg d i v ∗ Sems' d i ∗ Res d i r)
      ⊢ wp frame (wpE (defs₀ (F := F)) 𝒱₀ (V d (cV i) (jV i)) none) Set.univ
      (cc2_sck (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24) fun _ =>
        iprop(Src d i f ∗ (∃ g, Staged d i g) ∗ Sems d i ∗ (∃ W, owes (V d (cV i) (jV i)) O W)
          ∗ (∃ u : Fin 5 → (S2048.Idx → F .f32), pout d i b20 (u 0) ∗ pout d i b21 (u 1) ∗ pout d i b22 (u 2) ∗ pout d i b23 (u 3) ∗ pout d i b24 (u 4))
          ∗ (∃ c, pcnt d i c) ∗ pend d i e ∗ (∃ v, pstg d i v) ∗ Sems' d i
          ∗ ∃ u : Fin 5 → (S2048.Idx → F .f32), ⌜∀ k, Packed K (xs k) (Scalar.ofBits .f32 0x00000000#32) 20480 (u k)⌝ ∗ Res d i u) := by
  unfold cc2_sck
  refine BI.Entails.trans ?_ (Entails.of_eq (congrArg (fun p => wp frame (wpE (defs₀ (F := F)) 𝒱₀ (V d (cV i) (jV i)) none) Set.univ p _) (dif_pos h).symm))
  rw [wp_bind]
  refine BIBase.Entails.trans ?_ (part17_wp d i O f e K xs hx hK h g u v c iprop((psem d i cc2_scratch20 ∗ psem d i cc2_scratch21 ∗ psem d i cc2_scratch22 ∗ psem d i cc2_scratch23 ∗ psem d i cc2_scratch24) ∗ Res d i r) _ ?_)
  · unfold Sems'
    iintro ⟨#Hmw, HS, HG, HM, HW, HP, HC, HE, HV, ⟨HM19, HMM⟩, HR⟩
    isplitr
    · iexact Hmw
    iframe
  · dsimp only
    rw [wp_bind]
    refine part18_wp d i O f K xs _ (endVec e) hx hK h _ _ ?_
    dsimp only
    rw [wp_bind]
    refine part19_wp d i O f K xs _ (endVec e) hx hK h _ _ ?_
    rw [wp_bind]
    refine part20_wp d i O f K xs _ (endVec e) hx hK h _ _ ?_
    rw [wp_bind]
    refine part21_wp d i O f K xs _ (endVec e) hx hK h _ _ ?_
    rw [wp_bind]
    refine part22_wp d i O f K xs _ (endVec e) hx hK h _ _ ?_
    refine chunk_next d i O f K xs (Scalar.ofBits .f32 0x00000000#32) (Runs (endVec e)) hx hK 15 (by decide) (k2_cond17 (exceeds (endVec e) 15)) Iff.rfl (by decide)
      k2_t17_loop (k2_t17_ok i h) (by decide) k2_off32 k2_off33 k2_off32_eq k2_off33_eq
      (fun t => k2_off32_inb i t h) (fun t => k2_off33_inb i t h)
      (k2_chk16 i (exceeds (endVec e) 15)) (k2_chk16.dec i (exceeds (endVec e) 15)) (fun hc v hv => k2_idx76_inb i _ v hv h hc)
      (fun _ => five) _ _ rfl _ _ ?_
    unfold Inv Out Res
    iintro ⟨⟨#Hmw, HS, HG, HM, ⟨%W, HW⟩, ⟨%w, %hw, H20, H21, H22, H23, H24⟩, HC⟩, HE, HV, HM19, ⟨HM20, HM21, HM22, HM23, HM24⟩, HR0, HR1, HR2, HR3, HR4⟩
    sl_exec
    sl_step
    isplitl [HS]; · iexact HS
    isplitl [HG]; · iexact HG
    isplitl [HM]; · iexact HM
    isplitl [HW]; · iexists _; iexact HW
    isplitl [H20 H21 H22 H23 H24]
    · iexists w; iframe
    isplitl [HC]; · iexists _; iexact HC
    isplitl [HE]; · iexact HE
    isplitl [HV]; · iexact HV
    isplitl [HM19 HM20 HM21 HM22 HM23 HM24]
    · unfold Sems'
      isplitl [HM19]; · iexact HM19
      isplitl [HM20]; · iexact HM20
      isplitl [HM21]; · iexact HM21
      isplitl [HM22]; · iexact HM22
      isplitl [HM23]; · iexact HM23
      iexact HM24
    iexists w
    isplitr
    · ipureintro; exact hw
    isplitl [HR0]
    · iclear Hmw; istop; exact Entails.of_eq (congrArg (pres d i a9) (View.write_whole_univ _ _ _))
    isplitl [HR1]
    · iclear Hmw; istop; exact Entails.of_eq (congrArg (pres d i a10) (View.write_whole_univ _ _ _))
    isplitl [HR2]
    · iclear Hmw; istop; exact Entails.of_eq (congrArg (pres d i a11) (View.write_whole_univ _ _ _))
    isplitl [HR3]
    · iclear Hmw; istop; exact Entails.of_eq (congrArg (pres d i a12) (View.write_whole_univ _ _ _))
    · iclear Hmw; istop; exact Entails.of_eq (congrArg (pres d i a13) (View.write_whole_univ _ _ _))

end

end Cert.KernelIdeal.Prf
-- ==== Proof.PI.Obl.lean ====
/-
  The compaction as the SparseCore call's obligation: what the call is handed and hands back, and
  that every tile's program keeps it. One tile works; the others return at once.
-/
module

public import proofs.«01_k».proof.Proof.PI.Body

@[expose] public section

set_option maxRecDepth 16384

noncomputable section

namespace Cert.KernelIdeal.Prf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL
open RA BI BI.BIBase BI.Laws ProofMode Sem
open Idealize.ShloMosaic.Rounds Idealize.ShloMosaic.Tactic
open Cert.Compact (ln V16 V2048 Packed)

variable {F : FTy → Type} [FloatOps F]

/-- Some members of a finite set, listed, taken out of its separating conjunction. -/
theorem bigSep_list {I : Type} [DecidableEq I] (Φ : I → sProp (MM F)) (l : List I) (hl : l.Nodup) : ∀ (s : Finset I), (∀ x ∈ l, x ∈ s) →
    bigSep s Φ = l.foldr (fun x R => iprop(Φ x ∗ R)) (bigSep (s \ l.toFinset) Φ) := by
  induction l with
  | nil => intro s _; simp
  | cons a l ih =>
    intro s hs
    have hnd := List.nodup_cons.mp hl
    rw [SparseCore.bigSep_erase' (hs a List.mem_cons_self), ih hnd.2 (s.erase a) fun x hx =>
      Finset.mem_erase.mpr ⟨fun h => hnd.1 (h ▸ hx), hs x (List.mem_cons_of_mem _ hx)⟩]
    rw [show s.erase a \ l.toFinset = s \ (a :: l).toFinset from by ext x; simp; tauto]
    rfl

/-! ## What the call is handed and hands back -/

abbrev tl (d : Dev nD) (b : Ref sig .tc) (f : Buf (Elt F) ((SparseCore.T d : Thread nD τ).loc b)) : sProp (MM F) := (SparseCore.T d : Thread nD τ).loc b ↦{fullShare} f

/-- The six arrays the call reads. -/
abbrev Tin (d : Dev nD) (f : Fin 6 → (S20480.Idx → F .f32)) : sProp (MM F) :=
  iprop(tl d main_v25_1 (f 0) ∗ tl d main_v25_2 (f 1) ∗ tl d main_v25_3 (f 2) ∗ tl d main_v25_4 (f 3) ∗ tl d main_v25_5 (f 4) ∗ tl d main_v36 (f 5))
/-- The five arrays it writes. -/
abbrev Tout (d : Dev nD) (u : Fin 5 → (S2048.Idx → F .f32)) : sProp (MM F) :=
  iprop(tl d main_v38_0 (u 0) ∗ tl d main_v38_1 (u 1) ∗ tl d main_v38_2 (u 2) ∗ tl d main_v38_3 (u 3) ∗ tl d main_v38_4 (u 4))

/-- The positions the compaction keeps: those flagged, in a chunk below the count of positions. -/
def keep (f : Fin 6 → (S20480.Idx → F .f32)) (e : S1024.Idx → F .f32) (p : ℕ) : Prop :=
  Runs (endVec e) (p / 1280) ∧ ∃ j : S20480.Idx, (j 0).val = p ∧ flg1 (f 5 j) = 1#1

/-- The array's value at a position. -/
def valAt (g : S20480.Idx → F .f32) (p : ℕ) : F .f32 :=
  if h : p < 20480 then g (fun | 0 => ⟨p, h⟩) else Scalar.ofBits .f32 0x00000000#32

theorem valAt_idx (g : S20480.Idx → F .f32) (j : S20480.Idx) : valAt g (j 0).val = g j := by
  have hj : (j 0).val < 20480 := (j 0).isLt
  unfold valAt
  rw [dif_pos hj]
  refine congrArg g (funext fun a => ?_)
  rw [Subsingleton.elim a 0]

theorem keep_idx (f : Fin 6 → (S20480.Idx → F .f32)) (e : S1024.Idx → F .f32) (j : S20480.Idx) :
    keep f e (j 0).val ↔ Runs (endVec e) ((j 0).val / 1280) ∧ flg1 (f 5 j) = 1#1 := by
  refine and_congr_right fun _ => ⟨fun ⟨j', hj, h⟩ => ?_, fun h => ⟨j, rfl, h⟩⟩
  rwa [show j = j' from funext fun a => by rw [Subsingleton.elim a 0]; exact Fin.ext hj.symm]

open Classical in
/-- The five results are the kept positions' values, packed. -/
def Result (f : Fin 6 → (S20480.Idx → F .f32)) (e : S1024.Idx → F .f32) (u : Fin 5 → (S2048.Idx → F .f32)) : Prop :=
  ∀ k : Fin 5, Packed (keep f e) (valAt (f k.castSucc)) (Scalar.ofBits .f32 0x00000000#32) 20480 (u k)

variable (Rel : Dev nD → (Fin 6 → (S20480.Idx → F .f32)) → (S1024.Idx → F .f32) → Prop)

def stP (d : Dev nD) : sProp (MM F) := iprop(∃ f e r, ⌜Rel d f e⌝ ∗ Tin d f ∗ tl d main_v37 e ∗ Tout d r)
def dnP (d : Dev nD) : sProp (MM F) := iprop(∃ f e u, ⌜Rel d f e ∧ Result f e u⌝ ∗ Tin d f ∗ tl d main_v37 e ∗ Tout d u)

/-- Everything goes to the first tile of the first SparseCore, and comes back from it. -/
def P : (K (F := F)).Pay (nD := nD) (Val := Elt F) (Name := ℕ) (U := UU) where
  st := fun q d c => match q with | 0 => if c.val = 0 then stP Rel d else iprop(emp)
  dn := fun q d c => match q with | 0 => if c.val = 0 then dnP Rel d else iprop(emp)
  go := fun q d c i => match q with | 0 => if c.val = 0 ∧ i.val = 0 then stP Rel d else iprop(emp)
  td := fun q d c i => match q with | 0 => if c.val = 0 ∧ i.val = 0 then dnP Rel d else iprop(emp)
  x := fun _ _ => iprop(emp)

instance stP_storable (d : Dev nD) : BI.Storable (upEmb : UEmb _ (MM F)) (stP Rel d) := by
  have h (f e r) : BI.Storable (upEmb : UEmb _ (MM F)) iprop(⌜Rel d f e⌝ ∗ Tin d f ∗ tl d main_v37 e ∗ Tout d r) := inferInstance
  exact BI.Storable.exists (ι := (upEmb : UEmb _ (MM F))) _
instance dnP_storable (d : Dev nD) : BI.Storable (upEmb : UEmb _ (MM F)) (dnP Rel d) := by
  have h (f e r) : BI.Storable (upEmb : UEmb _ (MM F)) iprop(⌜Rel d f e ∧ Result f e r⌝ ∗ Tin d f ∗ tl d main_v37 e ∗ Tout d r) := inferInstance
  exact BI.Storable.exists (ι := (upEmb : UEmb _ (MM F))) _
instance storable_ite (p : Prop) [Decidable p] (A B : sProp (MM F)) [BI.Storable (upEmb : UEmb _ (MM F)) A] [BI.Storable (upEmb : UEmb _ (MM F)) B] :
    BI.Storable (upEmb : UEmb _ (MM F)) (if p then A else B) := by
  split <;> infer_instance

instance P_storable : (P (F := F) Rel).IsStorable where
  st q d c := match q with | 0 => (inferInstance : BI.Storable (upEmb : UEmb _ (MM F)) (if c.val = 0 then stP Rel d else iprop(emp)))
  dn q d c := match q with | 0 => (inferInstance : BI.Storable (upEmb : UEmb _ (MM F)) (if c.val = 0 then dnP Rel d else iprop(emp)))
  go q d c i := match q with | 0 => (inferInstance : BI.Storable (upEmb : UEmb _ (MM F)) (if c.val = 0 ∧ i.val = 0 then stP Rel d else iprop(emp)))
  td q d c i := match q with | 0 => (inferInstance : BI.Storable (upEmb : UEmb _ (MM F)) (if c.val = 0 ∧ i.val = 0 then dnP Rel d else iprop(emp)))

/-! ## The tile -/

section Tile
variable (d : Dev nD) (i : grid2.Coords)

abbrev semList : List (SemLoc sig) :=
  [.dma cc2_scratch13.sem, .dma cc2_scratch14.sem, .dma cc2_scratch15.sem, .dma cc2_scratch16.sem, .dma cc2_scratch17.sem, .dma cc2_scratch18.sem,
    .dma cc2_scratch19.sem, .dma cc2_scratch20.sem, .dma cc2_scratch21.sem, .dma cc2_scratch22.sem, .dma cc2_scratch23.sem, .dma cc2_scratch24.sem]
abbrev bufList : List (Ref sig .scVector) :=
  [cc2_scratch0, cc2_scratch1, cc2_scratch2, cc2_scratch3, cc2_scratch4, cc2_scratch5, cc2_scratch6, cc2_scratch7, cc2_scratch8, cc2_scratch9, cc2_scratch10, cc2_scratch11, cc2_scratch12]

abbrev semsRest : sProp (MM F) :=
  bigSep (ownCells (V d (cV i) (jV i)) \ (semList.map fun s => ((V d (cV i) (jV i), s) : GSem nD τ sig)).toFinset) fun g => semVal g 0
abbrev bufsRest : sProp (MM F) :=
  bigSep (ownRefs (τ := τ) (.scVector (cV i) (jV i)) \ (bufList.map fun b => (Proc.scVector (cV i) (jV i)).devRef b).toFinset) fun b => iprop(∃ f, ((d, b) : Loc nD τ sig) ↦{fullShare} f)

/-- The tile's own semaphores: the twelve the program names, and the rest. -/
theorem ownSems0_V : (ownSems0 (V d (cV i) (jV i)) : sProp (MM F)) = (semList.map fun s => ((V d (cV i) (jV i), s) : GSem nD τ sig)).foldr (fun g R => iprop(semVal g 0 ∗ R)) (semsRest d i) := by
  unfold SparseCore.Cfg.ownSems0
  refine bigSep_list _ _ (List.Nodup.map (fun a b h => (Prod.mk.inj h).2) (by decide)) _ fun x hx => ?_
  obtain ⟨s, hs, rfl⟩ := List.mem_map.mp hx
  exact mem_ownCells.mpr ⟨rfl, (show ∀ s ∈ semList, (s : SemLoc sig).isScoped .scVector = true by decide) s hs⟩

/-- The tile's own buffers: the thirteen the program names, and the rest. -/
theorem ownBufs_V : (ownBufs (V d (cV i) (jV i)) : sProp (MM F))
    = (bufList.map fun b => (Proc.scVector (cV i) (jV i)).devRef b).foldr (fun b R => iprop((∃ f, ((d, b) : Loc nD τ sig) ↦{fullShare} f) ∗ R)) (bufsRest d i) := by
  unfold SparseCore.Cfg.ownBufs
  refine bigSep_list _ _ (List.Nodup.map (Proc.devRef_injective _) (show (bufList : List (Ref sig .scVector)).Nodup by decide)) _ fun x hx => ?_
  obtain ⟨b, hb, rfl⟩ := List.mem_map.mp hx
  exact SparseCore.Cfg.mem_ownRefs_of_owner (p := Proc.scVector (cV i) (jV i)) (b := (Proc.scVector (cV i) (jV i)).devRef b)
    (by clear hx; fin_cases hb <;> rfl)

/-- The coordinates of a tile. -/
def coordsV (c : Fin (grid2.bound 0)) (s : Fin (grid2.bound 1)) : grid2.Coords :=
  fun | 0 => c | 1 => s | ⟨_ + 2, h⟩ => absurd h (Nat.not_lt.2 (Nat.le_add_left _ _))

set_option maxHeartbeats 2000000 in
open Classical in
/-- The program of any tile: handed what the payload hands it, it gives back what the payload takes back. -/
theorem tile_body (hF : (K (F := F)).Facts) (O : CellTallies nD τ sig (HIx 1)) (W : Waits sig (HIx 1)) (hO : ∀ g, O g none = 0) :
    iprop(levAts (K (F := F)).L (K (F := F)).lev ∗ emp ∗ (if (i 0).val = 0 ∧ (i 1).val = 0 then stP Rel d else iprop(emp))
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
      (cc2_sck (F := F) i _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24)
          fun _ => iprop((if (i 0).val = 0 ∧ (i 1).val = 0 then dnP Rel d else iprop(emp))
            ∗ scopedBufs (V d (cV i) (jV i)) ∗ scopedSems0 (V d (cV i) (jV i))
            ∗ ∃ W', ⌜∀ p ∈ W', p ∈ W ∨ p.2 = none ∨ p.2 = some (0 : Fin 1)⌝ ∗ owes (V d (cV i) (jV i)) O W') := by
  have hW : ∀ (W' : Waits sig (HIx 1)), ∀ p ∈ W', p ∈ W ∨ p.2 = none ∨ p.2 = some (0 : Fin 1) := fun W' p _ => by
    rcases p.2 with _ | q
    · exact .inr (.inl rfl)
    · exact .inr (.inr (congrArg some (Subsingleton.elim q 0)))
  by_cases h0 : (i 0).val = 0 ∧ (i 1).val = 0
  · have h : k2_cond1 i = 1#1 := by unfold k2_cond1; rw [h0.1, h0.2]; decide
    simp only [if_pos h0]
    unfold stP dnP
    rw [(K (F := F)).scopedBufs_V hF d (cV i) (jV i), SparseCore.Cfg.scopedSems0_V (Val := Elt F) d (cV i) (jV i), ownSems0_V, ownBufs_V]
    simp only [List.map, List.foldr]
    iintro ⟨#Hlv, -, ⟨%f, %e, %r, %hr, HS, HE, HR⟩, ⟨⟨%x0, B0⟩, ⟨%x1, B1⟩, ⟨%x2, B2⟩, ⟨%x3, B3⟩, ⟨%x4, B4⟩, ⟨%x5, B5⟩, ⟨%x6, B6⟩, ⟨%x7, B7⟩, ⟨%x8, B8⟩, ⟨%x9, B9⟩, ⟨%x10, B10⟩, ⟨%x11, B11⟩, ⟨%x12, B12⟩, Hbufs⟩,
      ⟨M13, M14, M15, M16, M17, M18, M19, M20, M21, M22, M23, M24, Hsems⟩, HO⟩
    ihave Hmw := (show levAts (K (F := F)).L (K (F := F)).lev ⊢ Transfers.MayWaits (V d (cV i) (jV i)) (default : HIx 1) O from
      (K (F := F)).mayWaits_none (thr := V d (cV i) (jV i)) hO) $$ Hlv
    iapply wp_wand_r
    isplitl [HS HE HR B0 B1 B2 B3 B4 B5 B6 B7 B8 B9 B10 B11 B12 M13 M14 M15 M16 M17 M18 M19 M20 M21 M22 M23 M24 HO]
    · iapply (body_wp d i O f e (keep f e) (fun k => valAt (f k.castSucc)) (fun k j => valAt_idx _ j) (keep_idx f e) h
        (fun k => match k with | 0 => x0 | 1 => x1 | 2 => x2 | 3 => x3 | 4 => x4 | 5 => x5) (fun k => match k with | 0 => x6 | 1 => x7 | 2 => x8 | 3 => x9 | 4 => x10) r x11 x12)
      unfold Src Staged Sems Sems' Res
      isplitr; · iexact Hmw
      isplitl [HS]; · iexact HS
      isplitl [B0 B1 B2 B3 B4 B5]
      · isplitl [B0]; · iexact B0
        isplitl [B1]; · iexact B1
        isplitl [B2]; · iexact B2
        isplitl [B3]; · iexact B3
        isplitl [B4]; · iexact B4
        iexact B5
      isplitl [M13 M14 M15 M16 M17 M18]
      · isplitl [M13]; · iexact M13
        isplitl [M14]; · iexact M14
        isplitl [M15]; · iexact M15
        isplitl [M16]; · iexact M16
        isplitl [M17]; · iexact M17
        iexact M18
      isplitl [HO]; · iexists W; iexact HO
      isplitl [B6 B7 B8 B9 B10]
      · isplitl [B6]; · iexact B6
        isplitl [B7]; · iexact B7
        isplitl [B8]; · iexact B8
        isplitl [B9]; · iexact B9
        iexact B10
      isplitl [B12]; · iexact B12
      isplitl [HE]; · iexact HE
      isplitl [B11]; · iexact B11
      isplitl [M19 M20 M21 M22 M23 M24]
      · isplitl [M19]; · iexact M19
        isplitl [M20]; · iexact M20
        isplitl [M21]; · iexact M21
        isplitl [M22]; · iexact M22
        isplitl [M23]; · iexact M23
        iexact M24
      iexact HR
    · unfold Src Staged Sems Sems' Res
      iintro %_ ⟨HS, ⟨%g, B0, B1, B2, B3, B4, B5⟩, ⟨M13, M14, M15, M16, M17, M18⟩, ⟨%W', HO⟩, ⟨%u, B6, B7, B8, B9, B10⟩, ⟨%c, B12⟩, HE, ⟨%v, B11⟩, ⟨M19, M20, M21, M22, M23, M24⟩, %w, %hw, HR⟩
      isplitl [HS HE HR]
      · iexists f; iexists e; iexists w
        isplitr
        · ipureintro; exact ⟨hr, hw⟩
        isplitl [HS]; · iexact HS
        isplitl [HE]; · iexact HE
        iexact HR
      isplitl [B0 B1 B2 B3 B4 B5 B6 B7 B8 B9 B10 B11 B12 Hbufs]
      · isplitl [B0]; · iexists _; iexact B0
        isplitl [B1]; · iexists _; iexact B1
        isplitl [B2]; · iexists _; iexact B2
        isplitl [B3]; · iexists _; iexact B3
        isplitl [B4]; · iexists _; iexact B4
        isplitl [B5]; · iexists _; iexact B5
        isplitl [B6]; · iexists _; iexact B6
        isplitl [B7]; · iexists _; iexact B7
        isplitl [B8]; · iexists _; iexact B8
        isplitl [B9]; · iexists _; iexact B9
        isplitl [B10]; · iexists _; iexact B10
        isplitl [B11]; · iexists _; iexact B11
        isplitl [B12]; · iexists _; iexact B12
        iexact Hbufs
      isplitl [M13 M14 M15 M16 M17 M18 M19 M20 M21 M22 M23 M24 Hsems]
      · isplitl [M13]; · iexact M13
        isplitl [M14]; · iexact M14
        isplitl [M15]; · iexact M15
        isplitl [M16]; · iexact M16
        isplitl [M17]; · iexact M17
        isplitl [M18]; · iexact M18
        isplitl [M19]; · iexact M19
        isplitl [M20]; · iexact M20
        isplitl [M21]; · iexact M21
        isplitl [M22]; · iexact M22
        isplitl [M23]; · iexact M23
        isplitl [M24]; · iexact M24
        iexact Hsems
      iexists W'; isplitr
      swap; · iexact HO
      ipureintro; exact hW _
  · have h : ¬ k2_cond1 i = 1#1 := fun hc => h0 (by
      exact (show ∀ a < 2, ∀ b < 16, Scalar.cmpi .ne (Scalar.extui (Scalar.andi (Scalar.cmpi .eq (BitVec.ofNat 32 a) 0#32) (Scalar.cmpi .eq (BitVec.ofNat 32 b) 0#32))) 0#32 = 1#1 → a = 0 ∧ b = 0 by decide)
        _ (i 0).isLt _ (i 1).isLt hc)
    simp only [if_neg h0]
    unfold cc2_sck
    rw [dif_neg h]
    refine ret_wp ?_
    iintro ⟨-, -, -, HB, HM, HO⟩
    isplitr; · iempintro
    isplitl [HB]; · iexact HB
    isplitl [HM]; · iexact HM
    iexists _; isplitr
    swap; · iexact HO
    ipureintro; exact hW _

theorem defs₀_vector (c : Fin τ.nSC) (s : Fin τ.nSub) :
    defs₀ (F := F) (.scVector c s) 2 ()
      = SparseCore.onTile hcore2 hsub2 (fun c s => cc2_sck (F := F) (coordsV c s) _ wI1 _ wI2 _ wI3 _ wI4 _ wI5 _ wI6 _ wI7 _ wO0 _ wO1 _ wO2 _ wO3 _ wO4 _ wB0 _ wB1 _ wB2 _ wB3 _ wB4 _ wB5 _ wB6 _ wB7 _ wB8 _ wB9 _ wB10 _ wB11 _ wB12 cc2_scratch13 cc2_scratch14 cc2_scratch15 cc2_scratch16 cc2_scratch17 cc2_scratch18 cc2_scratch19 cc2_scratch20 cc2_scratch21 cc2_scratch22 cc2_scratch23 cc2_scratch24) ⟨⟩ c s := rfl

/-- Every tile keeps the payload's obligation. -/
theorem tileObl (hF : (K (F := F)).Facts) : (K (F := F)).TileObl (D (F := F)) 𝒱 (P Rel) v₀ 0 := by
  intro d c i O W hO _ _
  simp only [show (P (F := F) Rel).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body Rel d (coordsV ⟨_, hci.1⟩ ⟨_, hci.2⟩) hF O W hO

end Tile

theorem bigSep_emp' {I : Type} (s : Finset I) : (bigSep s fun _ => iprop(emp)) = (iprop(emp) : sProp (MM F)) := bigSep_emp_const s

theorem bigSep_first (n : ℕ) (h : 0 < n) (A : sProp (MM F)) :
    (bigSep Finset.univ fun i : Fin n => if i.val = 0 then A else iprop(emp)) = A := by
  rw [SparseCore.bigSep_erase' (Finset.mem_univ (⟨0, h⟩ : Fin n)), bigSep_congr (Ψ := fun _ => iprop(emp)) fun i hi => if_neg fun h0 => (Finset.mem_erase.mp hi).1 (Fin.ext h0), bigSep_emp', if_pos rfl]
  exact sep_emp_eq _

/-- The payload of a SparseCore is that of its tiles. -/
theorem vecSplit : (K (F := F)).VecSplit' (P Rel) 0 := by
  intro d c
  show (if c.val = 0 then stP Rel d else iprop(emp)) ⊢ |={Set.univ}=> iprop(
    (bigSep Finset.univ fun i : Fin ((K (F := F)).nSub 0) => if c.val = 0 ∧ i.val = 0 then stP Rel d else iprop(emp))
    ∗ ((bigSep Finset.univ fun i : Fin ((K (F := F)).nSub 0) => if c.val = 0 ∧ i.val = 0 then dnP Rel d else iprop(emp)) -∗ (if c.val = 0 then dnP Rel d else iprop(emp))))
  by_cases hc : c.val = 0
  · simp only [hc, true_and, if_true]
    rw [bigSep_first _ (by decide), bigSep_first _ (by decide)]
    iintro H; imodintro
    isplitl [H]; · iexact H
    iintro H; iexact H
  · simp only [hc, false_and, if_false]
    rw [bigSep_emp']
    iintro H; imodintro
    isplitr; · iempintro
    iintro H; iempintro

end Cert.KernelIdeal.Prf
-- ==== Proof.PI.Scan.lean ====
/-
  The blocked scan's program: what it holds, and that its loops compute the functions of Model.lean —
  the rounds inside a block (`inner_le`), the join with the earlier blocks (`part3_wp`), the overlap
  matrix (`square_wp`) and the walk over the blocks (`outer_le`).
-/
module

public import proofs.«01_k».proof.Proof.PI.Model
public import proofs.«01_k».proof.Proof.PI.Obl
public import Idealize.ShloMosaic.Lib.VecWindow
public import Idealize.ShloMosaic.Lib.Pipeline.Value
public import Idealize.ShloMosaic.Lib.Pointwise.ShapeOpsCore

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

variable {F : FTy → Type} [FloatOps F]

/-! ## Reads and writes of slices -/

section Slices
variable {sp : Space}

theorem readAt_blk (v : View sig .tc sp S20480x1 .f32) (f : v.ty.Contents (Elt F)) {off : Fin 2 → ℕ} (n : ℕ) (ho : off = ![512 * n, 0]) (hn : n < 40)
    (inb : ∀ a, off a + S512x1.size a ≤ S20480x1.size a) :
    v.readAt (Elt F) (Rect.unit (s := S20480x1) off S512x1.size inb).toLoadRect f = blkAt (F := F) (v.read (Elt F) f) n := by
  rw [View.readAt_unit v f inb rfl inb]
  funext y
  have h0 : (y 0).val < 512 := (y 0).isLt
  have h1 : (y 1).val < 1 := (y 1).isLt
  refine congrArg (v.read (Elt F) f) (funext fun a => Fin.ext ?_)
  subst ho
  fin_cases a
  · show 512 * n + 1 * (y 0).val = (512 * n + (y 0).val) % 20480; omega
  · show 0 + 1 * (y 1).val = 0; omega

theorem readAt_rows (v : View sig .tc sp S160x128 .f32) (f : v.ty.Contents (Elt F)) {off : Fin 2 → ℕ} (n : ℕ) (ho : off = ![4 * n, 0]) (hn : n < 40)
    (inb : ∀ a, off a + S4x128.size a ≤ S160x128.size a) :
    v.readAt (Elt F) (Rect.unit (s := S160x128) off S4x128.size inb).toLoadRect f = rowsAt (F := F) (v.read (Elt F) f) n := by
  rw [View.readAt_unit v f inb rfl inb]
  funext y
  have h0 : (y 0).val < 4 := (y 0).isLt
  refine congrArg (v.read (Elt F) f) (funext fun a => Fin.ext ?_)
  subst ho
  fin_cases a
  · show 4 * n + 1 * (y 0).val = (4 * n + (y 0).val) % 160; omega
  · show 0 + 1 * (y 1).val = (y 1).val; omega

end Slices

theorem update_rows (X : A160 F) (r : A4 F) {off : Fin 2 → ℕ} (n : ℕ) (ho : off = ![4 * n, 0]) (h : S160x128.Slices off S4x128) :
    updateSlice X r off h = setRows X n r := by
  subst ho
  funext j
  have hj1 : (j 1).val < 128 := (j 1).isLt
  unfold updateSlice setRows
  by_cases hc : 4 * n ≤ (j 0).val ∧ (j 0).val < 4 * n + 4
  · rw [dif_pos hc, dif_pos fun a => by
      fin_cases a
      · exact hc
      · exact ⟨Nat.zero_le _, by show (j 1).val < 0 + 128; omega⟩]
    refine congrArg r (funext fun a => Fin.ext ?_)
    fin_cases a
    · rfl
    · rfl
  · rw [dif_neg hc, dif_neg fun hn => hc (hn 0)]

theorem update_col (X : ASq F) (r : S512x128.Idx → F .f32) {off : Fin 2 → ℕ} (n : ℕ) (ho : off = ![0, 128 * n]) (h : S512x512.Slices off S512x128) (j : S512x512.Idx) :
    updateSlice X r off h j = if (j 1).val / 128 = n then r (ix512 (j 0).val ((j 1).val % 128) (j 0).isLt (Nat.mod_lt _ (by decide))) else X j := by
  subst ho
  have hj0 : (j 0).val < 512 := (j 0).isLt
  unfold updateSlice
  by_cases hc : (j 1).val / 128 = n
  · rw [if_pos hc, dif_pos fun a => by
      fin_cases a
      · exact ⟨Nat.zero_le _, by show (j 0).val < 0 + 512; omega⟩
      · exact ⟨by show 128 * n ≤ (j 1).val; omega, by show (j 1).val < 128 * n + 128; omega⟩]
    refine congrArg r (funext fun a => Fin.ext ?_)
    fin_cases a
    · rfl
    · show (j 1).val - 128 * n = (j 1).val % 128; omega
  · rw [if_neg hc, dif_neg fun hn => hc ?_]
    have h1 : 128 * n ≤ (j 1).val ∧ (j 1).val < 128 * n + 128 := hn 1
    omega

/-- The four groups of columns stored over any matrix make the block's matrix. -/
theorem smat_eq (X : ASq F) (a b c d : A512 F) (x y z w : A4 F) (h0 : S512x512.Slices ![0, 0] S512x128) (h1 : S512x512.Slices ![0, 128] S512x128)
    (h2 : S512x512.Slices ![0, 256] S512x128) (h3 : S512x512.Slices ![0, 384] S512x128) :
    updateSlice (updateSlice (updateSlice (updateSlice X (sqCol a b c d x y z w 0) ![0, 0] h0) (sqCol a b c d x y z w 1) ![0, 128] h1)
      (sqCol a b c d x y z w 2) ![0, 256] h2) (sqCol a b c d x y z w 3) ![0, 384] h3 = smat a b c d x y z w := by
  funext j
  rw [update_col _ _ 3 rfl, update_col _ _ 2 rfl, update_col _ _ 1 rfl, update_col _ _ 0 rfl]
  unfold smat
  have hk (k : Fin 4) (h : (j 1).val / 128 = k.val) : (⟨(j 1).val / 128, col_lt j⟩ : Fin 4) = k := Fin.ext h
  have hj := col_lt j
  split_ifs with e3 e2 e1 e0
  · rw [hk 3 e3]
  · rw [hk 2 e2]
  · rw [hk 1 e1]
  · rw [hk 0 e0]
  · omega

theorem zero_off2 : (![0, 0] : Fin 2 → ℕ) = fun _ => 0 := funext fun a => by fin_cases a <;> rfl

/-! ## The rounds inside a block -/

variable (d : Dev nD)

def innerSpec (s : ASq F) (v : IVec S512x1 1) (n : ℕ) (r : BitVec 32 × A512 F × BitVec 32) : sWPT (MM F) (BitVec 32 × FVec F S512x1 .f32 × BitVec 32) := do
  sWPT.consume (tl d cc1_scratch0 s)
  sWPT.produce (tl d cc1_scratch0 s)
  pure (inner s v n r)

theorem innerSpec_apply (s : ASq F) (v : IVec S512x1 1) (n : ℕ) (r : BitVec 32 × A512 F × BitVec 32) (Q : BitVec 32 × FVec F S512x1 .f32 × BitVec 32 → sProp (MM F)) :
    innerSpec d s v n r Q = iprop(tl d cc1_scratch0 s ∗ (tl d cc1_scratch0 s -∗ Q (inner s v n r))) := rfl

theorem inner_le (E : Set ℕ) (b : BitVec 32) (hw : k1_chk1 b) (s : ASq F) (v : IVec S512x1 1) :
    ∀ (n : ℕ) (it : BitVec 32) (kf : A512 F) (ch : BitVec 32), it.toNat ≤ 514 → 514 ≤ n + it.toNat → ∀ Q, innerSpec d s v n (it, kf, ch) Q
      ⊢ wp frame (wpE (defs₀ (F := F)) 𝒱₀ d.tc (some n)) E
          (defs₀ (F := F) .tc 4 ⟨b, hw, _, wT0, v, it, kf, ch⟩) Q := by
  intro n
  induction n with
  | zero =>
    intro it kf ch h1 h2 Q
    rw [innerSpec_apply]
    show _ ⊢ wp frame (wpE (defs₀ (F := F)) 𝒱₀ d.tc (some 0)) E
      (cc1_while2 b hw _ wT0 v it kf ch) Q
    simp only [cc1_while2_eq_skeleton]; unfold cc1_while2_skel
    have ht : ¬ Scalar.andi (Scalar.cmpi .sgt ch 0#32) (Scalar.cmpi .slt it 514#32) = 1#1 := fun h => absurd (round_lt h1 h) (by omega)
    simp only [ht, ↓reduceIte, Prog.pure_eq_ret]
    iintro ⟨H, Hk⟩
    rw [wp_ret]; imodintro
    simp only [inner]
    iapply Hk $$ H
  | succ n ih =>
    intro it kf ch h1 h2 Q
    rw [innerSpec_apply]
    show _ ⊢ wp frame (wpE (defs₀ (F := F)) 𝒱₀ d.tc (some (n + 1))) E
      (cc1_while2 b hw _ wT0 v it kf ch) Q
    simp only [cc1_while2_eq_skeleton]; unfold cc1_while2_skel
    simp only [inner]
    by_cases ht : Scalar.andi (Scalar.cmpi .sgt ch 0#32) (Scalar.cmpi .slt it 514#32) = 1#1
    · have hlt := round_lt h1 ht
      have ha := addi_one (b := it) (by omega)
      simp only [ht, ↓reduceIte, Prog.lift, Prog.bind_op, Prog.bind_ret, Prog.pure_eq_ret]
      iintro ⟨H, Hk⟩
      iapply (wp_load 𝒱₀ d.tc (some (n + 1)) E (m := Memref.whole cc1_scratch0) (Finset.subset_univ _)) $$ H; iintro H
      rw [show (Memref.whole cc1_scratch0 : Memref sig .tc _ _ _).view.readAt (Elt F) (Rect.unit (s := S512x512) ![0, 0] S512x512.size inb_S512x512_S512x512_0_0).toLoadRect s = s from
        Memref.readAt_unit_zero (Elt F) cc1_scratch0 zero_off2 inb_S512x512_S512x512_0_0 s]
      iapply (wp_call_spec 𝒱₀ d.tc (some (n + 1)) E
        (innerSpec d s v n (Scalar.addi it 1#32, k1_pay8 v kf s, Scalar.fptosi 32 (k1_pay9 v kf s))) n
        (fun u hu => by cases hu; exact Nat.lt_succ_self n) (ih _ _ _ (by omega) (by omega)))
      rw [innerSpec_apply]
      isplitl [H]; · iexact H
      iintro H
      rw [wp_ret]; imodintro
      iapply Hk $$ H
    · simp only [ht, ↓reduceIte, Prog.pure_eq_ret]
      iintro ⟨H, Hk⟩
      rw [wp_ret]; imodintro
      iapply Hk $$ H

end Cert.KernelIdeal.Prf

end
-- ==== Proof.PI.Block.lean ====
/-
  One block of the scan: the join with the earlier blocks, trip by trip, then the block's own overlap
  matrix, its rounds, and the store of its flags.
-/
module

public import proofs.«01_k».proof.Proof.PI.Scan
public import Idealize.ShloMosaic.Lib.VecWindow
public import Idealize.ShloMosaic.Lib.Pipeline.Value
public import Idealize.ShloMosaic.Lib.Pointwise.ShapeOpsCore

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

variable {F : FTy → Type} [FloatOps F]

variable (d : Dev nD)

/-- The columns of the sorted boxes and keys. -/
abbrev HX (X : Fin 5 → A20480 F) : sProp (MM F) :=
  iprop(tl d cc1_stg0_0 (X 0) ∗ tl d cc1_stg1_0 (X 1) ∗ tl d cc1_stg2_0 (X 2) ∗ tl d cc1_stg3_0 (X 3) ∗ tl d cc1_stg4_0 (X 4))
/-- The same boxes as rows, and the flags. -/
abbrev HY (Y : Fin 4 → A160 F) (k : A160 F) : sProp (MM F) :=
  iprop(tl d cc1_stg5_0 (Y 0) ∗ tl d cc1_stg6_0 (Y 1) ∗ tl d cc1_stg7_0 (Y 2) ∗ tl d cc1_stg8_0 (Y 3) ∗ tl d cc1_stg9_0 k)

section Block
variable (b : BitVec 32) (hb : b.toNat < 40) (hw : k1_chk1 b)
include hb

theorem trips1_b : (k1_t1_loop b).trips = b.toNat := by have := trips1 b.toNat hb; rwa [ofNat_toNat] at this
theorem trips2_b : (k1_t2_loop b).trips = 0 := by have := trips2 b.toNat hb; rwa [ofNat_toNat] at this
theorem off1_b : k1_off1 b = ![512 * b.toNat, 0] := by have := off1_eq b.toNat hb; rwa [ofNat_toNat] at this
theorem off4_b : k1_off4 b = ![4 * b.toNat, 0] := by have := off4_eq b.toNat hb; rwa [ofNat_toNat] at this
theorem off2_b (t : Fin (k1_t1_loop b).trips) : k1_off2 b t = ![4 * t.val, 0] := by
  have h := off2_eq b.toNat hb
  rw [ofNat_toNat] at h
  exact h t

theorem trip1_wp (E : Set ℕ) (bd : Option 𝒱₀.V) (c e : BitVec 32) (a1 a2 a3 a4 : A512 F) (Y : Fin 4 → A160 F) (k : A160 F) (t : Fin (k1_t1_loop b).trips) :
    iprop(HY d Y k ∗ tl d cc1_scratch1 (sup a1 a2 a3 a4 Y k t.val))
      ⊢ wp frame (wpE (defs₀ (F := F)) 𝒱₀ d.tc bd) E
        (k1_t1_body _ wS4 _ wS0 _ wS1 _ wS2 _ wS3 _ wT1 _ wS5 _ wS6 _ wS7 _ wS8 _ wS9 _ wT0 b c e hw a1 a2 a3 a4 t ())
        fun _ => iprop(HY d Y k ∗ tl d cc1_scratch1 (sup a1 a2 a3 a4 Y k (t.val + 1))) := by
  have ht : t.val < 40 := lt_of_lt_of_le (lt_of_lt_of_eq t.isLt (trips1_b b hb)) hb.le
  unfold k1_t1_body
  simp only [k1_part1_eq_skeleton]; unfold k1_part1_skel
  simp only [Prog.lift, Prog.bind_op, Prog.bind_ret, Prog.pure_eq_ret]
  iintro ⟨⟨H5, H6, H7, H8, H9⟩, H12⟩
  iapply (wp_load 𝒱₀ d.tc bd E (m := Memref.whole cc1_stg5_0) (Finset.subset_univ _)) $$ H5; iintro H5
  iapply (wp_load 𝒱₀ d.tc bd E (m := Memref.whole cc1_stg6_0) (Finset.subset_univ _)) $$ H6; iintro H6
  iapply (wp_load 𝒱₀ d.tc bd E (m := Memref.whole cc1_stg7_0) (Finset.subset_univ _)) $$ H7; iintro H7
  iapply (wp_load 𝒱₀ d.tc bd E (m := Memref.whole cc1_stg8_0) (Finset.subset_univ _)) $$ H8; iintro H8
  iapply (wp_load 𝒱₀ d.tc bd E (m := Memref.whole cc1_stg9_0) (Finset.subset_univ _)) $$ H9; iintro H9
  iapply (wp_load 𝒱₀ d.tc bd E (m := Memref.whole cc1_scratch1) (Finset.subset_univ _)) $$ H12; iintro H12
  iapply (wp_load 𝒱₀ d.tc bd E (m := Memref.whole cc1_scratch1) (Finset.subset_univ _)) $$ H12; iintro H12
  iapply (wp_store 𝒱₀ d.tc bd E (m := Memref.whole cc1_scratch1) (r := Rect.unit (s := S512x1) ![0, 0] S512x1.size inb_S512x1_S512x1_0_0) (Mk := Finset.univ) (Finset.subset_univ _)) $$ H12; iintro H12
  rw [wp_ret]; imodintro
  isplitl [H5 H6 H7 H8 H9]
  · isplitl [H5]; · iexact H5
    isplitl [H6]; · iexact H6
    isplitl [H7]; · iexact H7
    isplitl [H8]; · iexact H8
    iexact H9
  istop
  refine Entails.of_eq (congrArg (tl d cc1_scratch1) ?_)
  refine (Memref.write_access_unit_zero_univ (Elt F) cc1_scratch1 zero_off2 inb_S512x1_S512x1_0_0 _ _).trans ?_
  rw [readAt_rows _ _ t.val (off2_b b hb t) ht, readAt_rows _ _ t.val (off2_b b hb t) ht, readAt_rows _ _ t.val (off2_b b hb t) ht, readAt_rows _ _ t.val (off2_b b hb t) ht, readAt_rows _ _ t.val (off2_b b hb t) ht]
  rw [show (Memref.whole cc1_scratch1 : Memref sig .tc _ _ _).view.readAt (Elt F) (Rect.unit (s := S512x1) ![0, 0] S512x1.size inb_S512x1_S512x1_0_0).toLoadRect (sup a1 a2 a3 a4 Y k t.val) = sup a1 a2 a3 a4 Y k t.val from
        Memref.readAt_unit_zero (Elt F) cc1_scratch1 zero_off2 inb_S512x1_S512x1_0_0 _]
  simp only [Memref.view_whole, View.read_whole]
  rfl

set_option maxHeartbeats 2000000 in
theorem part3_wp (E : Set ℕ) (bd : Option 𝒱₀.V) (c e : BitVec 32) (X : Fin 5 → A20480 F) (Y : Fin 4 → A160 F) (k : A160 F)
    (Q : (Σ' (_ : k1_chk1 b) (_ : IVec S512x1 1) (_ : FVec F S512x1 .f32) (_ : FVec F S512x1 .f32) (_ : FVec F S512x1 .f32) (_ : FVec F S512x1 .f32) (_ : FVec F S512x1 .f32), Vec F S512x1 .f32) → sProp (MM F)) :
    iprop(HX d X ∗ HY d Y k ∗ (∃ f, tl d cc1_scratch1 f)
      ∗ (HX d X ∗ HY d Y k ∗ (∃ f, tl d cc1_scratch1 f) -∗ Q ⟨hw, k1_pay24 (blkAt (X 4) b.toNat), k1_pay25 (blkAt (X 0) b.toNat), k1_pay26 (blkAt (X 1) b.toNat), k1_pay27 (blkAt (X 2) b.toNat), k1_pay28 (blkAt (X 3) b.toNat),
          k1_pay29 (blkAt (X 0) b.toNat) (blkAt (X 1) b.toNat) (blkAt (X 2) b.toNat) (blkAt (X 3) b.toNat), sup (blkAt (X 0) b.toNat) (blkAt (X 1) b.toNat) (blkAt (X 2) b.toNat) (blkAt (X 3) b.toNat) Y k b.toNat⟩))
      ⊢ wp frame (wpE (defs₀ (F := F)) 𝒱₀ d.tc bd) E
        (k1_part3 _ wS4 _ wS0 _ wS1 _ wS2 _ wS3 _ wT1 _ wS5 _ wS6 _ wS7 _ wS8 _ wS9 _ wT0 b c e) Q := by
  simp only [k1_part3_eq_skeleton]; unfold k1_part3_skel
  simp only [Prog.lift, Prog.bind_op, Prog.bind_ret, Prog.pure_eq_ret]
  iintro ⟨⟨H0, H1, H2, H3, H4⟩, HY, ⟨%f, H12⟩, Hk⟩
  iapply (wp_assume 𝒱₀ d.tc bd E hw)
  iapply (wp_load 𝒱₀ d.tc bd E (m := Memref.whole cc1_stg4_0) (Finset.subset_univ _)) $$ H4; iintro H4
  iapply (wp_load 𝒱₀ d.tc bd E (m := Memref.whole cc1_stg0_0) (Finset.subset_univ _)) $$ H0; iintro H0
  iapply (wp_load 𝒱₀ d.tc bd E (m := Memref.whole cc1_stg1_0) (Finset.subset_univ _)) $$ H1; iintro H1
  iapply (wp_load 𝒱₀ d.tc bd E (m := Memref.whole cc1_stg2_0) (Finset.subset_univ _)) $$ H2; iintro H2
  iapply (wp_load 𝒱₀ d.tc bd E (m := Memref.whole cc1_stg3_0) (Finset.subset_univ _)) $$ H3; iintro H3
  iapply (wp_load 𝒱₀ d.tc bd E (m := Memref.whole cc1_scratch1) (Finset.subset_univ _)) $$ H12; iintro H12
  iapply (wp_store 𝒱₀ d.tc bd E (m := Memref.whole cc1_scratch1) (r := Rect.unit (s := S512x1) ![0, 0] S512x1.size inb_S512x1_S512x1_0_0) (Mk := Finset.univ) (Finset.subset_univ _)) $$ H12; iintro H12
  rw [readAt_blk _ _ b.toNat (off1_b b hb) hb, readAt_blk _ _ b.toNat (off1_b b hb) hb, readAt_blk _ _ b.toNat (off1_b b hb) hb, readAt_blk _ _ b.toNat (off1_b b hb) hb, readAt_blk _ _ b.toNat (off1_b b hb) hb]
  simp only [Memref.view_whole, View.read_whole]
  unfold Scf.Loop.for
  iapply (Scf.wp_for_bind (Fr := frame) (wpE (defs₀ (F := F)) 𝒱₀ d.tc bd) E (k1_t1_loop b).lb (k1_t1_loop b).ub (k1_t1_loop b).st (k1_t1_ok b hw) ⟨⟩ _
    (fun t _ => iprop(HY d Y k ∗ tl d cc1_scratch1 (sup (blkAt (X 0) b.toNat) (blkAt (X 1) b.toNat) (blkAt (X 2) b.toNat) (blkAt (X 3) b.toNat) Y k t)))
    (fun t _ => trip1_wp d b hb hw E bd c e _ _ _ _ Y k t)) $$ [HY H12]
  · isplitl [HY]; · iexact HY
    istop
    exact Entails.of_eq (congrArg (tl d cc1_scratch1) (Memref.write_access_unit_zero_univ (Elt F) cc1_scratch1 zero_off2 inb_S512x1_S512x1_0_0 _ _))
  iintro %acc ⟨HY, H12⟩
  iapply (Scf.wp_for_bind (Fr := frame) (wpE (defs₀ (F := F)) 𝒱₀ d.tc bd) E (k1_t2_loop b).lb (k1_t2_loop b).ub (k1_t2_loop b).st (k1_t2_ok b hw) ⟨⟩ _
    (fun _ _ => iprop(tl d cc1_scratch1 (sup (blkAt (X 0) b.toNat) (blkAt (X 1) b.toNat) (blkAt (X 2) b.toNat) (blkAt (X 3) b.toNat) Y k (k1_t1_loop b).trips)))
    (fun t _ => (Nat.not_lt_zero _ (lt_of_lt_of_eq t.isLt (trips2_b b hb))).elim)) $$ H12
  iintro %acc2 H12
  iapply (wp_load 𝒱₀ d.tc bd E (m := Memref.whole cc1_scratch1) (Finset.subset_univ _)) $$ H12; iintro H12
  rw [show (Memref.whole cc1_scratch1 : Memref sig .tc _ _ _).view.readAt (Elt F) (Rect.unit (s := S512x1) ![0, 0] S512x1.size inb_S512x1_S512x1_0_0).toLoadRect (sup (blkAt (X 0) b.toNat) (blkAt (X 1) b.toNat) (blkAt (X 2) b.toNat) (blkAt (X 3) b.toNat) Y k (k1_t1_loop b).trips)
    = sup (blkAt (X 0) b.toNat) (blkAt (X 1) b.toNat) (blkAt (X 2) b.toNat) (blkAt (X 3) b.toNat) Y k (k1_t1_loop b).trips from
        Memref.readAt_unit_zero (Elt F) cc1_scratch1 zero_off2 inb_S512x1_S512x1_0_0 _, trips1_b b hb]
  rw [wp_ret]; imodintro
  iapply Hk
  isplitl [H0 H1 H2 H3 H4]
  · isplitl [H0]; · iexact H0
    isplitl [H1]; · iexact H1
    isplitl [H2]; · iexact H2
    isplitl [H3]; · iexact H3
    iexact H4
  isplitl [HY]; · iexact HY
  iexists _; iexact H12

end Block

end Cert.KernelIdeal.Prf

end
-- ==== Proof.PI.Walk.lean ====
/-
  The walk over the blocks: the scan's outer loop computes `outer`.
-/
module

public import proofs.«01_k».proof.Proof.PI.Block
public import Idealize.ShloMosaic.Lib.VecWindow
public import Idealize.ShloMosaic.Lib.Pipeline.Value
public import Idealize.ShloMosaic.Lib.Pointwise.ShapeOpsCore

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

variable {F : FTy → Type} [FloatOps F]

variable (d : Dev nD)

theorem square_stores (f : ASq F) (a b c e : A512 F) (x y z w : A4 F) :
    ((Memref.whole cc1_scratch0 : Memref sig .tc _ _ _).access (Rect.unit (s := S512x512) ![0, 384] S512x128.size inb_S512x512_S512x128_0_384)).write (Elt F)
      (((Memref.whole cc1_scratch0 : Memref sig .tc _ _ _).access (Rect.unit (s := S512x512) ![0, 256] S512x128.size inb_S512x512_S512x128_0_256)).write (Elt F)
        (((Memref.whole cc1_scratch0 : Memref sig .tc _ _ _).access (Rect.unit (s := S512x512) ![0, 128] S512x128.size inb_S512x512_S512x128_0_128)).write (Elt F)
          (((Memref.whole cc1_scratch0 : Memref sig .tc _ _ _).access (Rect.unit (s := S512x512) ![0, 0] S512x128.size inb_S512x512_S512x128_0_0)).write (Elt F) f (sqCol a b c e x y z w 0) Finset.univ)
          (sqCol a b c e x y z w 1) Finset.univ)
        (sqCol a b c e x y z w 2) Finset.univ)
      (sqCol a b c e x y z w 3) Finset.univ = smat a b c e x y z w := by
  refine (View.write_whole_slice_unit cc1_scratch0 ![0, 384] S512x128.size inb_S512x512_S512x128_0_384 _ _).trans ?_
  refine Eq.trans ?_ (smat_eq f a b c e x y z w ⟨rfl, inb_S512x512_S512x128_0_0⟩ ⟨rfl, inb_S512x512_S512x128_0_128⟩ ⟨rfl, inb_S512x512_S512x128_0_256⟩ ⟨rfl, inb_S512x512_S512x128_0_384⟩)
  refine congrArg (fun g : ASq F => updateSlice g (sqCol a b c e x y z w 3) ![0, 384] ⟨rfl, inb_S512x512_S512x128_0_384⟩) ?_
  refine (View.write_whole_slice_unit cc1_scratch0 ![0, 256] S512x128.size inb_S512x512_S512x128_0_256 _ _).trans ?_
  refine congrArg (fun g : ASq F => updateSlice g (sqCol a b c e x y z w 2) ![0, 256] ⟨rfl, inb_S512x512_S512x128_0_256⟩) ?_
  refine (View.write_whole_slice_unit cc1_scratch0 ![0, 128] S512x128.size inb_S512x512_S512x128_0_128 _ _).trans ?_
  refine congrArg (fun g : ASq F => updateSlice g (sqCol a b c e x y z w 1) ![0, 128] ⟨rfl, inb_S512x512_S512x128_0_128⟩) ?_
  exact View.write_whole_slice_unit cc1_scratch0 ![0, 0] S512x128.size inb_S512x512_S512x128_0_0 _ _

/-- What the walk holds: the columns, the rows with the flags so far, and its two scratch arrays at anything. -/
abbrev Held (X : Fin 5 → A20480 F) (Y : Fin 4 → A160 F) (k : A160 F) : sProp (MM F) :=
  iprop(HX d X ∗ HY d Y k ∗ (∃ f, tl d cc1_scratch1 f) ∗ (∃ f, tl d cc1_scratch0 f))

def outerSpec (X : Fin 5 → A20480 F) (Y : Fin 4 → A160 F) (n : ℕ) (s : (BitVec 32 × BitVec 32 × BitVec 32) × A160 F) : sWPT (MM F) (BitVec 32 × BitVec 32 × BitVec 32) := do
  sWPT.consume (Held d X Y s.2)
  sWPT.produce (Held d X Y (outer X Y n s).2)
  pure (outer X Y n s).1

theorem outerSpec_apply (X : Fin 5 → A20480 F) (Y : Fin 4 → A160 F) (n : ℕ) (s : (BitVec 32 × BitVec 32 × BitVec 32) × A160 F) (Q : BitVec 32 × BitVec 32 × BitVec 32 → sProp (MM F)) :
    outerSpec d X Y n s Q = iprop(Held d X Y s.2 ∗ (Held d X Y (outer X Y n s).2 -∗ Q (outer X Y n s).1)) := rfl

set_option maxHeartbeats 4000000 in
theorem outer_le (E : Set ℕ) (X : Fin 5 → A20480 F) (Y : Fin 4 → A160 F) :
    ∀ (n : ℕ) (b c e : BitVec 32) (k : A160 F), b.toNat ≤ 40 → 40 ≤ n + b.toNat → ∀ Q, outerSpec d X Y n ((b, c, e), k) Q
      ⊢ wp frame (wpE (defs₀ (F := F)) 𝒱₀ d.tc (some (600 * n))) E
          (defs₀ (F := F) .tc 3 ⟨_, wS4, _, wS0, _, wS1, _, wS2, _, wS3, _, wT1, _, wS5, _, wS6, _, wS7, _, wS8, _, wS9, _, wT0, b, c, e⟩) Q := by
  intro n
  induction n with
  | zero =>
    intro b c e k h1 h2 Q
    rw [outerSpec_apply]
    show _ ⊢ wp frame (wpE (defs₀ (F := F)) 𝒱₀ d.tc (some (600 * 0))) E (cc1_while1 _ wS4 _ wS0 _ wS1 _ wS2 _ wS3 _ wT1 _ wS5 _ wS6 _ wS7 _ wS8 _ wS9 _ wT0 b c e) Q
    simp only [cc1_while1_eq_skeleton]; unfold cc1_while1_skel
    have ht : ¬ goOn (b, c, e) := not_goOn (by show b.toNat = 40; omega)
    simp only [goOn] at ht
    simp only [ht, ↓reduceIte, Prog.pure_eq_ret]
    iintro ⟨H, Hk⟩
    rw [wp_ret]; imodintro
    simp only [outer]
    iapply Hk $$ H
  | succ n ih =>
    intro b c e k h1 h2 Q
    rw [outerSpec_apply]
    show _ ⊢ wp frame (wpE (defs₀ (F := F)) 𝒱₀ d.tc (some (600 * (n + 1)))) E (cc1_while1 _ wS4 _ wS0 _ wS1 _ wS2 _ wS3 _ wT1 _ wS5 _ wS6 _ wS7 _ wS8 _ wS9 _ wT0 b c e) Q
    simp only [cc1_while1_eq_skeleton]; unfold cc1_while1_skel
    simp only [outer]
    by_cases ht : goOn (b, c, e)
    swap
    · simp only [goOn] at ht
      simp only [goOn, ht, ↓reduceIte, Prog.pure_eq_ret]
      iintro ⟨H, Hk⟩
      rw [wp_ret]; imodintro
      iapply Hk $$ H
    have hb : b.toNat < 40 := goOn_lt (r := (b, c, e)) h1 ht
    have hw : k1_chk1 b := by have := chk_lt b.toNat hb; rwa [ofNat_toNat] at this
    have ha := addi_one (b := b) (by omega)
    simp only [goOn] at ht
    simp only [goOn, ht, ↓reduceIte]
    rw [wp_bind]
    iintro ⟨⟨HX, HY, H12, ⟨%f, H11⟩⟩, Hk⟩
    iapply (part3_wp d b hb hw E (some (600 * (n + 1))) c e X Y k)
    isplitl [HX]; · iexact HX
    isplitl [HY]; · iexact HY
    isplitl [H12]; · iexact H12
    iintro ⟨HX, ⟨H5, H6, H7, H8, H9⟩, H12⟩
    simp only [k1_part4_eq_skeleton, k1_part5_eq_skeleton, k1_part6_eq_skeleton, k1_part7_eq_skeleton]
    unfold k1_part4_skel k1_part5_skel k1_part6_skel k1_part7_skel
    simp only [Prog.lift, Prog.bind_op, Prog.bind_ret, Prog.pure_eq_ret]
    iapply (wp_load 𝒱₀ d.tc (some (600 * (n + 1))) E (m := Memref.whole cc1_stg5_0) (Finset.subset_univ _)) $$ H5; iintro H5
    iapply (wp_load 𝒱₀ d.tc (some (600 * (n + 1))) E (m := Memref.whole cc1_stg6_0) (Finset.subset_univ _)) $$ H6; iintro H6
    iapply (wp_load 𝒱₀ d.tc (some (600 * (n + 1))) E (m := Memref.whole cc1_stg7_0) (Finset.subset_univ _)) $$ H7; iintro H7
    iapply (wp_load 𝒱₀ d.tc (some (600 * (n + 1))) E (m := Memref.whole cc1_stg8_0) (Finset.subset_univ _)) $$ H8; iintro H8
    rw [readAt_rows _ _ b.toNat (off4_b b hb) hb, readAt_rows _ _ b.toNat (off4_b b hb) hb, readAt_rows _ _ b.toNat (off4_b b hb) hb, readAt_rows _ _ b.toNat (off4_b b hb) hb]
    simp only [Memref.view_whole, View.read_whole]
    iapply (wp_load 𝒱₀ d.tc (some (600 * (n + 1))) E (m := Memref.whole cc1_scratch0) (Finset.subset_univ _)) $$ H11; iintro H11
    iapply (wp_store 𝒱₀ d.tc (some (600 * (n + 1))) E (m := Memref.whole cc1_scratch0) (r := Rect.unit (s := S512x512) ![0, 0] S512x128.size inb_S512x512_S512x128_0_0) (Mk := Finset.univ) (Finset.subset_univ _)) $$ H11; iintro H11
    iapply (wp_load 𝒱₀ d.tc (some (600 * (n + 1))) E (m := Memref.whole cc1_scratch0) (Finset.subset_univ _)) $$ H11; iintro H11
    iapply (wp_store 𝒱₀ d.tc (some (600 * (n + 1))) E (m := Memref.whole cc1_scratch0) (r := Rect.unit (s := S512x512) ![0, 128] S512x128.size inb_S512x512_S512x128_0_128) (Mk := Finset.univ) (Finset.subset_univ _)) $$ H11; iintro H11
    iapply (wp_load 𝒱₀ d.tc (some (600 * (n + 1))) E (m := Memref.whole cc1_scratch0) (Finset.subset_univ _)) $$ H11; iintro H11
    iapply (wp_store 𝒱₀ d.tc (some (600 * (n + 1))) E (m := Memref.whole cc1_scratch0) (r := Rect.unit (s := S512x512) ![0, 256] S512x128.size inb_S512x512_S512x128_0_256) (Mk := Finset.univ) (Finset.subset_univ _)) $$ H11; iintro H11
    iapply (wp_load 𝒱₀ d.tc (some (600 * (n + 1))) E (m := Memref.whole cc1_scratch0) (Finset.subset_univ _)) $$ H11; iintro H11
    iapply (wp_store 𝒱₀ d.tc (some (600 * (n + 1))) E (m := Memref.whole cc1_scratch0) (r := Rect.unit (s := S512x512) ![0, 384] S512x128.size inb_S512x512_S512x128_0_384) (Mk := Finset.univ) (Finset.subset_univ _)) $$ H11; iintro H11
    iapply (wp_call_spec 𝒱₀ d.tc (some (600 * (n + 1))) E
      (innerSpec d (sqAt X Y b.toNat) (alive X Y k b.toNat) 514 (0#32, k1_pay4 (alive X Y k b.toNat), 1#32)) 514
      (fun u hu => by cases hu; show 514 < 600 * (n + 1); omega) (inner_le d E b hw _ _ 514 _ _ _ (by decide) (by decide)))
    rw [innerSpec_apply]
    isplitl [H11]
    · istop
      exact Entails.of_eq (congrArg (tl d cc1_scratch0) (square_stores f _ _ _ _ _ _ _ _))
    iintro H11
    iapply (wp_load 𝒱₀ d.tc (some (600 * (n + 1))) E (m := Memref.whole cc1_stg9_0) (Finset.subset_univ _)) $$ H9; iintro H9
    iapply (wp_store 𝒱₀ d.tc (some (600 * (n + 1))) E (m := Memref.whole cc1_stg9_0) (r := Rect.unit (s := S160x128) (k1_off4 b) S4x128.size (k1_off4_inb b hw)) (Mk := Finset.univ) (Finset.subset_univ _)) $$ H9; iintro H9
    iapply (wp_call_spec 𝒱₀ d.tc (some (600 * (n + 1))) E
      (outerSpec d X Y n ((Scalar.addi b 1#32, Scalar.addi c (Scalar.fptosi 32 (k1_pay7 (keptAt X Y k b.toNat))), Scalar.fptosi 32 (k1_pay6 (F := F) (alive0 X b.toNat))),
        setRows k b.toNat (k1_pay5 (keptAt X Y k b.toNat)))) (600 * n)
      (fun u hu => by cases hu; show 600 * n < 600 * (n + 1); omega) (ih _ _ _ _ (by omega) (by omega)))
    rw [outerSpec_apply]
    isplitl [HX H5 H6 H7 H8 H9 H11 H12]
    · isplitl [HX]; · iexact HX
      isplitl [H5 H6 H7 H8 H9]
      · isplitl [H5]; · iexact H5
        isplitl [H6]; · iexact H6
        isplitl [H7]; · iexact H7
        isplitl [H8]; · iexact H8
        istop
        refine Entails.of_eq (congrArg (tl d cc1_stg9_0) ?_)
        refine (View.write_whole_slice_unit cc1_stg9_0 (k1_off4 b) S4x128.size (k1_off4_inb b hw) _ _).trans ?_
        exact update_rows _ _ b.toNat (off4_b b hb) _
      isplitl [H12]; · iexact H12
      iexists _; iexact H11
    iintro H
    rw [wp_ret]; imodintro
    iapply Hk $$ H

end Cert.KernelIdeal.Prf

end
-- ==== Proof.PI.Bodies.lean ====
/-
  The bodies of the two TensorCore calls, on their staging buffers held whole.
-/
module

public import proofs.«01_k».proof.Proof.PI.Walk

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

variable {F : FTy → Type} [FloatOps F]

variable (d : Dev nD)

/-! ## The preparation -/

/-- What the preparation writes, from its five inputs: the clipped coordinates, the weighted scores and the keys. -/
def prepOut (f : Fin 5 → A160 F) : Fin 6 → A160 F
  | 0 => k0_pay2 (f 0) | 1 => k0_pay4 (f 1) | 2 => k0_pay3 (f 2) | 3 => k0_pay5 (f 3) | 4 => k0_pay6 (f 4)
  | 5 => k0_pay1 (k0_pay7 (f 0) (f 2) (f 1) (f 3) (f 4))

/-- The preparation's staging buffers: the inputs, and the outputs at `g`. -/
abbrev HP (f : Fin 5 → A160 F) (g : Fin 6 → A160 F) : sProp (MM F) :=
  iprop(tl d cc0_stg0_0 (f 0) ∗ tl d cc0_stg1_0 (f 1) ∗ tl d cc0_stg2_0 (f 2) ∗ tl d cc0_stg3_0 (f 3) ∗ tl d cc0_stg4_0 (f 4) ∗ tl d cc0_stg5_0 (g 0) ∗ tl d cc0_stg6_0 (g 1) ∗ tl d cc0_stg7_0 (g 2) ∗ tl d cc0_stg8_0 (g 3) ∗ tl d cc0_stg9_0 (g 4) ∗ tl d cc0_stg10_0 (g 5))

private theorem pay7_congr {a a' b b' c c' x x' y y' : A160 F} (ha : a = a') (hb : b = b') (hc : c = c') (hx : x = x') (hy : y = y') :
    k0_pay1 (k0_pay7 a b c x y) = k0_pay1 (k0_pay7 a' b' c' x' y') := by subst ha hb hc hx hy; rfl

set_option maxHeartbeats 4000000 in
/-- The preparation's body writes `prepOut` of its inputs. -/
theorem prep_wp (E : Set ℕ) (bd : Option 𝒱₀.V) (f : Fin 5 → A160 F) (g : Fin 6 → A160 F) (Q : PUnit → sProp (MM F)) :
    iprop(HP d f g ∗ (HP d f (prepOut f) -∗ Q ⟨⟩))
      ⊢ wp frame (wpE (defs₀ (F := F)) 𝒱₀ d.tc bd) E
          (cc0__prep_body _ wP0 _ wP1 _ wP2 _ wP3 _ wP4 _ wP5 _ wP6 _ wP7 _ wP8 _ wP9 _ wP10) Q := by
  simp only [cc0__prep_body_eq_skeleton]; unfold cc0__prep_body_skel
  simp only [k0_part1_eq_skeleton]; unfold k0_part1_skel
  simp only [Prog.lift, Prog.bind_op, Prog.bind_ret, Prog.pure_eq_ret]
  iintro ⟨⟨H0, H1, H2, H3, H4, H5, H6, H7, H8, H9, H10⟩, Hk⟩
  iapply (wp_load 𝒱₀ d.tc bd E (m := Memref.whole cc0_stg0_0) (Finset.subset_univ _)) $$ H0; iintro H0
  iapply (wp_load 𝒱₀ d.tc bd E (m := Memref.whole cc0_stg2_0) (Finset.subset_univ _)) $$ H2; iintro H2
  iapply (wp_load 𝒱₀ d.tc bd E (m := Memref.whole cc0_stg1_0) (Finset.subset_univ _)) $$ H1; iintro H1
  iapply (wp_load 𝒱₀ d.tc bd E (m := Memref.whole cc0_stg3_0) (Finset.subset_univ _)) $$ H3; iintro H3
  iapply (wp_load 𝒱₀ d.tc bd E (m := Memref.whole cc0_stg4_0) (Finset.subset_univ _)) $$ H4; iintro H4
  iapply (wp_load 𝒱₀ d.tc bd E (m := Memref.whole cc0_stg5_0) (Finset.subset_univ _)) $$ H5; iintro H5
  iapply (wp_store 𝒱₀ d.tc bd E (m := Memref.whole cc0_stg5_0) (r := Rect.unit (s := S160x128) ![0, 0] S160x128.size inb_S160x128_S160x128_0_0) (Mk := Finset.univ) (Finset.subset_univ _)) $$ H5; iintro H5
  iapply (wp_load 𝒱₀ d.tc bd E (m := Memref.whole cc0_stg6_0) (Finset.subset_univ _)) $$ H6; iintro H6
  iapply (wp_store 𝒱₀ d.tc bd E (m := Memref.whole cc0_stg6_0) (r := Rect.unit (s := S160x128) ![0, 0] S160x128.size inb_S160x128_S160x128_0_0) (Mk := Finset.univ) (Finset.subset_univ _)) $$ H6; iintro H6
  iapply (wp_load 𝒱₀ d.tc bd E (m := Memref.whole cc0_stg7_0) (Finset.subset_univ _)) $$ H7; iintro H7
  iapply (wp_store 𝒱₀ d.tc bd E (m := Memref.whole cc0_stg7_0) (r := Rect.unit (s := S160x128) ![0, 0] S160x128.size inb_S160x128_S160x128_0_0) (Mk := Finset.univ) (Finset.subset_univ _)) $$ H7; iintro H7
  iapply (wp_load 𝒱₀ d.tc bd E (m := Memref.whole cc0_stg8_0) (Finset.subset_univ _)) $$ H8; iintro H8
  iapply (wp_store 𝒱₀ d.tc bd E (m := Memref.whole cc0_stg8_0) (r := Rect.unit (s := S160x128) ![0, 0] S160x128.size inb_S160x128_S160x128_0_0) (Mk := Finset.univ) (Finset.subset_univ _)) $$ H8; iintro H8
  iapply (wp_load 𝒱₀ d.tc bd E (m := Memref.whole cc0_stg9_0) (Finset.subset_univ _)) $$ H9; iintro H9
  iapply (wp_store 𝒱₀ d.tc bd E (m := Memref.whole cc0_stg9_0) (r := Rect.unit (s := S160x128) ![0, 0] S160x128.size inb_S160x128_S160x128_0_0) (Mk := Finset.univ) (Finset.subset_univ _)) $$ H9; iintro H9
  iapply (wp_load 𝒱₀ d.tc bd E (m := Memref.whole cc0_stg10_0) (Finset.subset_univ _)) $$ H10; iintro H10
  iapply (wp_store 𝒱₀ d.tc bd E (m := Memref.whole cc0_stg10_0) (r := Rect.unit (s := S160x128) ![0, 0] S160x128.size inb_S160x128_S160x128_0_0) (Mk := Finset.univ) (Finset.subset_univ _)) $$ H10; iintro H10
  rw [wp_ret]; imodintro
  iapply Hk
  isplitl [H0]; · iexact H0
  isplitl [H1]; · iexact H1
  isplitl [H2]; · iexact H2
  isplitl [H3]; · iexact H3
  isplitl [H4]; · iexact H4
  isplitl [H5]
  · istop; exact Entails.of_eq (congrArg (tl d cc0_stg5_0) ((Memref.write_access_unit_zero_univ (Elt F) cc0_stg5_0 zero_off2 inb_S160x128_S160x128_0_0 _ _).trans
      (congrArg k0_pay2 (Memref.readAt_unit_zero (Elt F) cc0_stg0_0 zero_off2 inb_S160x128_S160x128_0_0 (f 0)))))
  isplitl [H6]
  · istop; exact Entails.of_eq (congrArg (tl d cc0_stg6_0) ((Memref.write_access_unit_zero_univ (Elt F) cc0_stg6_0 zero_off2 inb_S160x128_S160x128_0_0 _ _).trans
      (congrArg k0_pay4 (Memref.readAt_unit_zero (Elt F) cc0_stg1_0 zero_off2 inb_S160x128_S160x128_0_0 (f 1)))))
  isplitl [H7]
  · istop; exact Entails.of_eq (congrArg (tl d cc0_stg7_0) ((Memref.write_access_unit_zero_univ (Elt F) cc0_stg7_0 zero_off2 inb_S160x128_S160x128_0_0 _ _).trans
      (congrArg k0_pay3 (Memref.readAt_unit_zero (Elt F) cc0_stg2_0 zero_off2 inb_S160x128_S160x128_0_0 (f 2)))))
  isplitl [H8]
  · istop; exact Entails.of_eq (congrArg (tl d cc0_stg8_0) ((Memref.write_access_unit_zero_univ (Elt F) cc0_stg8_0 zero_off2 inb_S160x128_S160x128_0_0 _ _).trans
      (congrArg k0_pay5 (Memref.readAt_unit_zero (Elt F) cc0_stg3_0 zero_off2 inb_S160x128_S160x128_0_0 (f 3)))))
  isplitl [H9]
  · istop; exact Entails.of_eq (congrArg (tl d cc0_stg9_0) ((Memref.write_access_unit_zero_univ (Elt F) cc0_stg9_0 zero_off2 inb_S160x128_S160x128_0_0 _ _).trans
      (congrArg k0_pay6 (Memref.readAt_unit_zero (Elt F) cc0_stg4_0 zero_off2 inb_S160x128_S160x128_0_0 (f 4)))))
  istop; exact Entails.of_eq (congrArg (tl d cc0_stg10_0) ((Memref.write_access_unit_zero_univ (Elt F) cc0_stg10_0 zero_off2 inb_S160x128_S160x128_0_0 _ _).trans
      (pay7_congr (Memref.readAt_unit_zero (Elt F) cc0_stg0_0 zero_off2 inb_S160x128_S160x128_0_0 (f 0)) (Memref.readAt_unit_zero (Elt F) cc0_stg2_0 zero_off2 inb_S160x128_S160x128_0_0 (f 2)) (Memref.readAt_unit_zero (Elt F) cc0_stg1_0 zero_off2 inb_S160x128_S160x128_0_0 (f 1)) (Memref.readAt_unit_zero (Elt F) cc0_stg3_0 zero_off2 inb_S160x128_S160x128_0_0 (f 3)) (Memref.readAt_unit_zero (Elt F) cc0_stg4_0 zero_off2 inb_S160x128_S160x128_0_0 (f 4)))))

/-! ## The scan -/

set_option maxHeartbeats 4000000 in
/-- The scan's body writes the flags and the number of blocks it walked. -/
theorem scan_wp (E : Set ℕ) (X : Fin 5 → A20480 F) (Y : Fin 4 → A160 F) (k : A160 F) (e : S8x128.Idx → F .f32) (Q : PUnit → sProp (MM F)) :
    iprop(Held d X Y k ∗ tl d cc1_stg10_0 e ∗ (Held d X Y (scanRes X Y) -∗ tl d cc1_stg10_0 (scanEnd X Y) -∗ Q ⟨⟩))
      ⊢ wp frame (wpE (defs₀ (F := F)) 𝒱₀ d.tc none) E
          (cc1__scan_body _ wS0 _ wS1 _ wS2 _ wS3 _ wS4 _ wS5 _ wS6 _ wS7 _ wS8 _ wS9 _ wS10 _ wT0 _ wT1) Q := by
  simp only [cc1__scan_body_eq_skeleton]; unfold cc1__scan_body_skel
  simp only [Prog.lift, Prog.bind_op, Prog.bind_ret, Prog.pure_eq_ret]
  iintro ⟨⟨HX, ⟨H5, H6, H7, H8, H9⟩, H12, H11⟩, H10, Hk⟩
  iapply (wp_load 𝒱₀ d.tc none E (m := Memref.whole cc1_stg9_0) (Finset.subset_univ _)) $$ H9; iintro H9
  iapply (wp_store 𝒱₀ d.tc none E (m := Memref.whole cc1_stg9_0) (r := Rect.unit (s := S160x128) ![0, 0] S160x128.size inb_S160x128_S160x128_0_0) (Mk := Finset.univ) (Finset.subset_univ _)) $$ H9; iintro H9
  iapply (wp_call_spec 𝒱₀ d.tc none E
    (outerSpec d X Y 40 ((0#32, 0#32, 1#32), k1_pay1)) (600 * 40)
    (fun u hu => nomatch hu) (outer_le d E X Y 40 _ _ _ _ (by decide) (by decide)))
  rw [outerSpec_apply]
  isplitl [HX H5 H6 H7 H8 H9 H11 H12]
  · isplitl [HX]; · iexact HX
    isplitl [H5 H6 H7 H8 H9]
    · isplitl [H5]; · iexact H5
      isplitl [H6]; · iexact H6
      isplitl [H7]; · iexact H7
      isplitl [H8]; · iexact H8
      istop; exact Entails.of_eq (congrArg (tl d cc1_stg9_0) (Memref.write_access_unit_zero_univ (Elt F) cc1_stg9_0 zero_off2 inb_S160x128_S160x128_0_0 _ _))
    isplitl [H12]; · iexact H12
    iexact H11
  iintro H
  iapply (wp_load 𝒱₀ d.tc none E (m := Memref.whole cc1_stg10_0) (Finset.subset_univ _)) $$ H10; iintro H10
  iapply (wp_store 𝒱₀ d.tc none E (m := Memref.whole cc1_stg10_0) (r := Rect.unit (s := S8x128) ![0, 0] S8x128.size inb_S8x128_S8x128_0_0) (Mk := Finset.univ) (Finset.subset_univ _)) $$ H10; iintro H10
  rw [wp_ret]; imodintro
  iapply Hk $$ [H] [H10]
  · iexact H
  istop; exact Entails.of_eq (congrArg (tl d cc1_stg10_0) (Memref.write_access_unit_zero_univ (Elt F) cc1_stg10_0 zero_off2 inb_S8x128_S8x128_0_0 _ _))

end Cert.KernelIdeal.Prf

end
-- ==== Proof.PI.Data.lean ====
/-
  The two TensorCore calls: their proof data, from a valuation of the unscoped
  buffers, and the obligations of their bodies.
-/
module

public import proofs.«01_k».proof.Proof.PI.Bodies
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

open Idealize.ShloMosaic.TcCoe
open Idealize.ShloMosaic.Pipeline (Dat BodyObligation)

variable {F : FTy → Type} [FloatOps F]

/-- The pairs the host's threads may have recorded before the SparseCore call. -/
def recs (d : Dev nD) : Set (SemLoc sig × HIx 1) := {p | (K (F := F)).lev ((SparseCore.T d : Thread nD τ), p.1) p.2 ≤ 0}

/-- The host's dues before the SparseCore call. -/
def tcOwes (d : Dev nD) : sProp (MM F) :=
  iprop(∃ W, ⌜(K (F := F)).WBelow (SparseCore.T d : Thread nD τ) W 0⌝ ∗ owes (SparseCore.T d : Thread nD τ) ((K (F := F)).Otc d 0) W)

/-- A whole buffer owned is it held at those contents. -/
theorem owns_whole_eq (c : Dev nD) (b : Ref sig .tc) (X : b.ty.shape.Idx → Elt F b.ty.elt) :
    (owns (c.tc : Thread nD τ) (Memref.whole b) fullShare X : sProp (MM F)) = iprop(∃ f, ⌜f = X⌝ ∗ tl c b f) := by
  unfold owns
  simp only [Memref.view_whole, View.read_whole, View.set_whole]

abbrev adm : (p : Fin 2) → (pcfgs (F := F) p).Adm := fun p => (cfgs p).toPCfg_adm

/-- The preparation's inputs at a valuation. -/
abbrev prepIn (W : Valuation τ sig (Elt F)) : Fin 5 → A160 F
  | 0 => W main_v3
  | 1 => W main_v7
  | 2 => W main_v11
  | 3 => W main_v15
  | 4 => W main_v17

/-- The scan's columns at a valuation. -/
abbrev scanIn (W : Valuation τ sig (Elt F)) : Fin 5 → A20480 F
  | 0 => W main_v26
  | 1 => W main_v27
  | 2 => W main_v28
  | 3 => W main_v29
  | 4 => W main_v30

/-- The scan's rows at a valuation. -/
abbrev scanRow (W : Valuation τ sig (Elt F)) : Fin 4 → A160 F
  | 0 => W main_v31
  | 1 => W main_v32
  | 2 => W main_v33
  | 3 => W main_v34

/-- The proof data of the preparation: its arrays at the valuation, its staging buffers as fetched or as the body leaves them. -/
def dat0 (W : Valuation τ sig (Elt F)) (d : Dev nD) : Dat τ (Elt F) (HIx 1) ℕ UU ℕ (cfg0 (F := F)) d where
  A w := W (Pipeline.arrRef spec0 w)
  after w _ := match w with
    | ⟨0, _⟩ => W main_v3
    | ⟨1, _⟩ => W main_v7
    | ⟨2, _⟩ => W main_v11
    | ⟨3, _⟩ => W main_v15
    | ⟨4, _⟩ => W main_v17
    | ⟨5, _⟩ => prepOut (prepIn W) 0
    | ⟨6, _⟩ => prepOut (prepIn W) 1
    | ⟨7, _⟩ => prepOut (prepIn W) 2
    | ⟨8, _⟩ => prepOut (prepIn W) 3
    | ⟨9, _⟩ => prepOut (prepIn W) 4
    | ⟨10, _⟩ => prepOut (prepIn W) 5
  Φ _ := Pipeline.scopedRest spec0 d
  q _ := fullShare
  owed _ := (K (F := F)).Otc d 0
  recorded _ := recs (F := F) d

/-- The proof data of the scan: its arrays at the valuation, its staging buffers as fetched or as the body leaves them. -/
def dat1 (W : Valuation τ sig (Elt F)) (d : Dev nD) : Dat τ (Elt F) (HIx 1) ℕ UU ℕ (cfg1 (F := F)) d where
  A w := W (Pipeline.arrRef spec1 w)
  after w _ := match w with
    | ⟨0, _⟩ => W main_v26
    | ⟨1, _⟩ => W main_v27
    | ⟨2, _⟩ => W main_v28
    | ⟨3, _⟩ => W main_v29
    | ⟨4, _⟩ => W main_v30
    | ⟨5, _⟩ => W main_v31
    | ⟨6, _⟩ => W main_v32
    | ⟨7, _⟩ => W main_v33
    | ⟨8, _⟩ => W main_v34
    | ⟨9, _⟩ => scanRes (scanIn W) (scanRow W)
    | ⟨10, _⟩ => scanEnd (scanIn W) (scanRow W)
  Φ _ := Pipeline.scopedRest spec1 d
  q _ := fullShare
  owed _ := (K (F := F)).Otc d 0
  recorded _ := recs (F := F) d

/-- The two calls' proof data. -/
def pdats (W : Valuation τ sig (Elt F)) : (p : Fin 2) → (d : Dev nD) → Dat τ (Elt F) (HIx 1) ℕ UU ℕ (Pipeline.pin (pcfgs (F := F)) adm p) d
  | ⟨0, _⟩ => fun d => dat0 W d
  | ⟨1, _⟩ => fun d => dat1 W d

/-! ## What a fetch leaves -/

theorem before0_0 (W : Valuation τ sig (Elt F)) (d : Dev nD) (x) : (dat0 W d).before 0 t0_0 x = W main_v3 := by
  unfold Dat.before; rw [if_pos (fetch0_0 _)]
  refine Eq.trans (b := (win0_0.blk t0_0).view.read (Elt F) (W main_v3)) rfl ?_
  exact Memref.read_access_unit_zero (Elt F) main_v3 (by funext a; fin_cases a <;> rfl) _ _
theorem before0_1 (W : Valuation τ sig (Elt F)) (d : Dev nD) (x) : (dat0 W d).before 1 t0_0 x = W main_v7 := by
  unfold Dat.before; rw [if_pos (fetch0_1 _)]
  refine Eq.trans (b := (win0_1.blk t0_0).view.read (Elt F) (W main_v7)) rfl ?_
  exact Memref.read_access_unit_zero (Elt F) main_v7 (by funext a; fin_cases a <;> rfl) _ _
theorem before0_2 (W : Valuation τ sig (Elt F)) (d : Dev nD) (x) : (dat0 W d).before 2 t0_0 x = W main_v11 := by
  unfold Dat.before; rw [if_pos (fetch0_2 _)]
  refine Eq.trans (b := (win0_2.blk t0_0).view.read (Elt F) (W main_v11)) rfl ?_
  exact Memref.read_access_unit_zero (Elt F) main_v11 (by funext a; fin_cases a <;> rfl) _ _
theorem before0_3 (W : Valuation τ sig (Elt F)) (d : Dev nD) (x) : (dat0 W d).before 3 t0_0 x = W main_v15 := by
  unfold Dat.before; rw [if_pos (fetch0_3 _)]
  refine Eq.trans (b := (win0_3.blk t0_0).view.read (Elt F) (W main_v15)) rfl ?_
  exact Memref.read_access_unit_zero (Elt F) main_v15 (by funext a; fin_cases a <;> rfl) _ _
theorem before0_4 (W : Valuation τ sig (Elt F)) (d : Dev nD) (x) : (dat0 W d).before 4 t0_0 x = W main_v17 := by
  unfold Dat.before; rw [if_pos (fetch0_4 _)]
  refine Eq.trans (b := (win0_4.blk t0_0).view.read (Elt F) (W main_v17)) rfl ?_
  exact Memref.read_access_unit_zero (Elt F) main_v17 (by funext a; fin_cases a <;> rfl) _ _
theorem before1_0 (W : Valuation τ sig (Elt F)) (d : Dev nD) (x) : (dat1 W d).before 0 t1_0 x = W main_v26 := by
  unfold Dat.before; rw [if_pos (fetch1_0 _)]
  refine Eq.trans (b := (win1_0.blk t1_0).view.read (Elt F) (W main_v26)) rfl ?_
  exact Memref.read_access_unit_zero (Elt F) main_v26 (by funext a; fin_cases a <;> rfl) _ _
theorem before1_1 (W : Valuation τ sig (Elt F)) (d : Dev nD) (x) : (dat1 W d).before 1 t1_0 x = W main_v27 := by
  unfold Dat.before; rw [if_pos (fetch1_1 _)]
  refine Eq.trans (b := (win1_1.blk t1_0).view.read (Elt F) (W main_v27)) rfl ?_
  exact Memref.read_access_unit_zero (Elt F) main_v27 (by funext a; fin_cases a <;> rfl) _ _
theorem before1_2 (W : Valuation τ sig (Elt F)) (d : Dev nD) (x) : (dat1 W d).before 2 t1_0 x = W main_v28 := by
  unfold Dat.before; rw [if_pos (fetch1_2 _)]
  refine Eq.trans (b := (win1_2.blk t1_0).view.read (Elt F) (W main_v28)) rfl ?_
  exact Memref.read_access_unit_zero (Elt F) main_v28 (by funext a; fin_cases a <;> rfl) _ _
theorem before1_3 (W : Valuation τ sig (Elt F)) (d : Dev nD) (x) : (dat1 W d).before 3 t1_0 x = W main_v29 := by
  unfold Dat.before; rw [if_pos (fetch1_3 _)]
  refine Eq.trans (b := (win1_3.blk t1_0).view.read (Elt F) (W main_v29)) rfl ?_
  exact Memref.read_access_unit_zero (Elt F) main_v29 (by funext a; fin_cases a <;> rfl) _ _
theorem before1_4 (W : Valuation τ sig (Elt F)) (d : Dev nD) (x) : (dat1 W d).before 4 t1_0 x = W main_v30 := by
  unfold Dat.before; rw [if_pos (fetch1_4 _)]
  refine Eq.trans (b := (win1_4.blk t1_0).view.read (Elt F) (W main_v30)) rfl ?_
  exact Memref.read_access_unit_zero (Elt F) main_v30 (by funext a; fin_cases a <;> rfl) _ _
theorem before1_5 (W : Valuation τ sig (Elt F)) (d : Dev nD) (x) : (dat1 W d).before 5 t1_0 x = W main_v31 := by
  unfold Dat.before; rw [if_pos (fetch1_5 _)]
  refine Eq.trans (b := (win1_5.blk t1_0).view.read (Elt F) (W main_v31)) rfl ?_
  exact Memref.read_access_unit_zero (Elt F) main_v31 (by funext a; fin_cases a <;> rfl) _ _
theorem before1_6 (W : Valuation τ sig (Elt F)) (d : Dev nD) (x) : (dat1 W d).before 6 t1_0 x = W main_v32 := by
  unfold Dat.before; rw [if_pos (fetch1_6 _)]
  refine Eq.trans (b := (win1_6.blk t1_0).view.read (Elt F) (W main_v32)) rfl ?_
  exact Memref.read_access_unit_zero (Elt F) main_v32 (by funext a; fin_cases a <;> rfl) _ _
theorem before1_7 (W : Valuation τ sig (Elt F)) (d : Dev nD) (x) : (dat1 W d).before 7 t1_0 x = W main_v33 := by
  unfold Dat.before; rw [if_pos (fetch1_7 _)]
  refine Eq.trans (b := (win1_7.blk t1_0).view.read (Elt F) (W main_v33)) rfl ?_
  exact Memref.read_access_unit_zero (Elt F) main_v33 (by funext a; fin_cases a <;> rfl) _ _
theorem before1_8 (W : Valuation τ sig (Elt F)) (d : Dev nD) (x) : (dat1 W d).before 8 t1_0 x = W main_v34 := by
  unfold Dat.before; rw [if_pos (fetch1_8 _)]
  refine Eq.trans (b := (win1_8.blk t1_0).view.read (Elt F) (W main_v34)) rfl ?_
  exact Memref.read_access_unit_zero (Elt F) main_v34 (by funext a; fin_cases a <;> rfl) _ _

set_option maxHeartbeats 4000000 in
set_option backward.isDefEq.respectTransparency.types false in
/-- The body's obligation at its one point. -/
theorem obl0 (W : Valuation τ sig (Elt F)) (d : Dev nD) : BodyObligation (dat0 W d) (defs₀ (F := F)) 𝒱₀ none Set.univ := fun t => by
  obtain rfl := fin_N0 t
  rw [bigSep_W0, bigSep_W0]
  sl_whnfR [defs₀, Defs.onTc]
  simp only [show stage0_0 0 = Memref.whole cc0_stg0_0 from rfl, show stage0_1 0 = Memref.whole cc0_stg1_0 from rfl, show stage0_2 0 = Memref.whole cc0_stg2_0 from rfl, show stage0_3 0 = Memref.whole cc0_stg3_0 from rfl, show stage0_4 0 = Memref.whole cc0_stg4_0 from rfl, show stage0_5 0 = Memref.whole cc0_stg5_0 from rfl, show stage0_6 0 = Memref.whole cc0_stg6_0 from rfl, show stage0_7 0 = Memref.whole cc0_stg7_0 from rfl, show stage0_8 0 = Memref.whole cc0_stg8_0 from rfl, show stage0_9 0 = Memref.whole cc0_stg9_0 from rfl, show stage0_10 0 = Memref.whole cc0_stg10_0 from rfl]
  simp only [owns_whole_eq]
  rw [show (dat0 W d).Φ t0_0.castSucc = Pipeline.scopedRest spec0 d from rfl, show (dat0 W d).Φ t0_0.succ = Pipeline.scopedRest spec0 d from rfl,
    show (dat0 W d).owesAt none t0_0.succ = (dat0 W d).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩
  rw [before0_0] at hf0; subst hf0
  rw [before0_1] at hf1; subst hf1
  rw [before0_2] at hf2; subst hf2
  rw [before0_3] at hf3; subst hf3
  rw [before0_4] at hf4; subst hf4
  iapply (prep_wp d Set.univ none (prepIn W) (fun | 0 => f5 | 1 => f6 | 2 => f7 | 3 => f8 | 4 => f9 | 5 => f10) _)
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro ⟨H0, H1, H2, H3, H4, H5, H6, H7, H8, H9, H10⟩
  isplitl [HΦ]; · iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  isplitl [H6]; · iexists _; isplitr; swap; (· iexact H6); ipureintro; dsimp only [dat0]
  isplitl [H7]; · iexists _; isplitr; swap; (· iexact H7); ipureintro; dsimp only [dat0]
  isplitl [H8]; · iexists _; isplitr; swap; (· iexact H8); ipureintro; dsimp only [dat0]
  isplitl [H9]; · iexists _; isplitr; swap; (· iexact H9); ipureintro; dsimp only [dat0]
  iexists _; isplitr; swap; (· iexact H10); ipureintro; dsimp only [dat0]

set_option maxHeartbeats 4000000 in
set_option backward.isDefEq.respectTransparency.types false in
/-- The body's obligation at its one point. -/
theorem obl1 (W : Valuation τ sig (Elt F)) (d : Dev nD) : BodyObligation (dat1 W d) (defs₀ (F := F)) 𝒱₀ none Set.univ := fun t => by
  obtain rfl := fin_N1 t
  rw [bigSep_W1, bigSep_W1]
  sl_whnfR [defs₀, Defs.onTc]
  simp only [show stage1_0 0 = Memref.whole cc1_stg0_0 from rfl, show stage1_1 0 = Memref.whole cc1_stg1_0 from rfl, show stage1_2 0 = Memref.whole cc1_stg2_0 from rfl, show stage1_3 0 = Memref.whole cc1_stg3_0 from rfl, show stage1_4 0 = Memref.whole cc1_stg4_0 from rfl, show stage1_5 0 = Memref.whole cc1_stg5_0 from rfl, show stage1_6 0 = Memref.whole cc1_stg6_0 from rfl, show stage1_7 0 = Memref.whole cc1_stg7_0 from rfl, show stage1_8 0 = Memref.whole cc1_stg8_0 from rfl, show stage1_9 0 = Memref.whole cc1_stg9_0 from rfl, show stage1_10 0 = Memref.whole cc1_stg10_0 from rfl]
  simp only [owns_whole_eq]
  rw [show (dat1 W d).Φ t1_0.castSucc = Pipeline.scopedRest spec1 d from rfl, show (dat1 W d).Φ t1_0.succ = Pipeline.scopedRest spec1 d from rfl,
    show (dat1 W d).owesAt none t1_0.succ = (dat1 W d).owesAt none t1_0.castSucc from rfl]
  rw [scopedRest1_eq]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, -, H9⟩, ⟨%d10, %f10, -, H10⟩⟩
  rw [before1_0] at hf0; subst hf0
  rw [before1_1] at hf1; subst hf1
  rw [before1_2] at hf2; subst hf2
  rw [before1_3] at hf3; subst hf3
  rw [before1_4] at hf4; subst hf4
  rw [before1_5] at hf5; subst hf5
  rw [before1_6] at hf6; subst hf6
  rw [before1_7] at hf7; subst hf7
  rw [before1_8] at hf8; subst hf8
  icases HΦ with ⟨R0, R1, R2, R3, R4, R5, R6, R7, R8, R9, R10, HA, HB⟩
  iapply (scan_wp d Set.univ (scanIn W) (scanRow W) f9 f10 _)
  isplitl [H0 H1 H2 H3 H4 H5 H6 H7 H8 H9 HA HB]
  · isplitl [H0 H1 H2 H3 H4]
    · isplitl [H0]; · iexact H0
      isplitl [H1]; · iexact H1
      isplitl [H2]; · iexact H2
      isplitl [H3]; · iexact H3
      iexact H4
    isplitl [H5 H6 H7 H8 H9]
    · isplitl [H5]; · iexact H5
      isplitl [H6]; · iexact H6
      isplitl [H7]; · iexact H7
      isplitl [H8]; · iexact H8
      iexact H9
    isplitl [HB]; · iexact HB
    iexact HA
  isplitl [H10]; · iexact H10
  iintro ⟨⟨H0, H1, H2, H3, H4⟩, ⟨H5, H6, H7, H8, H9⟩, HB, HA⟩ H10
  isplitl [R0 R1 R2 R3 R4 R5 R6 R7 R8 R9 R10 HA HB]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HA]; · iexact HA
    iexact HB
  isplitl [Howes]; · iexact Howes
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  isplitl [H4]; · iexists _; isplitr; swap; (· iexact H4); ipureintro; dsimp only [dat1]
  isplitl [H5]; · iexists _; isplitr; swap; (· iexact H5); ipureintro; dsimp only [dat1]
  isplitl [H6]; · iexists _; isplitr; swap; (· iexact H6); ipureintro; dsimp only [dat1]
  isplitl [H7]; · iexists _; isplitr; swap; (· iexact H7); ipureintro; dsimp only [dat1]
  isplitl [H8]; · iexists _; isplitr; swap; (· iexact H8); ipureintro; dsimp only [dat1]
  isplitl [H9]; · iexists _; isplitr; swap; (· iexact H9); ipureintro; dsimp only [dat1]
  iexists _; isplitr; swap; (· iexact H10); ipureintro; dsimp only [dat1]

end Cert.KernelIdeal.Prf

end
-- ==== Proof.PI.Region.lean ====
/-
  The two TensorCore calls as steps of the host program: from every unscoped buffer at a valuation to the same at that
  valuation with the call's outputs.
-/
module

public import proofs.«01_k».proof.Proof.PI.Data

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

open Idealize.ShloMosaic.TcCoe
open Idealize.ShloMosaic.Pipeline (Dat BodyObligation)

variable {F : FTy → Type} [FloatOps F]

/-- A wait outside the call's protocol sits at the bottom level. -/
theorem lev_none (g : GSem nD τ sig) : (K (F := F)).lev g none = 0 := rfl

/-- What the host owes the SparseCore sits above the bottom level. -/
theorem Otc_lev (d : Dev nD) (g : GSem nD τ sig) (i : HIx 1) (h : 0 < (K (F := F)).Otc d 0 g i) : i ∈ (K (F := F)).L g ∧ 0 < (K (F := F)).lev g i := by
  refine ⟨Finset.mem_univ _, ?_⟩
  cases i with
  | some q => exact (K (F := F)).lev_some_pos g q
  | none =>
    exfalso
    unfold SparseCore.Cfg.Otc at h
    simp [tallyAt_apply] at h

/-- A TensorCore call entered from the unscoped buffers at `W` and left with them at `W'`. -/
def seg (p : Fin 2) (lf : Pipeline.LaunchFacts (nD := nD) (τ := τ) (cfgs (F := F)) p) (W W' : Valuation τ sig (Elt F))
    (hb : ∀ d, BodyObligation (pdats W p d) (defs₀ (F := F)) 𝒱₀ none Set.univ)
    (hA : ∀ d w, (pdats W p d).A w = W (Pipeline.arrRef (Pipeline.pin (pcfgs (F := F)) adm p).spec w))
    (hq : ∀ d w, (pdats W p d).q w = fullShare)
    (howed : ∀ d t, (pdats W p d).owed t = (K (F := F)).Otc d 0)
    (hrec : ∀ d t, (pdats W p d).recorded t = recs (F := F) d)
    (hΦ : ∀ d t, (pdats W p d).Φ t = Pipeline.scopedRest (Pipeline.pin (pcfgs (F := F)) adm p).spec d)
    (hout : ∀ d w, (pdats W p d).arrAt w (Pipeline.pin (pcfgs (F := F)) adm p).N = W' (Pipeline.arrRef (Pipeline.pin (pcfgs (F := F)) adm p).spec w))
    (hrest : ∀ b : Ref sig .tc, b ∉ Finset.univ.image (Pipeline.arrRef (Pipeline.pin (pcfgs (F := F)) adm p).spec) → W' b = W b) :
    Pipeline.RegionSeg (pcfgs (F := F)) adm (pdats W) none (defs₀ (F := F)) 𝒱₀ (K (F := F)).L (K (F := F)).lev p where
  win := lf.win.to₀
  block_pos := lf.block_pos
  stage_whole := lf.stage_whole
  K := PEmpty
  osem k := k.elim
  ho := Pipeline.OwnSemFacts.none _
  hbody d := (hb d).loose
  hwaits d := Pipeline.cellsWaits_of_cut _ _ _ p d 0 ((K (F := F)).Otc d 0) (howed d) (fun _ _ => Finset.mem_univ _) (fun _ _ => le_of_eq (lev_none _)) (Otc_lev d)
  pre d := iprop(unscopedBufs d (fun b => W b) ∗ tcOwes (F := F) d)
  post d := iprop(unscopedBufs d (fun b => W' b) ∗ tcOwes (F := F) d)
  X _ := BI.emp
  Y _ := BI.emp
  Z d := Pipeline.unscopedRest (Pipeline.pin (pcfgs (F := F)) adm p).spec d (fun b => W b)
  hentry d := by
    rw [Pipeline.ownSems0_none]
    have hsplit := Pipeline.arrays_of_unscopedBufs (p := p) (pcfgs (F := F)) adm (pdats W) lf.win lf.arr_whole d
      ((pdats W p d).share_full (hq d)) (fun b => W b) (hA d)
    unfold tcOwes
    iintro ⟨⟨Hub, HO⟩, -, -⟩
    ihave H := hsplit $$ Hub
    icases H with ⟨Ha, Hrest⟩
    icases HO with ⟨%Wt, %hW, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      iexists Wt; isplitr
      · ipureintro; exact fun x hx => Or.inl (by rw [hrec]; exact hW x hx)
      iexact HO
    isplitr; · iempintro
    iexact Hrest
  hin d := by
    rw [hΦ]
    iintro ⟨-, -, Hr⟩; iexact Hr
  hout d := by
    rw [Pipeline.ownSems0_none, hΦ]
    iintro Hr
    isplitr; · iempintro
    isplitr; · iempintro
    iexact Hr
  hexit d := by
    have hjoin := Pipeline.unscopedBufs_of_arrays (p := p) (pcfgs (F := F)) adm (Ix := HIx 1) (Name := ℕ) (U := UU) (Lvl := ℕ) lf.win lf.arr_whole d
      (pdats W) ((pdats W p d).share_full (hq d)) (fun b => W b) (fun b => W' b) ((pdats W p d).arrAt · (Pipeline.pin (pcfgs (F := F)) adm p).N)
      (hout d) hrest
    unfold tcOwes Pipeline.Dat.owesAt Pipeline.owesWithin
    rw [howed]
    iintro ⟨Ha, HO, -, Hrest⟩
    icases HO with ⟨%Wt, %hW, HO⟩
    imodintro
    isplitl [Ha Hrest]
    · iapply hjoin; isplitl [Ha] <;> iassumption
    iexists Wt; isplitr
    · ipureintro
      intro x hx
      rcases hW hx with h | ⟨w, s, rfl⟩
      · rw [hrec] at h; exact h
      · exact le_of_eq (lev_none _)
    iexact HO

/-- The valuation after the preparation. -/
def prepVal (W : Valuation τ sig (Elt F)) : Valuation τ sig (Elt F) :=
  Function.update (Function.update (Function.update (Function.update (Function.update (Function.update W main_v18_0 (prepOut (prepIn W) 0)) main_v18_1 (prepOut (prepIn W) 1)) main_v18_2 (prepOut (prepIn W) 2)) main_v18_3 (prepOut (prepIn W) 3)) main_v18_4 (prepOut (prepIn W) 4)) main_v18_5 (prepOut (prepIn W) 5)

theorem prepVal_ne (W : Valuation τ sig (Elt F)) (b : Ref sig .tc) (h : b ∉ [main_v18_0, main_v18_1, main_v18_2, main_v18_3, main_v18_4, main_v18_5]) : prepVal W b = W b := by
  simp only [List.mem_cons, List.not_mem_nil, or_false, not_or] at h
  have e : ∀ c : Ref sig .tc, b ≠ c → Proc.devRef (τ := τ) .tc b ≠ Proc.devRef .tc c := fun c hc he => hc (Proc.devRef_injective _ he)
  obtain ⟨h0, h1, h2, h3, h4, h5⟩ := h
  unfold prepVal
  rw [Function.update_of_ne (e _ h5), Function.update_of_ne (e _ h4), Function.update_of_ne (e _ h3), Function.update_of_ne (e _ h2), Function.update_of_ne (e _ h1), Function.update_of_ne (e _ h0)]

theorem prepVal_0 (W : Valuation τ sig (Elt F)) : prepVal W main_v18_0 = prepOut (prepIn W) 0 := by
  unfold prepVal; rw [Function.update_of_ne (by decide), Function.update_of_ne (by decide), Function.update_of_ne (by decide), Function.update_of_ne (by decide), Function.update_of_ne (by decide), Function.update_self]

theorem prepVal_1 (W : Valuation τ sig (Elt F)) : prepVal W main_v18_1 = prepOut (prepIn W) 1 := by
  unfold prepVal; rw [Function.update_of_ne (by decide), Function.update_of_ne (by decide), Function.update_of_ne (by decide), Function.update_of_ne (by decide), Function.update_self]

theorem prepVal_2 (W : Valuation τ sig (Elt F)) : prepVal W main_v18_2 = prepOut (prepIn W) 2 := by
  unfold prepVal; rw [Function.update_of_ne (by decide), Function.update_of_ne (by decide), Function.update_of_ne (by decide), Function.update_self]

theorem prepVal_3 (W : Valuation τ sig (Elt F)) : prepVal W main_v18_3 = prepOut (prepIn W) 3 := by
  unfold prepVal; rw [Function.update_of_ne (by decide), Function.update_of_ne (by decide), Function.update_self]

theorem prepVal_4 (W : Valuation τ sig (Elt F)) : prepVal W main_v18_4 = prepOut (prepIn W) 4 := by
  unfold prepVal; rw [Function.update_of_ne (by decide), Function.update_self]

theorem prepVal_5 (W : Valuation τ sig (Elt F)) : prepVal W main_v18_5 = prepOut (prepIn W) 5 := by
  unfold prepVal; rw [Function.update_self]

theorem out0_0 (W : Valuation τ sig (Elt F)) (d : Dev nD) : (dat0 W d).arrAt 5 (cfg0 (F := F)).N = prepVal W main_v18_0 := by
  rw [prepVal_0]
  refine (dat0 W d).arrAt_eq_of_after_last 5 t0_0 (by decide +kernel : win0_5.WholeAt t0_0) _ fun j => ?_
  blk_simp
  rfl

theorem out0_1 (W : Valuation τ sig (Elt F)) (d : Dev nD) : (dat0 W d).arrAt 6 (cfg0 (F := F)).N = prepVal W main_v18_1 := by
  rw [prepVal_1]
  refine (dat0 W d).arrAt_eq_of_after_last 6 t0_0 (by decide +kernel : win0_6.WholeAt t0_0) _ fun j => ?_
  blk_simp
  rfl

theorem out0_2 (W : Valuation τ sig (Elt F)) (d : Dev nD) : (dat0 W d).arrAt 7 (cfg0 (F := F)).N = prepVal W main_v18_2 := by
  rw [prepVal_2]
  refine (dat0 W d).arrAt_eq_of_after_last 7 t0_0 (by decide +kernel : win0_7.WholeAt t0_0) _ fun j => ?_
  blk_simp
  rfl

theorem out0_3 (W : Valuation τ sig (Elt F)) (d : Dev nD) : (dat0 W d).arrAt 8 (cfg0 (F := F)).N = prepVal W main_v18_3 := by
  rw [prepVal_3]
  refine (dat0 W d).arrAt_eq_of_after_last 8 t0_0 (by decide +kernel : win0_8.WholeAt t0_0) _ fun j => ?_
  blk_simp
  rfl

theorem out0_4 (W : Valuation τ sig (Elt F)) (d : Dev nD) : (dat0 W d).arrAt 9 (cfg0 (F := F)).N = prepVal W main_v18_4 := by
  rw [prepVal_4]
  refine (dat0 W d).arrAt_eq_of_after_last 9 t0_0 (by decide +kernel : win0_9.WholeAt t0_0) _ fun j => ?_
  blk_simp
  rfl

theorem out0_5 (W : Valuation τ sig (Elt F)) (d : Dev nD) : (dat0 W d).arrAt 10 (cfg0 (F := F)).N = prepVal W main_v18_5 := by
  rw [prepVal_5]
  refine (dat0 W d).arrAt_eq_of_after_last 10 t0_0 (by decide +kernel : win0_10.WholeAt t0_0) _ fun j => ?_
  blk_simp
  rfl

/-- The valuation after the scan. -/
def scanVal (W : Valuation τ sig (Elt F)) : Valuation τ sig (Elt F) :=
  Function.update (Function.update W main_v35_0 (scanRes (scanIn W) (scanRow W))) main_v35_1 (scanEnd (scanIn W) (scanRow W))

theorem scanVal_ne (W : Valuation τ sig (Elt F)) (b : Ref sig .tc) (h : b ∉ [main_v35_0, main_v35_1]) : scanVal W b = W b := by
  simp only [List.mem_cons, List.not_mem_nil, or_false, not_or] at h
  have e : ∀ c : Ref sig .tc, b ≠ c → Proc.devRef (τ := τ) .tc b ≠ Proc.devRef .tc c := fun c hc he => hc (Proc.devRef_injective _ he)
  obtain ⟨h0, h1⟩ := h
  unfold scanVal
  rw [Function.update_of_ne (e _ h1), Function.update_of_ne (e _ h0)]

theorem scanVal_0 (W : Valuation τ sig (Elt F)) : scanVal W main_v35_0 = scanRes (scanIn W) (scanRow W) := by
  unfold scanVal; rw [Function.update_of_ne (by decide), Function.update_self]

theorem scanVal_1 (W : Valuation τ sig (Elt F)) : scanVal W main_v35_1 = scanEnd (scanIn W) (scanRow W) := by
  unfold scanVal; rw [Function.update_self]

theorem out1_0 (W : Valuation τ sig (Elt F)) (d : Dev nD) : (dat1 W d).arrAt 9 (cfg1 (F := F)).N = scanVal W main_v35_0 := by
  rw [scanVal_0]
  refine (dat1 W d).arrAt_eq_of_after_last 9 t1_0 (by decide +kernel : win1_9.WholeAt t1_0) _ fun j => ?_
  blk_simp
  rfl

theorem out1_1 (W : Valuation τ sig (Elt F)) (d : Dev nD) : (dat1 W d).arrAt 10 (cfg1 (F := F)).N = scanVal W main_v35_1 := by
  rw [scanVal_1]
  refine (dat1 W d).arrAt_eq_of_after_last 10 t1_0 (by decide +kernel : win1_10.WholeAt t1_0) _ fun j => ?_
  blk_simp
  rfl

set_option maxHeartbeats 2000000 in
/-- The arrays after the call are those of the next valuation. -/
theorem outs0 (W : Valuation τ sig (Elt F)) (d : Dev nD) (w : Fin (Pipeline.pin (pcfgs (F := F)) adm 0).W) :
    (pdats W 0 d).arrAt w (Pipeline.pin (pcfgs (F := F)) adm 0).N = prepVal W (Pipeline.arrRef (Pipeline.pin (pcfgs (F := F)) adm 0).spec w) := by
  show (dat0 W d).arrAt w (cfg0 (F := F)).N = prepVal W (Pipeline.arrRef spec0 w)
  change Fin 11 at w
  fin_cases w
  · exact ((dat0 W d).arrAt_in 0 rfl _).trans (prepVal_ne W main_v3 (by decide)).symm
  · exact ((dat0 W d).arrAt_in 1 rfl _).trans (prepVal_ne W main_v7 (by decide)).symm
  · exact ((dat0 W d).arrAt_in 2 rfl _).trans (prepVal_ne W main_v11 (by decide)).symm
  · exact ((dat0 W d).arrAt_in 3 rfl _).trans (prepVal_ne W main_v15 (by decide)).symm
  · exact ((dat0 W d).arrAt_in 4 rfl _).trans (prepVal_ne W main_v17 (by decide)).symm
  · exact out0_0 W d
  · exact out0_1 W d
  · exact out0_2 W d
  · exact out0_3 W d
  · exact out0_4 W d
  · exact out0_5 W d

theorem phi0 (W : Valuation τ sig (Elt F)) (d : Dev nD) (t) :
    (pdats W 0 d).Φ t = Pipeline.scopedRest (Pipeline.pin (pcfgs (F := F)) adm 0).spec d := by
  have a : (dat0 W d).Φ t = Pipeline.scopedRest spec0 d := rfl
  have b : (Pipeline.scopedRest spec0 d : sProp (MM F)) = Pipeline.scopedRest (Pipeline.pin (pcfgs (F := F)) adm 0).spec d := rfl
  exact a.trans b

/-- The preparation as a step from a valuation to the next. -/
def prepSeg (W : Valuation τ sig (Elt F)) :
    Pipeline.RegionSeg (pcfgs (F := F)) adm (pdats W) none (defs₀ (F := F)) 𝒱₀ (K (F := F)).L (K (F := F)).lev 0 :=
  seg 0 launch0 W (prepVal W) (obl0 W) (fun _ _ => rfl) (fun _ _ => rfl) (fun _ _ => rfl) (fun _ _ => rfl) (phi0 W)
    (outs0 W)
    (fun b hb => prepVal_ne W b fun h => hb (by
      simp only [List.mem_cons, List.not_mem_nil, or_false] at h
      rcases h with rfl | rfl | rfl | rfl | rfl | rfl
      · exact Finset.mem_image.mpr ⟨5, Finset.mem_univ _, rfl⟩
      · exact Finset.mem_image.mpr ⟨6, Finset.mem_univ _, rfl⟩
      · exact Finset.mem_image.mpr ⟨7, Finset.mem_univ _, rfl⟩
      · exact Finset.mem_image.mpr ⟨8, Finset.mem_univ _, rfl⟩
      · exact Finset.mem_image.mpr ⟨9, Finset.mem_univ _, rfl⟩
      · exact Finset.mem_image.mpr ⟨10, Finset.mem_univ _, rfl⟩))

set_option maxHeartbeats 2000000 in
/-- The arrays after the call are those of the next valuation. -/
theorem outs1 (W : Valuation τ sig (Elt F)) (d : Dev nD) (w : Fin (Pipeline.pin (pcfgs (F := F)) adm 1).W) :
    (pdats W 1 d).arrAt w (Pipeline.pin (pcfgs (F := F)) adm 1).N = scanVal W (Pipeline.arrRef (Pipeline.pin (pcfgs (F := F)) adm 1).spec w) := by
  show (dat1 W d).arrAt w (cfg1 (F := F)).N = scanVal W (Pipeline.arrRef spec1 w)
  change Fin 11 at w
  fin_cases w
  · exact ((dat1 W d).arrAt_in 0 rfl _).trans (scanVal_ne W main_v26 (by decide)).symm
  · exact ((dat1 W d).arrAt_in 1 rfl _).trans (scanVal_ne W main_v27 (by decide)).symm
  · exact ((dat1 W d).arrAt_in 2 rfl _).trans (scanVal_ne W main_v28 (by decide)).symm
  · exact ((dat1 W d).arrAt_in 3 rfl _).trans (scanVal_ne W main_v29 (by decide)).symm
  · exact ((dat1 W d).arrAt_in 4 rfl _).trans (scanVal_ne W main_v30 (by decide)).symm
  · exact ((dat1 W d).arrAt_in 5 rfl _).trans (scanVal_ne W main_v31 (by decide)).symm
  · exact ((dat1 W d).arrAt_in 6 rfl _).trans (scanVal_ne W main_v32 (by decide)).symm
  · exact ((dat1 W d).arrAt_in 7 rfl _).trans (scanVal_ne W main_v33 (by decide)).symm
  · exact ((dat1 W d).arrAt_in 8 rfl _).trans (scanVal_ne W main_v34 (by decide)).symm
  · exact out1_0 W d
  · exact out1_1 W d

theorem phi1 (W : Valuation τ sig (Elt F)) (d : Dev nD) (t) :
    (pdats W 1 d).Φ t = Pipeline.scopedRest (Pipeline.pin (pcfgs (F := F)) adm 1).spec d := by
  have a : (dat1 W d).Φ t = Pipeline.scopedRest spec1 d := rfl
  have b : (Pipeline.scopedRest spec1 d : sProp (MM F)) = Pipeline.scopedRest (Pipeline.pin (pcfgs (F := F)) adm 1).spec d := rfl
  exact a.trans b

/-- The scan as a step from a valuation to the next. -/
def scanSeg (W : Valuation τ sig (Elt F)) :
    Pipeline.RegionSeg (pcfgs (F := F)) adm (pdats W) none (defs₀ (F := F)) 𝒱₀ (K (F := F)).L (K (F := F)).lev 1 :=
  seg 1 launch1 W (scanVal W) (obl1 W) (fun _ _ => rfl) (fun _ _ => rfl) (fun _ _ => rfl) (fun _ _ => rfl) (phi1 W)
    (outs1 W)
    (fun b hb => scanVal_ne W b fun h => hb (by
      simp only [List.mem_cons, List.not_mem_nil, or_false] at h
      rcases h with rfl | rfl
      · exact Finset.mem_image.mpr ⟨9, Finset.mem_univ _, rfl⟩
      · exact Finset.mem_image.mpr ⟨10, Finset.mem_univ _, rfl⟩))

/-- What a TensorCore call needs of the launch's ghost state. -/
def ghost (p : Fin 2) (d : Dev nD) : sProp (MM F) :=
  iprop(Pipeline.cellsGhost (Pipeline.pin (pcfgs (F := F)) adm) EP p d ∗ Pipeline.toksInit (Pipeline.pin (pcfgs (F := F)) adm) EP p d)

set_option maxHeartbeats 2000000 in
/-- A TensorCore call of the host program, run by its step. -/
theorem call_step [∀ e, Nonempty (Elt F e)] (p : Fin 2) (W : Valuation τ sig (Elt F)) (d : Dev nD)
    (R : Pipeline.RegionSeg (pcfgs (F := F)) adm (pdats W) none (defs₀ (F := F)) 𝒱₀ (K (F := F)).L (K (F := F)).lev p) (Φ : PUnit → sProp (MM F)) :
    iprop(boundary (SparseCore.T d : Thread nD τ) ∗ R.pre d ∗ levAts (K (F := F)).L (K (F := F)).lev ∗ ghost (F := F) p d
        ∗ (iprop(boundary (SparseCore.T d : Thread nD τ) ∗ R.post d) -∗ Φ ⟨⟩))
      ⊢ wp frame (wpE ((K (F := F)).defs (D (F := F))) 𝒱 (SparseCore.T d : Thread nD τ) none) Set.univ
          (Prog.lift (.customCall (SparseCore.inner (Pipeline.entry p)) ())) Φ := by
  refine .trans ?_ ((K (F := F)).wp_liftProg (D (F := F)) 𝒱 (SparseCore.T d : Thread nD τ) Set.univ none (.op (.customCall (Pipeline.entry p) ()) .ret) Φ)
  refine .trans ?_ (Pipeline.RegionSeg.wp (pcfgs (F := F)) adm (pdats W) none cellOf_inj EP (defs₀ (F := F)) 𝒱₀ (K (F := F)).L (K (F := F)).lev R d none
    (fun u hu => nomatch hu) .ret Φ)
  unfold ghost
  iintro ⟨Hb, Hp, Hl, ⟨Hg, Ht⟩, Hk⟩
  isplitl [Hk]
  · iintro H
    rw [wp_ret]; imodintro
    iapply Hk $$ H
  isplitl [Hb]; · iexact Hb
  isplitl [Hp]; · iexact Hp
  isplitl [Hl]; · iexact Hl
  isplitl [Hg]; · iexact Hg
  iexact Ht

end Cert.KernelIdeal.Prf

end
-- ==== Proof.PI.Host.lean ====
/-
  The host program between the calls: its four stretches of operations, and what each leaves in the buffers.
-/
module

public import proofs.«01_k».proof.Proof.PI.Region

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

open Idealize.ShloMosaic.TcCoe
open Idealize.ShloMosaic.StableHlo renaming unary → op1, reshape → opR, nullary → op0, binary → op2, nary → opN, nullary_bufs_sub → sub0, unary_bufs_sub → sub1, binary_bufs_sub → sub2, reshape_bufs_sub → subR, nary_bufs_sub → subN
open Idealize.ShloMosaic.Pipeline (Dat BodyObligation)

variable {F : FTy → Type} [FloatOps F]

/-- The contents of a buffer of a shape and an element type. -/
abbrev Ct (F : FTy → Type) (s : Shape) (e : EltTy) : Type := (⟨s, e⟩ : BufTy).Contents (Elt F)

/-- A column sorted by the first of the six. -/
abbrev sortCol (u0 u1 u2 u3 u4 u5 x : Ct F S20480 .f32) : Ct F S20480 .f32 :=
  Host.sortBy S20480 0 comparator_f32_f32_f32_f32_f32_f32_d0 (fun j => (u0 j, u1 j, u2 j, u3 j, u4 j, u5 j)) x

/-- The host operations before the first call: the columns of the boxes and the scores, padded and blocked. -/
def ops0 : List (HloOp τ sig (Elt F)) :=
  [op1 main_arg0 main_v0 (extractStridedSlice S20000x1 ![0, 0] · slices_S20000x4_S20000x1_0_0),
   opR main_v0 main_v1 rfl shapeCasts_S20000x1_S20000,
   op0 main_c (constantI S_ 32 0#32),
   op1 main_c main_call0_v0 (sitofp .f32),
   op2 main_v1 main_call0_v0 main_v2 (fun x v => pad S20480 ![0] ![480] ![0] x v pads_S20000_S20480_04800 h_S_),
   opR main_v2 main_v3 rfl shapeCasts_S20480_S160x128,
   op1 main_arg0 main_v4 (extractStridedSlice S20000x1 ![0, 1] · slices_S20000x4_S20000x1_0_1),
   opR main_v4 main_v5 rfl shapeCasts_S20000x1_S20000,
   op0 main_c_0 (constantI S_ 32 0#32),
   op1 main_c_0 main_call1_v0 (sitofp .f32),
   op2 main_v5 main_call1_v0 main_v6 (fun x v => pad S20480 ![0] ![480] ![0] x v pads_S20000_S20480_04800 h_S_),
   opR main_v6 main_v7 rfl shapeCasts_S20480_S160x128,
   op1 main_arg0 main_v8 (extractStridedSlice S20000x1 ![0, 2] · slices_S20000x4_S20000x1_0_2),
   opR main_v8 main_v9 rfl shapeCasts_S20000x1_S20000,
   op0 main_c_1 (constantI S_ 32 0#32),
   op1 main_c_1 main_call2_v0 (sitofp .f32),
   op2 main_v9 main_call2_v0 main_v10 (fun x v => pad S20480 ![0] ![480] ![0] x v pads_S20000_S20480_04800 h_S_),
   opR main_v10 main_v11 rfl shapeCasts_S20480_S160x128,
   op1 main_arg0 main_v12 (extractStridedSlice S20000x1 ![0, 3] · slices_S20000x4_S20000x1_0_3),
   opR main_v12 main_v13 rfl shapeCasts_S20000x1_S20000,
   op0 main_c_2 (constantI S_ 32 0#32),
   op1 main_c_2 main_call3_v0 (sitofp .f32),
   op2 main_v13 main_call3_v0 main_v14 (fun x v => pad S20480 ![0] ![480] ![0] x v pads_S20000_S20480_04800 h_S_),
   opR main_v14 main_v15 rfl shapeCasts_S20480_S160x128,
   op0 main_c_3 (constantI S_ 32 0#32),
   op1 main_c_3 main_call4_v0 (sitofp .f32),
   op2 main_arg1 main_call4_v0 main_v16 (fun x v => pad S20480 ![0] ![480] ![0] x v pads_S20000_S20480_04800 h_S_),
   opR main_v16 main_v17 rfl shapeCasts_S20480_S160x128]

/-- Between the first two calls: the sort of the boxes by key, and the two layouts of the sorted columns. -/
def ops1 : List (HloOp τ sig (Elt F)) :=
  [opR main_v18_5 main_v19 rfl shapeCasts_S160x128_S20480,
   opR main_v18_0 main_v20 rfl shapeCasts_S160x128_S20480,
   opR main_v18_1 main_v21 rfl shapeCasts_S160x128_S20480,
   opR main_v18_2 main_v22 rfl shapeCasts_S160x128_S20480,
   opR main_v18_3 main_v23 rfl shapeCasts_S160x128_S20480,
   opR main_v18_4 main_v24 rfl shapeCasts_S160x128_S20480,
   opN ![main_v19, main_v20, main_v21, main_v22, main_v23, main_v24] main_v25_0 (fun u => sortCol (u 0) (u 1) (u 2) (u 3) (u 4) (u 5) (u 0)),
   opN ![main_v19, main_v20, main_v21, main_v22, main_v23, main_v24] main_v25_1 (fun u => sortCol (u 0) (u 1) (u 2) (u 3) (u 4) (u 5) (u 1)),
   opN ![main_v19, main_v20, main_v21, main_v22, main_v23, main_v24] main_v25_2 (fun u => sortCol (u 0) (u 1) (u 2) (u 3) (u 4) (u 5) (u 2)),
   opN ![main_v19, main_v20, main_v21, main_v22, main_v23, main_v24] main_v25_3 (fun u => sortCol (u 0) (u 1) (u 2) (u 3) (u 4) (u 5) (u 3)),
   opN ![main_v19, main_v20, main_v21, main_v22, main_v23, main_v24] main_v25_4 (fun u => sortCol (u 0) (u 1) (u 2) (u 3) (u 4) (u 5) (u 4)),
   opN ![main_v19, main_v20, main_v21, main_v22, main_v23, main_v24] main_v25_5 (fun u => sortCol (u 0) (u 1) (u 2) (u 3) (u 4) (u 5) (u 5)),
   opR main_v25_1 main_v26 rfl shapeCasts_S20480_S20480x1,
   opR main_v25_2 main_v27 rfl shapeCasts_S20480_S20480x1,
   opR main_v25_3 main_v28 rfl shapeCasts_S20480_S20480x1,
   opR main_v25_4 main_v29 rfl shapeCasts_S20480_S20480x1,
   opR main_v25_0 main_v30 rfl shapeCasts_S20480_S20480x1,
   opR main_v25_1 main_v31 rfl shapeCasts_S20480_S160x128,
   opR main_v25_2 main_v32 rfl shapeCasts_S20480_S160x128,
   opR main_v25_3 main_v33 rfl shapeCasts_S20480_S160x128,
   opR main_v25_4 main_v34 rfl shapeCasts_S20480_S160x128]

/-- Between the second call and the SparseCore: the flags and the count of positions, flat. -/
def ops2 : List (HloOp τ sig (Elt F)) :=
  [opR main_v35_0 main_v36 rfl shapeCasts_S160x128_S20480,
   opR main_v35_1 main_v37 rfl shapeCasts_S8x128_S1024]

/-- After the SparseCore: the five packed columns cut to length and stacked. -/
def ops3 : List (HloOp τ sig (Elt F)) :=
  [op1 main_v38_0 main_v39 (extractStridedSlice S2000 ![0] · slices_S2048_S2000_0),
   op1 main_v38_1 main_v40 (extractStridedSlice S2000 ![0] · slices_S2048_S2000_0),
   op1 main_v38_2 main_v41 (extractStridedSlice S2000 ![0] · slices_S2048_S2000_0),
   op1 main_v38_3 main_v42 (extractStridedSlice S2000 ![0] · slices_S2048_S2000_0),
   op1 main_v38_4 main_v43 (extractStridedSlice S2000 ![0] · slices_S2048_S2000_0),
   op1 main_v39 main_v44 (broadcastInDim S2000x1 ![0] bcast_S2000_S2000x1_0),
   op1 main_v40 main_v45 (broadcastInDim S2000x1 ![0] bcast_S2000_S2000x1_0),
   op1 main_v41 main_v46 (broadcastInDim S2000x1 ![0] bcast_S2000_S2000x1_0),
   op1 main_v42 main_v47 (broadcastInDim S2000x1 ![0] bcast_S2000_S2000x1_0),
   op1 main_v43 main_v48 (broadcastInDim S2000x1 ![0] bcast_S2000_S2000x1_0),
   opN ![main_v44, main_v45, main_v46, main_v47, main_v48] main_v49 (fun u => (concatenate S2000x5 1 [⟨S2000x1, (u 0 : Ct F S2000x1 .f32)⟩, ⟨S2000x1, (u 1 : Ct F S2000x1 .f32)⟩, ⟨S2000x1, (u 2 : Ct F S2000x1 .f32)⟩, ⟨S2000x1, (u 3 : Ct F S2000x1 .f32)⟩, ⟨S2000x1, (u 4 : Ct F S2000x1 .f32)⟩] concatenates_S2000x1_S2000x1_S2000x1_S2000x1_S2000x1_S2000x5_d1 : Ct F S2000x5 .f32))]

theorem ops0_sub : (ops0 (F := F)).Forall fun op => op.bufs ⊆ StableHlo.tcRefs τ sig :=
  ⟨sub1 .., subR .., sub0 .., sub1 .., sub2 .., subR .., sub1 .., subR .., sub0 .., sub1 .., sub2 .., subR .., sub1 .., subR .., sub0 .., sub1 .., sub2 .., subR .., sub1 .., subR .., sub0 .., sub1 .., sub2 .., subR .., sub0 .., sub1 .., sub2 .., subR ..⟩
theorem ops0_fresh : (ops0 (F := F)).Forall fun op => op.fresh = ∅ := by
  repeat' first | rfl | apply And.intro

theorem ops1_sub : (ops1 (F := F)).Forall fun op => op.bufs ⊆ StableHlo.tcRefs τ sig :=
  ⟨subR .., subR .., subR .., subR .., subR .., subR .., subN .., subN .., subN .., subN .., subN .., subN .., subR .., subR .., subR .., subR .., subR .., subR .., subR .., subR .., subR ..⟩
theorem ops1_fresh : (ops1 (F := F)).Forall fun op => op.fresh = ∅ := by
  repeat' first | rfl | apply And.intro

theorem ops2_sub : (ops2 (F := F)).Forall fun op => op.bufs ⊆ StableHlo.tcRefs τ sig := by
  exact ⟨subR .., subR ..⟩
theorem ops2_fresh : (ops2 (F := F)).Forall fun op => op.fresh = ∅ := by
  repeat' first | rfl | apply And.intro

theorem ops3_sub : (ops3 (F := F)).Forall fun op => op.bufs ⊆ StableHlo.tcRefs τ sig := by
  exact ⟨sub1 .., sub1 .., sub1 .., sub1 .., sub1 .., sub1 .., sub1 .., sub1 .., sub1 .., sub1 .., subN ..⟩
theorem ops3_fresh : (ops3 (F := F)).Forall fun op => op.fresh = ∅ := by
  repeat' first | rfl | apply And.intro

/-! ## What the stretches leave -/

/-- A vector of 20000 numbers padded with zeros and laid out in rows of 128. -/
def padded (v : S20000.Idx → F .f32) : A160 F :=
  shapeCast S160x128 (pad S20480 ![0] ![480] ![0] v (sitofp .f32 (constantI S_ 32 0#32) : S_.Idx → F .f32) pads_S20000_S20480_04800 h_S_) shapeCasts_S20480_S160x128

/-- A column of the boxes. -/
def col (A : S20000x4.Idx → F .f32) : Fin 4 → (S20000.Idx → F .f32)
  | 0 => shapeCast S20000 (extractStridedSlice S20000x1 ![0, 0] A slices_S20000x4_S20000x1_0_0) shapeCasts_S20000x1_S20000
  | 1 => shapeCast S20000 (extractStridedSlice S20000x1 ![0, 1] A slices_S20000x4_S20000x1_0_1) shapeCasts_S20000x1_S20000
  | 2 => shapeCast S20000 (extractStridedSlice S20000x1 ![0, 2] A slices_S20000x4_S20000x1_0_2) shapeCasts_S20000x1_S20000
  | 3 => shapeCast S20000 (extractStridedSlice S20000x1 ![0, 3] A slices_S20000x4_S20000x1_0_3) shapeCasts_S20000x1_S20000

/-- What the first call reads. -/
def inCols (A : S20000x4.Idx → F .f32) (B : S20000.Idx → F .f32) : Fin 5 → A160 F
  | 0 => padded (col A 0) | 1 => padded (col A 1) | 2 => padded (col A 2) | 3 => padded (col A 3) | 4 => padded B

/-- The first call's outputs sorted by the key, its last one; the key comes first. -/
def sorted (p : Fin 6 → A160 F) : Fin 6 → (S20480.Idx → F .f32) :=
  let u : Fin 6 → (S20480.Idx → F .f32) := fun k => shapeCast S20480 (p k) shapeCasts_S160x128_S20480
  fun k => Host.sortBy S20480 0 comparator_f32_f32_f32_f32_f32_f32_d0 (fun j => (u 5 j, u 0 j, u 1 j, u 2 j, u 3 j, u 4 j)) (![u 5, u 0, u 1, u 2, u 3, u 4] k)

/-- What the second call reads, by position: the four coordinates and the key. -/
def posCols (s : Fin 6 → (S20480.Idx → F .f32)) : Fin 5 → A20480 F := fun k => shapeCast S20480x1 (s (![1, 2, 3, 4, 0] k)) shapeCasts_S20480_S20480x1
/-- And in rows of 128: the four coordinates. -/
def rowCols (s : Fin 6 → (S20480.Idx → F .f32)) : Fin 4 → A160 F := fun k => shapeCast S160x128 (s (![1, 2, 3, 4] k)) shapeCasts_S20480_S160x128

theorem ops0_arg (W : Valuation τ sig (Elt F)) : StableHlo.after ops0 W main_arg0 = W main_arg0 ∧
    StableHlo.after ops0 W main_arg1 = W main_arg1 := by
  unfold ops0; constructor <;> after_results

set_option maxHeartbeats 2000000 in
theorem ops0_in (W : Valuation τ sig (Elt F)) : prepIn (StableHlo.after ops0 W) = inCols (W main_arg0) (W main_arg1) := by
  funext k
  fin_cases k
  · show StableHlo.after ops0 W main_v3 = _
    unfold ops0; after_results; rfl
  · show StableHlo.after ops0 W main_v7 = _
    unfold ops0; after_results; rfl
  · show StableHlo.after ops0 W main_v11 = _
    unfold ops0; after_results; rfl
  · show StableHlo.after ops0 W main_v15 = _
    unfold ops0; after_results; rfl
  · show StableHlo.after ops0 W main_v17 = _
    unfold ops0; after_results; rfl

theorem ops1_arg (W : Valuation τ sig (Elt F)) : StableHlo.after ops1 W main_arg0 = W main_arg0 ∧
    StableHlo.after ops1 W main_arg1 = W main_arg1 := by
  unfold ops1; constructor <;> after_results

/-- The first call's outputs, as a valuation holds them. -/
abbrev prepGot (W : Valuation τ sig (Elt F)) : Fin 6 → A160 F
  | 0 => W main_v18_0 | 1 => W main_v18_1 | 2 => W main_v18_2
  | 3 => W main_v18_3 | 4 => W main_v18_4 | 5 => W main_v18_5

/-- The sorted columns, as a valuation holds them. -/
abbrev sortGot (W : Valuation τ sig (Elt F)) : Fin 6 → (S20480.Idx → F .f32)
  | 0 => W main_v25_0 | 1 => W main_v25_1 | 2 => W main_v25_2
  | 3 => W main_v25_3 | 4 => W main_v25_4 | 5 => W main_v25_5

set_option maxHeartbeats 2000000 in
theorem ops1_sort (W : Valuation τ sig (Elt F)) : sortGot (StableHlo.after ops1 W) = sorted (prepGot W) := by
  funext k
  fin_cases k
  · show StableHlo.after ops1 W main_v25_0 = _
    unfold ops1; after_results; rfl
  · show StableHlo.after ops1 W main_v25_1 = _
    unfold ops1; after_results; rfl
  · show StableHlo.after ops1 W main_v25_2 = _
    unfold ops1; after_results; rfl
  · show StableHlo.after ops1 W main_v25_3 = _
    unfold ops1; after_results; rfl
  · show StableHlo.after ops1 W main_v25_4 = _
    unfold ops1; after_results; rfl
  · show StableHlo.after ops1 W main_v25_5 = _
    unfold ops1; after_results; rfl

set_option maxHeartbeats 2000000 in
theorem ops1_pos (W : Valuation τ sig (Elt F)) : scanIn (StableHlo.after ops1 W) = posCols (sorted (prepGot W)) := by
  funext k
  fin_cases k
  · show StableHlo.after ops1 W main_v26 = _
    unfold ops1; after_results; rfl
  · show StableHlo.after ops1 W main_v27 = _
    unfold ops1; after_results; rfl
  · show StableHlo.after ops1 W main_v28 = _
    unfold ops1; after_results; rfl
  · show StableHlo.after ops1 W main_v29 = _
    unfold ops1; after_results; rfl
  · show StableHlo.after ops1 W main_v30 = _
    unfold ops1; after_results; rfl

set_option maxHeartbeats 2000000 in
theorem ops1_row (W : Valuation τ sig (Elt F)) : scanRow (StableHlo.after ops1 W) = rowCols (sorted (prepGot W)) := by
  funext k
  fin_cases k
  · show StableHlo.after ops1 W main_v31 = _
    unfold ops1; after_results; rfl
  · show StableHlo.after ops1 W main_v32 = _
    unfold ops1; after_results; rfl
  · show StableHlo.after ops1 W main_v33 = _
    unfold ops1; after_results; rfl
  · show StableHlo.after ops1 W main_v34 = _
    unfold ops1; after_results; rfl

/-- What the SparseCore call reads: the sorted coordinates and scores, and the flags. -/
def compIn (s : Fin 6 → (S20480.Idx → F .f32)) (r : A160 F) : Fin 6 → (S20480.Idx → F .f32) :=
  ![s 1, s 2, s 3, s 4, s 5, shapeCast S20480 r shapeCasts_S160x128_S20480]
/-- And the count of positions. -/
def compEnd (e : S8x128.Idx → F .f32) : S1024.Idx → F .f32 := shapeCast S1024 e shapeCasts_S8x128_S1024

theorem ops2_arg (W : Valuation τ sig (Elt F)) : StableHlo.after ops2 W main_arg0 = W main_arg0 ∧
    StableHlo.after ops2 W main_arg1 = W main_arg1 := by
  unfold ops2; constructor <;> after_results

/-- The SparseCore call's operands, as a valuation holds them. -/
abbrev compGot (W : Valuation τ sig (Elt F)) : Fin 6 → (S20480.Idx → F .f32)
  | 0 => W main_v25_1 | 1 => W main_v25_2 | 2 => W main_v25_3
  | 3 => W main_v25_4 | 4 => W main_v25_5 | 5 => W main_v36

theorem ops2_in (W : Valuation τ sig (Elt F)) : compGot (StableHlo.after ops2 W) = compIn (sortGot W) (W main_v35_0) := by
  funext k
  fin_cases k
  · show StableHlo.after ops2 W main_v25_1 = W main_v25_1
    unfold ops2; after_results
  · show StableHlo.after ops2 W main_v25_2 = W main_v25_2
    unfold ops2; after_results
  · show StableHlo.after ops2 W main_v25_3 = W main_v25_3
    unfold ops2; after_results
  · show StableHlo.after ops2 W main_v25_4 = W main_v25_4
    unfold ops2; after_results
  · show StableHlo.after ops2 W main_v25_5 = W main_v25_5
    unfold ops2; after_results
  · show StableHlo.after ops2 W main_v36 = _
    unfold ops2; after_results; rfl

theorem ops2_end (W : Valuation τ sig (Elt F)) : StableHlo.after ops2 W main_v37 = compEnd (W main_v35_1) := by
  unfold ops2; after_results; rfl

/-- The result: the first 2000 entries of the five packed columns, side by side. -/
def stacked (u : Fin 5 → (S2048.Idx → F .f32)) : S2000x5.Idx → F .f32 :=
  let c : Fin 5 → (S2000x1.Idx → F .f32) := fun k => broadcastInDim S2000x1 ![0] bcast_S2000_S2000x1_0 (extractStridedSlice S2000 ![0] (u k) slices_S2048_S2000_0)
  concatenate S2000x5 1 [⟨S2000x1, c 0⟩, ⟨S2000x1, c 1⟩, ⟨S2000x1, c 2⟩, ⟨S2000x1, c 3⟩, ⟨S2000x1, c 4⟩] concatenates_S2000x1_S2000x1_S2000x1_S2000x1_S2000x1_S2000x5_d1

theorem ops3_arg (W : Valuation τ sig (Elt F)) : StableHlo.after ops3 W main_arg0 = W main_arg0 ∧
    StableHlo.after ops3 W main_arg1 = W main_arg1 := by
  unfold ops3; constructor <;> after_results

/-- The five packed columns, as a valuation holds them. -/
abbrev packGot (W : Valuation τ sig (Elt F)) : Fin 5 → (S2048.Idx → F .f32)
  | 0 => W main_v38_0 | 1 => W main_v38_1 | 2 => W main_v38_2
  | 3 => W main_v38_3 | 4 => W main_v38_4

theorem ops3_out (W : Valuation τ sig (Elt F)) : StableHlo.after ops3 W main_v49 = stacked (packGot W) := by
  unfold ops3; after_results; rfl

end Cert.KernelIdeal.Prf

end
-- ==== Proof.PI.HostEq.lean ====
/-
  The host program as its stretches of operations and its three calls.
-/
module

public import proofs.«01_k».proof.Proof.PI.Host

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

open Idealize.ShloMosaic.TcCoe
open Idealize.ShloMosaic.StableHlo (nullary_bufs_sub unary_bufs_sub binary_bufs_sub reshape_bufs_sub nary_bufs_sub)
open Idealize.ShloMosaic.Pipeline (Dat BodyObligation)

variable {F : FTy → Type} [FloatOps F]

set_option maxHeartbeats 1000000 in
/-- The host program: the stretches and the three calls in order. -/
theorem main_eq (d : Dev nD) : main (F := F) d = (StableHlo.seq ops0 >>= fun _ => Prog.lift (.customCall (SparseCore.inner (Pipeline.entry 0)) ()) >>= fun _ =>
    StableHlo.seq ops1 >>= fun _ => Prog.lift (.customCall (SparseCore.inner (Pipeline.entry 1)) ()) >>= fun _ =>
    StableHlo.seq ops2 >>= fun _ => sc.run d 0 >>= fun _ => StableHlo.seq ops3) := by
  simp only [main, main_part0, main_part1, fn_pad.body, fn_pad_0.body, ops0, ops1, ops2, ops3, StableHlo.seq, bind_assoc, pure_bind, bind_pure]
  rfl

end Cert.KernelIdeal.Prf

end
-- ==== Proof.PI.Main.lean ====
/-
  The whole program's run: from any memory with zero counters every weakly fair execution ends with the arguments as they were,
  every counter at zero, and the result the packed columns, stacked.
-/
module

public import proofs.«01_k».proof.Proof.PI.HostEq

@[expose] public section

set_option maxRecDepth 16384

noncomputable section

namespace Cert.KernelIdeal.Prf

open Cert.KernelIdeal Cert.KernelIdeal.Gen
open Idealize.ShloMosaic
open Idealize.ShloMosaic.SparseCore.Cfg (HIx Pay)
open Idealize.SL
open RA BI BI.BIBase BI.Laws ProofMode Sem
open Idealize.ShloMosaic.Rounds Idealize.ShloMosaic.Tactic

open Idealize.ShloMosaic.TcCoe
open Idealize.ShloMosaic.StableHlo (nullary_bufs_sub unary_bufs_sub binary_bufs_sub reshape_bufs_sub nary_bufs_sub)
open Idealize.ShloMosaic.Pipeline (Dat BodyObligation)

variable {F : FTy → Type} [FloatOps F]

open Idealize.ShloMosaic.Pipeline (ucRefs)
open Idealize.ShloMosaic.StableHlo (held after)

variable (m : (ℓ : Loc nD τ sig) → Buf (Elt F) ℓ) (ρ : Dev nD → PrngReg)

/-! ## The values along the program -/

/-- The boxes and the scores at the start. -/
abbrev argA (d : Dev nD) : S20000x4.Idx → F .f32 := m ((SparseCore.T d : Thread nD τ).loc main_arg0)
abbrev argB (d : Dev nD) : S20000.Idx → F .f32 := m ((SparseCore.T d : Thread nD τ).loc main_arg1)

/-- The columns sorted by key. -/
def sortedOf (A : S20000x4.Idx → F .f32) (B : S20000.Idx → F .f32) : Fin 6 → (S20480.Idx → F .f32) := sorted (prepOut (inCols A B))
/-- What the SparseCore call reads. -/
def compOf (A : S20000x4.Idx → F .f32) (B : S20000.Idx → F .f32) : Fin 6 → (S20480.Idx → F .f32) :=
  compIn (sortedOf A B) (scanRes (posCols (sortedOf A B)) (rowCols (sortedOf A B)))
/-- And the count of positions. -/
def endOf (A : S20000x4.Idx → F .f32) (B : S20000.Idx → F .f32) : S1024.Idx → F .f32 :=
  compEnd (scanEnd (posCols (sortedOf A B)) (rowCols (sortedOf A B)))

/-- The SparseCore call is handed those. -/
def RelOf (d : Dev nD) (f : Fin 6 → (S20480.Idx → F .f32)) (e : S1024.Idx → F .f32) : Prop := f = compOf (argA m d) (argB m d) ∧ e = endOf (argA m d) (argB m d)

/-! ## The SparseCore call's buffers among all -/

/-- The valuation with the packed columns. -/
def packVal (W : Valuation τ sig (Elt F)) (u : Fin 5 → (S2048.Idx → F .f32)) : Valuation τ sig (Elt F) :=
  Function.update (Function.update (Function.update (Function.update (Function.update W main_v38_0 (u 0)) main_v38_1 (u 1))
    main_v38_2 (u 2)) main_v38_3 (u 3)) main_v38_4 (u 4)

/-- Its twelve buffers. -/
abbrev scList : List (Ref sig .tc) := [main_v25_1, main_v25_2, main_v25_3, main_v25_4, main_v25_5, main_v36, main_v37, main_v38_0, main_v38_1, main_v38_2, main_v38_3, main_v38_4]

theorem packVal_ne (W : Valuation τ sig (Elt F)) (u) (b : DevRef τ sig)
    (h : ∀ c ∈ [main_v38_0, main_v38_1, main_v38_2, main_v38_3, main_v38_4], b ≠ (c : Ref sig .tc)) : packVal W u b = W b := by
  unfold packVal
  rw [Function.update_of_ne (h _ (by simp)), Function.update_of_ne (h _ (by simp)), Function.update_of_ne (h _ (by simp)), Function.update_of_ne (h _ (by simp)), Function.update_of_ne (h _ (by simp))]

theorem packVal_got (W : Valuation τ sig (Elt F)) (u) : packGot (packVal W u) = u := by
  funext k
  fin_cases k
  · show packVal W u main_v38_0 = _
    unfold packVal
    rw [Function.update_of_ne (by decide), Function.update_of_ne (by decide), Function.update_of_ne (by decide), Function.update_of_ne (by decide), Function.update_self]; rfl
  · show packVal W u main_v38_1 = _
    unfold packVal
    rw [Function.update_of_ne (by decide), Function.update_of_ne (by decide), Function.update_of_ne (by decide), Function.update_self]; rfl
  · show packVal W u main_v38_2 = _
    unfold packVal
    rw [Function.update_of_ne (by decide), Function.update_of_ne (by decide), Function.update_self]; rfl
  · show packVal W u main_v38_3 = _
    unfold packVal
    rw [Function.update_of_ne (by decide), Function.update_self]; rfl
  · show packVal W u main_v38_4 = _
    unfold packVal
    rw [Function.update_self]; rfl

/-- The buffers the SparseCore call does not touch. -/
abbrev heldRest (d : Dev nD) (W : Valuation τ sig (Elt F)) : sProp (MM F) :=
  bigSep (ucRefs τ sig \ (scList.map fun b => (Proc.devRef .tc b : DevRef τ sig)).toFinset) fun b => ((d, b) : Loc nD τ sig) ↦{fullShare} W b

theorem held_sc (d : Dev nD) (W : Valuation τ sig (Elt F)) : (held (SparseCore.T d : Thread nD τ) (ucRefs τ sig) W : sProp (MM F))
    = iprop(Tin d (compGot W) ∗ tl d main_v37 (W main_v37) ∗ Tout d (packGot W) ∗ heldRest d W) := by
  have h : (held (SparseCore.T d : Thread nD τ) (ucRefs τ sig) W : sProp (MM F)) = (scList.map fun b => (Proc.devRef .tc b : DevRef τ sig)).foldr
      (fun b R => iprop((((d, b) : Loc nD τ sig) ↦{fullShare} W b) ∗ R)) (heldRest d W) := by
    refine bigSep_list _ _ (List.Nodup.map (Proc.devRef_injective _) (show scList.Nodup by decide)) _ fun x hx => ?_
    obtain ⟨b, hb, rfl⟩ := List.mem_map.mp hx
    exact Finset.mem_filter.mpr ⟨StableHlo.devRef_mem_tcRefs b, by rw [(show ∀ b ∈ scList, (Proc.devRef .tc b : DevRef τ sig).isScoped = false by decide) b hb]; exact Bool.false_ne_true⟩
  have assoc : ∀ P Q R : sProp (MM F), iprop((P ∗ Q) ∗ R) = iprop(P ∗ Q ∗ R) := fun _ _ _ => Entails.antisymm sep_assoc sep_assoc'
  rw [h]
  unfold Tin Tout
  simp only [assoc]
  rfl

theorem heldRest_pack (d : Dev nD) (W : Valuation τ sig (Elt F)) (u) : heldRest d (packVal W u) = heldRest d W := by
  refine bigSep_congr fun b hb => ?_
  rw [packVal_ne W u b fun c hc he => (Finset.mem_sdiff.mp hb).2 (he ▸ List.mem_toFinset.mpr (List.mem_map_of_mem (by
    simp only [List.mem_cons, List.not_mem_nil, or_false] at hc ⊢; tauto)))]

theorem compGot_pack (W : Valuation τ sig (Elt F)) (u) : compGot (packVal W u) = compGot W := by
  funext k
  fin_cases k <;> exact packVal_ne W u _ (by decide)

/-- What is known at the end. -/
def Ends (d : Dev nD) (W : Valuation τ sig (Elt F)) : Prop :=
  W main_arg0 = argA m d ∧ W main_arg1 = argB m d
    ∧ ∃ u, Result (compOf (argA m d) (argB m d)) (endOf (argA m d) (argB m d)) u ∧ W main_v49 = stacked u

/-- Every buffer at the end. -/
def FIN (d : Dev nD) : sProp (MM F) := iprop(∃ W, ⌜Ends m d W⌝ ∗ held (SparseCore.T d : Thread nD τ) (ucRefs τ sig) W)

/-- The buffers' contents at the start. -/
abbrev W0 (d : Dev nD) : Valuation τ sig (Elt F) := fun b => m (d, b)
/-- After the first stretch; the first call; the second stretch; the second call; the third stretch. -/
abbrev W1 (d : Dev nD) : Valuation τ sig (Elt F) := after ops0 (W0 m d)
abbrev W2 (d : Dev nD) : Valuation τ sig (Elt F) := prepVal (W1 m d)
abbrev W3 (d : Dev nD) : Valuation τ sig (Elt F) := after ops1 (W2 m d)
abbrev W4 (d : Dev nD) : Valuation τ sig (Elt F) := scanVal (W3 m d)
abbrev W5 (d : Dev nD) : Valuation τ sig (Elt F) := after ops2 (W4 m d)

theorem prepGot_2 (d : Dev nD) : prepGot (W2 m d) = prepOut (inCols (argA m d) (argB m d)) := by
  have h : prepIn (W1 m d) = inCols (argA m d) (argB m d) := ops0_in (W0 m d)
  rw [← h]
  funext k
  fin_cases k
  · exact prepVal_0 _
  · exact prepVal_1 _
  · exact prepVal_2 _
  · exact prepVal_3 _
  · exact prepVal_4 _
  · exact prepVal_5 _

theorem compGot_5 (d : Dev nD) : compGot (W5 m d) = compOf (argA m d) (argB m d) := by
  rw [ops2_in]
  have h1 : sortGot (W4 m d) = sortedOf (argA m d) (argB m d) := by
    have h : sortGot (W3 m d) = sortedOf (argA m d) (argB m d) := by rw [ops1_sort, prepGot_2]; rfl
    rw [← h]
    funext k
    fin_cases k <;> exact scanVal_ne _ _ (by decide)
  have h2 : W4 m d main_v35_0 = scanRes (posCols (sortedOf (argA m d) (argB m d))) (rowCols (sortedOf (argA m d) (argB m d))) := by
    unfold W4 W3
    rw [scanVal_0, ops1_pos, ops1_row, prepGot_2]; rfl
  rw [h1, h2]; rfl

theorem end_5 (d : Dev nD) : W5 m d main_v37 = endOf (argA m d) (argB m d) := by
  unfold W5
  rw [ops2_end]
  have h2 : W4 m d main_v35_1 = scanEnd (posCols (sortedOf (argA m d) (argB m d))) (rowCols (sortedOf (argA m d) (argB m d))) := by
    unfold W4 W3
    rw [scanVal_1, ops1_pos, ops1_row, prepGot_2]; rfl
  rw [h2]; rfl

theorem arg_5 (d : Dev nD) : W5 m d main_arg0 = argA m d ∧ W5 m d main_arg1 = argB m d := by
  unfold W5 W4 W3 W2 W1
  constructor
  · rw [(ops2_arg _).1, scanVal_ne _ _ (by decide), (ops1_arg _).1, prepVal_ne _ _ (by decide), (ops0_arg _).1]
  · rw [(ops2_arg _).2, scanVal_ne _ _ (by decide), (ops1_arg _).2, prepVal_ne _ _ (by decide), (ops0_arg _).2]

theorem ends (d : Dev nD) (u) (h : Result (compOf (argA m d) (argB m d)) (endOf (argA m d) (argB m d)) u) : Ends m d (after ops3 (packVal (W5 m d) u)) := by
  refine ⟨?_, ?_, u, h, ?_⟩
  · rw [(ops3_arg _).1, packVal_ne _ _ _ (by decide), (arg_5 m d).1]
  · rw [(ops3_arg _).2, packVal_ne _ _ _ (by decide), (arg_5 m d).2]
  · rw [ops3_out, packVal_got]

/-! ## The run of the host program -/

theorem st0_eq (d : Dev nD) : (bigSep Finset.univ fun c : Fin ((K (F := F)).nCore 0) => (P (RelOf m)).st 0 d c) = stP (RelOf m) d := by
  show (bigSep Finset.univ fun c : Fin ((K (F := F)).nCore 0) => if c.val = 0 then stP (RelOf m) d else iprop(emp)) = _
  exact bigSep_first 2 (by decide) _
theorem dn0_eq (d : Dev nD) : (bigSep Finset.univ fun c : Fin ((K (F := F)).nCore 0) => (P (RelOf m)).dn 0 d c) = dnP (RelOf m) d := by
  show (bigSep Finset.univ fun c : Fin ((K (F := F)).nCore 0) => if c.val = 0 then dnP (RelOf m) d else iprop(emp)) = _
  exact bigSep_first 2 (by decide) _

theorem sub_uc {ops : List (HloOp τ sig (Elt F))} (h : ops.Forall fun op => op.bufs ⊆ StableHlo.tcRefs τ sig) : ∀ op ∈ ops, op.bufs ⊆ ucRefs τ sig :=
  fun op ho => Pipeline.sub_ucRefs op (List.forall_iff_forall_mem.mp h op ho)

/-- The TensorCore's handshake state at the start: what it owes, and the rest. -/
theorem tcSt_split (d : Dev nD) : ∃ R, ((K (F := F)).tcSt EH d 0 : sProp (MM F)) = iprop(tcOwes (F := F) d ∗ R) := by
  unfold SparseCore.Cfg.tcSt tcOwes
  exact ⟨_, rfl⟩

set_option maxHeartbeats 4000000 in
/-- The host program on the TensorCore, from the launch to its end. -/
theorem hmain [∀ e, Nonempty (Elt F e)] (κ : GSem nD τ sig → ℕ) (d : Dev nD) :
    iprop((K (F := F)).ctx EH (P (RelOf m)) κ (K (F := F)).lev ∗ (K (F := F)).tcSt EH d 0 ∗ (K (F := F)).tcRes m ρ d ∗ (ghost (F := F) 0 d ∗ ghost (F := F) 1 d))
      ⊢ wp frame (wpE ((K (F := F)).defs (D (F := F))) 𝒱 (SparseCore.T d) none) Set.univ (main d)
          fun _ => iprop((K (F := F)).tcSt EH d 1 ∗ FIN m d ∗ (K (F := F)).tcEnd d) := by
  have e0 : (unscopedBufs d (fun b => m ((SparseCore.T d : Thread nD τ).loc b)) : sProp (MM F)) = held (SparseCore.T d : Thread nD τ) (ucRefs τ sig) (W0 m d) :=
    Pipeline.unscopedBufs_held d (W0 m d)
  unfold SparseCore.Cfg.tcRes SparseCore.Cfg.tcEnd
  obtain ⟨R, eR⟩ := tcSt_split (F := F) d
  rw [main_eq, e0, eR]
  iintro ⟨#Hctx, Hst, ⟨Hb, HW, Hts, -⟩, ⟨HG0, HG1⟩⟩
  ihave Hlv := ((K (F := F)).ctx_levAts κ) $$ Hctx
  icases Hlv with #Hlv
  iapply (StableHlo.wp_seq 𝒱 none Set.univ d (ucRefs τ sig) _ ops0 (sub_uc ops0_sub) (List.forall_iff_forall_mem.mp ops0_fresh) (W0 m d)) $$ [Hb HW]
  · isplitl [Hb]; · iexact Hb
    iexact HW
  iintro ⟨Hb, HW⟩
  icases Hst with ⟨HO, Hst⟩
  rw [wp_bind]
  iapply (call_step 0 (W1 m d) d (prepSeg (W1 m d)) _)
  isplitl [Hb]; · iexact Hb
  isplitl [HW HO]
  · iapply (show iprop(held (SparseCore.T d : Thread nD τ) (ucRefs τ sig) (W1 m d) ∗ tcOwes (F := F) d) ⊢ (prepSeg (W1 m d)).pre d from
      Entails.of_eq (congrArg (fun X => iprop(X ∗ tcOwes (F := F) d)) (Pipeline.unscopedBufs_held d (W1 m d)).symm))
    isplitl [HW]; · iexact HW
    iexact HO
  isplitr; · iexact Hlv
  isplitl [HG0]; · iexact HG0
  iintro ⟨Hb, HR⟩
  ihave HR := (show (prepSeg (W1 m d)).post d ⊢ iprop(held (SparseCore.T d : Thread nD τ) (ucRefs τ sig) (W2 m d) ∗ tcOwes (F := F) d) from
      Entails.of_eq (congrArg (fun X => iprop(X ∗ tcOwes (F := F) d)) (Pipeline.unscopedBufs_held d (W2 m d)))) $$ HR
  icases HR with ⟨HW, HO⟩
  iapply (StableHlo.wp_seq 𝒱 none Set.univ d (ucRefs τ sig) _ ops1 (sub_uc ops1_sub) (List.forall_iff_forall_mem.mp ops1_fresh) (W2 m d)) $$ [Hb HW]
  · isplitl [Hb]; · iexact Hb
    iexact HW
  iintro ⟨Hb, HW⟩
  rw [wp_bind]
  iapply (call_step 1 (W3 m d) d (scanSeg (W3 m d)) _)
  isplitl [Hb]; · iexact Hb
  isplitl [HW HO]
  · iapply (show iprop(held (SparseCore.T d : Thread nD τ) (ucRefs τ sig) (W3 m d) ∗ tcOwes (F := F) d) ⊢ (scanSeg (W3 m d)).pre d from
      Entails.of_eq (congrArg (fun X => iprop(X ∗ tcOwes (F := F) d)) (Pipeline.unscopedBufs_held d (W3 m d)).symm))
    isplitl [HW]; · iexact HW
    iexact HO
  isplitr; · iexact Hlv
  isplitl [HG1]; · iexact HG1
  iintro ⟨Hb, HR⟩
  ihave HR := (show (scanSeg (W3 m d)).post d ⊢ iprop(held (SparseCore.T d : Thread nD τ) (ucRefs τ sig) (W4 m d) ∗ tcOwes (F := F) d) from
      Entails.of_eq (congrArg (fun X => iprop(X ∗ tcOwes (F := F) d)) (Pipeline.unscopedBufs_held d (W4 m d)))) $$ HR
  icases HR with ⟨HW, HO⟩
  iapply (StableHlo.wp_seq 𝒱 none Set.univ d (ucRefs τ sig) _ ops2 (sub_uc ops2_sub) (List.forall_iff_forall_mem.mp ops2_fresh) (W4 m d)) $$ [Hb HW]
  · isplitl [Hb]; · iexact Hb
    iexact HW
  iintro ⟨Hb, HW⟩
  ihave HW := (Entails.of_eq (held_sc d (W5 m d))) $$ HW
  icases HW with ⟨HI, HE, HP, HW⟩
  rw [wp_bind]
  iapply ((K (F := F)).wp_run (D (F := F)) 𝒱 (EH := EH) (P := P (RelOf m)) κ d 0) $$ [Hst HO HI HE HP Hb HW Hts]
  isplitr; · iexact Hctx
  isplitl [Hst HO]
  · iapply (Entails.of_eq eR.symm)
    isplitl [HO]; · iexact HO
    iexact Hst
  isplitl [HI HE HP]
  · rw [st0_eq]
    unfold stP
    iexists (compGot (W5 m d)), (W5 m d main_v37), (packGot (W5 m d))
    isplitr
    · ipureintro; exact ⟨compGot_5 m d, end_5 m d⟩
    isplitl [HI]; · iexact HI
    isplitl [HE]; · iexact HE
    iexact HP
  iintro ⟨Hst, Hdn⟩
  ihave Hdn := (Entails.of_eq (dn0_eq m d)) $$ Hdn
  unfold dnP
  icases Hdn with ⟨%f, %e, %u, %hr, HI, HE, HP⟩
  obtain ⟨⟨hf, he⟩, hu⟩ := hr
  subst hf he
  ihave HW := (show iprop(Tin d (compOf (argA m d) (argB m d)) ∗ tl d main_v37 (endOf (argA m d) (argB m d)) ∗ Tout d u ∗ heldRest d (W5 m d)) ⊢
      held (SparseCore.T d : Thread nD τ) (ucRefs τ sig) (packVal (W5 m d) u) from Entails.of_eq (by
        rw [held_sc, heldRest_pack, compGot_pack, packVal_got, compGot_5, packVal_ne _ _ _ (by decide), end_5])) $$ [HI HE HP HW]
  · isplitl [HI]; · iexact HI
    isplitl [HE]; · iexact HE
    isplitl [HP]; · iexact HP
    iexact HW
  rw [← bind_pure (StableHlo.seq ops3)]
  iapply (StableHlo.wp_seq 𝒱 none Set.univ d (ucRefs τ sig) _ ops3 (sub_uc ops3_sub) (List.forall_iff_forall_mem.mp ops3_fresh) (packVal (W5 m d) u)) $$ [Hb HW]
  · isplitl [Hb]; · iexact Hb
    iexact HW
  iintro ⟨Hb, HW⟩
  rw [wp_pure]
  imodintro
  isplitl [Hst]; · iexact Hst
  isplitl [HW]
  · unfold FIN
    iexists (after ops3 (packVal (W5 m d) u))
    isplitr
    · ipureintro; exact ends m d u hu
    iexact HW
  isplitl [Hb]; · iexact Hb
  iexact Hts

/-! ## The launch -/

/-- The launch's ghost state: the handshakes' rounds, and the staging cells' of the two TensorCore calls. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem two_eq (Φ : Fin 2 → sProp (MM F)) : bigSep Finset.univ Φ = iprop(Φ 0 ∗ Φ 1) := by
  rw [show (Finset.univ : Finset (Fin 2)) = {0, 1} from rfl, SparseCore.bigSep_insert' (by decide), bigSep_singleton]

theorem hu₀ : (ownU (u₀ (F := F)) : sProp (MM F))
    ⊢ |={Set.univ}=> iprop(BI.own (EH (initOf (K (F := F)).hsCells (K (F := F)).hsToks)) ∗ (bigSep Finset.univ fun d : Dev nD => iprop(ghost (F := F) 0 d ∗ ghost (F := F) 1 d))
        ∗ bigSep Finset.univ fun thr : Thread nD τ => bigSep Finset.univ fun q : Fin 1 => (P (RelOf m)).x q thr) := by
  unfold u₀
  iintro Hu
  ihave H := (ownU_pair _ _) $$ Hu
  icases H with ⟨HH, HR⟩
  ihave HR := (own_pair_emb embR (initOf (Pipeline.cells (Pipeline.pin (pcfgs (F := F)) adm) cellOf_inj) (Pipeline.launchToks (Pipeline.pin (pcfgs (F := F)) adm) cellOf_inj) : UP) (1 : Counters)) $$ HR
  icases HR with ⟨HP, -⟩
  imod (Pipeline.fund_ghost (Pipeline.pin (pcfgs (F := F)) adm) EP cellOf_inj) $$ HP with ⟨HC, HT⟩
  imodintro
  isplitl [HH]; · iexact HH
  isplitl [HC HT]
  · have one : ∀ Φ : Dev nD → sProp (MM F), bigSep Finset.univ Φ = Φ 0 := fun Φ => bigSep_univ_of_subsingleton 0
    simp only [one, two_eq]
    unfold ghost
    icases HC with ⟨C0, C1⟩
    icases HT with ⟨T0, T1⟩
    isplitl [C0 T0]
    · isplitl [C0]; · iexact C0
      iexact T0
    isplitl [C1]; · iexact C1
    iexact T1
  rw [show (bigSep Finset.univ fun thr : Thread nD τ => bigSep Finset.univ fun q : Fin 1 => (P (F := F) (RelOf m)).x q thr) = bigSep Finset.univ fun _ => iprop(emp) from
    bigSep_congr fun _ _ => bigSep_univ_of_subsingleton (0 : Fin 1), bigSep_emp']
  iempintro

/-- What is read of the memory at the end. -/
def fq (d : Dev nD) (s' : Phys nD τ sig (Elt F)) : Prop :=
  s'.mem.mem ((SparseCore.T d : Thread nD τ).loc main_arg0) = argA m d ∧ s'.mem.mem ((SparseCore.T d : Thread nD τ).loc main_arg1) = argB m d
    ∧ ∃ u, Result (compOf (argA m d) (argB m d)) (endOf (argA m d) (argB m d)) u ∧ s'.mem.mem ((SparseCore.T d : Thread nD τ).loc main_v49) = stacked u

/-- The buffers the claims speak of. -/
def outList : List (Ref sig .tc) := [main_arg0, main_arg1, main_v49]

theorem hfin (d : Dev nD) (s' : Phys nD τ sig (Elt F)) : iprop(FIN m d ∗ SI s') ⊢ (⌜fq m d s'⌝ : sProp (MM F)) := by
  have he : ∀ W : Valuation τ sig (Elt F), (held (SparseCore.T d : Thread nD τ) (ucRefs τ sig) W : sProp (MM F))
      = (outList.map fun b => (Proc.devRef .tc b : DevRef τ sig)).foldr (fun b R => iprop((((d, b) : Loc nD τ sig) ↦{fullShare} W b) ∗ R))
        (bigSep (ucRefs τ sig \ (outList.map fun b => (Proc.devRef .tc b : DevRef τ sig)).toFinset) fun b => iprop(((d, b) : Loc nD τ sig) ↦{fullShare} W b)) := fun W => by
    refine bigSep_list _ _ (List.Nodup.map (Proc.devRef_injective _) (show outList.Nodup by decide)) _ fun x hx => ?_
    obtain ⟨b, hb, rfl⟩ := List.mem_map.mp hx
    exact Finset.mem_filter.mpr ⟨StableHlo.devRef_mem_tcRefs b, by rw [(show ∀ b ∈ outList, (Proc.devRef .tc b : DevRef τ sig).isScoped = false by decide) b hb]; exact Bool.false_ne_true⟩
  unfold FIN
  iintro ⟨⟨%W, %hW, H⟩, HSI⟩
  ihave H := (show (held (SparseCore.T d : Thread nD τ) (ucRefs τ sig) W : sProp (MM F)) ⊢
      iprop(tl d main_arg0 (W main_arg0) ∗ tl d main_arg1 (W main_arg1) ∗ tl d main_v49 (W main_v49)
        ∗ bigSep (ucRefs τ sig \ (outList.map fun b => (Proc.devRef .tc b : DevRef τ sig)).toFinset) fun b => iprop(((d, b) : Loc nD τ sig) ↦{fullShare} W b))
      from Entails.of_eq (he W)) $$ H
  icases H with ⟨Hx, Ha, Hr, -⟩
  ihave H := (persistent_entails_right (SI_pointsTo_agree (st := s') (ℓ := (SparseCore.T d : Thread nD τ).loc main_arg0) (I := Finset.univ) (q := fullShare) (f := W main_arg0))) $$ [HSI Hx]
  · isplitl [HSI] <;> iassumption
  icases H with ⟨%hx, HSI, -⟩
  ihave H := (persistent_entails_right (SI_pointsTo_agree (st := s') (ℓ := (SparseCore.T d : Thread nD τ).loc main_arg1) (I := Finset.univ) (q := fullShare) (f := W main_arg1))) $$ [HSI Ha]
  · isplitl [HSI] <;> iassumption
  icases H with ⟨%ha, HSI, -⟩
  ihave H := (SI_pointsTo_agree (st := s') (ℓ := (SparseCore.T d : Thread nD τ).loc main_v49) (I := Finset.univ) (q := fullShare) (f := W main_v49)) $$ [HSI Hr]
  · isplitl [HSI] <;> iassumption
  icases H with %hr
  ipureintro
  obtain ⟨h1, h2, u, hu, h3⟩ := hW
  exact ⟨(funext fun i => hx i (Finset.mem_univ i) : s'.mem.mem _ = W main_arg0).trans h1,
    (funext fun i => ha i (Finset.mem_univ i) : s'.mem.mem _ = W main_arg1).trans h2, u, hu,
    (funext fun i => hr i (Finset.mem_univ i) : s'.mem.mem _ = W main_v49).trans h3⟩

def QC : PUnit × MemSt nD τ sig (Elt F) → Prop := fun r => (∀ d : Dev nD, r.2.mem ((SparseCore.T d : Thread nD τ).loc main_arg0) = argA m d
    ∧ r.2.mem ((SparseCore.T d : Thread nD τ).loc main_arg1) = argB m d
    ∧ ∃ u, Result (compOf (argA m d) (argB m d)) (endOf (argA m d) (argB m d)) u ∧ r.2.mem ((SparseCore.T d : Thread nD τ).loc main_v49) = stacked u)
  ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (RelOf m)) (A := ∅) scFacts v₀
    (fun q hq => match q with | 0 => nomatch hq)
    (fun q _ => match q with | 0 => tileObl (RelOf m) scFacts)
    (fun q _ => match q with | 0 => SparseCore.Cfg.VecSplit.of_plain (vecSplit (RelOf m)))
    m ρ main (fun d => iprop(ghost (F := F) 0 d ∗ ghost (F := F) 1 d)) (FIN m) (u₀ (F := F)) (sep_elim_left.trans (hu₀ m)) (hmain m ρ) (fq m) (hfin m) (QC m) (fun _ h hz => ⟨h, hz⟩)

end Cert.KernelIdeal.Prf

end
-- ==== Proof.V.Greedy.lean ====
/-
  Greedy suppression along positions, apart from any program. A position is kept when it is valid and no earlier kept
  position suppresses it. The flags that satisfy this equation are unique; a selection that takes, again and again, the
  first position not yet suppressed finds the kept positions in order; and a scan cut off after enough positions packs
  the same values.
-/
module

public import proofs.«01_k».proof.Proof.Compact

@[expose] public section

namespace Cert.Greedy

/-- Kept: valid, and suppressed by no earlier kept position. -/
def Kept (V : ℕ → Prop) (S : ℕ → ℕ → Prop) (p : ℕ) : Prop := V p ∧ ∀ j, (h : j < p) → Kept V S j → ¬ S p j
termination_by p

variable {V : ℕ → Prop} {S : ℕ → ℕ → Prop}

theorem kept_iff (p : ℕ) : Kept V S p ↔ V p ∧ ∀ j < p, Kept V S j → ¬ S p j := by rw [Kept]

/-- Flags that satisfy the equation below `n` are the kept ones there. -/
theorem kept_unique (K : ℕ → Prop) (n : ℕ) (h : ∀ p < n, K p ↔ V p ∧ ∀ j < p, K j → ¬ S p j) : ∀ p < n, K p ↔ Kept V S p := by
  intro p
  induction p using Nat.strongRecOn with
  | ind p ih =>
    intro hp
    rw [h p hp, kept_iff]
    refine and_congr_right fun _ => forall₂_congr fun j hj => ?_
    rw [ih j hj (hj.trans hp)]

/-- One block's kept positions, from the earlier ones: `base` positions are settled, `A` says which of the block's are
    suppressed by none of those. -/
theorem kept_block (base n : ℕ) (A : ℕ → Prop) (hA : ∀ i < n, A i ↔ V (base + i) ∧ ∀ j < base, Kept V S j → ¬ S (base + i) j) :
    ∀ i < n, Kept A (fun i j => S (base + i) (base + j)) i ↔ Kept V S (base + i) := by
  intro i
  induction i using Nat.strongRecOn with
  | ind i ih =>
    intro hi
    rw [kept_iff, kept_iff (base + i), hA i hi]
    constructor
    · rintro ⟨⟨hv, h1⟩, h2⟩
      refine ⟨hv, fun j hj hk => ?_⟩
      by_cases hb : j < base
      · exact h1 j hb hk
      · obtain ⟨k, rfl⟩ := Nat.exists_eq_add_of_le (Nat.le_of_not_lt hb)
        exact h2 k (by omega) ((ih k (by omega) (by omega)).mpr hk)
    · rintro ⟨hv, h⟩
      exact ⟨⟨hv, fun j hj hk => h j (by omega) hk⟩, fun j hj hk => h _ (by omega) ((ih j hj (by omega)).mp hk)⟩

open Classical in
/-- Below a position with more than `t` kept ones before it lies the one of rank `t`. -/
theorem exists_rank (K : ℕ → Prop) (t : ℕ) : ∀ p, t < Nat.count K p → ∃ j < p, K j ∧ Nat.count K j = t := by
  intro p
  induction p with
  | zero => intro h; simp at h
  | succ p ih =>
    intro h
    by_cases hk : t < Nat.count K p
    · obtain ⟨j, hj, h1⟩ := ih hk
      exact ⟨j, by omega, h1⟩
    · rw [Nat.count_succ] at h
      by_cases hp : K p
      · rw [if_pos hp] at h
        exact ⟨p, by omega, hp, by omega⟩
      · rw [if_neg hp] at h; omega

open Classical in
/-- Not yet taken nor suppressed after `t` selections. -/
def Left (V : ℕ → Prop) (S : ℕ → ℕ → Prop) (t p : ℕ) : Prop :=
  V p ∧ ∀ j, Kept V S j → Nat.count (Kept V S) j < t → j ≠ p ∧ ¬ S p j

theorem left_zero (p : ℕ) : Left V S 0 p ↔ V p := by unfold Left; simp

open Classical in
/-- A kept position of rank at least `t` is left after `t` selections. -/
theorem left_of_kept {t j : ℕ} (hj : Kept V S j) (ht : t ≤ Nat.count (Kept V S) j) : Left V S t j := by
  refine ⟨((kept_iff j).mp hj).1, fun k hk hc => ⟨fun e => by subst e; omega, ?_⟩⟩
  refine ((kept_iff j).mp hj).2 k ?_ hk
  by_contra hn
  have := Nat.count_monotone (Kept V S) (Nat.le_of_not_lt hn)
  omega

open Classical in
/-- The first position left is the kept one of rank `t`. -/
theorem first_left {t p : ℕ} (hp : Left V S t p) (hmin : ∀ q < p, ¬ Left V S t q) :
    Kept V S p ∧ Nat.count (Kept V S) p = t := by
  have hlt : ∀ j < p, Kept V S j → Nat.count (Kept V S) j < t := fun j hj hk => by
    by_contra hn
    exact hmin j hj (left_of_kept hk (Nat.le_of_not_lt hn))
  have hkp : Kept V S p := (kept_iff p).mpr ⟨hp.1, fun j hj hk => (hp.2 j hk (hlt j hj hk)).2⟩
  refine ⟨hkp, Nat.le_antisymm (Nat.le_of_not_lt fun h => ?_) (Nat.le_of_not_lt fun h => (hp.2 p hkp h).1 rfl)⟩
  obtain ⟨j, hj, hk, hc⟩ := exists_rank _ t p h
  exact absurd (hlt j hj hk) (by omega)

open Classical in
/-- What is left after one more selection. -/
theorem left_succ {t p : ℕ} (hp : Kept V S p) (hc : Nat.count (Kept V S) p = t) (q : ℕ) :
    Left V S (t + 1) q ↔ Left V S t q ∧ p ≠ q ∧ ¬ S q p := by
  constructor
  · rintro ⟨h1, h2⟩
    exact ⟨⟨h1, fun j hj hl => h2 j hj (by omega)⟩, h2 p hp (by omega)⟩
  · rintro ⟨⟨h1, h2⟩, h3⟩
    refine ⟨h1, fun j hj hl => ?_⟩
    rcases Nat.lt_succ_iff_lt_or_eq.mp hl with h | h
    · exact h2 j hj h
    · rwa [Nat.count_injective hj hp (h.trans hc.symm)]

open Classical in
/-- With nothing left every kept position is selected. -/
theorem none_left {t : ℕ} (h : ∀ q, ¬ Left V S t q) (j : ℕ) (hj : Kept V S j) : Nat.count (Kept V S) j < t := by
  by_contra hn
  exact h j (left_of_kept hj (Nat.le_of_not_lt hn))

open Classical in
theorem left_succ_none {t : ℕ} (h : ∀ q, ¬ Left V S t q) (q : ℕ) : ¬ Left V S (t + 1) q :=
  fun hl => h q ⟨hl.1, fun j hj hc => hl.2 j hj (by omega)⟩

open Classical in
/-- A scan that stops at position `e` packs what the whole would, in the first `cap` slots, if it stops only after
    `cap` kept positions or where none valid follows. -/
theorem packed_of_cut {α : Type} (xs : ℕ → α) (z : α) (n e cap : ℕ) (K' : ℕ → Prop) (u : Compact.V2048.Idx → α)
    (hK : ∀ p, K' p ↔ Kept V S p ∧ p < e) (hstop : cap ≤ Nat.count (Kept V S) e ∨ ∀ p, e ≤ p → ¬ V p)
    (h : Compact.Packed K' xs z n u) (i : Compact.V2048.Idx) (hi : (i 0).val < cap) :
    (∀ p < n, Kept V S p → Nat.count (Kept V S) p = (i 0).val → u i = xs p)
      ∧ (Nat.count (Kept V S) n ≤ (i 0).val → u i = z) := by
  have hcnt : ∀ p ≤ e, Nat.count K' p = Nat.count (Kept V S) p := by
    intro p
    induction p with
    | zero => intro _; simp
    | succ p ih =>
      intro hp
      rw [Nat.count_succ, Nat.count_succ, ih (by omega)]
      have : K' p ↔ Kept V S p := by rw [hK]; exact and_iff_left (by omega)
      simp only [this]
  have hle : ∀ p, Nat.count K' p ≤ Nat.count (Kept V S) p := fun p => by
    refine Nat.count_mono_left fun k _ hk => ?_
    exact ((hK k).mp hk).1
  refine ⟨fun p hp hk hc => ?_, fun hc => (h i).2 ((hle n).trans hc)⟩
  have hpe : p < e := by
    by_contra hn
    rcases hstop with hs | hs
    · have := Nat.count_monotone (Kept V S) (Nat.le_of_not_lt hn); omega
    · exact hs p (Nat.le_of_not_lt hn) ((kept_iff p).mp hk).1
  exact (h i).1 p hp ((hK p).mpr ⟨hk, hpe⟩) ((hcnt p hpe.le).trans hc)

end Cert.Greedy

end
-- ==== Proof.V.Box.lean ====
/-
  Boxes on the extended reals, apart from any program: clipping, validity, working score, overlap.
-/
module

public import Idealize.ShloMosaic.Lib.ValueIdx

@[expose] public section

noncomputable section

namespace Cert.Box

open Idealize.ShloMosaic

/-- A coordinate brought into the image. -/
def clip (x : EReal) : EReal := min (Ideal.ofBits .f32 0x43FA0000#32) (max (Ideal.ofBits .f32 0x00000000#32) x)

/-- Large enough and scored enough. -/
def Ok (a b c d s : EReal) : Prop :=
  (Ideal.ofBits .f32 0x41200000#32 ≤ c - a ∧ Ideal.ofBits .f32 0x41200000#32 ≤ d - b) ∧ Ideal.ofBits .f32 0x3F000000#32 < s

open Classical in
/-- The score of a valid box, minus infinity for any other. -/
def work (a b c d s : EReal) : EReal := if Ok a b c d s then s else ⊥

/-- The area common to two boxes. -/
def inter (a b c d a' b' c' d' : EReal) : EReal :=
  max (Ideal.ofBits .f32 0x00000000#32) (min c c' - max a a') * max (Ideal.ofBits .f32 0x00000000#32) (min d d' - max b b')

/-- The area of a box. -/
def area (a b c d : EReal) : EReal := (c - a) * (d - b)

/-- The ratio of the common area `i` to that of the union is above the threshold, the boxes' areas being `p` and `q`. -/
def Above (i p q : EReal) : Prop :=
  Ideal.ofBits .f32 0x3F333333#32 < Ideal.div i ((p + q) - i + Ideal.ofBits .f32 0x3089705F#32)

/-- The first box overlaps the second too much. -/
def Over (u v : Fin 4 → EReal) : Prop :=
  Above (inter (u 0) (u 1) (u 2) (u 3) (v 0) (v 1) (v 2) (v 3)) (area (u 0) (u 1) (u 2) (u 3)) (area (v 0) (v 1) (v 2) (v 3))

theorem half_pos : (0 : EReal) < Ideal.ofBits .f32 0x3F000000#32 := by
  simp [Ideal.ofBits, Ideal.ieee]
  rw [← EReal.coe_mul]
  exact EReal.coe_pos.mpr (by norm_num)

theorem work_ne_bot (a b c d s : EReal) : work a b c d s ≠ ⊥ ↔ Ok a b c d s := by
  unfold work
  split
  · rename_i h
    exact ⟨fun _ => h, fun _ => (bot_le.trans_lt (half_pos.trans h.2)).ne'⟩
  · rename_i h
    exact ⟨fun hn => absurd rfl hn, fun hk => absurd hk h⟩

theorem neg_work_neg (a b c d s : EReal) : 0 - work a b c d s < 0 ↔ Ok a b c d s := by
  unfold work
  split
  · rename_i h
    refine ⟨fun _ => h, fun _ => ?_⟩
    rw [zero_sub, EReal.neg_lt_comm, neg_zero]
    exact half_pos.trans h.2
  · rename_i h
    refine ⟨fun hn => ?_, fun hk => absurd hk h⟩
    rw [zero_sub, EReal.neg_lt_comm, neg_zero] at hn
    exact absurd hn not_lt_bot

end Cert.Box

end
-- ==== Proof.V.Select.lean ====
/-
  Greedy suppression by repeated selection, apart from any program. `M` boxes carry scores; the scores' order, largest
  first and equal ones by index, is a list of positions. Taking the best score again and again, and striking out what it
  overlaps, selects the kept positions of that list in order.
-/
module

public import proofs.«01_k».proof.Proof.V.Greedy
public import proofs.«01_k».proof.Proof.V.Box

@[expose] public section

namespace Cert.Select

open Cert.Greedy

/-- The order of `N` scores, those from `M` on being minus infinity. -/
structure Ordered (M N : ℕ) (w : ℕ → EReal) (π : ℕ → ℕ) : Prop where
  lt : ∀ p < N, π p < N
  inj : ∀ p < N, ∀ q < N, π p = π q → p = q
  surj : ∀ i < N, ∃ p < N, π p = i
  lex : ∀ p q, p < q → q < N → w (π q) < w (π p) ∨ (w (π p) = w (π q) ∧ π p < π q)
  pad : ∀ i, M ≤ i → w i = ⊥
  le : M ≤ N

variable {M N : ℕ} {w : ℕ → EReal} {π : ℕ → ℕ} (box : ℕ → Fin 4 → EReal)

/-- A position whose score is not minus infinity. -/
def Val (N : ℕ) (w : ℕ → EReal) (π : ℕ → ℕ) (p : ℕ) : Prop := p < N ∧ w (π p) ≠ ⊥

/-- The box of one position overlaps that of another too much. -/
def Sup (box : ℕ → Fin 4 → EReal) (π : ℕ → ℕ) (p q : ℕ) : Prop := Box.Over (box (π p)) (box (π q))

/-- Valid positions come first. -/
theorem Ordered.val_down (h : Ordered M N w π) {p q : ℕ} (hq : Val N w π q) (hpq : p ≤ q) : Val N w π p := by
  rcases hpq.lt_or_eq with hlt | rfl
  · refine ⟨hlt.trans hq.1, fun he => ?_⟩
    rcases h.lex p q hlt hq.1 with h1 | h1
    · rw [he] at h1; exact not_lt_bot h1
    · exact hq.2 (h1.1 ▸ he)
  · exact hq

/-- The position of the best of the scores `s`. -/
def Best (M : ℕ) (s : ℕ → EReal) (b : ℕ) : Prop :=
  b < M ∧ ((∀ i < M, s i = ⊥) ∨ (s b ≠ ⊥ ∧ (∀ i < M, s i ≤ s b) ∧ ∀ i < b, s i < s b))

open Classical in
/-- The scores and the selection after `t` trips. -/
structure Inv (M N : ℕ) (w : ℕ → EReal) (π : ℕ → ℕ) (box : ℕ → Fin 4 → EReal) (t : ℕ) (s : ℕ → EReal) (sel : ℕ → BitVec 32) : Prop where
  score : ∀ p < N, π p < M → s (π p) = if Left (Val N w π) (Sup box π) t p then w (π p) else ⊥
  taken : ∀ e < t, ∀ p, Kept (Val N w π) (Sup box π) p → Nat.count (Kept (Val N w π) (Sup box π)) p = e → sel e = BitVec.ofNat 32 (π p)
  none : ∀ e < t, (∀ p, Kept (Val N w π) (Sup box π) p → Nat.count (Kept (Val N w π) (Sup box π)) p ≠ e) → sel e = 4294967295#32

open Classical in
theorem Inv.zero (s : ℕ → EReal) (hs : ∀ i < M, s i = w i) (sel : ℕ → BitVec 32) : Inv M N w π box 0 s sel := by
  refine ⟨fun p hp hM => ?_, fun e he => absurd he (Nat.not_lt_zero e), fun e he => absurd he (Nat.not_lt_zero e)⟩
  rw [hs _ hM]
  split
  · rfl
  · rename_i h
    by_contra hn
    exact h ((left_zero p).mpr ⟨hp, fun e => hn e⟩)

open Classical in
/-- One trip. -/
theorem Inv.succ (ho : Ordered M N w π) {t : ℕ} {s s' : ℕ → EReal} {sel sel' : ℕ → BitVec 32} (h : Inv M N w π box t s sel) {b : ℕ} (hb : Best M s b)
    (hs : ∀ i < M, s' i = if i = b ∨ Box.Over (box i) (box b) then ⊥ else s i)
    (hsel : ∀ e ≤ t, sel' e = if e = t then (if (⊥ : EReal) < s b then BitVec.ofNat 32 b else 4294967295#32) else sel e) :
    Inv M N w π box (t + 1) s' sel' := by
  have hM : ∀ p, Val N w π p → π p < M := fun p hp => by
    by_contra hn
    exact hp.2 (ho.pad _ (Nat.le_of_not_lt hn))
  rcases hb.2 with hall | ⟨hb1, hb2, hb3⟩
  · have hnone : ∀ q, ¬ Left (Val N w π) (Sup box π) t q := fun q hq => by
      have h1 := h.score q hq.1.1 (hM q hq.1)
      rw [if_pos hq, hall _ (hM q hq.1)] at h1
      exact hq.1.2 h1.symm
    refine ⟨fun p hp hpM => ?_, fun e he p hk hc => ?_, fun e he hn => ?_⟩
    · rw [if_neg (left_succ_none hnone p), hs _ hpM]
      split
      · rfl
      · exact hall _ hpM
    · have hct := none_left hnone p hk
      rw [hsel e (by omega), if_neg (by omega)]
      exact h.taken e (by omega) p hk hc
    · rw [hsel e (by omega)]
      split
      · rw [if_neg]
        rw [hall b hb.1]; exact lt_irrefl _
      · exact h.none e (by omega) hn
  · obtain ⟨p, hpN, rfl⟩ := ho.surj b (hb.1.trans_le ho.le)
    have hsp := h.score p hpN hb.1
    have hL : Left (Val N w π) (Sup box π) t p := by
      by_contra hn
      rw [if_neg hn] at hsp
      exact hb1 hsp
    rw [if_pos hL] at hsp
    have hmin : ∀ q < p, ¬ Left (Val N w π) (Sup box π) t q := fun q hq hLq => by
      have h1 := h.score q hLq.1.1 (hM q hLq.1)
      rw [if_pos hLq] at h1
      rcases ho.lex q p hq hpN with h2 | h2
      · have := hb2 _ (hM q hLq.1)
        rw [h1, hsp] at this
        exact absurd h2 (not_lt_of_ge this)
      · have := hb3 _ h2.2
        rw [h1, hsp, h2.1] at this
        exact absurd this (lt_irrefl _)
    obtain ⟨hk, hc⟩ := first_left hL hmin
    refine ⟨fun q hq hqM => ?_, fun e he q hkq hcq => ?_, fun e he hn => ?_⟩
    · rw [hs _ hqM, h.score q hq hqM]
      by_cases hx : π q = π p ∨ Box.Over (box (π q)) (box (π p))
      · rw [if_pos hx, if_neg]
        intro hl
        have h1 := (left_succ hk hc q).mp hl
        rcases hx with hx | hx
        · exact h1.2.1 (ho.inj _ hpN _ hq hx.symm)
        · exact h1.2.2 hx
      · rw [if_neg hx]
        refine if_congr ?_ rfl rfl
        rw [left_succ hk hc q]
        exact ⟨fun h1 => ⟨h1, fun e => hx (Or.inl (congrArg π e.symm)), fun e => hx (Or.inr e)⟩, fun h1 => h1.1⟩
    · rw [hsel e (by omega)]
      split
      · rename_i het
        rw [if_pos (bot_lt_iff_ne_bot.mpr hb1), Nat.count_injective hkq hk (hcq.trans (het.trans hc.symm))]
      · exact h.taken e (by omega) q hkq hcq
    · rw [hsel e (by omega)]
      split
      · rename_i het
        exact absurd (hc.trans het.symm) (hn p hk)
      · exact h.none e (by omega) hn

end Cert.Select

end
-- ==== Proof.V.Order.lean ====
/-
  The order a stable sort gives, apart from any program: by key, and equal keys by index.
-/
module

public import Idealize.ShloMosaic.Lib.SortFacts

@[expose] public section

namespace Cert.Order

open Idealize.ShloMosaic

variable {α : Type} [LinearOrder α] {n : ℕ}

/-- Smaller key, or equal keys and smaller index. -/
def Lex (key : Fin n → α) (a b : Fin n) : Prop := key a < key b ∨ (key a = key b ∧ a < b)

theorem lex_insert (key : Fin n → α) (before : Fin n → Fin n → Bool) (hb : ∀ a b, before a b = true ↔ key a < key b) (a : Fin n) :
    ∀ l : List (Fin n), (∀ c ∈ l, a < c) → l.Pairwise (Lex key) → (insertBefore before a l).Pairwise (Lex key) := by
  intro l
  induction l with
  | nil => intro _ _; exact List.pairwise_singleton _ _
  | cons b l ih =>
    intro hlt hl
    rw [List.pairwise_cons] at hl
    unfold insertBefore
    split
    · rename_i h
      refine List.pairwise_cons.mpr ⟨fun c hc => ?_, ih (fun c hc => hlt c (List.mem_cons_of_mem _ hc)) hl.2⟩
      rcases List.mem_cons.mp ((perm_insertBefore before a l).mem_iff.mp hc) with rfl | hc'
      · exact Or.inl ((hb _ _).mp h)
      · exact hl.1 c hc'
    · rename_i h
      have hle : key a ≤ key b := le_of_not_gt fun hk => h ((hb _ _).mpr hk)
      have key_le : ∀ c ∈ b :: l, key a ≤ key c := fun c hc => by
        rcases List.mem_cons.mp hc with rfl | hc'
        · exact hle
        · rcases hl.1 c hc' with h1 | h1
          · exact hle.trans h1.le
          · exact hle.trans h1.1.le
      refine List.pairwise_cons.mpr ⟨fun c hc => ?_, List.pairwise_cons.mpr hl⟩
      rcases (key_le c hc).lt_or_eq with h1 | h1
      · exact Or.inl h1
      · exact Or.inr ⟨h1, hlt c hc⟩

theorem lex_stableSort (key : Fin n → α) (before : Fin n → Fin n → Bool) (hb : ∀ a b, before a b = true ↔ key a < key b) :
    ∀ l : List (Fin n), l.Pairwise (· < ·) → (stableSort before l).Pairwise (Lex key) := by
  intro l
  induction l with
  | nil => intro _; exact List.Pairwise.nil
  | cons a l ih =>
    intro hl
    rw [List.pairwise_cons] at hl
    unfold stableSort
    exact lex_insert key before hb a _ (fun c hc => hl.1 c ((perm_stableSort before l).mem_iff.mp hc)) (ih hl.2)

/-- A stable sort puts smaller keys first, and of equal keys the smaller index first. -/
theorem lex_sortedFrom (key : Fin n → α) (before : Fin n → Fin n → Bool) (hb : ∀ a b, before a b = true ↔ key a < key b)
    {i j : Fin n} (h : i < j) : Lex key (sortedFrom before i) (sortedFrom before j) := by
  have := List.pairwise_iff_get.mp (lex_stableSort key before hb (List.finRange n) (List.pairwise_lt_finRange n))
  exact this _ _ h

end Cert.Order

end
-- ==== Proof.PI.Sorted.lean ====
/-
  The kernel's sorted columns, read at a position: position `p` holds the box and the score of the box that comes `p`-th in
  the order of the scores, largest first and equal ones by index.
-/
module

public import proofs.«01_k».proof.Proof.PI.Main
public import proofs.«01_k».proof.Proof.V.Select
public import proofs.«01_k».proof.Proof.V.Order
public import Idealize.ShloMosaic.Lib.Pointwise.ShapeOpsCore
public import Idealize.ShloMosaic.Lib.Routing.OpsOne
public import Idealize.ShloMosaic.Lib.KernelVsHost

@[expose] public section

set_option maxRecDepth 16384

noncomputable section

namespace Cert.KernelIdeal.Prf

open Cert.KernelIdeal Cert.KernelIdeal.Gen
open Idealize.ShloMosaic Idealize.ShloMosaic.ValueIdx Idealize.ShloMosaic.Ideal
open Cert.Select

/-- The boxes' coordinates by index, zero past the end. -/
def crd (A : FVec Ideal S20000x4 .f32) (i : ℕ) (k : Fin 4) : EReal := if h : i < 20000 then A (ValueIdx.ix2 ⟨i, h⟩ k) else 0
/-- The scores by index, zero past the end. -/
def scr (B : FVec Ideal S20000 .f32) (i : ℕ) : EReal := if h : i < 20000 then B (ValueIdx.ix1 ⟨i, h⟩) else 0
/-- The clipped box of an index. -/
def box (A : FVec Ideal S20000x4 .f32) (i : ℕ) (k : Fin 4) : EReal := Box.clip (crd A i k)
/-- The score of a valid index, minus infinity for any other. -/
def wrk (A : FVec Ideal S20000x4 .f32) (B : FVec Ideal S20000 .f32) (i : ℕ) : EReal := Box.work (box A i 0) (box A i 1) (box A i 2) (box A i 3) (scr B i)

theorem wrk_pad (A : FVec Ideal S20000x4 .f32) (B : FVec Ideal S20000 .f32) (i : ℕ) (hi : 20000 ≤ i) : wrk A B i = ⊥ := by
  by_contra h
  have h1 := ((Box.work_ne_bot _ _ _ _ _).mp h).2
  unfold scr at h1
  rw [dif_neg (by omega)] at h1
  exact absurd h1 (not_lt_of_ge Box.half_pos.le)

/-- Where position `i` lies in the layout of 160 rows. -/
abbrev at160 (i : Fin 20480) : S160x128.Idx := ValueIdx.ix2 (⟨i.val / 128, by have := i.isLt; omega⟩ : Fin 160) (⟨i.val % 128, Nat.mod_lt _ (by decide)⟩ : Fin 128)

theorem at160_flat (i : Fin 20480) : (S160x128.rowMajor (at160 i)).val = i.val := by
  rw [Shape.rowMajor_val_two]
  show i.val / 128 * 128 + i.val % 128 = i.val
  omega

theorem flat_eq (x : FVec Ideal S160x128 .f32) (i : Fin 20480) : shapeCast S20480 x shapeCasts_S160x128_S20480 (ValueIdx.ix1 i) = x (at160 i) :=
  shapeCast_apply _ _ _ _ (by rw [at160_flat, Shape.rowMajor_val_one])

theorem padded_eq (v : FVec Ideal S20000 .f32) (i : Fin 20480) : padded v (at160 i) = if h : i.val < 20000 then v (ValueIdx.ix1 ⟨i.val, h⟩) else (0 : EReal) := by
  unfold padded
  rw [shapeCast_apply _ _ (at160 i) (ValueIdx.ix1 i) (by rw [at160_flat, Shape.rowMajor_val_one])]
  split
  · rename_i h
    refine pad_apply_of_inside _ _ _ _ _ _ _ _ (ValueIdx.ix1 ⟨i.val, h⟩) fun a => ?_
    match a with
    | ⟨0, _⟩ => show i.val = 0 + i.val * (0 + 1); rw [Nat.zero_add, Nat.zero_add, Nat.mul_one]
  · rename_i h
    rw [pad_apply_of_not_inside _ _ _ _ _ _ _ (ValueIdx.ix1 i) 0 (by
      rintro ⟨_, _, h3⟩
      apply h
      have h4 : (i.val - 0) / (0 + 1) < 20000 := h3
      rw [Nat.zero_add, Nat.div_one, Nat.sub_zero] at h4
      exact h4)]
    show (((0#32).toInt : ℝ) : EReal) = 0
    simp

theorem col_at (A : FVec Ideal S20000x4 .f32) (k : ℕ) (hk : k < 4) (hs : S20000x4.Slices ![0, k] S20000x1) (hc : S20000x1.ShapeCasts S20000) (i : Fin 20000) :
    shapeCast S20000 (extractStridedSlice S20000x1 ![0, k] A hs) hc (ValueIdx.ix1 i) = A (ValueIdx.ix2 i ⟨k, hk⟩) := by
  rw [shapeCast_apply _ hc (ValueIdx.ix1 i) (ValueIdx.ix2 i (0 : Fin 1)) (by
    rw [Shape.rowMajor_val_two, Shape.rowMajor_val_one]; show i.val * 1 + 0 = i.val; omega)]
  refine extractStridedSlice_apply _ _ _ _ _ fun a => ?_
  match a with
  | ⟨0, _⟩ => show i.val = 0 + i.val; omega
  | ⟨1, _⟩ => show k = k + 0; rfl

theorem in_crd (A : FVec Ideal S20000x4 .f32) (B : FVec Ideal S20000 .f32) (i : Fin 20480) (k : Fin 4) : inCols A B k.castSucc (at160 i) = crd A i.val k := by
  unfold crd
  have hcol : ∀ h : i.val < 20000, col A k (ValueIdx.ix1 ⟨i.val, h⟩) = A (ValueIdx.ix2 ⟨i.val, h⟩ k) := fun h => by
    match k with
    | ⟨0, _⟩ => exact col_at A 0 (by omega) _ _ _
    | ⟨1, _⟩ => exact col_at A 1 (by omega) _ _ _
    | ⟨2, _⟩ => exact col_at A 2 (by omega) _ _ _
    | ⟨3, _⟩ => exact col_at A 3 (by omega) _ _ _
  have hp : inCols A B k.castSucc = padded (col A k) := by
    match k with
    | ⟨0, _⟩ => rfl
    | ⟨1, _⟩ => rfl
    | ⟨2, _⟩ => rfl
    | ⟨3, _⟩ => rfl
  rw [hp, padded_eq]
  by_cases h : i.val < 20000
  · rw [dif_pos h, dif_pos h, hcol h]
  · rw [dif_neg h, dif_neg h]

theorem in_scr (A : FVec Ideal S20000x4 .f32) (B : FVec Ideal S20000 .f32) (i : Fin 20480) : inCols A B 4 (at160 i) = scr B i.val := padded_eq B i

/-- The columns before the sort: the boxes, the scores and the keys. -/
theorem prep_at (A : FVec Ideal S20000x4 .f32) (B : FVec Ideal S20000 .f32) (i : Fin 20480) :
    (∀ k : Fin 4, prepOut (inCols A B) k.castSucc.castSucc (at160 i) = box A i.val k) ∧ prepOut (inCols A B) 4 (at160 i) = scr B i.val
      ∧ prepOut (inCols A B) 5 (at160 i) = (0 - wrk A B i.val : EReal) := by
  have h0 : k0_pay2 (inCols A B 0) (at160 i) = box A i.val 0 := by
    show min _ (max _ (shapeCast S160x128 (inCols A B 0) shapeCasts_S160x128_S160x128 (at160 i))) = _
    rw [shapeCast_self]; exact congrArg Box.clip (in_crd A B i 0)
  have h1 : k0_pay4 (inCols A B 1) (at160 i) = box A i.val 1 := by
    show min _ (max _ (shapeCast S160x128 (inCols A B 1) shapeCasts_S160x128_S160x128 (at160 i))) = _
    rw [shapeCast_self]; exact congrArg Box.clip (in_crd A B i 1)
  have h2 : k0_pay3 (inCols A B 2) (at160 i) = box A i.val 2 := by
    show min _ (max _ (shapeCast S160x128 (inCols A B 2) shapeCasts_S160x128_S160x128 (at160 i))) = _
    rw [shapeCast_self]; exact congrArg Box.clip (in_crd A B i 2)
  have h3 : k0_pay5 (inCols A B 3) (at160 i) = box A i.val 3 := by
    show min _ (max _ (shapeCast S160x128 (inCols A B 3) shapeCasts_S160x128_S160x128 (at160 i))) = _
    rw [shapeCast_self]; exact congrArg Box.clip (in_crd A B i 3)
  have h4 : k0_pay6 (inCols A B 4) (at160 i) = scr B i.val := by
    show shapeCast S160x128 (inCols A B 4) shapeCasts_S160x128_S160x128 (at160 i) = _
    rw [shapeCast_self]; exact in_scr A B i
  refine ⟨fun k => ?_, h4, ?_⟩
  · match k with
    | ⟨0, _⟩ => exact h0
    | ⟨1, _⟩ => exact h1
    | ⟨2, _⟩ => exact h2
    | ⟨3, _⟩ => exact h3
  · show (Ideal.ofBits .f32 0x00000000#32 - Scalar.select (IntOp.andi (IntOp.andi (BitVec.ofBool (decide (Ideal.ofBits .f32 0x41200000#32 ≤ k0_pay3 (inCols A B 2) (at160 i) - k0_pay2 (inCols A B 0) (at160 i))))
      (BitVec.ofBool (decide (Ideal.ofBits .f32 0x41200000#32 ≤ k0_pay5 (inCols A B 3) (at160 i) - k0_pay4 (inCols A B 1) (at160 i)))))
      (BitVec.ofBool (decide (Ideal.ofBits .f32 0x3F000000#32 < k0_pay6 (inCols A B 4) (at160 i))))) (k0_pay6 (inCols A B 4) (at160 i)) (Ideal.ofBits .f32 0xFF800000#32) : EReal) = _
    rw [h0, h1, h2, h3, h4, Ideal.ofBits_zero_f32, show Ideal.ofBits .f32 0xFF800000#32 = (⊥ : EReal) by simp [Ideal.ofBits, Ideal.ieee]]
    refine congrArg (fun z : EReal => 0 - z) ?_
    unfold wrk Box.work Box.Ok
    by_cases g1 : Ideal.ofBits .f32 0x41200000#32 ≤ box A i.val 2 - box A i.val 0 <;>
    by_cases g2 : Ideal.ofBits .f32 0x41200000#32 ≤ box A i.val 3 - box A i.val 1 <;>
    by_cases g3 : Ideal.ofBits .f32 0x3F000000#32 < scr B i.val <;>
    simp only [g1, g2, g3, decide_true, decide_false, and_true, true_and, and_false, false_and, if_true, if_false] <;> rfl

/-- Which of two indices the sort puts first. -/
def before (key : Fin 20480 → EReal) (a b : Fin 20480) : Bool := decide (key a < key b)

/-- The index at a position of the sorted order. -/
def order (A : FVec Ideal S20000x4 .f32) (B : FVec Ideal S20000 .f32) (p : ℕ) : ℕ :=
  if h : p < 20480 then (sortedFrom (before fun i => 0 - wrk A B i.val) ⟨p, h⟩).val else p

theorem order_eq (A : FVec Ideal S20000x4 .f32) (B : FVec Ideal S20000 .f32) (p : Fin 20480) : order A B p.val = (sortedFrom (before fun i => 0 - wrk A B i.val) p).val := dif_pos p.isLt

theorem ordered (A : FVec Ideal S20000x4 .f32) (B : FVec Ideal S20000 .f32) : Ordered 20000 20480 (wrk A B) (order A B) := by
  refine ⟨fun p hp => ?_, fun p hp q hq h => ?_, fun i hi => ?_, fun p q hpq hq => ?_, wrk_pad A B, by norm_num⟩
  · rw [order_eq A B ⟨p, hp⟩]; exact (sortedFrom _ _).isLt
  · rw [order_eq A B ⟨p, hp⟩, order_eq A B ⟨q, hq⟩] at h
    exact congrArg Fin.val (sortedFrom_injective _ (Fin.ext h))
  · obtain ⟨p, hp⟩ := sortedFrom_surjective (before fun i => 0 - wrk A B i.val) ⟨i, hi⟩
    exact ⟨p.val, p.isLt, by rw [order_eq, hp]⟩
  · rw [order_eq A B ⟨p, hpq.trans hq⟩, order_eq A B ⟨q, hq⟩]
    have := Order.lex_sortedFrom (fun i : Fin 20480 => (0 - wrk A B i.val : EReal)) (before fun i => 0 - wrk A B i.val) (fun a b => by simp [before]) (i := ⟨p, hpq.trans hq⟩) (j := ⟨q, hq⟩) hpq
    rcases this with h | ⟨h, h'⟩
    · left
      dsimp only at h
      rw [zero_sub, zero_sub, EReal.neg_lt_neg_iff] at h
      exact h
    · right
      dsimp only at h
      rw [zero_sub, zero_sub] at h
      exact ⟨neg_injective h, h'⟩

theorem cmp_lt (l r : EReal × EReal × EReal × EReal × EReal × EReal) : (comparator_f32_f32_f32_f32_f32_f32_d0 (F := Ideal) l r == 1#1) = decide (l.1 < r.1) := by
  have hz : ∀ x : EReal, (if x = Ideal.ofBits .f32 0x00000000#32 then Ideal.ofBits .f32 0x00000000#32 else x) = x := fun x => by
    split
    · rename_i h; exact h.symm
    · rfl
  have hs : ∀ (p : Prop) [Decidable p] (a b : EReal), Scalar.select (BitVec.ofBool (decide p)) a b = if p then a else b := fun p _ a b => by
    by_cases h : p
    · rw [decide_eq_true h, if_pos h]; rfl
    · rw [decide_eq_false h, if_neg h]; rfl
  show (BitVec.ofBool (decide (Scalar.select (BitVec.ofBool (decide (l.1 ≠ l.1))) (Ideal.ofBits .f32 0x7FC00000#32) (Scalar.select (BitVec.ofBool (decide (l.1 = Ideal.ofBits .f32 0x00000000#32))) (Ideal.ofBits .f32 0x00000000#32) l.1)
    < Scalar.select (BitVec.ofBool (decide (r.1 ≠ r.1))) (Ideal.ofBits .f32 0x7FC00000#32) (Scalar.select (BitVec.ofBool (decide (r.1 = Ideal.ofBits .f32 0x00000000#32))) (Ideal.ofBits .f32 0x00000000#32) r.1))) == 1#1) = _
  rw [hs, hs, hs, hs, hz, hz, if_neg (not_not_intro rfl), if_neg (not_not_intro rfl)]
  by_cases h : l.1 < r.1
  · rw [decide_eq_true h]; rfl
  · rw [decide_eq_false h]; rfl

theorem sortBy_one {R : Type} (cmp : R → R → BitVec 1) (rows : S20480.Idx → R) (x : S20480.Idx → EReal) (p : Fin 20480) :
    Host.sortBy S20480 0 cmp rows x (ValueIdx.ix1 p) = x (ValueIdx.ix1 (sortedFrom (fun k k' : Fin 20480 => cmp (rows (ValueIdx.ix1 k)) (rows (ValueIdx.ix1 k')) == 1#1) p)) := by
  have hal : (fun k : Fin 20480 => (ValueIdx.ix1 p : S20480.Idx).along 0 k) = fun k => ValueIdx.ix1 k := funext fun k => by
    unfold Shape.Idx.along
    funext a
    match a with
    | ⟨0, _⟩ => exact Function.update_self ..
  exact congrArg (fun f : Fin 20480 → S20480.Idx => x (f (sortedFrom (fun k k' : Fin 20480 => cmp (rows (f k)) (rows (f k')) == 1#1) p))) hal

/-- The sorted columns: the key, the box and the score. -/
theorem sorted_at (A : FVec Ideal S20000x4 .f32) (B : FVec Ideal S20000 .f32) (p : Fin 20480) :
    sortedOf A B 0 (ValueIdx.ix1 p) = (0 - wrk A B (order A B p.val) : EReal) ∧ (∀ k : Fin 4, sortedOf A B k.succ.castSucc (ValueIdx.ix1 p) = box A (order A B p.val) k)
      ∧ sortedOf A B 5 (ValueIdx.ix1 p) = scr B (order A B p.val) := by
  let u (k : Fin 6) : FVec Ideal S20480 .f32 := shapeCast S20480 (prepOut (inCols A B) k) shapeCasts_S160x128_S20480
  have hsort : ∀ k : Fin 6, sortedOf A B k (ValueIdx.ix1 p) = (![u 5, u 0, u 1, u 2, u 3, u 4] k) (ValueIdx.ix1 (sortedFrom (before fun i => 0 - wrk A B i.val) p)) := fun k => by
    unfold sortedOf sorted
    refine (sortBy_one _ _ _ p).trans ?_
    refine congrArg (fun f => (![u 5, u 0, u 1, u 2, u 3, u 4] k) (ValueIdx.ix1 (sortedFrom f p))) (funext fun i => funext fun i' => ?_)
    refine (cmp_lt _ _).trans ?_
    have h : ∀ i : Fin 20480, u 5 (ValueIdx.ix1 i) = (0 - wrk A B i.val : EReal) := fun i => (flat_eq _ i).trans (prep_at A B i).2.2
    show decide (u 5 (ValueIdx.ix1 i) < u 5 (ValueIdx.ix1 i')) = decide ((0 - wrk A B i.val : EReal) < 0 - wrk A B i'.val)
    rw [h, h]
  have hpre := prep_at A B (sortedFrom (before fun i => 0 - wrk A B i.val) p)
  rw [order_eq]
  refine ⟨(hsort 0).trans ((flat_eq _ _).trans hpre.2.2), fun k => ?_, (hsort 5).trans ((flat_eq _ _).trans hpre.2.1)⟩
  match k with
  | ⟨0, _⟩ => exact (hsort 1).trans ((flat_eq _ _).trans (hpre.1 0))
  | ⟨1, _⟩ => exact (hsort 2).trans ((flat_eq _ _).trans (hpre.1 1))
  | ⟨2, _⟩ => exact (hsort 3).trans ((flat_eq _ _).trans (hpre.1 2))
  | ⟨3, _⟩ => exact (hsort 4).trans ((flat_eq _ _).trans (hpre.1 3))

end Cert.KernelIdeal.Prf

end
-- ==== Proof.V.Bits.lean ====
/-
  Truth values as the extended reals zero and one: their comparisons with one half, their sums and their maxima.
-/
module

public import proofs.«01_k».proof.Proof.V.Box
public import Idealize.ShloMosaic.PureOps.Ideal.Laws
public import Idealize.ShloMosaic.Lib.IdealHost

@[expose] public section

noncomputable section

namespace Cert.Bits

open Idealize.ShloMosaic
open scoped BigOperators

open Classical in
/-- One where `P` holds, zero elsewhere. -/
def bit (P : Prop) : EReal := if P then 1 else 0

theorem bit_pos {P : Prop} (h : P) : bit P = 1 := if_pos h
theorem bit_neg {P : Prop} (h : ¬ P) : bit P = 0 := if_neg h
theorem bit_congr {P Q : Prop} (h : P ↔ Q) : bit P = bit Q := by rw [propext h]
theorem bit_nonneg (P : Prop) : 0 ≤ bit P := by
  by_cases h : P
  · rw [bit_pos h]; exact zero_le_one
  · rw [bit_neg h]

theorem half_lt_one : Ideal.ofBits .f32 0x3F000000#32 < (1 : EReal) := by
  rw [show (1 : EReal) = ((1 : ℝ) : EReal) by norm_cast]
  simp [Ideal.ofBits, Ideal.ieee, -EReal.coe_mul]
  norm_num
  exact EReal.coe_lt_coe_iff.mpr (by norm_num : (1 / 2 : ℝ) < 1)

theorem half_lt_bit (P : Prop) : Ideal.ofBits .f32 0x3F000000#32 < bit P ↔ P := by
  by_cases h : P
  · rw [bit_pos h]; exact ⟨fun _ => h, fun _ => half_lt_one⟩
  · rw [bit_neg h]; exact ⟨fun hl => absurd hl (not_lt_of_ge Box.half_pos.le), fun hp => absurd hp h⟩

theorem bit_lt_half (P : Prop) : bit P < Ideal.ofBits .f32 0x3F000000#32 ↔ ¬ P := by
  by_cases h : P
  · rw [bit_pos h]; exact ⟨fun hl => absurd hl (not_lt_of_ge half_lt_one.le), fun hp => absurd h hp⟩
  · rw [bit_neg h]; exact ⟨fun _ => h, fun _ => Box.half_pos⟩

theorem bit_mul (P Q : Prop) : bit P * bit Q = bit (P ∧ Q) := by
  by_cases h : P <;> by_cases h' : Q <;> simp [bit, h, h']

theorem bit_max (P Q : Prop) : max (bit P) (bit Q) = bit (P ∨ Q) := by
  by_cases h : P <;> by_cases h' : Q <;> simp [bit, h, h']

/-- How far two truth values are apart. -/
theorem bit_abs (P Q : Prop) : max (bit P - bit Q) (-(bit P - bit Q)) = bit (¬ (P ↔ Q)) := by
  have e1 : (1 : EReal) - 1 = 0 := by
    rw [show (1 : EReal) = ((1 : ℝ) : EReal) by norm_cast, ← EReal.coe_sub]; norm_num
  have e2 : (-1 : EReal) ≤ 1 := by
    rw [show (1 : EReal) = ((1 : ℝ) : EReal) by norm_cast, ← EReal.coe_neg]
    exact EReal.coe_le_coe_iff.mpr (by norm_num)
  by_cases h : P <;> by_cases h' : Q <;> simp [bit, h, h', e1, e2]

/-- The largest of many truth values. -/
theorem bit_fold {n : ℕ} (hn : 0 < n) (P : Fin n → Prop) : (Finset.univ : Finset (Fin n)).fold max (⊥ : EReal) (fun j => bit (P j)) = bit (∃ j, P j) := by
  by_cases h : ∃ j, P j
  · rw [bit_pos h]
    obtain ⟨j, hj⟩ := h
    refine le_antisymm (Finset.fold_max_le _ |>.mpr ⟨bot_le, fun k _ => ?_⟩) (Finset.le_fold_max _ |>.mpr (Or.inr ⟨j, Finset.mem_univ _, (bit_pos hj).ge⟩))
    by_cases hk : P k
    · rw [bit_pos hk]
    · rw [bit_neg hk]; exact zero_le_one
  · rw [bit_neg h]
    refine le_antisymm (Finset.fold_max_le _ |>.mpr ⟨bot_le, fun k _ => (bit_neg fun hk => h ⟨k, hk⟩).le⟩)
      (Finset.le_fold_max _ |>.mpr (Or.inr ⟨⟨0, hn⟩, Finset.mem_univ _, bit_nonneg _⟩))

/-- A sum of truth values is below one half where none holds. -/
theorem sum_lt_half {n : ℕ} (P : Fin n → Prop) : (∑ j, bit (P j)) < Ideal.ofBits .f32 0x3F000000#32 ↔ ∀ j, ¬ P j := by
  constructor
  · intro h j hj
    have := Finset.single_le_sum (f := fun j => bit (P j)) (fun k _ => bit_nonneg _) (Finset.mem_univ j)
    rw [bit_pos hj] at this
    exact absurd (this.trans_lt h) (not_lt_of_ge half_lt_one.le)
  · intro h
    rw [Finset.sum_eq_zero fun j _ => bit_neg (h j)]
    exact Box.half_pos

open Classical in
/-- A sum of truth values is the count of those that hold. -/
theorem sum_count (K : ℕ → Prop) (n : ℕ) : (∑ j : Fin n, bit (K j.val)) = ((Nat.count K n : ℝ) : EReal) := by
  induction n with
  | zero => simp
  | succ n ih =>
    rw [Fin.sum_univ_castSucc, Nat.count_succ]
    simp only [Fin.val_castSucc, Fin.val_last]
    rw [ih]
    by_cases h : K n
    · rw [bit_pos h, if_pos h]; push_cast; rfl
    · rw [bit_neg h, if_neg h]; simp

/-- A small count as an integer. -/
theorem fptosi_count (n : ℕ) (hn : n < 2 ^ 31) : Ideal.fptosi 32 ((n : ℝ) : EReal) = BitVec.ofNat 32 n := by
  unfold Ideal.fptosi
  rw [Ideal.toIntClamped_coe, if_pos (Nat.cast_nonneg n), Int.floor_natCast, min_eq_right (by norm_num; omega), max_eq_right (by norm_num)]
  exact BitVec.ofInt_natCast 32 n

theorem select_bit (p : Prop) [Decidable p] : Scalar.select (BitVec.ofBool (decide p)) (Ideal.ofBits .f32 0x3F800000#32) (Ideal.ofBits .f32 0x00000000#32) = bit p := by
  rw [Ideal.ofBits_one_f32, Ideal.ofBits_zero_f32]
  by_cases h : p
  · rw [decide_eq_true h, bit_pos h]; rfl
  · rw [decide_eq_false h, bit_neg h]; rfl

theorem andi_bool (p q : Prop) [Decidable p] [Decidable q] : IntOp.andi (BitVec.ofBool (decide p)) (BitVec.ofBool (decide q)) = BitVec.ofBool (decide (p ∧ q)) := by
  by_cases h : p <;> by_cases h' : q <;> simp [h, h', IntOp.andi]

end Cert.Bits

end
-- ==== Proof.PI.Elem.lean ====
/-
  The blocked scan's arithmetic read at an element: which positions of a block earlier kept ones suppress, the block's overlap
  matrix, one round of the fixpoint inside a block, and the counts.
-/
module

public import proofs.«01_k».proof.Proof.PI.Model
public import proofs.«01_k».proof.Proof.V.Bits
public import Idealize.ShloMosaic.Lib.ValueIdx
public import Idealize.ShloMosaic.Lib.MatmulPlain
public import Idealize.ShloMosaic.Lib.Pipeline.Value
public import Idealize.ShloMosaic.Lib.Pointwise.ShapeOpsCore
public import Idealize.ShloMosaic.Lib.StableHlo.Predicate

@[expose] public section

set_option maxRecDepth 16384

noncomputable section

namespace Cert.KernelIdeal.Prf

open Cert.KernelIdeal Cert.KernelIdeal.Gen
open Idealize.ShloMosaic Idealize.ShloMosaic.ValueIdx Idealize.ShloMosaic.Ideal
open Cert.Bits
open scoped BigOperators

/-! ## Layout -/

theorem spread_col {α : Type} {n m : ℕ} (x : (⟨2, ![n, 1]⟩ : Shape).Idx → α) (g : ℕ → α) (hx : ∀ k, x k = g (k 0).val) (hn : n ≠ 1)
    (h : (⟨2, ![n, 1]⟩ : Shape).Broadcasts ⟨2, ![n, m]⟩) (j : (⟨2, ![n, m]⟩ : Shape).Idx) : broadcastTo ⟨2, ![n, m]⟩ x h j = g (j 0).val := by
  rw [broadcastTo_apply x h j (ValueIdx.ix2 (j 0) (0 : Fin 1)), hx]
  · rfl
  · intro a
    match a with
    | ⟨0, _⟩ => exact (if_neg hn).symm
    | ⟨1, _⟩ => rfl

theorem spread_row {α : Type} {n m : ℕ} (x : (⟨2, ![1, m]⟩ : Shape).Idx → α) (g : ℕ → α) (hx : ∀ k, x k = g (k 1).val) (hm : m ≠ 1)
    (h : (⟨2, ![1, m]⟩ : Shape).Broadcasts ⟨2, ![n, m]⟩) (j : (⟨2, ![n, m]⟩ : Shape).Idx) : broadcastTo ⟨2, ![n, m]⟩ x h j = g (j 1).val := by
  rw [broadcastTo_apply x h j (ValueIdx.ix2 (0 : Fin 1) (j 1)), hx]
  · rfl
  · intro a
    match a with
    | ⟨0, _⟩ => rfl
    | ⟨1, _⟩ => exact (if_neg hm).symm

/-- Four rows of 128 laid in one. -/
theorem row_flat (x : A4 Ideal) (g : ℕ → EReal) (hx : ∀ k : S4x128.Idx, x k = g (128 * (k 0).val + (k 1).val)) (j : S1x512.Idx) :
    k1_pay14 (F := Ideal) x j = g (j 1).val := by
  have h1 : (j 1).val < 512 := (j 1).isLt
  have h0 : (j 0).val < 1 := (j 0).isLt
  unfold k1_pay14
  rw [shapeCast_self, shapeCast_apply _ _ j (ValueIdx.ix2 (⟨(j 1).val / 128, by omega⟩ : Fin 4) (⟨(j 1).val % 128, Nat.mod_lt _ (by decide)⟩ : Fin 128)), hx]
  · show g (128 * ((j 1).val / 128) + (j 1).val % 128) = _
    rw [Nat.div_add_mod]
  · rw [Shape.rowMajor_val_two, Shape.rowMajor_val_two]
    show (j 1).val / 128 * 128 + (j 1).val % 128 = (j 0).val * 512 + (j 1).val
    omega

/-- The total over a block. -/
theorem total_eq (x : A512 Ideal) (h : S512x1.ShapeCasts S1x512x1) (h' : S1.ShapeCasts S1x1x1) (g : ℕ → EReal) (hx : ∀ k : S512x1.Idx, x k = g (k 0).val) :
    extractAt ![0, 0, 0] (shapeCast S1x1x1 (multiReduction .add [1, 2] S1 (shapeCast S1x512x1 x h : FVec Ideal S1x512x1 .f32) 0x00000000#32 reduces_S1x512x1_S1 (.inl rfl) rfl) h') inpos_S1x1x1_p0_0_0
      = ∑ i : Fin 512, g i.val := by
  have hone : ∀ k : S1.Idx, multiReduction .add [1, 2] S1 (shapeCast S1x512x1 x h : FVec Ideal S1x512x1 .f32) 0x00000000#32 reduces_S1x512x1_S1 (.inl rfl) rfl k
      = ∑ i : Fin 512, g i.val := fun k => by
    refine (multiReduction_add_total (φ := .f32) (shapeCast S1x512x1 x h) 0x00000000#32 reduces_S1x512x1_S1 (by decide) (.inl rfl) rfl k).trans ?_
    refine (Fintype.sum_bijective (fun i : Fin 512 => (ValueIdx.ix3 (0 : Fin 1) i (0 : Fin 1) : S1x512x1.Idx)) ⟨fun a b hab => ?_, fun k => ?_⟩ _ _ fun i => ?_).symm
    · exact congrFun hab 1
    · refine ⟨k 1, funext fun a => ?_⟩
      match a with
      | ⟨0, _⟩ => exact (Subsingleton.elim (α := Fin 1) _ _)
      | ⟨1, _⟩ => rfl
      | ⟨2, _⟩ => exact (Subsingleton.elim (α := Fin 1) _ _)
    · refine ((shapeCast_apply _ h _ (ValueIdx.ix2 i (0 : Fin 1)) ?_).trans (hx _)).symm
      rw [Shape.rowMajor_val_two, Shape.rowMajor_val_three]
      show i.val * 1 + 0 = (0 * 512 + i.val) * 1 + 0
      omega
  unfold extractAt shapeCast
  exact hone _

/-! ## The suppression by earlier blocks -/

/-- A column of boxes. -/
abbrev Cols (u : ℕ → Fin 4 → EReal) (a b c d : A512 Ideal) : Prop :=
  (∀ k : S512x1.Idx, a k = u (k 0).val 0) ∧ (∀ k : S512x1.Idx, b k = u (k 0).val 1) ∧ (∀ k : S512x1.Idx, c k = u (k 0).val 2) ∧ ∀ k : S512x1.Idx, d k = u (k 0).val 3
/-- Four rows of boxes. -/
abbrev Rows (v : ℕ → Fin 4 → EReal) (x y z w : A4 Ideal) : Prop :=
  (∀ k : S4x128.Idx, x k = v (128 * (k 0).val + (k 1).val) 0) ∧ (∀ k : S4x128.Idx, y k = v (128 * (k 0).val + (k 1).val) 1)
    ∧ (∀ k : S4x128.Idx, z k = v (128 * (k 0).val + (k 1).val) 2) ∧ ∀ k : S4x128.Idx, w k = v (128 * (k 0).val + (k 1).val) 3

theorem supStep_at {u v : ℕ → Fin 4 → EReal} {a b c d : A512 Ideal} {x y z w k : A4 Ideal} {s : A512 Ideal} (hu : Cols u a b c d) (hv : Rows v x y z w)
    {K P : ℕ → Prop} (hk : ∀ i : S4x128.Idx, k i = bit (K (128 * (i 0).val + (i 1).val))) (hs : ∀ i : S512x1.Idx, s i = bit (P (i 0).val)) (i : S512x1.Idx) :
    supStep a b c d x y z w k s i = bit (P (i 0).val ∨ ∃ j : Fin 512, Box.Over (u (i 0).val) (v j.val) ∧ K j.val) := by
  obtain ⟨ha, hb, hc, hd⟩ := hu
  obtain ⟨hx, hy, hz, hw⟩ := hv
  have hcell : ∀ q : S512x512.Idx, (select (andi (cmpf .ogt (divf (F := Ideal) (φ := .f32) (k1_pay16 (F := Ideal) a b c d x y z w) (addf (subf (addf (broadcastTo S512x512 (k1_pay29 (F := Ideal) a b c d) broadcasts_S512x1_S512x512)
      (broadcastTo S512x512 (k1_pay15 (F := Ideal) x y z w) broadcasts_S1x512_S512x512)) (k1_pay16 (F := Ideal) a b c d x y z w)) (broadcast S512x512 (Scalar.ofBits .f32 0x3089705F#32)))) (broadcast S512x512 (Scalar.ofBits .f32 0x3F333333#32)))
      (broadcastTo S512x512 (cmpf .ogt (k1_pay14 (F := Ideal) k) (broadcast S1x512 (Scalar.ofBits .f32 0x3F000000#32))) broadcasts_S1x512_S512x512))
      (broadcast S512x512 (Scalar.ofBits .f32 0x3F800000#32)) (broadcast S512x512 (Scalar.ofBits .f32 0x00000000#32)) : FVec Ideal S512x512 .f32) q
      = bit (Box.Over (u (q 0).val) (v (q 1).val) ∧ K (q 1).val) := fun q => by
    have hI : k1_pay16 (F := Ideal) a b c d x y z w q = Box.inter (u (q 0).val 0) (u (q 0).val 1) (u (q 0).val 2) (u (q 0).val 3) (v (q 1).val 0) (v (q 1).val 1) (v (q 1).val 2) (v (q 1).val 3) := by
      unfold Box.inter
      rw [← spread_col a (fun n => u n 0) ha (by decide) broadcasts_S512x1_S512x512 q, ← spread_col b (fun n => u n 1) hb (by decide) broadcasts_S512x1_S512x512 q,
        ← spread_col c (fun n => u n 2) hc (by decide) broadcasts_S512x1_S512x512 q, ← spread_col d (fun n => u n 3) hd (by decide) broadcasts_S512x1_S512x512 q,
        ← spread_row _ (fun n => v n 0) (row_flat x (fun n => v n 0) hx) (by decide) broadcasts_S1x512_S512x512 q, ← spread_row _ (fun n => v n 1) (row_flat y (fun n => v n 1) hy) (by decide) broadcasts_S1x512_S512x512 q,
        ← spread_row _ (fun n => v n 2) (row_flat z (fun n => v n 2) hz) (by decide) broadcasts_S1x512_S512x512 q, ← spread_row _ (fun n => v n 3) (row_flat w (fun n => v n 3) hw) (by decide) broadcasts_S1x512_S512x512 q]
      rfl
    have hA : broadcastTo S512x512 (k1_pay29 (F := Ideal) a b c d) broadcasts_S512x1_S512x512 q = Box.area (u (q 0).val 0) (u (q 0).val 1) (u (q 0).val 2) (u (q 0).val 3) :=
      spread_col (k1_pay29 (F := Ideal) a b c d) (fun n => Box.area (u n 0) (u n 1) (u n 2) (u n 3)) (fun r => by
        unfold k1_pay29 k1_pay25 k1_pay26 k1_pay27 k1_pay28
        rw [shapeCast_self, shapeCast_self, shapeCast_self, shapeCast_self]
        show (c r - a r) * (d r - b r) = _
        rw [ha, hb, hc, hd]; rfl) (by decide) broadcasts_S512x1_S512x512 q
    have hR : broadcastTo S512x512 (k1_pay15 (F := Ideal) x y z w) broadcasts_S1x512_S512x512 q = Box.area (v (q 1).val 0) (v (q 1).val 1) (v (q 1).val 2) (v (q 1).val 3) :=
      spread_row (k1_pay15 (F := Ideal) x y z w) (fun n => Box.area (v n 0) (v n 1) (v n 2) (v n 3)) (fun r => by
        show (k1_pay14 (F := Ideal) z r - k1_pay14 (F := Ideal) x r) * (k1_pay14 (F := Ideal) w r - k1_pay14 (F := Ideal) y r) = _
        rw [row_flat x (fun n => v n 0) hx, row_flat y (fun n => v n 1) hy, row_flat z (fun n => v n 2) hz, row_flat w (fun n => v n 3) hw]; rfl) (by decide) broadcasts_S1x512_S512x512 q
    have hK : broadcastTo S512x512 (cmpf .ogt (k1_pay14 (F := Ideal) k) (broadcast S1x512 (Scalar.ofBits (F := Ideal) .f32 0x3F000000#32))) broadcasts_S1x512_S512x512 q
        = BitVec.ofBool (decide (Ideal.ofBits .f32 0x3F000000#32 < bit (K (q 1).val))) :=
      spread_row _ (fun n => BitVec.ofBool (decide (Ideal.ofBits .f32 0x3F000000#32 < bit (K n)))) (fun r => by
        show BitVec.ofBool (decide (Ideal.ofBits .f32 0x3F000000#32 < k1_pay14 (F := Ideal) k r)) = _
        rw [row_flat k (fun n => bit (K n)) hk]) (by decide) broadcasts_S1x512_S512x512 q
    show Scalar.select (IntOp.andi (BitVec.ofBool (decide (Ideal.ofBits .f32 0x3F333333#32 < Ideal.div (k1_pay16 (F := Ideal) a b c d x y z w q)
      (((broadcastTo S512x512 (k1_pay29 (F := Ideal) a b c d) broadcasts_S512x1_S512x512 q + broadcastTo S512x512 (k1_pay15 (F := Ideal) x y z w) broadcasts_S1x512_S512x512 q) - k1_pay16 (F := Ideal) a b c d x y z w q) + Ideal.ofBits .f32 0x3089705F#32))))
      (broadcastTo S512x512 (cmpf .ogt (k1_pay14 (F := Ideal) k) (broadcast S1x512 (Scalar.ofBits (F := Ideal) .f32 0x3F000000#32))) broadcasts_S1x512_S512x512 q)) (Ideal.ofBits .f32 0x3F800000#32) (Ideal.ofBits .f32 0x00000000#32) = _
    rw [hK, hI, hA, hR, andi_bool, select_bit]
    exact bit_congr (and_congr Iff.rfl (half_lt_bit _))
  unfold supStep k1_pay31 k1_pay25 k1_pay26 k1_pay27 k1_pay28
  simp only [shapeCast_self]
  show max (s i) (shapeCast S512x1 (multiReduction .maximumf [1] S512 _ 0xFF800000#32 reduces_S512x512_S512 (.inl rfl) rfl) shapeCasts_S512_S512x1 i) = _
  rw [shapeCast_apply _ shapeCasts_S512_S512x1 i (ValueIdx.ix1 (i 0)) (by
    rw [Shape.rowMajor_val_two, Shape.rowMajor_val_one]
    have h1 : (i 1).val < 1 := (i 1).isLt
    show (i 0).val = (i 0).val * 1 + (i 1).val
    omega)]
  rw [show multiReduction .maximumf [1] S512 _ 0xFF800000#32 reduces_S512x512_S512 (.inl rfl) rfl (ValueIdx.ix1 (i 0)) = _ from multiReduction_maximumf_single (φ := .f32) _ 0xFF800000#32 reduces_S512x512_S512 (.inl rfl) rfl _]
  refine Eq.trans (congrArg₂ max (hs i) (Eq.trans (Finset.fold_congr (g := fun j : Fin 512 => bit (Box.Over (u (i 0).val) (v j.val) ∧ K j.val)) fun j _ => ?_) (bit_fold (by decide) _))) (bit_max _ _)
  exact hcell _

/-! ## A block's overlap matrix -/

/-- One group of 128 columns of the overlap matrix, from the boxes of its rows and of its columns. -/
def group (a b c d : A512 Ideal) (x y z w : S1x128.Idx → EReal) (off : BitVec 32) : FVec Ideal S512x128 .f32 :=
  let I : FVec Ideal S512x128 .f32 := mulf
    (maximumf (broadcast S512x128 (Scalar.ofBits .f32 0x00000000#32)) (subf (minimumf (broadcastTo S512x128 c broadcasts_S512x1_S512x128) (broadcastTo S512x128 z broadcasts_S1x128_S512x128))
      (maximumf (broadcastTo S512x128 a broadcasts_S512x1_S512x128) (broadcastTo S512x128 x broadcasts_S1x128_S512x128))))
    (maximumf (broadcast S512x128 (Scalar.ofBits .f32 0x00000000#32)) (subf (minimumf (broadcastTo S512x128 d broadcasts_S512x1_S512x128) (broadcastTo S512x128 w broadcasts_S1x128_S512x128))
      (maximumf (broadcastTo S512x128 b broadcasts_S512x1_S512x128) (broadcastTo S512x128 y broadcasts_S1x128_S512x128))))
  select (andi (cmpf .ogt (divf I (addf (subf (addf (broadcastTo S512x128 (mulf (F := Ideal) (φ := .f32) (subf (F := Ideal) (φ := .f32) c a) (subf (F := Ideal) (φ := .f32) d b)) broadcasts_S512x1_S512x128)
      (broadcastTo S512x128 (mulf (F := Ideal) (φ := .f32) (subf (F := Ideal) (φ := .f32) z x) (subf (F := Ideal) (φ := .f32) w y)) broadcasts_S1x128_S512x128)) I) (broadcast S512x128 (Scalar.ofBits .f32 0x3089705F#32))))
      (broadcast S512x128 (Scalar.ofBits .f32 0x3F333333#32)))
    (cmpi .slt (addi (iota .tc S512x128 32 [1] iota_S512x128_d1_w32) (broadcast S512x128 off)) (iota .tc S512x128 32 [0] iota_S512x128_d0_w32)))
    (broadcast S512x128 (Scalar.ofBits .f32 0x3F800000#32)) (broadcast S512x128 (Scalar.ofBits .f32 0x00000000#32))

/-- Row `r` of four. -/
abbrev rowOf (r : ℕ) (h : S4x128.Slices ![r, 0] S1x128) (x : A4 Ideal) : S1x128.Idx → EReal := extractStridedSlice S1x128 ![r, 0] x h

theorem sqCol_eq (a b c d : A512 Ideal) (x y z w : A4 Ideal) (r : Fin 4) : ∃ h : S4x128.Slices ![r.val, 0] S1x128,
    sqCol a b c d x y z w r = group a b c d (rowOf r.val h x) (rowOf r.val h y) (rowOf r.val h z) (rowOf r.val h w) (BitVec.ofNat 32 (128 * r.val)) := by
  match r with
  | ⟨0, _⟩ =>
    refine ⟨slices_S4x128_o0_0_S1x128, ?_⟩
    show k1_pay44 (F := Ideal) _ _ _ = _
    simp only [k1_pay44, k1_pay42, k1_pay43, k1_pay25, k1_pay26, k1_pay27, k1_pay28, k1_pay29, k1_pay34, k1_pay35, k1_pay36, k1_pay37, k1_pay38, k1_pay39, k1_pay40, k1_pay41, shapeCast_self]
    rfl
  | ⟨1, _⟩ =>
    refine ⟨slices_S4x128_o1_0_S1x128, ?_⟩
    show k1_pay51 (F := Ideal) _ _ _ = _
    simp only [k1_pay51, k1_pay49, k1_pay50, k1_pay25, k1_pay26, k1_pay27, k1_pay28, k1_pay29, k1_pay34, k1_pay35, k1_pay36, k1_pay37, k1_pay45, k1_pay46, k1_pay47, k1_pay48, shapeCast_self]
    rfl
  | ⟨2, _⟩ =>
    refine ⟨slices_S4x128_o2_0_S1x128, ?_⟩
    show k1_pay54 (F := Ideal) _ _ _ _ = _
    simp only [k1_pay54, k1_pay52, k1_pay53, k1_pay25, k1_pay26, k1_pay27, k1_pay28, k1_pay29, k1_pay34, k1_pay35, k1_pay36, k1_pay37, shapeCast_self]
    rfl
  | ⟨3, _⟩ =>
    refine ⟨slices_S4x128_o3_0_S1x128, ?_⟩
    show k1_pay3 (F := Ideal) _ _ _ = _
    simp only [k1_pay3, k1_pay55, k1_pay56, k1_pay25, k1_pay26, k1_pay27, k1_pay28, k1_pay29, k1_pay34, k1_pay35, k1_pay36, k1_pay37, shapeCast_self]
    rfl

theorem rowOf_at (r : Fin 4) (h : S4x128.Slices ![r.val, 0] S1x128) (x : A4 Ideal) (g : ℕ → EReal) (hx : ∀ k : S4x128.Idx, x k = g (128 * (k 0).val + (k 1).val)) (k : S1x128.Idx) :
    rowOf r.val h x k = g (128 * r.val + (k 1).val) := by
  have h0 : (k 0).val < 1 := (k 0).isLt
  unfold rowOf
  refine (extractStridedSlice_apply _ _ _ _ (ValueIdx.ix2 r (k 1 : Fin 128)) fun a => ?_).trans (hx _)
  match a with
  | ⟨0, _⟩ => show r.val = r.val + (k 0).val; omega
  | ⟨1, _⟩ => show (k 1).val = 0 + (k 1).val; omega

theorem slt_small (p q : ℕ) (hp : p < 1000) (hq : q < 1000) : IntOp.cmpi .slt (BitVec.ofNat 32 p) (BitVec.ofNat 32 q) = BitVec.ofBool (decide (p < q)) := by
  show BitVec.ofBool ((BitVec.ofNat 32 p).slt (BitVec.ofNat 32 q)) = _
  rw [BitVec.slt_eq_decide, StableHlo.Predicate.toInt_ofNat_small p (by omega), StableHlo.Predicate.toInt_ofNat_small q (by omega)]
  simp

theorem group_at {u v : ℕ → Fin 4 → EReal} {a b c d : A512 Ideal} {x y z w : S1x128.Idx → EReal} (hu : Cols u a b c d)
    (hx : ∀ k : S1x128.Idx, x k = v (k 1).val 0) (hy : ∀ k : S1x128.Idx, y k = v (k 1).val 1) (hz : ∀ k : S1x128.Idx, z k = v (k 1).val 2) (hw : ∀ k : S1x128.Idx, w k = v (k 1).val 3)
    (o : ℕ) (ho : o < 500) (q : S512x128.Idx) :
    group a b c d x y z w (BitVec.ofNat 32 o) q = bit (Box.Over (u (q 0).val) (v (q 1).val) ∧ (q 1).val + o < (q 0).val) := by
  obtain ⟨ha, hb, hc, hd⟩ := hu
  have h0 : (q 0).val < 512 := (q 0).isLt
  have h1 : (q 1).val < 128 := (q 1).isLt
  have hA : broadcastTo S512x128 (mulf (F := Ideal) (φ := .f32) (subf (F := Ideal) (φ := .f32) c a) (subf (F := Ideal) (φ := .f32) d b)) broadcasts_S512x1_S512x128 q
      = Box.area (u (q 0).val 0) (u (q 0).val 1) (u (q 0).val 2) (u (q 0).val 3) :=
    spread_col _ (fun n => Box.area (u n 0) (u n 1) (u n 2) (u n 3)) (fun r => by
      show (c r - a r) * (d r - b r) = _
      rw [ha, hb, hc, hd]; rfl) (by decide) broadcasts_S512x1_S512x128 q
  have hR : broadcastTo S512x128 (mulf (F := Ideal) (φ := .f32) (subf (F := Ideal) (φ := .f32) z x) (subf (F := Ideal) (φ := .f32) w y)) broadcasts_S1x128_S512x128 q
      = Box.area (v (q 1).val 0) (v (q 1).val 1) (v (q 1).val 2) (v (q 1).val 3) :=
    spread_row _ (fun n => Box.area (v n 0) (v n 1) (v n 2) (v n 3)) (fun r => by
      show (z r - x r) * (w r - y r) = _
      rw [hx, hy, hz, hw]; rfl) (by decide) broadcasts_S1x128_S512x128 q
  have hi : iota .tc S512x128 32 [0] iota_S512x128_d0_w32 q = BitVec.ofNat 32 (q 0).val := (iota_apply ..).trans (congrArg (BitVec.ofNat 32) (show 0 * 512 + (q 0).val = _ by omega))
  have hj : addi (iota .tc S512x128 32 [1] iota_S512x128_d1_w32) (broadcast S512x128 (BitVec.ofNat 32 o)) q = BitVec.ofNat 32 ((q 1).val + o) := by
    have hi : iota .tc S512x128 32 [1] iota_S512x128_d1_w32 q = BitVec.ofNat 32 (q 1).val := (iota_apply ..).trans (congrArg (BitVec.ofNat 32) (show 0 * 128 + (q 1).val = _ by omega))
    show iota .tc S512x128 32 [1] iota_S512x128_d1_w32 q + BitVec.ofNat 32 o = _
    rw [hi, BitVec.ofNat_add]
  have hI : max (Ideal.ofBits .f32 0x00000000#32) (min (broadcastTo S512x128 c broadcasts_S512x1_S512x128 q) (broadcastTo S512x128 z broadcasts_S1x128_S512x128 q)
        - max (broadcastTo S512x128 a broadcasts_S512x1_S512x128 q) (broadcastTo S512x128 x broadcasts_S1x128_S512x128 q))
      * max (Ideal.ofBits .f32 0x00000000#32) (min (broadcastTo S512x128 d broadcasts_S512x1_S512x128 q) (broadcastTo S512x128 w broadcasts_S1x128_S512x128 q)
        - max (broadcastTo S512x128 b broadcasts_S512x1_S512x128 q) (broadcastTo S512x128 y broadcasts_S1x128_S512x128 q))
      = Box.inter (u (q 0).val 0) (u (q 0).val 1) (u (q 0).val 2) (u (q 0).val 3) (v (q 1).val 0) (v (q 1).val 1) (v (q 1).val 2) (v (q 1).val 3) := by
    unfold Box.inter
    rw [← spread_col a (fun n => u n 0) ha (by decide) broadcasts_S512x1_S512x128 q, ← spread_col b (fun n => u n 1) hb (by decide) broadcasts_S512x1_S512x128 q,
      ← spread_col c (fun n => u n 2) hc (by decide) broadcasts_S512x1_S512x128 q, ← spread_col d (fun n => u n 3) hd (by decide) broadcasts_S512x1_S512x128 q,
      ← spread_row x (fun n => v n 0) hx (by decide) broadcasts_S1x128_S512x128 q, ← spread_row y (fun n => v n 1) hy (by decide) broadcasts_S1x128_S512x128 q,
      ← spread_row z (fun n => v n 2) hz (by decide) broadcasts_S1x128_S512x128 q, ← spread_row w (fun n => v n 3) hw (by decide) broadcasts_S1x128_S512x128 q]
  show Scalar.select (IntOp.andi (BitVec.ofBool (decide (Ideal.ofBits .f32 0x3F333333#32 < Ideal.div (max (Ideal.ofBits .f32 0x00000000#32) _ * max (Ideal.ofBits .f32 0x00000000#32) _)
    (((broadcastTo S512x128 (mulf (F := Ideal) (φ := .f32) _ _) broadcasts_S512x1_S512x128 q + broadcastTo S512x128 (mulf (F := Ideal) (φ := .f32) _ _) broadcasts_S1x128_S512x128 q)
      - (max (Ideal.ofBits .f32 0x00000000#32) _ * max (Ideal.ofBits .f32 0x00000000#32) _)) + Ideal.ofBits .f32 0x3089705F#32))))
    (IntOp.cmpi .slt (addi (iota .tc S512x128 32 [1] iota_S512x128_d1_w32) (broadcast S512x128 (BitVec.ofNat 32 o)) q) (iota .tc S512x128 32 [0] iota_S512x128_d0_w32 q)))
    (Ideal.ofBits .f32 0x3F800000#32) (Ideal.ofBits .f32 0x00000000#32) = _
  rw [hi, hj, slt_small _ _ (by omega) (by omega)]
  refine (congrArg₂ (fun I A : EReal => Scalar.select (IntOp.andi (BitVec.ofBool (decide (Ideal.ofBits .f32 0x3F333333#32 < Ideal.div I ((A - I) + Ideal.ofBits .f32 0x3089705F#32)))) (BitVec.ofBool (decide ((q 1).val + o < (q 0).val))))
    (Ideal.ofBits .f32 0x3F800000#32) (Ideal.ofBits .f32 0x00000000#32)) hI (congrArg₂ (fun x y : EReal => x + y) hA hR)).trans ?_
  dsimp only
  rw [andi_bool, select_bit]
  rfl

/-- The overlap matrix: whether the row's position overlaps the column's too much, the column's coming first. -/
theorem smat_at {u : ℕ → Fin 4 → EReal} {a b c d : A512 Ideal} {x y z w : A4 Ideal} (hu : Cols u a b c d) (hv : Rows u x y z w) (q : S512x512.Idx) :
    smat a b c d x y z w q = bit (Box.Over (u (q 0).val) (u (q 1).val) ∧ (q 1).val < (q 0).val) := by
  have h1 : (q 1).val < 512 := (q 1).isLt
  unfold smat
  obtain ⟨h, e⟩ := sqCol_eq a b c d x y z w ⟨(q 1).val / 128, col_lt q⟩
  rw [e, group_at (v := fun n => u (128 * ((q 1).val / 128) + n)) hu (rowOf_at _ h x (fun n => u n 0) hv.1) (rowOf_at _ h y (fun n => u n 1) hv.2.1) (rowOf_at _ h z (fun n => u n 2) hv.2.2.1)
    (rowOf_at _ h w (fun n => u n 3) hv.2.2.2) _ (by show 128 * ((q 1).val / 128) < 500; omega)]
  show bit (Box.Over (u (q 0).val) (u (128 * ((q 1).val / 128) + (q 1).val % 128)) ∧ (q 1).val % 128 + 128 * ((q 1).val / 128) < (q 0).val) = _
  rw [Nat.div_add_mod, Nat.mod_add_div]

/-! ## One round of the fixpoint, and the counts -/

theorem round_at {v : IVec S512x1 1} {kf : A512 Ideal} {s : ASq Ideal} {A K : ℕ → Prop} {S : ℕ → ℕ → Prop} (hv : ∀ i : S512x1.Idx, v i = 1#1 ↔ A (i 0).val)
    (hk : ∀ i : S512x1.Idx, kf i = bit (K (i 0).val)) (hs : ∀ q : S512x512.Idx, s q = bit (S (q 0).val (q 1).val)) (i : S512x1.Idx) :
    k1_pay8 v kf s i = bit (A (i 0).val ∧ ∀ j < 512, K j → ¬ S (i 0).val j) := by
  have hm : matmul dot_S512x512_S512x1_S512x1_1_0_0_1_n_n none (s : FVec Ideal S512x512 .f32) kf (constant S512x1 .f32 0x00000000#32) i = ∑ j : Fin 512, bit (S (i 0).val j.val ∧ K j.val) := by
    have hi : i = ValueIdx.ix2 (i 0) (i 1) := funext fun a => by
      match a with
      | ⟨0, _⟩ => rfl
      | ⟨1, _⟩ => rfl
    rw [hi]
    refine (Ideal.matmul_plain_apply (M := 512) (K := 512) (N := 1) none (s : FVec Ideal S512x512 .f32) kf (constant S512x1 .f32 0x00000000#32) (i 0) (i 1)).trans ?_
    show Ideal.ofBits .f32 0x00000000#32 + _ = _
    rw [Ideal.ofBits_zero_f32, zero_add]
    refine Finset.sum_congr rfl fun j _ => ?_
    rw [hs, hk, bit_mul]
  have hv' : v i = BitVec.ofBool (@decide (A (i 0).val) (Classical.dec _)) := by
    by_cases h : A (i 0).val
    · rw [(hv i).mpr h, @decide_eq_true _ (Classical.dec _) h]; rfl
    · rw [@decide_eq_false _ (Classical.dec _) h]
      rcases BitVec.eq_zero_or_eq_one (v i) with h' | h'
      · rw [h']; rfl
      · exact absurd ((hv i).mp h') h
  show Scalar.select (IntOp.andi (v i) (BitVec.ofBool (decide (matmul dot_S512x512_S512x1_S512x1_1_0_0_1_n_n none (s : FVec Ideal S512x512 .f32) kf (constant S512x1 .f32 0x00000000#32) i
    < Ideal.ofBits .f32 0x3F000000#32)))) (Ideal.ofBits .f32 0x3F800000#32) (Ideal.ofBits .f32 0x00000000#32) = _
  rw [hm, hv', andi_bool, select_bit]
  refine bit_congr (and_congr_right fun _ => (sum_lt_half _).trans ⟨fun h j hj hk hs => h ⟨j, hj⟩ ⟨hs, hk⟩, fun h j hj => h j.val j.isLt hj.2 hj.1⟩)

theorem bits_at {v : IVec S512x1 1} {A : ℕ → Prop} (hv : ∀ i : S512x1.Idx, v i = 1#1 ↔ A (i 0).val) (i : S512x1.Idx) : k1_pay4 (F := Ideal) v i = bit (A (i 0).val) := by
  show Scalar.select (v i) (Ideal.ofBits .f32 0x3F800000#32) (Ideal.ofBits .f32 0x00000000#32) = _
  rw [Ideal.ofBits_one_f32, Ideal.ofBits_zero_f32]
  by_cases h : A (i 0).val
  · rw [(hv i).mpr h, bit_pos h]; rfl
  · rw [bit_neg h]
    rcases BitVec.eq_zero_or_eq_one (v i) with h' | h'
    · rw [h']; rfl
    · exact absurd ((hv i).mp h') h

open Classical in
theorem count_lt (K : ℕ → Prop) : Nat.count K 512 < 2 ^ 31 := (Nat.count_le K).trans_lt (by norm_num)

open Classical in
theorem change_at {v : IVec S512x1 1} {kf : A512 Ideal} {s : ASq Ideal} {K K' D : ℕ → Prop} (hD : ∀ i, D i ↔ ¬ (K' i ↔ K i)) (hk : ∀ i : S512x1.Idx, kf i = bit (K (i 0).val))
    (hk' : ∀ i : S512x1.Idx, k1_pay8 v kf s i = bit (K' (i 0).val)) : Scalar.fptosi 32 (k1_pay9 v kf s) = BitVec.ofNat 32 (Nat.count D 512) := by
  have h : k1_pay9 v kf s = ∑ i : Fin 512, bit (D i.val) :=
    total_eq _ _ _ (fun i => bit (D i)) fun i => by
      show max (k1_pay8 v kf s i - kf i) (-(k1_pay8 v kf s i - kf i)) = _
      rw [hk, hk', bit_abs, bit_congr (hD _)]
  rw [h, sum_count]
  exact fptosi_count _ (count_lt _)

open Classical in
theorem kept_count {kf : A512 Ideal} {K : ℕ → Prop} (hk : ∀ i : S512x1.Idx, kf i = bit (K (i 0).val)) : Scalar.fptosi 32 (k1_pay7 kf) = BitVec.ofNat 32 (Nat.count K 512) := by
  have h : k1_pay7 kf = ∑ i : Fin 512, bit (K i.val) := total_eq _ _ _ (fun i => bit (K i)) hk
  rw [h, sum_count]
  exact fptosi_count _ (count_lt _)

open Classical in
theorem valid_count {v : IVec S512x1 1} {A : ℕ → Prop} (hv : ∀ i : S512x1.Idx, v i = 1#1 ↔ A (i 0).val) : Scalar.fptosi 32 (k1_pay6 (F := Ideal) v) = BitVec.ofNat 32 (Nat.count A 512) :=
  kept_count (kf := k1_pay4 v) (bits_at hv)

theorem valid_at {x : A512 Ideal} {w : ℕ → EReal} (hx : ∀ i : S512x1.Idx, x i = 0 - w (i 0).val) (i : S512x1.Idx) : k1_pay24 (F := Ideal) x i = 1#1 ↔ 0 - w (i 0).val < 0 := by
  unfold k1_pay24
  rw [shapeCast_self]
  show BitVec.ofBool (decide (x i < Ideal.ofBits .f32 0x00000000#32)) = 1#1 ↔ _
  rw [Ideal.ofBits_zero_f32, hx]
  by_cases h : 0 - w (i 0).val < 0
  · rw [decide_eq_true h]; exact ⟨fun _ => h, fun _ => rfl⟩
  · rw [decide_eq_false h]; exact ⟨fun e => absurd e (by decide), fun e => absurd e h⟩

theorem free_at {v : IVec S512x1 1} {sp : A512 Ideal} {A P : ℕ → Prop} (hv : ∀ i : S512x1.Idx, v i = 1#1 ↔ A (i 0).val) (hs : ∀ i : S512x1.Idx, sp i = bit (P (i 0).val)) (i : S512x1.Idx) :
    k1_pay33 (F := Ideal) v sp i = 1#1 ↔ A (i 0).val ∧ ¬ P (i 0).val := by
  show IntOp.andi (v i) (BitVec.ofBool (decide (sp i < Ideal.ofBits .f32 0x3F000000#32))) = 1#1 ↔ _
  rw [hs, ← hv i, ← bit_lt_half]
  rcases BitVec.eq_zero_or_eq_one (v i) with h' | h' <;> rw [h'] <;>
    by_cases h : bit (P (i 0).val) < Ideal.ofBits .f32 0x3F000000#32 <;> simp [h, IntOp.andi]

end Cert.KernelIdeal.Prf

end
-- ==== Proof.PI.Inner.lean ====
/-
  The fixpoint inside a block finds the block's kept positions: each round settles one position more, and a round that changes
  nothing has settled them all.
-/
module

public import proofs.«01_k».proof.Proof.PI.Elem
public import proofs.«01_k».proof.Proof.V.Greedy

@[expose] public section

set_option maxRecDepth 16384

noncomputable section

namespace Cert.KernelIdeal.Prf

open Cert.KernelIdeal Cert.KernelIdeal.Gen
open Idealize.ShloMosaic
open Cert.Bits Cert.Greedy

theorem sgt_pos (c : ℕ) (hc : c < 2 ^ 31) : Scalar.cmpi .sgt (BitVec.ofNat 32 c) 0#32 = 1#1 ↔ 0 < c := by
  show BitVec.ofBool ((0#32).slt (BitVec.ofNat 32 c)) = 1#1 ↔ _
  rw [BitVec.slt_eq_decide, StableHlo.Predicate.toInt_ofNat_small c hc, show (0#32).toInt = 0 from rfl]
  by_cases h : 0 < c
  · rw [decide_eq_true (by omega)]; exact ⟨fun _ => h, fun _ => rfl⟩
  · rw [decide_eq_false (by omega)]; exact ⟨fun e => absurd e (by decide), fun e => absurd e h⟩

theorem slt_iff (c d : ℕ) (hc : c < 2 ^ 31) (hd : d < 2 ^ 31) : Scalar.cmpi .slt (BitVec.ofNat 32 c) (BitVec.ofNat 32 d) = 1#1 ↔ c < d := by
  show BitVec.ofBool ((BitVec.ofNat 32 c).slt (BitVec.ofNat 32 d)) = 1#1 ↔ _
  rw [BitVec.slt_eq_decide, StableHlo.Predicate.toInt_ofNat_small c hc, StableHlo.Predicate.toInt_ofNat_small d hd]
  by_cases h : c < d
  · rw [decide_eq_true (by omega)]; exact ⟨fun _ => h, fun _ => rfl⟩
  · rw [decide_eq_false (by omega)]; exact ⟨fun e => absurd e (by decide), fun e => absurd e h⟩

theorem andi_one (a b : BitVec 1) : Scalar.andi a b = 1#1 ↔ a = 1#1 ∧ b = 1#1 := by
  revert a b; decide

theorem addi_ofNat (a b : ℕ) : Scalar.addi (BitVec.ofNat 32 a) (BitVec.ofNat 32 b) = BitVec.ofNat 32 (a + b) := (BitVec.ofNat_add ..).symm

variable {v : IVec S512x1 1} {s : ASq Ideal} {A : ℕ → Prop} {S : ℕ → ℕ → Prop}

theorem inner_steps (hv : ∀ i : S512x1.Idx, v i = 1#1 ↔ A (i 0).val) (hs : ∀ q : S512x512.Idx, s q = bit (S (q 0).val (q 1).val)) (hS : ∀ i j, S i j → j < i) :
    ∀ (n t : ℕ) (kf : A512 Ideal) (ch : BitVec 32) (K : ℕ → Prop), n + t = 514 → (∀ i : S512x1.Idx, kf i = bit (K (i 0).val)) →
      (∀ i < t, i < 512 → (K i ↔ Kept A S i)) → (¬ Scalar.cmpi .sgt ch 0#32 = 1#1 → ∀ i < 512, K i ↔ Kept A S i) →
      ∀ i : S512x1.Idx, (inner s v n (BitVec.ofNat 32 t, kf, ch)).2.1 i = bit (Kept A S (i 0).val) := by
  classical
  intro n
  induction n with
  | zero =>
    intro t kf ch K hn hk hp _ i
    have hi : (i 0).val < 512 := (i 0).isLt
    exact (hk i).trans (bit_congr (hp _ (by omega) hi))
  | succ n ih =>
    intro t kf ch K hn hk hp hc i
    have hi : (i 0).val < 512 := (i 0).isLt
    unfold inner
    by_cases hg : Scalar.andi (Scalar.cmpi .sgt ch 0#32) (Scalar.cmpi .slt (BitVec.ofNat 32 t) 514#32) = 1#1
    · rw [if_pos hg]
      let K' : ℕ → Prop := fun i => A i ∧ ∀ j < 512, K j → ¬ S i j
      have hk' : ∀ i : S512x1.Idx, k1_pay8 v kf s i = bit (K' (i 0).val) := fun i => round_at hv hk hs i
      dsimp only
      rw [show (1#32 : BitVec 32) = BitVec.ofNat 32 1 from rfl, addi_ofNat, change_at (D := fun i => ¬ (K' i ↔ K i)) (fun i => Iff.rfl) hk hk']
      have hstep : ∀ i < 512, (∀ j < i, K j ↔ Kept A S j) → (K' i ↔ Kept A S i) := fun i hi h => by
        rw [kept_iff]
        refine and_congr_right fun _ => ⟨fun h1 j hj hkj => h1 j (hj.trans hi) ((h j hj).mpr hkj), fun h1 j _ hkj hsj => h1 j (hS _ _ hsj) ((h j (hS _ _ hsj)).mp hkj) hsj⟩
      refine ih (t + 1) _ _ K' (by omega) hk' (fun i hit hi => hstep i hi fun j hj => hp j (by omega) (by omega)) (fun hz i hi => ?_) i
      rw [sgt_pos _ (count_lt _), Nat.pos_iff_ne_zero, not_not] at hz
      have hsame : ∀ i < 512, (K' i ↔ K i) := fun i hi => by
        by_contra hne
        have h0 : Nat.count (fun i => ¬ (K' i ↔ K i)) 512 = 0 := by convert hz
        exact absurd (Nat.count_strict_mono (p := fun i => ¬ (K' i ↔ K i)) hne hi) (by omega)
      have hall : ∀ i < 512, (K i ↔ Kept A S i) := by
        intro i
        induction i using Nat.strongRecOn with
        | ind i ihi =>
          intro hi
          exact (hsame i hi).symm.trans (hstep i hi fun j hj => ihi j hj (hj.trans hi))
      exact (hsame i hi).trans (hall i hi)
    · rw [if_neg hg]
      refine (hk i).trans (bit_congr (hc (fun h => hg ?_) _ hi))
      exact (andi_one _ _).mpr ⟨h, (slt_iff t 514 (by omega) (by norm_num)).mpr (by omega)⟩

/-- What the fixpoint leaves. -/
theorem inner_at (hv : ∀ i : S512x1.Idx, v i = 1#1 ↔ A (i 0).val) (hs : ∀ q : S512x512.Idx, s q = bit (S (q 0).val (q 1).val)) (hS : ∀ i j, S i j → j < i) (i : S512x1.Idx) :
    (inner s v 514 (0#32, k1_pay4 v, 1#32)).2.1 i = bit (Kept A S (i 0).val) :=
  inner_steps hv hs hS 514 0 _ _ A rfl (bits_at hv) (fun i hi => absurd hi (Nat.not_lt_zero i)) (fun h => absurd ((sgt_pos 1 (by norm_num)).mpr one_pos) h) i

end Cert.KernelIdeal.Prf

end
-- ==== Proof.PI.Outer.lean ====
/-
  The walk over the blocks: after it the flags hold the kept positions of the blocks walked, and either enough are kept or no
  valid position lies beyond.
-/
module

public import proofs.«01_k».proof.Proof.PI.Inner
public import proofs.«01_k».proof.Proof.V.Select

@[expose] public section

set_option maxRecDepth 16384

noncomputable section

namespace Cert.KernelIdeal.Prf

open Cert.KernelIdeal Cert.KernelIdeal.Gen
open Idealize.ShloMosaic
open Cert.Bits Cert.Greedy Cert.Select

theorem blk_at {α : Type} (X : S20480x1.Idx → α) (g : ℕ → α) (hX : ∀ j : S20480x1.Idx, X j = g (j 0).val) (b : ℕ) (hb : b < 40) (i : S512x1.Idx) :
    (fun j : S512x1.Idx => X (ix20480 ((512 * b + (j 0).val) % 20480) (Nat.mod_lt _ (by decide)))) i = g (512 * b + (i 0).val) := by
  have hi : (i 0).val < 512 := (i 0).isLt
  refine (hX _).trans (congrArg g ?_)
  show (512 * b + (i 0).val) % 20480 = _
  exact Nat.mod_eq_of_lt (by omega)

theorem rows_at (X : A160 Ideal) (g : ℕ → EReal) (hX : ∀ j : S160x128.Idx, X j = g (128 * (j 0).val + (j 1).val)) (t : ℕ) (ht : t < 40) (i : S4x128.Idx) :
    rowsAt X t i = g (512 * t + (128 * (i 0).val + (i 1).val)) := by
  have hi : (i 0).val < 4 := (i 0).isLt
  refine (hX _).trans (congrArg g ?_)
  show 128 * ((4 * t + (i 0).val) % 160) + (i 1).val = _
  rw [Nat.mod_eq_of_lt (by omega)]
  omega

variable {w : ℕ → EReal} {π : ℕ → ℕ} {box : ℕ → Fin 4 → EReal} {X : Fin 5 → A20480 Ideal} {Y : Fin 4 → A160 Ideal}

/-- The sorted boxes as the scan reads them. -/
structure Reads (w : ℕ → EReal) (π : ℕ → ℕ) (box : ℕ → Fin 4 → EReal) (X : Fin 5 → A20480 Ideal) (Y : Fin 4 → A160 Ideal) : Prop where
  pos : ∀ (k : Fin 4) (j : S20480x1.Idx), X k.castSucc j = box (π (j 0).val) k
  key : ∀ j : S20480x1.Idx, X 4 j = 0 - w (π (j 0).val)
  row : ∀ (k : Fin 4) (j : S160x128.Idx), Y k j = box (π (128 * (j 0).val + (j 1).val)) k

theorem Reads.cols (h : Reads w π box X Y) (b : ℕ) (hb : b < 40) : Cols (fun n => box (π (512 * b + n))) (blkAt (X 0) b) (blkAt (X 1) b) (blkAt (X 2) b) (blkAt (X 3) b) :=
  ⟨blk_at _ (fun n => box (π n) 0) (h.pos 0) b hb, blk_at _ (fun n => box (π n) 1) (h.pos 1) b hb, blk_at _ (fun n => box (π n) 2) (h.pos 2) b hb, blk_at _ (fun n => box (π n) 3) (h.pos 3) b hb⟩

theorem Reads.rows (h : Reads w π box X Y) (t : ℕ) (ht : t < 40) : Rows (fun n => box (π (512 * t + n))) (rowsAt (Y 0) t) (rowsAt (Y 1) t) (rowsAt (Y 2) t) (rowsAt (Y 3) t) :=
  ⟨rows_at _ (fun n => box (π n) 0) (h.row 0) t ht, rows_at _ (fun n => box (π n) 1) (h.row 1) t ht, rows_at _ (fun n => box (π n) 2) (h.row 2) t ht, rows_at _ (fun n => box (π n) 3) (h.row 3) t ht⟩

/-- The suppression by the first `t` blocks' flags. -/
theorem sup_at (h : Reads w π box X Y) {k : A160 Ideal} {K : ℕ → Prop} (hk : ∀ j : S160x128.Idx, k j = bit (K (128 * (j 0).val + (j 1).val))) (b : ℕ) (hb : b < 40) :
    ∀ t ≤ 40, ∀ i : S512x1.Idx, sup (blkAt (X 0) b) (blkAt (X 1) b) (blkAt (X 2) b) (blkAt (X 3) b) Y k t i = bit (∃ q < 512 * t, K q ∧ Sup box π (512 * b + (i 0).val) q) := by
  intro t
  induction t with
  | zero =>
    intro _ i
    rw [bit_neg (fun ⟨q, hq, _⟩ => absurd hq (by omega))]
    unfold sup k1_pay30
    rw [shapeCast_self]
    exact Ideal.ofBits_zero_f32
  | succ t ih =>
    intro ht i
    refine (supStep_at (K := fun n => K (512 * t + n)) (P := fun n => ∃ q < 512 * t, K q ∧ Sup box π (512 * b + n) q) (h.cols b hb) (h.rows t (by omega))
      (rows_at k (fun n => bit (K n)) hk t (by omega)) (ih (by omega)) i).trans (bit_congr ⟨?_, ?_⟩)
    · rintro (⟨q, hq, h1, h2⟩ | ⟨j, h1, h2⟩)
      · exact ⟨q, by omega, h1, h2⟩
      · exact ⟨512 * t + j.val, by have := j.isLt; omega, h2, h1⟩
    · rintro ⟨q, hq, h1, h2⟩
      by_cases hlt : q < 512 * t
      · exact Or.inl ⟨q, hlt, h1, h2⟩
      · obtain ⟨r, rfl⟩ := Nat.exists_eq_add_of_le (Nat.le_of_not_lt hlt)
        exact Or.inr ⟨⟨r, by omega⟩, h2, h1⟩

/-- The kept positions, and those among the first `b` blocks. -/
abbrev KeptPos (w : ℕ → EReal) (π : ℕ → ℕ) (box : ℕ → Fin 4 → EReal) : ℕ → Prop := Kept (Val 20480 w π) (Sup box π)

theorem alive0_at (h : Reads w π box X Y) (hw : ∀ i, 0 - w i < 0 ↔ w i ≠ ⊥) (b : ℕ) (hb : b < 40) (i : S512x1.Idx) :
    alive0 X b i = 1#1 ↔ Val 20480 w π (512 * b + (i 0).val) := by
  have hi : (i 0).val < 512 := (i 0).isLt
  refine (valid_at (w := fun n => w (π (512 * b + n))) (blk_at _ (fun n => 0 - w (π n)) h.key b hb) i).trans ((hw _).trans ?_)
  exact ⟨fun hn => ⟨by omega, hn⟩, fun hn => hn.2⟩

theorem alive_at (h : Reads w π box X Y) (hw : ∀ i, 0 - w i < 0 ↔ w i ≠ ⊥) {k : A160 Ideal} {K : ℕ → Prop} (b : ℕ) (hb : b < 40)
    (hk : ∀ j : S160x128.Idx, k j = bit (K (128 * (j 0).val + (j 1).val))) (i : S512x1.Idx) :
    alive X Y k b i = 1#1 ↔ Val 20480 w π (512 * b + (i 0).val) ∧ ¬ ∃ q < 512 * b, K q ∧ Sup box π (512 * b + (i 0).val) q :=
  free_at (A := fun n => Val 20480 w π (512 * b + n)) (P := fun n => ∃ q < 512 * b, K q ∧ Sup box π (512 * b + n) q) (alive0_at h hw b hb) (sup_at h hk b hb b hb.le) i

theorem sqAt_at (h : Reads w π box X Y) (b : ℕ) (hb : b < 40) (q : S512x512.Idx) :
    sqAt X Y b q = bit (Box.Over (box (π (512 * b + (q 0).val))) (box (π (512 * b + (q 1).val))) ∧ (q 1).val < (q 0).val) := by
  unfold sqAt
  exact smat_at (h.cols b hb) (h.rows b hb) q

/-- What the fixpoint leaves of block `b`, the flags of the earlier blocks being right. -/
theorem keptAt_at (h : Reads w π box X Y) (hw : ∀ i, 0 - w i < 0 ↔ w i ≠ ⊥) {k : A160 Ideal} (b : ℕ) (hb : b < 40)
    (hk : ∀ j : S160x128.Idx, k j = bit (KeptPos w π box (128 * (j 0).val + (j 1).val) ∧ 128 * (j 0).val + (j 1).val < 512 * b)) (i : S512x1.Idx) :
    keptAt X Y k b i = bit (KeptPos w π box (512 * b + (i 0).val)) := by
  have hi : (i 0).val < 512 := (i 0).isLt
  let A : ℕ → Prop := fun n => Val 20480 w π (512 * b + n) ∧ ¬ ∃ q < 512 * b, (KeptPos w π box q ∧ q < 512 * b) ∧ Sup box π (512 * b + n) q
  have hA : ∀ i : S512x1.Idx, alive X Y k b i = 1#1 ↔ A (i 0).val := alive_at (K := fun q => KeptPos w π box q ∧ q < 512 * b) h hw b hb hk
  let S : ℕ → ℕ → Prop := fun i j => Box.Over (box (π (512 * b + i))) (box (π (512 * b + j))) ∧ j < i
  have hin := inner_at (v := alive X Y k b) (s := sqAt X Y b) (A := A) (S := S) hA (sqAt_at h b hb) (fun i j hs => hs.2) i
  unfold keptAt
  refine hin.trans (bit_congr ?_)
  clear hin hA
  have h1 := kept_block (V := Val 20480 w π) (S := Sup box π) (512 * b) 512 A (fun n _ => and_congr_right fun _ =>
    ⟨fun hn j hj hkj hs => hn ⟨j, hj, ⟨hkj, hj⟩, hs⟩, fun hn ⟨j, hj, hkj, hs⟩ => hn j hj hkj.1 hs⟩) _ hi
  refine Iff.trans ?_ h1
  refine kept_unique (V := A) (S := fun i j => Sup box π (512 * b + i) (512 * b + j)) (Kept A S) 512 (fun p _ => ?_) _ hi
  rw [kept_iff]
  exact and_congr_right fun _ => ⟨fun hn j hj hkj hs => hn j hj hkj ⟨hs, hj⟩, fun hn j hj hkj hs => hn j hj hkj hs.1⟩

/-- The flags with block `b`'s written. -/
theorem setRows_at {k : A160 Ideal} {r : A512 Ideal} {K : ℕ → Prop} (b : ℕ) (hk : ∀ j : S160x128.Idx, k j = bit (K (128 * (j 0).val + (j 1).val) ∧ 128 * (j 0).val + (j 1).val < 512 * b))
    (hr : ∀ i : S512x1.Idx, r i = bit (K (512 * b + (i 0).val))) (j : S160x128.Idx) :
    setRows k b (k1_pay5 r) j = bit (K (128 * (j 0).val + (j 1).val) ∧ 128 * (j 0).val + (j 1).val < 512 * (b + 1)) := by
  have h1 : (j 1).val < 128 := (j 1).isLt
  unfold setRows
  split
  · rename_i hin
    show shapeCast S4x128 r shapeCasts_S512x1_S4x128 _ = _
    rw [shapeCast_apply r _ _ (ValueIdx.ix2 (⟨128 * ((j 0).val - 4 * b) + (j 1).val, by omega⟩ : Fin 512) (0 : Fin 1)) (by
      rw [Shape.rowMajor_val_two, Shape.rowMajor_val_two]
      show (128 * ((j 0).val - 4 * b) + (j 1).val) * 1 + 0 = ((j 0).val - 4 * b) * 128 + (j 1).val
      omega), hr]
    show bit (K (512 * b + (128 * ((j 0).val - 4 * b) + (j 1).val))) = _
    rw [show 512 * b + (128 * ((j 0).val - 4 * b) + (j 1).val) = 128 * (j 0).val + (j 1).val by omega]
    exact bit_congr ⟨fun hk => ⟨hk, by omega⟩, fun hk => hk.1⟩
  · rename_i hout
    rw [hk]
    exact bit_congr (and_congr_right fun _ => ⟨fun _ => by omega, fun _ => by omega⟩)

open Classical in
theorem outer_steps (h : Reads w π box X Y) (ho : Ordered 20000 20480 w π) (hw : ∀ i, 0 - w i < 0 ↔ w i ≠ ⊥) :
    ∀ (n b : ℕ) (k : A160 Ideal) (more : BitVec 32), n + b = 40 →
      (∀ j : S160x128.Idx, k j = bit (KeptPos w π box (128 * (j 0).val + (j 1).val) ∧ 128 * (j 0).val + (j 1).val < 512 * b)) →
      (¬ Scalar.cmpi .sgt more 0#32 = 1#1 → ∀ p, 512 * b ≤ p → ¬ Val 20480 w π p) →
      ∃ b' ≤ 40, (outer X Y n ((BitVec.ofNat 32 b, BitVec.ofNat 32 (Nat.count (KeptPos w π box) (512 * b)), more), k)).1.1 = BitVec.ofNat 32 b'
        ∧ (∀ j : S160x128.Idx, (outer X Y n ((BitVec.ofNat 32 b, BitVec.ofNat 32 (Nat.count (KeptPos w π box) (512 * b)), more), k)).2 j
          = bit (KeptPos w π box (128 * (j 0).val + (j 1).val) ∧ 128 * (j 0).val + (j 1).val < 512 * b'))
        ∧ (2000 ≤ Nat.count (KeptPos w π box) (512 * b') ∨ ∀ p, 512 * b' ≤ p → ¬ Val 20480 w π p) := by
  intro n
  induction n with
  | zero =>
    intro b k more hn hk hmore
    exact ⟨b, by omega, rfl, hk, Or.inr fun p hp hv => absurd hv.1 (by omega)⟩
  | succ n ih =>
    intro b k more hn hk hmore
    have hb : b < 40 := by omega
    have hc : Nat.count (KeptPos w π box) (512 * b) < 2 ^ 31 := (Nat.count_le _).trans_lt (by omega)
    have hbn : (BitVec.ofNat 32 b).toNat = b := by rw [BitVec.toNat_ofNat]; exact Nat.mod_eq_of_lt (by omega)
    unfold outer
    by_cases hg : goOn (BitVec.ofNat 32 b, BitVec.ofNat 32 (Nat.count (KeptPos w π box) (512 * b)), more)
    · rw [if_pos hg]
      dsimp only
      rw [hbn]
      have hkept := keptAt_at h hw b hb hk
      rw [kept_count (K := fun i => KeptPos w π box (512 * b + i)) hkept, valid_count (A := fun i => Val 20480 w π (512 * b + i)) (alive0_at h hw b hb), show (1#32 : BitVec 32) = BitVec.ofNat 32 1 from rfl, addi_ofNat,
        addi_ofNat, ← Nat.count_add, show 512 * b + 512 = 512 * (b + 1) by omega]
      refine ih (b + 1) _ _ (by omega) (setRows_at b hk hkept) fun hz p hp hv => ?_
      rw [sgt_pos _ (count_lt _), Nat.pos_iff_ne_zero, not_not] at hz
      have hv0 : Val 20480 w π (512 * b + 0) := ho.val_down hv (by omega)
      exact absurd (Nat.count_strict_mono (p := fun i => Val 20480 w π (512 * b + i)) hv0 (by norm_num : 0 < 512)) (by omega)
    · rw [if_neg hg]
      refine ⟨b, hb.le, rfl, hk, ?_⟩
      by_cases h2 : Nat.count (KeptPos w π box) (512 * b) < 2000
      · refine Or.inr (hmore fun h3 => hg ?_)
        exact (andi_one _ _).mpr ⟨(andi_one _ _).mpr ⟨(slt_iff b 40 (by omega) (by norm_num)).mpr hb, (slt_iff _ 2000 hc (by norm_num)).mpr h2⟩, h3⟩
      · exact Or.inl (Nat.le_of_not_lt h2)

open Classical in
/-- After the walk. -/
theorem scan_at (h : Reads w π box X Y) (ho : Ordered 20000 20480 w π) (hw : ∀ i, 0 - w i < 0 ↔ w i ≠ ⊥) :
    ∃ b ≤ 40, (∀ j : S8x128.Idx, scanEnd X Y j = (((512 * b : ℕ) : ℝ) : EReal))
      ∧ (∀ j : S160x128.Idx, scanRes X Y j = bit (KeptPos w π box (128 * (j 0).val + (j 1).val) ∧ 128 * (j 0).val + (j 1).val < 512 * b))
      ∧ (2000 ≤ Nat.count (KeptPos w π box) (512 * b) ∨ ∀ p, 512 * b ≤ p → ¬ Val 20480 w π p) := by
  obtain ⟨b, hb, h1, h2, h3⟩ := outer_steps h ho hw 40 0 k1_pay1 1#32 rfl
    (fun j => Ideal.ofBits_zero_f32.trans (bit_neg fun hn => absurd hn.2 (by omega)).symm) (fun hn => absurd ((sgt_pos 1 (by norm_num)).mpr one_pos) hn)
  rw [Nat.mul_zero, Nat.count_zero] at h1 h2
  refine ⟨b, hb, fun j => ?_, h2, h3⟩
  unfold scanEnd
  rw [show (outer X Y 40 ((0#32, 0#32, 1#32), k1_pay1)).1.1 = BitVec.ofNat 32 b from h1]
  show Ideal.ofBits .f32 0x3F800000#32 * (((BitVec.ofNat 32 b * 512#32).toInt : ℝ) : EReal) = _
  rw [Ideal.ofBits_one_f32, one_mul, show (512#32 : BitVec 32) = BitVec.ofNat 32 512 from rfl, ← BitVec.ofNat_mul, StableHlo.Predicate.toInt_ofNat_small _ (by omega), Nat.mul_comm]
  push_cast
  rfl

end Cert.KernelIdeal.Prf

end
-- ==== Proof.PI.Value.lean ====
/-
  The kernel's result as rows: the row of each rank holds the kept box of that rank and its score, and the rows beyond the
  kept boxes hold zeros.
-/
module

public import proofs.«01_k».proof.Proof.PI.Sorted
public import proofs.«01_k».proof.Proof.PI.Outer
public import proofs.«01_k».proof.Proof.PI.Main

@[expose] public section

set_option maxRecDepth 16384

noncomputable section

namespace Cert.KernelIdeal.Prf

open Cert.KernelIdeal Cert.KernelIdeal.Gen
open Idealize.ShloMosaic
open Cert.Bits Cert.Greedy Cert.Select

/-! ## Which chunks are looked at -/

theorem limit_val (n : ℕ) (hn : n < 16) : Ideal.ofBits .f32 (limit n) = (((1280 * n : ℕ) : ℝ) : EReal) := by
  interval_cases n <;> simp [limit, Ideal.ofBits, Ideal.ieee, -EReal.coe_mul] <;> norm_num

/-- The greatest of sixteen equal lanes, each zero or one. -/
theorem top_eq (c : BitVec 1) :
    extractAt ![15] (xori (scan .max (xori (broadcast S16 (Scalar.select c 1#32 0#32)) (broadcast S16 2147483648#32))) (broadcast S16 2147483648#32)) inpos_S16_p15 = Scalar.select c 1#32 0#32 := by
  revert c
  decide +kernel

/-- With the same count in every lane, a chunk is looked at when it starts below the count. -/
theorem runs_iff (v : Vec Ideal S16 .f32) (t : ℕ) (hv : ∀ j, v j = (((t : ℕ) : ℝ) : EReal)) (n : ℕ) (hn : n < 16) : Runs v n ↔ 1280 * n < t := by
  have h0 : exLanes v n = broadcast S16 (Scalar.select (BitVec.ofBool (decide (1280 * n < t))) 1#32 0#32) := by
    funext j
    show Scalar.select (BitVec.ofBool (decide (Ideal.ofBits .f32 (limit n) < v j))) 1#32 0#32 = _
    rw [hv, limit_val n hn]
    refine congrArg (fun b => Scalar.select (BitVec.ofBool b) 1#32 0#32) (decide_eq_decide.mpr ?_)
    rw [EReal.coe_lt_coe_iff, Nat.cast_lt]
  unfold Runs exceeds
  rw [h0, top_eq]
  by_cases h : 1280 * n < t
  · rw [decide_eq_true h]; exact ⟨fun _ => h, fun _ => by decide⟩
  · rw [decide_eq_false h]; exact ⟨fun hh => absurd hh (by decide), fun hh => absurd hh h⟩

/-! ## The sorted boxes as the scan reads them -/

variable (A : FVec Ideal S20000x4 .f32) (B : FVec Ideal S20000 .f32)

theorem col_shape (x : FVec Ideal S20480 .f32) (j : S20480x1.Idx) : shapeCast S20480x1 x shapeCasts_S20480_S20480x1 j = x (ValueIdx.ix1 (j 0)) :=
  shapeCast_apply _ _ _ _ (by
    have h1 : (j 1).val = 0 := Nat.lt_one_iff.mp (j 1).isLt
    rw [Shape.rowMajor_val_two, Shape.rowMajor_val_one, h1]
    exact ((Nat.add_zero _).trans (Nat.mul_one _)).symm)

theorem row_lt (j : S160x128.Idx) : 128 * (j 0).val + (j 1).val < 20480 := by
  have h0 : (j 0).val < 160 := (j 0).isLt
  have h1 : (j 1).val < 128 := (j 1).isLt
  omega

theorem row_shape (x : FVec Ideal S20480 .f32) (j : S160x128.Idx) : shapeCast S160x128 x shapeCasts_S20480_S160x128 j = x (ValueIdx.ix1 ⟨_, row_lt j⟩) :=
  shapeCast_apply _ _ _ _ (by
    rw [Shape.rowMajor_val_two, Shape.rowMajor_val_one]
    exact congrArg (· + (j 1).val) (Nat.mul_comm _ _))

theorem reads : Reads (wrk A B) (order A B) (box A) (posCols (sortedOf A B)) (rowCols (sortedOf A B)) where
  pos k j := by
    refine Eq.trans ?_ ((sorted_at A B (j 0)).2.1 k)
    match k with
    | ⟨0, _⟩ => exact col_shape (sortedOf A B 1) j
    | ⟨1, _⟩ => exact col_shape (sortedOf A B 2) j
    | ⟨2, _⟩ => exact col_shape (sortedOf A B 3) j
    | ⟨3, _⟩ => exact col_shape (sortedOf A B 4) j
  key j := (col_shape (sortedOf A B 0) j).trans (sorted_at A B (j 0)).1
  row k j := by
    refine Eq.trans ?_ ((sorted_at A B ⟨_, row_lt j⟩).2.1 k)
    match k with
    | ⟨0, _⟩ => exact row_shape (sortedOf A B 1) j
    | ⟨1, _⟩ => exact row_shape (sortedOf A B 2) j
    | ⟨2, _⟩ => exact row_shape (sortedOf A B 3) j
    | ⟨3, _⟩ => exact row_shape (sortedOf A B 4) j

/-- The boxes kept, by their place in the order. -/
abbrev KeptOf : ℕ → Prop := KeptPos (wrk A B) (order A B) (box A)

open Classical in
/-- The compaction packs the kept boxes of the blocks walked. -/
theorem keep_at : ∃ t ≤ 20480, (∀ p, keep (compOf A B) (endOf A B) p ↔ KeptOf A B p ∧ p < t)
    ∧ (2000 ≤ Nat.count (KeptOf A B) t ∨ ∀ p, t ≤ p → ¬ Val 20480 (wrk A B) (order A B) p) := by
  obtain ⟨b, hb, hE, hR, hS⟩ := scan_at (reads A B) (ordered A B) (fun i => (Box.neg_work_neg ..).trans (Box.work_ne_bot ..).symm)
  refine ⟨512 * b, by omega, fun p => ?_, hS⟩
  have hv : ∀ j, endVec (endOf A B) j = ((((512 * b : ℕ)) : ℝ) : EReal) := fun j => hE _
  have hf : ∀ i : Fin 20480, flg1 (compOf A B 5 (ValueIdx.ix1 i)) = 1#1 ↔ KeptOf A B i.val ∧ i.val < 512 * b := fun i => by
    have h1 : compOf A B 5 (ValueIdx.ix1 i) = bit (KeptOf A B i.val ∧ i.val < 512 * b) := by
      refine (flat_eq _ i).trans ((hR _).trans (bit_congr ?_))
      rw [show 128 * ((at160 i) 0).val + ((at160 i) 1).val = i.val from Nat.div_add_mod i.val 128]
    show BitVec.ofBool (decide (Ideal.ofBits .f32 0x3F000000#32 < compOf A B 5 (ValueIdx.ix1 i))) = 1#1 ↔ _
    rw [h1]
    refine Iff.trans ?_ (half_lt_bit (KeptOf A B i.val ∧ i.val < 512 * b))
    by_cases h : Ideal.ofBits .f32 0x3F000000#32 < bit (KeptOf A B i.val ∧ i.val < 512 * b)
    · rw [decide_eq_true h]; exact ⟨fun _ => h, fun _ => rfl⟩
    · rw [decide_eq_false h]; exact ⟨fun hh => absurd hh (by decide), fun hh => absurd hh h⟩
  by_cases hp : p < 20480
  · refine (keep_idx (compOf A B) (endOf A B) (ValueIdx.ix1 ⟨p, hp⟩)).trans ?_
    rw [hf]
    exact ⟨fun h => h.2, fun h => ⟨(runs_iff _ _ hv _ (show p / 1280 < 16 by omega)).mpr (show 1280 * (p / 1280) < 512 * b by have := h.2; have : p < 512 * b := this; omega), h⟩⟩
  · refine ⟨fun ⟨_, j, hj, _⟩ => ?_, fun h => absurd h.2 (by omega)⟩
    have : (j 0).val < 20480 := (j 0).isLt
    omega

theorem comp_col (k : Fin 5) : compOf A B k.castSucc = sortedOf A B k.succ := by
  unfold compOf
  generalize sortedOf A B = s
  match k with
  | ⟨0, _⟩ => rfl
  | ⟨1, _⟩ => rfl
  | ⟨2, _⟩ => rfl
  | ⟨3, _⟩ => rfl
  | ⟨4, _⟩ => rfl

theorem val_at (p : ℕ) (hp : p < 20480) (k : Fin 5) : valAt (compOf A B k.castSucc) p = sortedOf A B k.succ (ValueIdx.ix1 ⟨p, hp⟩) := by
  rw [comp_col]
  exact valAt_idx (sortedOf A B k.succ) (ValueIdx.ix1 ⟨p, hp⟩)

/-! ## The rows -/

/-- A packed column's first 2000 entries as a matrix of one column. -/
abbrev headCol (x : FVec Ideal S2048 .f32) : FVec Ideal S2000x1 .f32 := broadcastInDim S2000x1 ![0] bcast_S2000_S2000x1_0 (extractStridedSlice S2000 ![0] x slices_S2048_S2000_0)

abbrev heads (u : Fin 5 → FVec Ideal S2048 .f32) : List ((s : Shape) × (s.Idx → EReal)) :=
  [⟨S2000x1, headCol (u 0)⟩, ⟨S2000x1, headCol (u 1)⟩, ⟨S2000x1, headCol (u 2)⟩, ⟨S2000x1, headCol (u 3)⟩, ⟨S2000x1, headCol (u 4)⟩]

abbrev slot (e : Fin 2000) : S2048.Idx := ValueIdx.ix1 (⟨e.val, by have := e.isLt; omega⟩ : Fin 2048)

theorem stacked_eq (u : Fin 5 → FVec Ideal S2048 .f32) (e : Fin 2000) (k : Fin 5) : stacked (F := Ideal) u (ValueIdx.ix2 e k) = u k (slot e) := by
  have hb : ∀ x : FVec Ideal S2048 .f32, headCol x (ValueIdx.ix2 e (0 : Fin 1)) = x (slot e) := fun x => by
    refine (broadcastInDim_apply _ _ _ _ (ValueIdx.ix1 e) fun a => ?_).trans (extractStridedSlice_apply _ _ _ _ _ fun a => ?_)
    · match a with
      | ⟨0, _⟩ => rfl
    · match a with
      | ⟨0, _⟩ => exact (Nat.zero_add _).symm
  have hi : ∀ b : Fin S2000x1.rank, b.cast (rfl : S2000x1.rank = S2000x5.rank) ≠ 1 → ((ValueIdx.ix2 e (0 : Fin 1) : S2000x1.Idx) b).val = ((ValueIdx.ix2 e k : S2000x5.Idx) (b.cast rfl)).val := fun b hb => by
    match b with
    | ⟨0, _⟩ => rfl
    | ⟨1, _⟩ => exact absurd rfl hb
  match k with
  | ⟨0, _⟩ => exact Eq.trans (concatenate_apply_piece (t := S2000x5) 1 (heads u) concatenates_S2000x1_S2000x1_S2000x1_S2000x1_S2000x1_S2000x5_d1 _ 0 (by show 0 < 5; omega) S2000x1 _ rfl rfl 0 rfl (ValueIdx.ix2 e (0 : Fin 1)) hi rfl) (hb _)
  | ⟨1, _⟩ => exact Eq.trans (concatenate_apply_piece (t := S2000x5) 1 (heads u) concatenates_S2000x1_S2000x1_S2000x1_S2000x1_S2000x1_S2000x5_d1 _ 1 (by show 1 < 5; omega) S2000x1 _ rfl rfl 1 rfl (ValueIdx.ix2 e (0 : Fin 1)) hi rfl) (hb _)
  | ⟨2, _⟩ => exact Eq.trans (concatenate_apply_piece (t := S2000x5) 1 (heads u) concatenates_S2000x1_S2000x1_S2000x1_S2000x1_S2000x1_S2000x5_d1 _ 2 (by show 2 < 5; omega) S2000x1 _ rfl rfl 2 rfl (ValueIdx.ix2 e (0 : Fin 1)) hi rfl) (hb _)
  | ⟨3, _⟩ => exact Eq.trans (concatenate_apply_piece (t := S2000x5) 1 (heads u) concatenates_S2000x1_S2000x1_S2000x1_S2000x1_S2000x1_S2000x5_d1 _ 3 (by show 3 < 5; omega) S2000x1 _ rfl rfl 3 rfl (ValueIdx.ix2 e (0 : Fin 1)) hi rfl) (hb _)
  | ⟨4, _⟩ => exact Eq.trans (concatenate_apply_piece (t := S2000x5) 1 (heads u) concatenates_S2000x1_S2000x1_S2000x1_S2000x1_S2000x1_S2000x5_d1 _ 4 (by show 4 < 5; omega) S2000x1 _ rfl rfl 4 rfl (ValueIdx.ix2 e (0 : Fin 1)) hi rfl) (hb _)

open Classical in
/-- The rows of the result: the kept box of each rank with its score, and zeros where no box has the rank. -/
theorem rows_at_rank (u : Fin 5 → FVec Ideal S2048 .f32) (hu : Result (F := Ideal) (compOf A B) (endOf A B) u) (e : Fin 2000) :
    (∀ p, KeptOf A B p → Nat.count (KeptOf A B) p = e.val →
      (∀ k : Fin 4, stacked (F := Ideal) u (ValueIdx.ix2 e k.castSucc) = box A (order A B p) k) ∧ stacked (F := Ideal) u (ValueIdx.ix2 e 4) = scr B (order A B p))
    ∧ ((∀ p, KeptOf A B p → Nat.count (KeptOf A B) p ≠ e.val) → ∀ k : Fin 5, stacked (F := Ideal) u (ValueIdx.ix2 e k) = (0 : EReal)) := by
  obtain ⟨t, _, hK, hS⟩ := keep_at A B
  have hp := fun k : Fin 5 => packed_of_cut _ _ 20480 t 2000 _ (u k) hK hS (hu k) (slot e) e.isLt
  refine ⟨fun p hk hc => ?_, fun hn k => ?_⟩
  · have hlt : p < 20480 := ((kept_iff p).mp hk).1.1
    have hx : ∀ k : Fin 5, stacked (F := Ideal) u (ValueIdx.ix2 e k) = sortedOf A B k.succ (ValueIdx.ix1 ⟨p, hlt⟩) := fun k =>
      (stacked_eq u e k).trans (((hp k).1 p hlt hk hc).trans (val_at A B p hlt k))
    exact ⟨fun k => (hx _).trans ((sorted_at A B ⟨p, hlt⟩).2.1 k), (hx 4).trans (sorted_at A B ⟨p, hlt⟩).2.2⟩
  · refine (stacked_eq u e k).trans (((hp k).2 (Nat.le_of_not_lt fun hlt => ?_)).trans Ideal.ofBits_zero_f32)
    obtain ⟨p, _, hk, hc⟩ := exists_rank (KeptOf A B) e.val 20480 hlt
    exact hn p hk hc

end Cert.KernelIdeal.Prf

end
-- ==== Proof.RI.Ops.lean ====
/-
  The reference's host operations as stretches: before its loop, in the loop's condition and body, after the loop.
-/
module

public import proofs.«01_k».proof.Defs
public import Idealize.ShloMosaic.Lib.StableHlo.RunLoop
public import Idealize.ShloMosaic.Lib.Tactic
public import Idealize.ShloMosaic.Lib.Scf.ExitTest
public import proofs.«01_k».proof.Proof.Gen.ReferenceIdeal

@[expose] public section

set_option maxRecDepth 16384

noncomputable section

namespace Cert.ReferenceIdeal.Prf

open Cert.ReferenceIdeal Cert.ReferenceIdeal.Gen
open Idealize.ShloMosaic
open Idealize.SL
open RA BI BI.BIBase BI.Laws ProofMode Sem
open Idealize.ShloMosaic.Rounds Idealize.ShloMosaic.Tactic
open Idealize.ShloMosaic.TcCoe
open Idealize.ShloMosaic.StableHlo renaming unary → op1, nullary → op0, binary → op2, reshape → opR, nary → opN, ternary → op3, quaternary → op4, unaryIndexed → opI, nullary_bufs_sub → sub0, unary_bufs_sub → sub1, binary_bufs_sub → sub2, ternary_bufs_sub → sub3, quaternary_bufs_sub → sub4, reshape_bufs_sub → subR, nary_bufs_sub → subN, unaryIndexed_bufs_sub → subI
open Idealize.ShloMosaic.StableHlo (tcRefs)

variable {F : FTy → Type} [FloatOps F]

/-- The contents of a buffer of a shape and an element type. -/
abbrev Ct (F : FTy → Type) (s : Shape) (e : EltTy) : Type := (⟨s, e⟩ : BufTy).Contents (Elt F)

/-- The clipped boxes. -/
def pre0 : List (HloOp τ sig (Elt F)) :=
  [op1 main_arg0 main_v0 (Host.slice S20000x2 ![0, 0] ![1, 2] · slicesBy_S20000x4_S20000x2_0s1_0s2),
   op0 main_cst (constant S_ .f32 0x00000000#32),
   op0 main_cst_0 (constant S_ .f32 0x43FA0000#32),
   op1 main_cst main_call0_v0 id,
   op1 main_call0_v0 main_call0_v1 (broadcastInDim S20000x2 ![] bcast_S_S20000x2),
   op2 main_call0_v1 main_v0 main_call0_v2 maximumf,
   op1 main_cst_0 main_call0_v3 id,
   op1 main_call0_v3 main_call0_v4 (broadcastInDim S20000x2 ![] bcast_S_S20000x2),
   op2 main_call0_v4 main_call0_v2 main_v1 minimumf,
   op1 main_arg0 main_v2 (Host.slice S20000x2 ![0, 1] ![1, 2] · slicesBy_S20000x4_S20000x2_0s1_1s2),
   op0 main_cst_1 (constant S_ .f32 0x00000000#32),
   op0 main_cst_2 (constant S_ .f32 0x43FA0000#32),
   op1 main_cst_1 main_call1_v0 id,
   op1 main_call1_v0 main_call1_v1 (broadcastInDim S20000x2 ![] bcast_S_S20000x2),
   op2 main_call1_v1 main_v2 main_call1_v2 maximumf,
   op1 main_cst_2 main_call1_v3 id,
   op1 main_call1_v3 main_call1_v4 (broadcastInDim S20000x2 ![] bcast_S_S20000x2),
   op2 main_call1_v4 main_call1_v2 main_v3 minimumf,
   op1 main_v1 main_v4 (extractStridedSlice S20000x1 ![0, 0] · slices_S20000x2_S20000x1_0_0),
   opR main_v4 main_v5 rfl shapeCasts_S20000x1_S20000,
   op1 main_v3 main_v6 (extractStridedSlice S20000x1 ![0, 0] · slices_S20000x2_S20000x1_0_0),
   opR main_v6 main_v7 rfl shapeCasts_S20000x1_S20000,
   op1 main_v1 main_v8 (extractStridedSlice S20000x1 ![0, 1] · slices_S20000x2_S20000x1_0_1),
   opR main_v8 main_v9 rfl shapeCasts_S20000x1_S20000,
   op1 main_v3 main_v10 (extractStridedSlice S20000x1 ![0, 1] · slices_S20000x2_S20000x1_0_1),
   opR main_v10 main_v11 rfl shapeCasts_S20000x1_S20000,
   op1 main_v5 main_v12 (broadcastInDim S20000x1 ![0] bcast_S20000_S20000x1_0),
   op1 main_v7 main_v13 (broadcastInDim S20000x1 ![0] bcast_S20000_S20000x1_0),
   op1 main_v9 main_v14 (broadcastInDim S20000x1 ![0] bcast_S20000_S20000x1_0),
   op1 main_v11 main_v15 (broadcastInDim S20000x1 ![0] bcast_S20000_S20000x1_0),
   opN ![main_v12, main_v13, main_v14, main_v15] main_v16 (fun u => (concatenate S20000x4 1 [⟨S20000x1, (u 0 : Ct F S20000x1 .f32)⟩, ⟨S20000x1, (u 1 : Ct F S20000x1 .f32)⟩, ⟨S20000x1, (u 2 : Ct F S20000x1 .f32)⟩, ⟨S20000x1, (u 3 : Ct F S20000x1 .f32)⟩] concatenates_S20000x1_S20000x1_S20000x1_S20000x1_S20000x4_d1 : Ct F S20000x4 .f32))]

theorem pre0_sub : (pre0 (F := F)).Forall fun op => op.bufs ⊆ tcRefs τ sig :=
  ⟨sub1 .., sub0 .., sub0 .., sub1 .., sub1 .., sub2 .., sub1 .., sub1 .., sub2 .., sub1 .., sub0 .., sub0 .., sub1 .., sub1 .., sub2 .., sub1 .., sub1 .., sub2 .., sub1 .., subR .., sub1 .., subR .., sub1 .., subR .., sub1 .., subR .., sub1 .., sub1 .., sub1 .., sub1 .., subN ..⟩

theorem pre0_fresh : (pre0 (F := F)).Forall fun op => op.fresh = ∅ := by
  repeat' first | rfl | apply And.intro

/-- The scores of the boxes that are large and scored enough, minus infinity elsewhere. -/
def pre1 : List (HloOp τ sig (Elt F)) :=
  [op1 main_v16 main_v17 (extractStridedSlice S20000x1 ![0, 2] · slices_S20000x4_S20000x1_0_2),
   opR main_v17 main_v18 rfl shapeCasts_S20000x1_S20000,
   op1 main_v16 main_v19 (extractStridedSlice S20000x1 ![0, 0] · slices_S20000x4_S20000x1_0_0),
   opR main_v19 main_v20 rfl shapeCasts_S20000x1_S20000,
   op2 main_v18 main_v20 main_v21 subf,
   op1 main_v16 main_v22 (extractStridedSlice S20000x1 ![0, 3] · slices_S20000x4_S20000x1_0_3),
   opR main_v22 main_v23 rfl shapeCasts_S20000x1_S20000,
   op1 main_v16 main_v24 (extractStridedSlice S20000x1 ![0, 1] · slices_S20000x4_S20000x1_0_1),
   opR main_v24 main_v25 rfl shapeCasts_S20000x1_S20000,
   op2 main_v23 main_v25 main_v26 subf,
   op0 main_cst_3 (constant S_ .f32 0x41200000#32),
   op1 main_cst_3 main_v27 (broadcastInDim S20000 ![] bcast_S_S20000),
   op2 main_v21 main_v27 main_v28 (cmpf .oge),
   op0 main_cst_4 (constant S_ .f32 0x41200000#32),
   op1 main_cst_4 main_v29 (broadcastInDim S20000 ![] bcast_S_S20000),
   op2 main_v26 main_v29 main_v30 (cmpf .oge),
   op2 main_v28 main_v30 main_v31 andi,
   op0 main_cst_5 (constant S_ .f32 0x3F000000#32),
   op1 main_cst_5 main_v32 (broadcastInDim S20000 ![] bcast_S_S20000),
   op2 main_arg1 main_v32 main_v33 (cmpf .ogt),
   op2 main_v31 main_v33 main_v34 andi,
   op0 main_cst_6 (constant S_ .f32 0xFF800000#32),
   op1 main_cst_6 main_call2_v0 id,
   op1 main_call2_v0 main_call2_v1 (broadcastInDim S20000 ![] bcast_S_S20000),
   op3 main_v34 main_arg1 main_call2_v1 main_v35 select]

theorem pre1_sub : (pre1 (F := F)).Forall fun op => op.bufs ⊆ tcRefs τ sig :=
  ⟨sub1 .., subR .., sub1 .., subR .., sub2 .., sub1 .., subR .., sub1 .., subR .., sub2 .., sub0 .., sub1 .., sub2 .., sub0 .., sub1 .., sub2 .., sub2 .., sub0 .., sub1 .., sub2 .., sub2 .., sub0 .., sub1 .., sub1 .., sub3 ..⟩

theorem pre1_fresh : (pre1 (F := F)).Forall fun op => op.fresh = ∅ := by
  repeat' first | rfl | apply And.intro

/-- The columns of the boxes, their areas and the empty selection. -/
def pre2 : List (HloOp τ sig (Elt F)) :=
  [op1 main_v16 main_v36 (extractStridedSlice S20000x1 ![0, 0] · slices_S20000x4_S20000x1_0_0),
   opR main_v36 main_v37 rfl shapeCasts_S20000x1_S20000,
   op1 main_v16 main_v38 (extractStridedSlice S20000x1 ![0, 1] · slices_S20000x4_S20000x1_0_1),
   opR main_v38 main_v39 rfl shapeCasts_S20000x1_S20000,
   op1 main_v16 main_v40 (extractStridedSlice S20000x1 ![0, 2] · slices_S20000x4_S20000x1_0_2),
   opR main_v40 main_v41 rfl shapeCasts_S20000x1_S20000,
   op1 main_v16 main_v42 (extractStridedSlice S20000x1 ![0, 3] · slices_S20000x4_S20000x1_0_3),
   opR main_v42 main_v43 rfl shapeCasts_S20000x1_S20000,
   op2 main_v41 main_v37 main_v44 subf,
   op2 main_v43 main_v39 main_v45 subf,
   op2 main_v44 main_v45 main_v46 mulf,
   op0 main_c (constantI S_ 32 4294967295#32),
   op1 main_c main_v47 (broadcastInDim S2000 ![] bcast_S_S2000),
   op0 main_c_7 (constantI S_ 32 0#32),
   op0 main_c_8 (constantI S_ 32 0#32)]

theorem pre2_sub : (pre2 (F := F)).Forall fun op => op.bufs ⊆ tcRefs τ sig :=
  ⟨sub1 .., subR .., sub1 .., subR .., sub1 .., subR .., sub1 .., subR .., sub2 .., sub2 .., sub2 .., sub0 .., sub1 .., sub0 .., sub0 ..⟩

theorem pre2_fresh : (pre2 (F := F)).Forall fun op => op.fresh = ∅ := by
  repeat' first | rfl | apply And.intro

/-- The loop's operands. -/
def pre3 : List (HloOp τ sig (Elt F)) :=
  [op1 main_v37 main_v48_0 id,
   op1 main_v39 main_v48_1 id,
   op1 main_v41 main_v48_2 id,
   op1 main_v43 main_v48_3 id,
   op1 main_v46 main_v48_4 id,
   op1 main_c_8 main_v48_5 id,
   op1 main_c_7 main_v48_6 id,
   op1 main_v35 main_v48_7 id,
   op1 main_v47 main_v48_8 id]

theorem pre3_sub : (pre3 (F := F)).Forall fun op => op.bufs ⊆ tcRefs τ sig :=
  ⟨sub1 .., sub1 .., sub1 .., sub1 .., sub1 .., sub1 .., sub1 .., sub1 .., sub1 ..⟩

theorem pre3_fresh : (pre3 (F := F)).Forall fun op => op.fresh = ∅ := by
  repeat' first | rfl | apply And.intro

/-- The next index, and the best score's position. -/
def body0 : List (HloOp τ sig (Elt F)) :=
  [op0 main_while0b_c_23 (constantI S_ 32 1#32),
   op2 main_v48_6 main_while0b_c_23 main_while0b_v74 addi,
   op0 main_while0b_call3_v0 (iotaInDim S20000 32 0),
   op0 main_while0b_call3_cst (constant S_ .f32 0xFF800000#32),
   op0 main_while0b_call3_c (constantI S_ 32 0#32),
   op4 main_v48_7 main_while0b_call3_v0 main_while0b_call3_cst main_while0b_call3_c main_while0b_call3_v1_0 (fun x y u v j => (Host.argReduce reducer_argmax_f32_i32 x y u v reducesTo_S20000_S_d0 h_S_ j).1),
   op4 main_v48_7 main_while0b_call3_v0 main_while0b_call3_cst main_while0b_call3_c main_while0b_v75 (fun x y u v j => (Host.argReduce reducer_argmax_f32_i32 x y u v reducesTo_S20000_S_d0 h_S_ j).2)]

theorem body0_sub : (body0 (F := F)).Forall fun op => op.bufs ⊆ tcRefs τ sig :=
  ⟨sub0 .., sub2 .., sub0 .., sub0 .., sub0 .., sub4 .., sub4 ..⟩

theorem body0_fresh : (body0 (F := F)).Forall fun op => op.fresh = ∅ := by
  repeat' first | rfl | apply And.intro

/-- The selection written. -/
def body1 : List (HloOp τ sig (Elt F)) :=
  [op0 main_while0b_c_24 (constantI S_ 32 0#32),
   op2 main_while0b_v75 main_while0b_c_24 main_while0b_v76 (cmpi .slt),
   op0 main_while0b_c_25 (constantI S_ 32 20000#32),
   op2 main_while0b_v75 main_while0b_c_25 main_while0b_v77 addi,
   op3 main_while0b_v76 main_while0b_v77 main_while0b_v75 main_while0b_v78 select,
   opI main_v48_7 ![main_while0b_v78] ⟨S_, .i32⟩ main_while0b_v79 ((fun x i => Host.dynamicSlice S1 x (fun k => (i k (Shape.Idx.first h_S_)).toInt) sliceFits_S20000_S1)),
   opR main_while0b_v79 main_while0b_v80 rfl shapeCasts_S1_S_,
   op0 main_while0b_cst_26 (constant S_ .f32 0xFF800000#32),
   op2 main_while0b_v80 main_while0b_cst_26 main_while0b_v81 (cmpf .ogt),
   op0 main_while0b_c_27 (constantI S_ 32 4294967295#32),
   op3 main_while0b_v81 main_while0b_v75 main_while0b_c_27 main_while0b_v82 select,
   op0 main_while0b_c_28 (constantI S_ 32 0#32),
   op2 main_v48_6 main_while0b_c_28 main_while0b_v83 (cmpi .slt),
   op0 main_while0b_c_29 (constantI S_ 32 2000#32),
   op2 main_v48_6 main_while0b_c_29 main_while0b_v84 addi,
   op3 main_while0b_v83 main_while0b_v84 main_v48_6 main_while0b_v85 select,
   op1 main_while0b_v85 main_while0b_v86 id,
   op1 main_while0b_v86 main_while0b_v87 (broadcastInDim S1 ![] bcast_S_S1),
   op3 main_v48_8 main_while0b_v87 main_while0b_v82 main_while0b_v88 (fun x i u => Host.scatter scatter_S2000_S1_S__n_0_0_0 (fun _ b => b) x i u)]

theorem body1_sub : (body1 (F := F)).Forall fun op => op.bufs ⊆ tcRefs τ sig :=
  ⟨sub0 .., sub2 .., sub0 .., sub2 .., sub3 .., subI .., subR .., sub0 .., sub2 .., sub0 .., sub3 .., sub0 .., sub2 .., sub0 .., sub2 .., sub3 .., sub1 .., sub1 .., sub3 ..⟩

theorem body1_fresh : (body1 (F := F)).Forall fun op => op.fresh = ∅ := by
  repeat' first | rfl | apply And.intro

/-- The upper left corners of the overlaps. -/
def body2 : List (HloOp τ sig (Elt F)) :=
  [op0 main_while0b_c_30 (constantI S_ 32 0#32),
   op2 main_while0b_v75 main_while0b_c_30 main_while0b_v89 (cmpi .slt),
   op0 main_while0b_c_31 (constantI S_ 32 20000#32),
   op2 main_while0b_v75 main_while0b_c_31 main_while0b_v90 addi,
   op3 main_while0b_v89 main_while0b_v90 main_while0b_v75 main_while0b_v91 select,
   opI main_v48_0 ![main_while0b_v91] ⟨S_, .i32⟩ main_while0b_v92 ((fun x i => Host.dynamicSlice S1 x (fun k => (i k (Shape.Idx.first h_S_)).toInt) sliceFits_S20000_S1)),
   opR main_while0b_v92 main_while0b_v93 rfl shapeCasts_S1_S_,
   op1 main_while0b_v93 main_while0b_v94 (broadcastInDim S20000 ![] bcast_S_S20000),
   op2 main_v48_0 main_while0b_v94 main_while0b_v95 maximumf,
   op0 main_while0b_c_32 (constantI S_ 32 0#32),
   op2 main_while0b_v75 main_while0b_c_32 main_while0b_v96 (cmpi .slt),
   op0 main_while0b_c_33 (constantI S_ 32 20000#32),
   op2 main_while0b_v75 main_while0b_c_33 main_while0b_v97 addi,
   op3 main_while0b_v96 main_while0b_v97 main_while0b_v75 main_while0b_v98 select,
   opI main_v48_1 ![main_while0b_v98] ⟨S_, .i32⟩ main_while0b_v99 ((fun x i => Host.dynamicSlice S1 x (fun k => (i k (Shape.Idx.first h_S_)).toInt) sliceFits_S20000_S1)),
   opR main_while0b_v99 main_while0b_v100 rfl shapeCasts_S1_S_,
   op1 main_while0b_v100 main_while0b_v101 (broadcastInDim S20000 ![] bcast_S_S20000),
   op2 main_v48_1 main_while0b_v101 main_while0b_v102 maximumf]

theorem body2_sub : (body2 (F := F)).Forall fun op => op.bufs ⊆ tcRefs τ sig :=
  ⟨sub0 .., sub2 .., sub0 .., sub2 .., sub3 .., subI .., subR .., sub1 .., sub2 .., sub0 .., sub2 .., sub0 .., sub2 .., sub3 .., subI .., subR .., sub1 .., sub2 ..⟩

theorem body2_fresh : (body2 (F := F)).Forall fun op => op.fresh = ∅ := by
  repeat' first | rfl | apply And.intro

/-- The lower right corners of the overlaps. -/
def body3 : List (HloOp τ sig (Elt F)) :=
  [op0 main_while0b_c_34 (constantI S_ 32 0#32),
   op2 main_while0b_v75 main_while0b_c_34 main_while0b_v103 (cmpi .slt),
   op0 main_while0b_c_35 (constantI S_ 32 20000#32),
   op2 main_while0b_v75 main_while0b_c_35 main_while0b_v104 addi,
   op3 main_while0b_v103 main_while0b_v104 main_while0b_v75 main_while0b_v105 select,
   opI main_v48_2 ![main_while0b_v105] ⟨S_, .i32⟩ main_while0b_v106 ((fun x i => Host.dynamicSlice S1 x (fun k => (i k (Shape.Idx.first h_S_)).toInt) sliceFits_S20000_S1)),
   opR main_while0b_v106 main_while0b_v107 rfl shapeCasts_S1_S_,
   op1 main_while0b_v107 main_while0b_v108 (broadcastInDim S20000 ![] bcast_S_S20000),
   op2 main_v48_2 main_while0b_v108 main_while0b_v109 minimumf,
   op0 main_while0b_c_36 (constantI S_ 32 0#32),
   op2 main_while0b_v75 main_while0b_c_36 main_while0b_v110 (cmpi .slt),
   op0 main_while0b_c_37 (constantI S_ 32 20000#32),
   op2 main_while0b_v75 main_while0b_c_37 main_while0b_v111 addi,
   op3 main_while0b_v110 main_while0b_v111 main_while0b_v75 main_while0b_v112 select,
   opI main_v48_3 ![main_while0b_v112] ⟨S_, .i32⟩ main_while0b_v113 ((fun x i => Host.dynamicSlice S1 x (fun k => (i k (Shape.Idx.first h_S_)).toInt) sliceFits_S20000_S1)),
   opR main_while0b_v113 main_while0b_v114 rfl shapeCasts_S1_S_,
   op1 main_while0b_v114 main_while0b_v115 (broadcastInDim S20000 ![] bcast_S_S20000),
   op2 main_v48_3 main_while0b_v115 main_while0b_v116 minimumf]

theorem body3_sub : (body3 (F := F)).Forall fun op => op.bufs ⊆ tcRefs τ sig :=
  ⟨sub0 .., sub2 .., sub0 .., sub2 .., sub3 .., subI .., subR .., sub1 .., sub2 .., sub0 .., sub2 .., sub0 .., sub2 .., sub3 .., subI .., subR .., sub1 .., sub2 ..⟩

theorem body3_fresh : (body3 (F := F)).Forall fun op => op.fresh = ∅ := by
  repeat' first | rfl | apply And.intro

/-- The areas of the overlaps. -/
def body4 : List (HloOp τ sig (Elt F)) :=
  [op2 main_while0b_v109 main_while0b_v95 main_while0b_v117 subf,
   op0 main_while0b_cst_38 (constant S_ .f32 0x00000000#32),
   op1 main_while0b_cst_38 main_while0b_call5_v0 id,
   op1 main_while0b_call5_v0 main_while0b_call5_v1 (broadcastInDim S20000 ![] bcast_S_S20000),
   op2 main_while0b_call5_v1 main_while0b_v117 main_while0b_v118 maximumf,
   op2 main_while0b_v116 main_while0b_v102 main_while0b_v119 subf,
   op0 main_while0b_cst_39 (constant S_ .f32 0x00000000#32),
   op1 main_while0b_cst_39 main_while0b_call6_v0 id,
   op1 main_while0b_call6_v0 main_while0b_call6_v1 (broadcastInDim S20000 ![] bcast_S_S20000),
   op2 main_while0b_call6_v1 main_while0b_v119 main_while0b_v120 maximumf,
   op2 main_while0b_v118 main_while0b_v120 main_while0b_v121 mulf]

theorem body4_sub : (body4 (F := F)).Forall fun op => op.bufs ⊆ tcRefs τ sig :=
  ⟨sub2 .., sub0 .., sub1 .., sub1 .., sub2 .., sub2 .., sub0 .., sub1 .., sub1 .., sub2 .., sub2 ..⟩

theorem body4_fresh : (body4 (F := F)).Forall fun op => op.fresh = ∅ := by
  repeat' first | rfl | apply And.intro

/-- The ratios compared with the threshold. -/
def body5 : List (HloOp τ sig (Elt F)) :=
  [op0 main_while0b_c_40 (constantI S_ 32 0#32),
   op2 main_while0b_v75 main_while0b_c_40 main_while0b_v122 (cmpi .slt),
   op0 main_while0b_c_41 (constantI S_ 32 20000#32),
   op2 main_while0b_v75 main_while0b_c_41 main_while0b_v123 addi,
   op3 main_while0b_v122 main_while0b_v123 main_while0b_v75 main_while0b_v124 select,
   opI main_v48_4 ![main_while0b_v124] ⟨S_, .i32⟩ main_while0b_v125 ((fun x i => Host.dynamicSlice S1 x (fun k => (i k (Shape.Idx.first h_S_)).toInt) sliceFits_S20000_S1)),
   opR main_while0b_v125 main_while0b_v126 rfl shapeCasts_S1_S_,
   op1 main_while0b_v126 main_while0b_v127 (broadcastInDim S20000 ![] bcast_S_S20000),
   op2 main_v48_4 main_while0b_v127 main_while0b_v128 addf,
   op2 main_while0b_v128 main_while0b_v121 main_while0b_v129 subf,
   op0 main_while0b_cst_42 (constant S_ .f32 0x3089705F#32),
   op1 main_while0b_cst_42 main_while0b_v130 (broadcastInDim S20000 ![] bcast_S_S20000),
   op2 main_while0b_v129 main_while0b_v130 main_while0b_v131 addf,
   op2 main_while0b_v121 main_while0b_v131 main_while0b_v132 (Host.divf),
   op0 main_while0b_cst_43 (constant S_ .f32 0x3F333333#32),
   op1 main_while0b_cst_43 main_while0b_v133 (broadcastInDim S20000 ![] bcast_S_S20000),
   op2 main_while0b_v132 main_while0b_v133 main_while0b_v134 (cmpf .ogt)]

theorem body5_sub : (body5 (F := F)).Forall fun op => op.bufs ⊆ tcRefs τ sig :=
  ⟨sub0 .., sub2 .., sub0 .., sub2 .., sub3 .., subI .., subR .., sub1 .., sub2 .., sub2 .., sub0 .., sub1 .., sub2 .., sub2 .., sub0 .., sub1 .., sub2 ..⟩

theorem body5_fresh : (body5 (F := F)).Forall fun op => op.fresh = ∅ := by
  repeat' first | rfl | apply And.intro

/-- The scores that remain. -/
def body6 : List (HloOp τ sig (Elt F)) :=
  [op0 main_while0b_cst_44 (constant S_ .f32 0xFF800000#32),
   op1 main_while0b_cst_44 main_while0b_call7_v0 id,
   op1 main_while0b_call7_v0 main_while0b_call7_v1 (broadcastInDim S20000 ![] bcast_S_S20000),
   op3 main_while0b_v134 main_while0b_call7_v1 main_v48_7 main_while0b_v135 select,
   op0 main_while0b_c_45 (constantI S_ 32 0#32),
   op2 main_while0b_v75 main_while0b_c_45 main_while0b_v136 (cmpi .slt),
   op0 main_while0b_c_46 (constantI S_ 32 20000#32),
   op2 main_while0b_v75 main_while0b_c_46 main_while0b_v137 addi,
   op3 main_while0b_v136 main_while0b_v137 main_while0b_v75 main_while0b_v138 select,
   op1 main_while0b_v138 main_while0b_v139 (broadcastInDim S1 ![] bcast_S_S1),
   op0 main_while0b_cst_47 (constant S_ .f32 0xFF800000#32),
   op3 main_while0b_v135 main_while0b_v139 main_while0b_cst_47 main_while0b_v140 (fun x i u => Host.scatter scatter_S20000_S1_S__n_0_0_0 (fun _ b => b) x i u)]

theorem body6_sub : (body6 (F := F)).Forall fun op => op.bufs ⊆ tcRefs τ sig :=
  ⟨sub0 .., sub1 .., sub1 .., sub3 .., sub0 .., sub2 .., sub0 .., sub2 .., sub3 .., sub1 .., sub0 .., sub3 ..⟩

theorem body6_fresh : (body6 (F := F)).Forall fun op => op.fresh = ∅ := by
  repeat' first | rfl | apply And.intro

/-- The carried values. -/
def body7 : List (HloOp τ sig (Elt F)) :=
  [op0 main_while0b_c_48 (constantI S_ 32 1#32),
   op2 main_v48_5 main_while0b_c_48 main_while0b_v141 addi,
   op1 main_while0b_v141 main_v48_5 id,
   op1 main_while0b_v74 main_v48_6 id,
   op1 main_while0b_v140 main_v48_7 id,
   op1 main_while0b_v88 main_v48_8 id]

theorem body7_sub : (body7 (F := F)).Forall fun op => op.bufs ⊆ tcRefs τ sig :=
  ⟨sub0 .., sub2 .., sub1 .., sub1 .., sub1 .., sub1 ..⟩

theorem body7_fresh : (body7 (F := F)).Forall fun op => op.fresh = ∅ := by
  repeat' first | rfl | apply And.intro

/-- The selected positions. -/
def post0 : List (HloOp τ sig (Elt F)) :=
  [op0 main_c_9 (constantI S_ 32 0#32),
   op1 main_c_9 main_v49 (broadcastInDim S2000 ![] bcast_S_S2000),
   op2 main_v48_8 main_v49 main_v50 (cmpi .sge),
   op1 main_v50 main_v51 (uitofp .f32),
   op0 main_c_10 (constantI S_ 32 0#32),
   op1 main_c_10 main_v52 (broadcastInDim S2000 ![] bcast_S_S2000),
   op2 main_v48_8 main_v52 main_v53 maxsi,
   op0 main_c_11 (constantI S_ 32 0#32),
   op1 main_c_11 main_v54 (broadcastInDim S2000 ![] bcast_S_S2000),
   op2 main_v53 main_v54 main_v55 (cmpi .slt),
   op0 main_c_12 (constantI S_ 32 20000#32),
   op1 main_c_12 main_v56 (broadcastInDim S2000 ![] bcast_S_S2000),
   op2 main_v53 main_v56 main_v57 addi,
   op3 main_v55 main_v57 main_v53 main_v58 select]

theorem post0_sub : (post0 (F := F)).Forall fun op => op.bufs ⊆ tcRefs τ sig :=
  ⟨sub0 .., sub1 .., sub2 .., sub1 .., sub0 .., sub1 .., sub2 .., sub0 .., sub1 .., sub2 .., sub0 .., sub1 .., sub2 .., sub3 ..⟩

theorem post0_fresh : (post0 (F := F)).Forall fun op => op.fresh = ∅ := by
  repeat' first | rfl | apply And.intro

/-- The selected boxes. -/
def post1 : List (HloOp τ sig (Elt F)) :=
  [op1 main_v58 main_v59 (broadcastInDim S2000x1 ![0] bcast_S2000_S2000x1_0),
   op2 main_v16 main_v59 main_v60 (fun x i => Host.gather gather_S20000x4_S2000x1_S2000x4_1_0_n_n_0_1_14 x i),
   op1 main_v51 main_v61 (broadcastInDim S2000x1 ![0] bcast_S2000_S2000x1_0),
   op1 main_v61 main_v62 (broadcastInDim S2000x4 ![0, 1] bcast_S2000x1_S2000x4_0_1),
   op2 main_v60 main_v62 main_v63 mulf,
   op0 main_c_13 (constantI S_ 32 0#32),
   op1 main_c_13 main_v64 (broadcastInDim S2000 ![] bcast_S_S2000),
   op2 main_v53 main_v64 main_v65 (cmpi .slt),
   op0 main_c_14 (constantI S_ 32 20000#32),
   op1 main_c_14 main_v66 (broadcastInDim S2000 ![] bcast_S_S2000),
   op2 main_v53 main_v66 main_v67 addi,
   op3 main_v65 main_v67 main_v53 main_v68 select]

theorem post1_sub : (post1 (F := F)).Forall fun op => op.bufs ⊆ tcRefs τ sig :=
  ⟨sub1 .., sub2 .., sub1 .., sub1 .., sub2 .., sub0 .., sub1 .., sub2 .., sub0 .., sub1 .., sub2 .., sub3 ..⟩

theorem post1_fresh : (post1 (F := F)).Forall fun op => op.fresh = ∅ := by
  repeat' first | rfl | apply And.intro

/-- The selected scores, and the two joined. -/
def post2 : List (HloOp τ sig (Elt F)) :=
  [op1 main_v68 main_v69 (broadcastInDim S2000x1 ![0] bcast_S2000_S2000x1_0),
   op2 main_arg1 main_v69 main_v70 (fun x i => Host.gather gather_S20000_S2000x1_S2000_n_0_n_n_0_1_1 x i),
   op2 main_v70 main_v51 main_v71 mulf,
   op1 main_v71 main_v72 (broadcastInDim S2000x1 ![0] bcast_S2000_S2000x1_0),
   op2 main_v63 main_v72 main_v73 (fun a b => concatenate S2000x5 1 [⟨S2000x4, a⟩, ⟨S2000x1, b⟩] concatenates_S2000x4_S2000x1_S2000x5_d1)]

theorem post2_sub : (post2 (F := F)).Forall fun op => op.bufs ⊆ tcRefs τ sig :=
  ⟨sub1 .., sub2 .., sub2 .., sub1 .., sub2 ..⟩

theorem post2_fresh : (post2 (F := F)).Forall fun op => op.fresh = ∅ := by
  repeat' first | rfl | apply And.intro

/-- The loop's condition: the counter is below two thousand. -/
def condOps : List (HloOp τ sig (Elt F)) :=
  [op0 main_while0c_c_23 (constantI S_ 32 2000#32),
   op2 main_v48_5 main_while0c_c_23 main_while0c_v74 (cmpi .slt)]

/-- The stretches before the loop, of its body and after it. -/
abbrev preI : List (List (HloOp τ sig (Elt F))) := [pre0, pre1, pre2, pre3]
abbrev bodyI : List (List (HloOp τ sig (Elt F))) := [body0, body1, body2, body3, body4, body5, body6, body7]
abbrev postI : List (List (HloOp τ sig (Elt F))) := [post0, post1, post2]

theorem plain_pre : StableHlo.Plain (preI (F := F)) :=
  .cons pre0_sub (hf := List.forall_iff_forall_mem.mp pre0_fresh) <| .cons pre1_sub (hf := List.forall_iff_forall_mem.mp pre1_fresh) <|
  .cons pre2_sub (hf := List.forall_iff_forall_mem.mp pre2_fresh) <| .cons pre3_sub (hf := List.forall_iff_forall_mem.mp pre3_fresh) .nil

theorem plain_body : StableHlo.Plain (bodyI (F := F)) :=
  .cons body0_sub (hf := List.forall_iff_forall_mem.mp body0_fresh) <| .cons body1_sub (hf := List.forall_iff_forall_mem.mp body1_fresh) <|
  .cons body2_sub (hf := List.forall_iff_forall_mem.mp body2_fresh) <| .cons body3_sub (hf := List.forall_iff_forall_mem.mp body3_fresh) <|
  .cons body4_sub (hf := List.forall_iff_forall_mem.mp body4_fresh) <| .cons body5_sub (hf := List.forall_iff_forall_mem.mp body5_fresh) <|
  .cons body6_sub (hf := List.forall_iff_forall_mem.mp body6_fresh) <| .cons body7_sub (hf := List.forall_iff_forall_mem.mp body7_fresh) .nil

theorem plain_post : StableHlo.Plain (postI (F := F)) :=
  .cons post0_sub (hf := List.forall_iff_forall_mem.mp post0_fresh) <| .cons post1_sub (hf := List.forall_iff_forall_mem.mp post1_fresh) <|
  .cons post2_sub (hf := List.forall_iff_forall_mem.mp post2_fresh) .nil

end Cert.ReferenceIdeal.Prf

end
-- ==== Proof.RI.Eq.lean ====
/-
  The reference's host program and its loop's body as their stretches.
-/
module

public import proofs.«01_k».proof.Proof.RI.Ops

@[expose] public section

set_option maxRecDepth 16384

noncomputable section

namespace Cert.ReferenceIdeal.Prf

open Cert.ReferenceIdeal Cert.ReferenceIdeal.Gen
open Idealize.ShloMosaic
open Idealize.SL
open RA BI BI.BIBase BI.Laws ProofMode Sem
open Idealize.ShloMosaic.Rounds Idealize.ShloMosaic.Tactic
open Idealize.ShloMosaic.TcCoe
open Idealize.ShloMosaic.StableHlo (tcRefs nullary_bufs_sub unary_bufs_sub binary_bufs_sub ternary_bufs_sub quaternary_bufs_sub reshape_bufs_sub nary_bufs_sub unaryIndexed_bufs_sub)

variable {F : FTy → Type} [FloatOps F]

set_option maxHeartbeats 2000000 in
theorem body_eq : main_while0_body (F := F) = Pipeline.chain (bodyI.map fun ops => (StableHlo.seq ops : Prog _ PUnit)) := by
  simp only [main_while0_body, main_while0_body_part0, main_while0_body_part1, fn_argmax.body, fn_where_0.body, fn_clip_1.body, fn_where_2.body,
    bodyI, body0, body1, body2, body3, body4, body5, body6, body7, List.map_cons, List.map_nil, Pipeline.chain, Pipeline.chainK, StableHlo.seq, bind_assoc, pure_bind, bind_pure]
  rfl

set_option maxHeartbeats 2000000 in
theorem main_eq (c : Dev nD) : main (F := F) c = Pipeline.chain ((preI.map fun ops => (StableHlo.seq ops : Prog _ PUnit))
    ++ HostLoop.enter 0 :: postI.map fun ops => (StableHlo.seq ops : Prog _ PUnit)) := by
  simp only [main, main_part0, main_part1, fn_clip.body, fn_where.body, preI, postI, pre0, pre1, pre2, pre3, post0, post1, post2,
    List.map_cons, List.map_nil, List.cons_append, List.nil_append, Pipeline.chain, Pipeline.chainK, StableHlo.seq, bind_assoc, pure_bind, bind_pure]
  rfl

end Cert.ReferenceIdeal.Prf

end
-- ==== Proof.RI.Run.lean ====
/-
  The run of the reference: its stretches, its counted loop, and the contents at the end.
-/
module

public import proofs.«01_k».proof.Proof.RI.Eq

@[expose] public section

set_option maxRecDepth 16384

noncomputable section

namespace Cert.ReferenceIdeal.Prf

open Cert.ReferenceIdeal Cert.ReferenceIdeal.Gen
open Idealize.ShloMosaic
open Idealize.SL
open RA BI BI.BIBase BI.Laws ProofMode Sem
open Idealize.ShloMosaic.Rounds Idealize.ShloMosaic.Tactic
open Idealize.ShloMosaic.TcCoe
open Idealize.ShloMosaic.StableHlo (tcRefs nullary_bufs_sub unary_bufs_sub binary_bufs_sub ternary_bufs_sub quaternary_bufs_sub reshape_bufs_sub nary_bufs_sub unaryIndexed_bufs_sub)

variable {F : FTy → Type} [FloatOps F]

/-- The buffers that `pre0` writes. -/
def pre0W : List (Ref sig .tc) := [main_v0, main_cst, main_cst_0, main_call0_v0, main_call0_v1, main_call0_v2, main_call0_v3, main_call0_v4, main_v1, main_v2, main_cst_1, main_cst_2, main_call1_v0, main_call1_v1, main_call1_v2, main_call1_v3, main_call1_v4, main_v3, main_v4, main_v5, main_v6, main_v7, main_v8, main_v9, main_v10, main_v11, main_v12, main_v13, main_v14, main_v15, main_v16]
theorem pre0_keep (V : Valuation τ sig (Elt F)) (b : Ref sig .tc) (h : b ∉ pre0W) : StableHlo.after pre0 V b = V b :=
  StableHlo.after_of_writes_sub _ V (StableHlo.forall_writes_sub_of_map rfl) h

/-- The buffers that `pre1` writes. -/
def pre1W : List (Ref sig .tc) := [main_v17, main_v18, main_v19, main_v20, main_v21, main_v22, main_v23, main_v24, main_v25, main_v26, main_cst_3, main_v27, main_v28, main_cst_4, main_v29, main_v30, main_v31, main_cst_5, main_v32, main_v33, main_v34, main_cst_6, main_call2_v0, main_call2_v1, main_v35]
theorem pre1_keep (V : Valuation τ sig (Elt F)) (b : Ref sig .tc) (h : b ∉ pre1W) : StableHlo.after pre1 V b = V b :=
  StableHlo.after_of_writes_sub _ V (StableHlo.forall_writes_sub_of_map rfl) h

/-- The buffers that `pre2` writes. -/
def pre2W : List (Ref sig .tc) := [main_v36, main_v37, main_v38, main_v39, main_v40, main_v41, main_v42, main_v43, main_v44, main_v45, main_v46, main_c, main_v47, main_c_7, main_c_8]
theorem pre2_keep (V : Valuation τ sig (Elt F)) (b : Ref sig .tc) (h : b ∉ pre2W) : StableHlo.after pre2 V b = V b :=
  StableHlo.after_of_writes_sub _ V (StableHlo.forall_writes_sub_of_map rfl) h

/-- The buffers that `pre3` writes. -/
def pre3W : List (Ref sig .tc) := [main_v48_0, main_v48_1, main_v48_2, main_v48_3, main_v48_4, main_v48_5, main_v48_6, main_v48_7, main_v48_8]
theorem pre3_keep (V : Valuation τ sig (Elt F)) (b : Ref sig .tc) (h : b ∉ pre3W) : StableHlo.after pre3 V b = V b :=
  StableHlo.after_of_writes_sub _ V (StableHlo.forall_writes_sub_of_map rfl) h

/-- The buffers that `body0` writes. -/
def body0W : List (Ref sig .tc) := [main_while0b_c_23, main_while0b_v74, main_while0b_call3_v0, main_while0b_call3_cst, main_while0b_call3_c, main_while0b_call3_v1_0, main_while0b_v75]
theorem body0_keep (V : Valuation τ sig (Elt F)) (b : Ref sig .tc) (h : b ∉ body0W) : StableHlo.after body0 V b = V b :=
  StableHlo.after_of_writes_sub _ V (StableHlo.forall_writes_sub_of_map rfl) h

/-- The buffers that `body1` writes. -/
def body1W : List (Ref sig .tc) := [main_while0b_c_24, main_while0b_v76, main_while0b_c_25, main_while0b_v77, main_while0b_v78, main_while0b_v79, main_while0b_v80, main_while0b_cst_26, main_while0b_v81, main_while0b_c_27, main_while0b_v82, main_while0b_c_28, main_while0b_v83, main_while0b_c_29, main_while0b_v84, main_while0b_v85, main_while0b_v86, main_while0b_v87, main_while0b_v88]
theorem body1_keep (V : Valuation τ sig (Elt F)) (b : Ref sig .tc) (h : b ∉ body1W) : StableHlo.after body1 V b = V b :=
  StableHlo.after_of_writes_sub _ V (StableHlo.forall_writes_sub_of_map rfl) h

/-- The buffers that `body2` writes. -/
def body2W : List (Ref sig .tc) := [main_while0b_c_30, main_while0b_v89, main_while0b_c_31, main_while0b_v90, main_while0b_v91, main_while0b_v92, main_while0b_v93, main_while0b_v94, main_while0b_v95, main_while0b_c_32, main_while0b_v96, main_while0b_c_33, main_while0b_v97, main_while0b_v98, main_while0b_v99, main_while0b_v100, main_while0b_v101, main_while0b_v102]
theorem body2_keep (V : Valuation τ sig (Elt F)) (b : Ref sig .tc) (h : b ∉ body2W) : StableHlo.after body2 V b = V b :=
  StableHlo.after_of_writes_sub _ V (StableHlo.forall_writes_sub_of_map rfl) h

/-- The buffers that `body3` writes. -/
def body3W : List (Ref sig .tc) := [main_while0b_c_34, main_while0b_v103, main_while0b_c_35, main_while0b_v104, main_while0b_v105, main_while0b_v106, main_while0b_v107, main_while0b_v108, main_while0b_v109, main_while0b_c_36, main_while0b_v110, main_while0b_c_37, main_while0b_v111, main_while0b_v112, main_while0b_v113, main_while0b_v114, main_while0b_v115, main_while0b_v116]
theorem body3_keep (V : Valuation τ sig (Elt F)) (b : Ref sig .tc) (h : b ∉ body3W) : StableHlo.after body3 V b = V b :=
  StableHlo.after_of_writes_sub _ V (StableHlo.forall_writes_sub_of_map rfl) h

/-- The buffers that `body4` writes. -/
def body4W : List (Ref sig .tc) := [main_while0b_v117, main_while0b_cst_38, main_while0b_call5_v0, main_while0b_call5_v1, main_while0b_v118, main_while0b_v119, main_while0b_cst_39, main_while0b_call6_v0, main_while0b_call6_v1, main_while0b_v120, main_while0b_v121]
theorem body4_keep (V : Valuation τ sig (Elt F)) (b : Ref sig .tc) (h : b ∉ body4W) : StableHlo.after body4 V b = V b :=
  StableHlo.after_of_writes_sub _ V (StableHlo.forall_writes_sub_of_map rfl) h

/-- The buffers that `body5` writes. -/
def body5W : List (Ref sig .tc) := [main_while0b_c_40, main_while0b_v122, main_while0b_c_41, main_while0b_v123, main_while0b_v124, main_while0b_v125, main_while0b_v126, main_while0b_v127, main_while0b_v128, main_while0b_v129, main_while0b_cst_42, main_while0b_v130, main_while0b_v131, main_while0b_v132, main_while0b_cst_43, main_while0b_v133, main_while0b_v134]
theorem body5_keep (V : Valuation τ sig (Elt F)) (b : Ref sig .tc) (h : b ∉ body5W) : StableHlo.after body5 V b = V b :=
  StableHlo.after_of_writes_sub _ V (StableHlo.forall_writes_sub_of_map rfl) h

/-- The buffers that `body6` writes. -/
def body6W : List (Ref sig .tc) := [main_while0b_cst_44, main_while0b_call7_v0, main_while0b_call7_v1, main_while0b_v135, main_while0b_c_45, main_while0b_v136, main_while0b_c_46, main_while0b_v137, main_while0b_v138, main_while0b_v139, main_while0b_cst_47, main_while0b_v140]
theorem body6_keep (V : Valuation τ sig (Elt F)) (b : Ref sig .tc) (h : b ∉ body6W) : StableHlo.after body6 V b = V b :=
  StableHlo.after_of_writes_sub _ V (StableHlo.forall_writes_sub_of_map rfl) h

/-- The buffers that `body7` writes. -/
def body7W : List (Ref sig .tc) := [main_while0b_c_48, main_while0b_v141, main_v48_5, main_v48_6, main_v48_7, main_v48_8]
theorem body7_keep (V : Valuation τ sig (Elt F)) (b : Ref sig .tc) (h : b ∉ body7W) : StableHlo.after body7 V b = V b :=
  StableHlo.after_of_writes_sub _ V (StableHlo.forall_writes_sub_of_map rfl) h

/-- The buffers that `post0` writes. -/
def post0W : List (Ref sig .tc) := [main_c_9, main_v49, main_v50, main_v51, main_c_10, main_v52, main_v53, main_c_11, main_v54, main_v55, main_c_12, main_v56, main_v57, main_v58]
theorem post0_keep (V : Valuation τ sig (Elt F)) (b : Ref sig .tc) (h : b ∉ post0W) : StableHlo.after post0 V b = V b :=
  StableHlo.after_of_writes_sub _ V (StableHlo.forall_writes_sub_of_map rfl) h

/-- The buffers that `post1` writes. -/
def post1W : List (Ref sig .tc) := [main_v59, main_v60, main_v61, main_v62, main_v63, main_c_13, main_v64, main_v65, main_c_14, main_v66, main_v67, main_v68]
theorem post1_keep (V : Valuation τ sig (Elt F)) (b : Ref sig .tc) (h : b ∉ post1W) : StableHlo.after post1 V b = V b :=
  StableHlo.after_of_writes_sub _ V (StableHlo.forall_writes_sub_of_map rfl) h

/-- The buffers that `post2` writes. -/
def post2W : List (Ref sig .tc) := [main_v69, main_v70, main_v71, main_v72, main_v73]
theorem post2_keep (V : Valuation τ sig (Elt F)) (b : Ref sig .tc) (h : b ∉ post2W) : StableHlo.after post2 V b = V b :=
  StableHlo.after_of_writes_sub _ V (StableHlo.forall_writes_sub_of_map rfl) h

/-- The buffers that the condition writes. -/
def condW : List (Ref sig .tc) := [main_while0c_c_23, main_while0c_v74]
theorem cond_keep (V : Valuation τ sig (Elt F)) (b : Ref sig .tc) (h : b ∉ condW) : StableHlo.after condOps V b = V b :=
  StableHlo.after_of_writes_sub _ V (StableHlo.forall_writes_sub_of_map rfl) h

/-- A buffer that a trip does not write keeps its contents over it. -/
theorem trip_keep (V : Valuation τ sig (Elt F)) (b : Ref sig .tc) (h : b ∉ condW ++ body0W ++ body1W ++ body2W ++ body3W ++ body4W ++ body5W ++ body6W ++ body7W) :
    StableHlo.afterL bodyI (StableHlo.after condOps V) b = V b := by
  simp only [List.mem_append, not_or] at h
  obtain ⟨⟨⟨⟨⟨⟨⟨⟨hc, h0⟩, h1⟩, h2⟩, h3⟩, h4⟩, h5⟩, h6⟩, h7⟩ := h
  simp only [StableHlo.afterL_cons, StableHlo.afterL_nil]
  rw [body7_keep _ b h7, body6_keep _ b h6, body5_keep _ b h5, body4_keep _ b h4, body3_keep _ b h3, body2_keep _ b h2, body1_keep _ b h1, body0_keep _ b h0, cond_keep _ b hc]

/-- The counter after a trip. -/
theorem trip_counter (V : Valuation τ sig (Elt F)) : StableHlo.afterL bodyI (StableHlo.after condOps V) main_v48_5 = addi (V main_v48_5) (constantI S_ 32 1#32) := by
  simp only [StableHlo.afterL_cons, StableHlo.afterL_nil]
  have e : ∀ V : Valuation τ sig (Elt F), StableHlo.after body7 V main_v48_5 = addi (V main_v48_5) (constantI S_ 32 1#32) := fun V => by
    unfold body7; after_results; rfl
  rw [e, body6_keep _ _ (by decide), body5_keep _ _ (by decide), body4_keep _ _ (by decide), body3_keep _ _ (by decide), body2_keep _ _ (by decide), body1_keep _ _ (by decide), body0_keep _ _ (by decide), cond_keep _ _ (by decide)]

/-- A buffer that no stretch before the loop writes keeps its contents. -/
theorem pre_keep (V : Valuation τ sig (Elt F)) (b : Ref sig .tc) (h : b ∉ pre0W ++ pre1W ++ pre2W ++ pre3W) : StableHlo.afterL preI V b = V b := by
  simp only [List.mem_append, not_or] at h
  obtain ⟨⟨⟨h0, h1⟩, h2⟩, h3⟩ := h
  simp only [StableHlo.afterL_cons, StableHlo.afterL_nil]
  rw [pre3_keep _ b h3, pre2_keep _ b h2, pre1_keep _ b h1, pre0_keep _ b h0]

/-- A buffer that no stretch after the loop writes keeps its contents. -/
theorem post_keep (V : Valuation τ sig (Elt F)) (b : Ref sig .tc) (h : b ∉ post0W ++ post1W ++ post2W) : StableHlo.afterL postI V b = V b := by
  simp only [List.mem_append, not_or] at h
  obtain ⟨⟨h0, h1⟩, h2⟩ := h
  simp only [StableHlo.afterL_cons, StableHlo.afterL_nil]
  rw [post2_keep _ b h2, post1_keep _ b h1, post0_keep _ b h0]

variable (m : (ℓ : Loc nD τ sig) → Buf (Elt F) ℓ)

/-- The contents before trip `k`. -/
abbrev Wk (k : ℕ) (c : Dev nD) : Valuation τ sig (Elt F) := StableHlo.atTrip condOps bodyI (StableHlo.entryContents preI m) k c

theorem Wk_succ (k : ℕ) (c : Dev nD) : Wk m (k + 1) c = StableHlo.afterL bodyI (StableHlo.after condOps (Wk m k c)) := rfl

theorem Wk_keep (c : Dev nD) (b : Ref sig .tc) (h : b ∉ condW ++ body0W ++ body1W ++ body2W ++ body3W ++ body4W ++ body5W ++ body6W ++ body7W) (k : ℕ) : Wk m k c b = Wk m 0 c b := by
  induction k with
  | zero => rfl
  | succ k ih => rw [Wk_succ, trip_keep _ b h, ih]

/-- The counter counts the trips. -/
theorem Wk_counter (c : Dev nD) (k : ℕ) : Wk m k c main_v48_5 = fun _ => Scf.iv 0#32 1#32 k := by
  induction k with
  | zero =>
    show StableHlo.afterL preI _ main_v48_5 = _
    simp only [StableHlo.afterL_cons, StableHlo.afterL_nil]
    have e : ∀ V : Valuation τ sig (Elt F), StableHlo.after pre3 V main_v48_5 = V main_c_8 := fun V => by
      unfold pre3; after_results; rfl
    have e' : ∀ V : Valuation τ sig (Elt F), StableHlo.after pre2 V main_c_8 = constantI S_ 32 0#32 := fun V => by
      unfold pre2; after_results
    rw [e, e']
    rfl
  | succ k ih =>
    rw [Wk_succ, trip_counter, ih]
    funext i
    show (Scf.iv 0#32 1#32 k + 1#32 : BitVec 32) = _
    simp only [Scf.iv, BitVec.mul_one]
    rw [BitVec.ofNat_add, BitVec.add_assoc]

set_option backward.isDefEq.respectTransparency.types false in
set_option maxHeartbeats 1000000 in
/-- The condition holds of the first two thousand trips. -/
theorem cond_spec : StableHlo.CondSpec (pcfgs (F := F)) defs₀ loops main_while0_cond condOps bodyI (StableHlo.entryContents preI m) 2000 := by
  intro k hk c bd
  have hctr := Wk_counter m c k
  simp only [main_while0_cond, bind_pure]
  rw [wp_bind]
  iintro ⟨Hb, Hh⟩
  iapply (StableHlo.wp_hlo_within (Variants.lift Variants.none) (c.tc : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c.tc : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v48_5 HostLoop.idx0) (HloOp.result _ (Wk m k c) main_while0c_c_23 HostLoop.idx0) = 1#1) (k < 2000)
    rw [StableHlo.nullary_result_ne _ _ _ _ (by decide), StableHlo.nullary_result, hctr]
    have ht : Scf.trips 0#32 2000#32 1#32 = 2000 := by decide
    have := Scf.cmpi_slt_iv_ub_iff (lb := 0#32) (ub := 2000#32) (st := 1#32) main_while0_ok (k := k) (by rw [ht]; exact hk)
    rwa [ht] at this
  isplitl [Hb]; · iexact Hb
  unfold condOps
  rw [StableHlo.after_cons, StableHlo.after_cons, StableHlo.after_nil]
  iexact Hh

/-- The contents at the end. -/
abbrev Wend (c : Dev nD) : Valuation τ sig (Elt F) := StableHlo.finalContents condOps preI bodyI postI 2000 m c

theorem run_main [∀ e, Nonempty (Elt F e)] (ρ : Dev nD → PrngReg) :
    θ_run (defs (F := F)) (onTc (τ := τ) main) ⟨m, fun _ => 0, ρ⟩
      (fun r => ∀ (c : Dev nD) (b : Ref sig .tc), (Proc.devRef .tc b : DevRef τ sig).isScoped = false → r.2.mem ((c.tc : Thread nD τ).loc b) = Wend m c b) :=
  StableHlo.run_loop (pcfgs (F := F)) defs₀ loops main 0 main_while0_cond main_while0_body rfl preI bodyI postI condOps plain_pre plain_body plain_post main_eq body_eq 2000 m ρ (cond_spec m)

/-- The arguments are as they were. -/
theorem Wend_arg (c : Dev nD) : Wend m c main_arg0 = m ((c.tc : Thread nD τ).loc main_arg0) ∧ Wend m c main_arg1 = m ((c.tc : Thread nD τ).loc main_arg1) := by
  constructor
  · show StableHlo.afterL postI _ main_arg0 = _
    rw [post_keep _ _ (by decide), cond_keep _ _ (by decide)]
    refine (Wk_keep m c _ (by decide) 2000).trans ?_
    exact pre_keep _ _ (by decide)
  · show StableHlo.afterL postI _ main_arg1 = _
    rw [post_keep _ _ (by decide), cond_keep _ _ (by decide)]
    refine (Wk_keep m c _ (by decide) 2000).trans ?_
    exact pre_keep _ _ (by decide)

end Cert.ReferenceIdeal.Prf

end
-- ==== Proof.RI.Pick.lean ====
/-
  The position of the best score: the first of the largest, and the first of all where every score is minus infinity.
-/
module

public import proofs.«01_k».proof.Proof.RI.Run
public import Idealize.ShloMosaic.PureOps.Ideal.Laws
public import Idealize.ShloMosaic.Lib.ValueIdx
public import Idealize.ShloMosaic.Lib.Routing.OpsOne

@[expose] public section

set_option maxRecDepth 16384

noncomputable section

namespace Cert.ReferenceIdeal.Prf

open Cert.ReferenceIdeal Cert.ReferenceIdeal.Gen
open Idealize.ShloMosaic Idealize.ShloMosaic.ValueIdx Idealize.ShloMosaic.Ideal

/-- One comparison of the fold, read on the extended reals: an equal earlier value stays. -/
theorem reducer_eq (a b : EReal × BitVec 32) : reducer_argmax_f32_i32 (F := Ideal) a b
    = (if b.1 < a.1 then a.1 else b.1, if b.1 < a.1 ∨ (a.1 = b.1 ∧ a.2.slt b.2 = true) then a.2 else b.2) := by
  simp only [reducer_argmax_f32_i32, Scalar.select]
  have e1 : FloatOps.cmpf (F := Ideal) (φ := .f32) .ogt a.1 b.1 = BitVec.ofBool (decide (b.1 < a.1)) := rfl
  have e2 : FloatOps.cmpf (F := Ideal) (φ := .f32) .une a.1 a.1 = BitVec.ofBool (decide (a.1 ≠ a.1)) := rfl
  have e3 : FloatOps.cmpf (F := Ideal) (φ := .f32) .oeq a.1 b.1 = BitVec.ofBool (decide (a.1 = b.1)) := rfl
  have e4 : IntOp.cmpi .slt a.2 b.2 = BitVec.ofBool (a.2.slt b.2) := rfl
  rw [e1, e2, e3, e4]
  by_cases h1 : b.1 < a.1 <;> by_cases h3 : a.1 = b.1 <;> cases h4 : a.2.slt b.2 <;>
    simp [h1, h3, IntOp.ori, IntOp.andi]

theorem fold_spec (L : List (EReal × BitVec 32)) (hlen : L.length < 2 ^ 31) (hL : ∀ k (h : k < L.length), L[k].2 = BitVec.ofNat 32 k) :
    (∀ k (h : k < L.length), L[k].1 ≤ (L.foldl (reducer_argmax_f32_i32 (F := Ideal)) (⊥, 0#32)).1)
    ∧ ((L.foldl (reducer_argmax_f32_i32 (F := Ideal)) (⊥, 0#32) = (⊥, 0#32))
      ∨ ∃ k, ∃ h : k < L.length, L.foldl (reducer_argmax_f32_i32 (F := Ideal)) (⊥, 0#32) = L[k] ∧ L[k].1 ≠ ⊥ ∧ ∀ i (hi : i < k), L[i].1 < L[k].1) := by
  induction L using List.reverseRecOn with
  | nil => exact ⟨fun k h => absurd h (by simp), Or.inl rfl⟩
  | append_singleton L a ih =>
    have hlen' : L.length < 2 ^ 31 := by rw [List.length_append] at hlen; omega
    have ha : a.2 = BitVec.ofNat 32 L.length := by
      have := hL L.length (by simp)
      simpa using this
    have hL' : ∀ k (h : k < L.length), L[k].2 = BitVec.ofNat 32 k := fun k h => by
      have := hL k (by simp; omega)
      rwa [List.getElem_append_left h] at this
    obtain ⟨ih1, ih2⟩ := ih hlen' hL'
    rw [List.foldl_append, List.foldl_cons, List.foldl_nil]
    generalize L.foldl (reducer_argmax_f32_i32 (F := Ideal)) (⊥, 0#32) = r at *
    rw [reducer_eq]
    have hget : ∀ k (h : k < (L ++ [a]).length), (h' : k < L.length) → (L ++ [a])[k] = L[k] := fun k h h' => List.getElem_append_left h'
    have hlast : ∀ k (h : k < (L ++ [a]).length), ¬ k < L.length → (L ++ [a])[k] = a := fun k h h' => by
      have e : k = L.length := by rw [List.length_append, List.length_singleton] at h; omega
      subst e; simp
    constructor
    · intro k h
      by_cases hk : k < L.length
      · rw [hget k h hk]
        refine (ih1 k hk).trans ?_
        show r.1 ≤ if a.1 < r.1 then r.1 else a.1
        split
        · exact le_rfl
        · rename_i h1; exact le_of_not_gt h1
      · rw [hlast k h hk]
        show a.1 ≤ if a.1 < r.1 then r.1 else a.1
        split
        · rename_i h1; exact h1.le
        · exact le_rfl
    · by_cases hlt : a.1 < r.1
      · rcases ih2 with e | ⟨k, hk, e, hb, hi⟩
        · rw [e] at hlt; exact absurd hlt not_lt_bot
        · refine Or.inr ⟨k, by simp; omega, ?_, ?_, ?_⟩
          · rw [hget k _ hk, if_pos hlt, if_pos (Or.inl hlt), ← e]
          · rw [hget k _ hk]; exact hb
          · intro i hik
            rw [hget k _ hk, hget i _ (hik.trans hk)]
            exact hi i hik
      · rw [if_neg hlt]
        by_cases heq : r.1 = a.1
        · rcases ih2 with e | ⟨k, hk, e, hb, hi⟩
          · rw [e] at heq ⊢
            left
            have : a.2 = 0#32 ∨ (0#32).slt a.2 = true := by
              rw [ha]
              by_cases h0 : L.length = 0
              · left; rw [h0]
              · right
                rw [BitVec.slt_iff_toInt_lt, StableHlo.Predicate.toInt_ofNat_small _ hlen']
                simp; omega
            rw [← heq]
            refine Prod.ext rfl ?_
            show (if _ then _ else _) = _
            split
            · rfl
            · rename_i hn
              rcases this with h | h
              · exact h
              · exact absurd (Or.inr ⟨rfl, h⟩) hn
          · have h2 : r.2 = BitVec.ofNat 32 k := by rw [e]; exact hL' k hk
            have hs : r.2.slt a.2 = true := by
              rw [h2, ha, BitVec.slt_iff_toInt_lt, StableHlo.Predicate.toInt_ofNat_small _ hlen', StableHlo.Predicate.toInt_ofNat_small _ (hk.trans hlen')]
              omega
            refine Or.inr ⟨k, by simp; omega, ?_, ?_, ?_⟩
            · rw [hget k _ hk, if_pos (Or.inr ⟨heq, hs⟩), ← heq, ← e]
            · rw [hget k _ hk]; exact hb
            · intro i hik
              rw [hget k _ hk, hget i _ (hik.trans hk)]
              exact hi i hik
        · have hra : r.1 < a.1 := lt_of_le_of_ne (le_of_not_gt hlt) heq
          refine Or.inr ⟨L.length, by simp, ?_, ?_, ?_⟩
          · rw [hlast _ _ (lt_irrefl _), if_neg]
            rintro (h | h)
            · exact hlt h
            · exact heq h.1
          · rw [hlast _ _ (lt_irrefl _)]
            exact (bot_le.trans_lt hra).ne'
          · intro i hi
            rw [hlast _ _ (lt_irrefl _), hget i _ hi]
            exact (ih1 i hi).trans_lt hra

theorem symm_ix1 (k : Fin S20000.numel) (h : k.val < 20000) : S20000.rowMajor.symm k = ix1 (⟨k.val, h⟩ : Fin 20000) := by
  rw [Equiv.symm_apply_eq]
  apply Fin.ext
  rw [Shape.rowMajor_val_one]

/-- The best score's position. -/
theorem argmax_spec (x : FVec Ideal S20000 .f32) (j : S_.Idx) : ∃ b : Fin 20000,
    (Host.argReduce reducer_argmax_f32_i32 x (iotaInDim S20000 32 0) (constant (F := Ideal) S_ .f32 0xFF800000#32) (constantI S_ 32 0#32) reducesTo_S20000_S_d0 h_S_ j).2 = BitVec.ofNat 32 b.val
    ∧ ((b = 0 ∧ ∀ i, x i = (⊥ : EReal)) ∨ (x (ix1 b) ≠ (⊥ : EReal) ∧ (∀ i : Fin 20000, (x (ix1 i) : EReal) ≤ x (ix1 b)) ∧ ∀ i < b, (x (ix1 i) : EReal) < x (ix1 b))) := by
  have hnum : S20000.numel = 20000 := by decide +kernel
  rw [argReduce_eq_reduce2, Host.reduce2_eq_foldl_fiber]
  have e0 : (constant (F := Ideal) S_ .f32 0xFF800000#32 (Shape.Idx.first h_S_), constantI S_ 32 0#32 (Shape.Idx.first h_S_)) = ((⊥ : EReal), 0#32) := by
    refine Prod.ext ?_ rfl
    show Ideal.ofBits .f32 0xFF800000#32 = _
    simp [Ideal.ofBits, Ideal.ieee]
  rw [e0]
  have hf : Host.argReduceFiber x (iotaInDim S20000 32 0) reducesTo_S20000_S_d0 j = (List.finRange S20000.numel).map fun n => (x (S20000.rowMajor.symm n), (iotaInDim S20000 32 0 : IVec S20000 32) (S20000.rowMajor.symm n)) := by
    unfold Host.argReduceFiber
    rw [List.filter_eq_self.mpr]
    intro a _
    exact decide_eq_true (funext fun q => q.elim0)
  rw [hf]
  generalize hL : ((List.finRange S20000.numel).map fun n => (x (S20000.rowMajor.symm n), (iotaInDim S20000 32 0 : IVec S20000 32) (S20000.rowMajor.symm n))) = L
  have hlen : L.length = 20000 := by rw [← hL, List.length_map, List.length_finRange, hnum]
  have hget : ∀ k (h : k < L.length), L[k] = (x (ix1 (⟨k, hlen ▸ h⟩ : Fin 20000)), BitVec.ofNat 32 k) := by
    intro k h
    subst hL
    rw [List.getElem_map, List.getElem_finRange, symm_ix1 _ (hlen ▸ h)]
    rfl
  obtain ⟨h1, h2⟩ := fold_spec L (by rw [hlen]; norm_num) (fun k h => by rw [hget k h])
  rcases h2 with h2 | ⟨k, hk, h2, h3, h4⟩
  · rw [h2] at h1 ⊢
    refine ⟨0, rfl, Or.inl ⟨rfl, fun i => ?_⟩⟩
    have hi : (i 0).val < L.length := by rw [hlen]; exact (i 0).isLt
    have := h1 (i 0).val hi
    rw [hget _ hi] at this
    rw [eq_ix1 i]
    exact le_bot_iff.mp this
  · refine ⟨⟨k, hlen ▸ hk⟩, ?_, Or.inr ⟨?_, fun i => ?_, fun i hi => ?_⟩⟩
    · rw [h2, hget k hk]
    · rw [hget k hk] at h3; exact h3
    · have := h1 i.val (by rw [hlen]; exact i.isLt)
      rw [h2, hget k hk, hget i.val] at this
      exact this
    · have := h4 i.val hi
      rw [hget k hk, hget i.val] at this
      exact this

end Cert.ReferenceIdeal.Prf

end
-- ==== Proof.RI.Step.lean ====
/-
  One trip of the reference's loop, read at a position: the best score's position is written to the selection, and the
  scores of that box and of the boxes it overlaps too much become minus infinity.
-/
module

public import proofs.«01_k».proof.Proof.RI.Pick
public import proofs.«01_k».proof.Proof.V.Box
public import Idealize.ShloMosaic.Lib.Pointwise.ShapeOpsCore
public import Idealize.ShloMosaic.Lib.StableHlo.RunRead

@[expose] public section

set_option maxRecDepth 16384

noncomputable section

namespace Cert.ReferenceIdeal.Prf

open Cert.ReferenceIdeal Cert.ReferenceIdeal.Gen
open Idealize.ShloMosaic Idealize.ShloMosaic.ValueIdx Idealize.ShloMosaic.Ideal
open Idealize.ShloMosaic.Tactic
open Idealize.ShloMosaic.TcCoe
open Idealize.ShloMosaic.Routing (shape0 shape1 scatter_set_hit scatter_set_miss lands_one)

/-- The index word with a negative one wrapped round. -/
def wrapped (n : BitVec 32) (v : IVec S_ 32) : IVec S_ 32 := select (cmpi .slt v (constantI S_ 32 0#32)) (addi v (constantI S_ 32 n)) v

theorem wrapped_eq (n : BitVec 32) (v : IVec S_ 32) (b : ℕ) (hb : b < 2 ^ 31) (h : ∀ i, v i = BitVec.ofNat 32 b) (i : S_.Idx) :
    wrapped n v i = BitVec.ofNat 32 b := by
  show Scalar.select (IntOp.cmpi .slt (v i) 0#32) _ (v i) = _
  rw [h i]
  have : IntOp.cmpi .slt (BitVec.ofNat 32 b) 0#32 = 0#1 := by
    show BitVec.ofBool ((BitVec.ofNat 32 b).slt 0#32) = _
    have : (BitVec.ofNat 32 b).slt 0#32 = false := by
      rw [Bool.eq_false_iff, ne_eq, BitVec.slt_iff_toInt_lt, StableHlo.Predicate.toInt_ofNat_small _ hb]
      simp
    rw [this]; rfl
  rw [this, select_zero]

/-- The element at the index word's position, as a scalar. -/
def taken (x : FVec Ideal S20000 .f32) (w : IVec S_ 32) : FVec Ideal S_ .f32 :=
  shapeCast S_ (Host.dynamicSlice S1 x (fun k => ((![w] : Fin 1 → IVec S_ 32) k (Shape.Idx.first h_S_)).toInt) sliceFits_S20000_S1) shapeCasts_S1_S_

theorem taken_eq (x : FVec Ideal S20000 .f32) (w : IVec S_ 32) (b : Fin 20000) (h : ∀ i, w i = BitVec.ofNat 32 b.val) (j : S_.Idx) :
    taken x w j = x (ValueIdx.ix1 b) := by
  have hb : b.val < 20000 := b.isLt
  show Host.dynamicSlice S1 x (fun k => ((![w] : Fin 1 → IVec S_ 32) k (Shape.Idx.first h_S_)).toInt) sliceFits_S20000_S1 (Shape.reshapeEquiv shapeCasts_S1_S_ j) = _
  rw [Host.dynamicSlice_apply]
  have h0 : (fun k => ((![w] : Fin 1 → IVec S_ 32) k (Shape.Idx.first h_S_)).toInt) 0 = (b.val : Int) := by
    show (w _).toInt = _
    rw [h, StableHlo.Predicate.toInt_ofNat_small _ (by omega)]
  generalize (fun k => ((![w] : Fin 1 → IVec S_ 32) k (Shape.Idx.first h_S_)).toInt) = st at h0 ⊢
  refine congrArg x (funext fun a => ?_)
  match a with
  | ⟨0, _⟩ =>
    apply Fin.ext
    have h1 : Host.clampedStart S20000 S1 sliceFits_S20000_S1.1 st 0 = b.val :=
      Host.clampedStart_of_le (s := S20000) (t := S1) sliceFits_S20000_S1.1 st 0 b.val h0 (Nat.succ_le_of_lt hb)
    have h2 : ((Shape.reshapeEquiv shapeCasts_S1_S_ j) 0).val = 0 := by
      have := ((Shape.reshapeEquiv shapeCasts_S1_S_ j) 0).isLt
      have h3 : (S1.size 0) = 1 := rfl
      omega
    show Host.clampedStart S20000 S1 sliceFits_S20000_S1.1 st 0 + ((Shape.reshapeEquiv shapeCasts_S1_S_ j) 0).val = b.val
    rw [h1, h2]
    rfl

/-- A scatter of one element at a nonnegative index word: the update there, the operand elsewhere. -/
theorem set_eq {N : ℕ} {α : Type} (d : ScatterDims (shape1 N) (shape1 1) shape0) (hiw : d.insertedWindowDims = [0]) (hsd : d.scatterDimsToOperandDims = [0])
    (x : (shape1 N).Idx → α) (idx : IVec (shape1 1) 32) (u : shape0.Idx → α) (k : Fin N) (hk : k.val < 2 ^ 31) (hidx : idx (ValueIdx.ix1 0) = BitVec.ofNat 32 k.val) (e : Fin N) :
    Host.scatter d (fun _ b => b) x idx u (ValueIdx.ix1 e) = if e = k then u ValueIdx.ix0 else x (ValueIdx.ix1 e) := by
  have hi : (idx (ValueIdx.ix1 0)).toInt = (k.val : Int) := by rw [hidx, StableHlo.Predicate.toInt_ofNat_small _ hk]
  split
  · rename_i h
    exact scatter_set_hit d x idx u _ _ (fun j _ => congrArg u (eq_ix0 j)) ValueIdx.ix0 ((lands_one d hiw hsd idx k hi e).2 h)
  · rename_i h
    exact scatter_set_miss d x idx u _ fun j hj => h ((lands_one d hiw hsd idx k hi e).1 (by rw [← eq_ix0 j]; exact hj))

variable (V : Valuation τ sig (Elt Ideal))

theorem body0_value : StableHlo.after body0 V main_while0b_v74 = addi (V main_v48_6) (constantI S_ 32 1#32)
    ∧ StableHlo.after body0 V main_while0b_v75 = fun j => (Host.argReduce reducer_argmax_f32_i32 (V main_v48_7) (iotaInDim S20000 32 0) (constant (F := Ideal) S_ .f32 0xFF800000#32) (constantI S_ 32 0#32) reducesTo_S20000_S_d0 h_S_ j).2 := by
  constructor
  · unfold body0; after_results
  · unfold body0; after_results; rfl

theorem body1_raw : StableHlo.after body1 V main_while0b_v88
    = Host.scatter scatter_S2000_S1_S__n_0_0_0 (fun _ b => b) (V main_v48_8) (broadcastInDim S1 ![] bcast_S_S1 (wrapped 2000#32 (V main_v48_6)))
      (select (cmpf .ogt (taken (V main_v48_7) (wrapped 20000#32 (V main_while0b_v75))) (constant (F := Ideal) S_ .f32 0xFF800000#32)) (V main_while0b_v75) (constantI S_ 32 4294967295#32)) := by
  unfold body1
  after_reads_simp [StableHlo.unaryIndexed_result_read, StableHlo.indexContents_cons, StableHlo.indexContents_empty]
  rfl

theorem body2_raw : StableHlo.after body2 V main_while0b_v95 = maximumf (V main_v48_0) (broadcastInDim S20000 ![] bcast_S_S20000 (taken (V main_v48_0) (wrapped 20000#32 (V main_while0b_v75))))
    ∧ StableHlo.after body2 V main_while0b_v102 = maximumf (V main_v48_1) (broadcastInDim S20000 ![] bcast_S_S20000 (taken (V main_v48_1) (wrapped 20000#32 (V main_while0b_v75)))) := by
  constructor <;> (unfold body2; after_reads_simp [StableHlo.unaryIndexed_result_read, StableHlo.indexContents_cons, StableHlo.indexContents_empty]; rfl)

theorem body3_raw : StableHlo.after body3 V main_while0b_v109 = minimumf (V main_v48_2) (broadcastInDim S20000 ![] bcast_S_S20000 (taken (V main_v48_2) (wrapped 20000#32 (V main_while0b_v75))))
    ∧ StableHlo.after body3 V main_while0b_v116 = minimumf (V main_v48_3) (broadcastInDim S20000 ![] bcast_S_S20000 (taken (V main_v48_3) (wrapped 20000#32 (V main_while0b_v75)))) := by
  constructor <;> (unfold body3; after_reads_simp [StableHlo.unaryIndexed_result_read, StableHlo.indexContents_cons, StableHlo.indexContents_empty]; rfl)

theorem body4_raw : StableHlo.after body4 V main_while0b_v121
    = mulf (maximumf (broadcastInDim S20000 ![] bcast_S_S20000 (constant (F := Ideal) S_ .f32 0x00000000#32)) (subf (V main_while0b_v109) (V main_while0b_v95)))
      (maximumf (broadcastInDim S20000 ![] bcast_S_S20000 (constant (F := Ideal) S_ .f32 0x00000000#32)) (subf (V main_while0b_v116) (V main_while0b_v102))) := by
  unfold body4; after_results; rfl

theorem body5_raw : StableHlo.after body5 V main_while0b_v134
    = cmpf .ogt (Host.divf (V main_while0b_v121) (addf (subf (addf (V main_v48_4) (broadcastInDim S20000 ![] bcast_S_S20000 (taken (V main_v48_4) (wrapped 20000#32 (V main_while0b_v75))))) (V main_while0b_v121)) (broadcastInDim S20000 ![] bcast_S_S20000 (constant (F := Ideal) S_ .f32 0x3089705F#32))))
      (broadcastInDim S20000 ![] bcast_S_S20000 (constant (F := Ideal) S_ .f32 0x3F333333#32)) := by
  unfold body5; after_reads_simp [StableHlo.unaryIndexed_result_read, StableHlo.indexContents_cons, StableHlo.indexContents_empty]; rfl

theorem body6_raw : StableHlo.after body6 V main_while0b_v140
    = Host.scatter scatter_S20000_S1_S__n_0_0_0 (fun _ b => b) (select (V main_while0b_v134) (broadcastInDim S20000 ![] bcast_S_S20000 (constant (F := Ideal) S_ .f32 0xFF800000#32)) (V main_v48_7))
      (broadcastInDim S1 ![] bcast_S_S1 (wrapped 20000#32 (V main_while0b_v75))) (constant (F := Ideal) S_ .f32 0xFF800000#32) := by
  unfold body6; after_results; rfl

theorem body7_raw : StableHlo.after body7 V main_v48_6 = V main_while0b_v74
    ∧ StableHlo.after body7 V main_v48_7 = V main_while0b_v140
    ∧ StableHlo.after body7 V main_v48_8 = V main_while0b_v88 := by
  refine ⟨?_, ?_, ?_⟩ <;> (unfold body7; after_results; rfl)

/-- The position of the best of the scores `x`. -/
def Best (x : FVec Ideal S20000 .f32) (b : Fin 20000) : Prop :=
  (b = 0 ∧ ∀ i, x i = (⊥ : EReal)) ∨ (x (ValueIdx.ix1 b) ≠ (⊥ : EReal) ∧ (∀ i : Fin 20000, (x (ValueIdx.ix1 i) : EReal) ≤ x (ValueIdx.ix1 b)) ∧ ∀ i < b, (x (ValueIdx.ix1 i) : EReal) < x (ValueIdx.ix1 b))

/-- Box `i` of the four columns. -/
def boxAt (x0 x1 x2 x3 : FVec Ideal S20000 .f32) (i : Fin 20000) : Fin 4 → EReal :=
  ![x0 (ValueIdx.ix1 i), x1 (ValueIdx.ix1 i), x2 (ValueIdx.ix1 i), x3 (ValueIdx.ix1 i)]

theorem ninf : Ideal.ofBits .f32 0xFF800000#32 = (⊥ : EReal) := by simp [Ideal.ofBits, Ideal.ieee]

theorem sel_ofBool {α : Type} (p : Prop) [Decidable p] (a b : α) : Scalar.select (BitVec.ofBool (decide p)) a b = if p then a else b := by
  by_cases h : p
  · rw [decide_eq_true h, if_pos h]; rfl
  · rw [decide_eq_false h, if_neg h]; rfl

open Classical in
set_option maxHeartbeats 2000000 in
/-- One trip. -/
theorem trip_value (t : ℕ) (ht : t < 2000) (x0 x1 x2 x3 s : FVec Ideal S20000 .f32) (sel : IVec S2000 32)
    (h0 : V main_v48_0 = x0) (h1 : V main_v48_1 = x1) (h2 : V main_v48_2 = x2) (h3 : V main_v48_3 = x3)
    (h4 : V main_v48_4 = mulf (subf x2 x0) (subf x3 x1)) (h6 : V main_v48_6 = (fun _ => BitVec.ofNat 32 t : IVec S_ 32))
    (h7 : V main_v48_7 = s) (h8 : V main_v48_8 = sel) :
    ∃ (b : Fin 20000) (s' : FVec Ideal S20000 .f32) (sel' : IVec S2000 32), Best s b
      ∧ StableHlo.afterL bodyI (StableHlo.after condOps V) main_v48_6 = (fun _ => BitVec.ofNat 32 (t + 1) : IVec S_ 32)
      ∧ StableHlo.afterL bodyI (StableHlo.after condOps V) main_v48_7 = s'
      ∧ StableHlo.afterL bodyI (StableHlo.after condOps V) main_v48_8 = sel'
      ∧ (∀ e : Fin 2000, sel' (ValueIdx.ix1 e) = if e.val = t then (if (⊥ : EReal) < s (ValueIdx.ix1 b) then BitVec.ofNat 32 b.val else 4294967295#32) else sel (ValueIdx.ix1 e))
      ∧ (∀ i : Fin 20000, s' (ValueIdx.ix1 i) = if i = b ∨ Box.Over (boxAt x0 x1 x2 x3 i) (boxAt x0 x1 x2 x3 b) then (⊥ : EReal) else s (ValueIdx.ix1 i)) := by
  obtain ⟨b, hb, hbest⟩ := argmax_spec s (Shape.Idx.first h_S_)
  have hb' : b.val < 20000 := b.isLt
  simp only [StableHlo.afterL_cons, StableHlo.afterL_nil]
  obtain ⟨V0, e0⟩ : ∃ W, W = StableHlo.after condOps V := ⟨_, rfl⟩
  obtain ⟨V1, e1⟩ : ∃ W, W = StableHlo.after body0 V0 := ⟨_, rfl⟩
  obtain ⟨V2, e2⟩ : ∃ W, W = StableHlo.after body1 V1 := ⟨_, rfl⟩
  obtain ⟨V3, e3⟩ : ∃ W, W = StableHlo.after body2 V2 := ⟨_, rfl⟩
  obtain ⟨V4, e4⟩ : ∃ W, W = StableHlo.after body3 V3 := ⟨_, rfl⟩
  obtain ⟨V5, e5⟩ : ∃ W, W = StableHlo.after body4 V4 := ⟨_, rfl⟩
  obtain ⟨V6, e6⟩ : ∃ W, W = StableHlo.after body5 V5 := ⟨_, rfl⟩
  obtain ⟨V7, e7⟩ : ∃ W, W = StableHlo.after body6 V6 := ⟨_, rfl⟩
  rw [← e0, ← e1, ← e2, ← e3, ← e4, ← e5, ← e6, ← e7]
  have k0 : ∀ r : Ref sig .tc, r ∉ condW → V0 r = V r := fun r h => e0 ▸ cond_keep V r h
  have k1 : ∀ r : Ref sig .tc, r ∉ body0W → V1 r = V0 r := fun r h => e1 ▸ body0_keep V0 r h
  have k2 : ∀ r : Ref sig .tc, r ∉ body1W → V2 r = V1 r := fun r h => e2 ▸ body1_keep V1 r h
  have k3 : ∀ r : Ref sig .tc, r ∉ body2W → V3 r = V2 r := fun r h => e3 ▸ body2_keep V2 r h
  have k4 : ∀ r : Ref sig .tc, r ∉ body3W → V4 r = V3 r := fun r h => e4 ▸ body3_keep V3 r h
  have k5 : ∀ r : Ref sig .tc, r ∉ body4W → V5 r = V4 r := fun r h => e5 ▸ body4_keep V4 r h
  have k6 : ∀ r : Ref sig .tc, r ∉ body5W → V6 r = V5 r := fun r h => e6 ▸ body5_keep V5 r h
  have k7 : ∀ r : Ref sig .tc, r ∉ body6W → V7 r = V6 r := fun r h => e7 ▸ body6_keep V6 r h
  have r1 := body0_value V0
  have r2 := body1_raw V1
  have r3 := body2_raw V2
  have r4 := body3_raw V3
  have r5 := body4_raw V4
  have r6 := body5_raw V5
  have r7 := body6_raw V6
  have r8 := body7_raw V7
  rw [← e1] at r1; rw [← e2] at r2; rw [← e3] at r3; rw [← e4] at r4; rw [← e5] at r5; rw [← e6] at r6; rw [← e7] at r7
  clear e0 e1 e2 e3 e4 e5 e6 e7
  -- the position
  have q1 : V1 main_while0b_v75 = (fun _ => BitVec.ofNat 32 b.val : IVec S_ 32) := by
    rw [r1.2, k0 _ (by decide), h7]
    funext j
    rw [eq_ix0 j, ← eq_ix0 (Shape.Idx.first h_S_)]
    exact hb
  have q2 := (k2 main_while0b_v75 (by decide)).trans q1
  have q3 := (k3 main_while0b_v75 (by decide)).trans q2
  have q4 := (k4 main_while0b_v75 (by decide)).trans q3
  have q5 := (k5 main_while0b_v75 (by decide)).trans q4
  have q6 := (k6 main_while0b_v75 (by decide)).trans q5
  have hw : ∀ i, wrapped 20000#32 (fun _ => BitVec.ofNat 32 b.val : IVec S_ 32) i = BitVec.ofNat 32 b.val := wrapped_eq _ _ _ (by omega) fun _ => rfl
  have hw2 : ∀ i, wrapped 2000#32 (fun _ => BitVec.ofNat 32 t : IVec S_ 32) i = BitVec.ofNat 32 t := wrapped_eq _ _ _ (by omega) fun _ => rfl
  have tk : ∀ (x : FVec Ideal S20000 .f32) i, broadcastInDim S20000 ![] bcast_S_S20000 (taken x (wrapped 20000#32 (fun _ => BitVec.ofNat 32 b.val : IVec S_ 32))) i = x (ValueIdx.ix1 b) :=
    fun x i => taken_eq x _ b hw _
  have tkf : ∀ x : FVec Ideal S20000 .f32, broadcastInDim S20000 ![] bcast_S_S20000 (taken x (wrapped 20000#32 (fun _ => BitVec.ofNat 32 b.val : IVec S_ 32))) = fun _ => x (ValueIdx.ix1 b) :=
    fun x => funext (tk x)
  -- the carried index
  have c6 : V0 main_v48_6 = (fun _ => BitVec.ofNat 32 t : IVec S_ 32) := (k0 _ (by decide)).trans h6
  have n6 := r8.1
  rw [k7 _ (by decide), k6 _ (by decide), k5 _ (by decide), k4 _ (by decide), k3 _ (by decide), k2 _ (by decide), r1.1, c6] at n6
  -- the selection
  have n8 := r8.2.2
  rw [k7 _ (by decide), k6 _ (by decide), k5 _ (by decide), k4 _ (by decide), k3 _ (by decide), r2, q1, k1 _ (by decide), k1 _ (by decide), k1 _ (by decide), c6, k0 _ (by decide), k0 _ (by decide), h7, h8] at n8
  -- the scores
  have n7 := r8.2.1
  rw [r7, q6, r6, q5, r5] at n7
  rw [k6 main_v48_7 (by decide), k5 main_v48_7 (by decide), k4 main_v48_7 (by decide), k3 main_v48_7 (by decide), k2 main_v48_7 (by decide), k1 main_v48_7 (by decide), k0 main_v48_7 (by decide), h7] at n7
  rw [k5 main_v48_4 (by decide), k4 main_v48_4 (by decide), k3 main_v48_4 (by decide), k2 main_v48_4 (by decide), k1 main_v48_4 (by decide), k0 main_v48_4 (by decide), h4] at n7
  rw [r4.1, r4.2, k4 main_while0b_v95 (by decide), k4 main_while0b_v102 (by decide), r3.1, r3.2, q2, q3] at n7
  rw [k3 main_v48_2 (by decide), k2 main_v48_2 (by decide), k1 main_v48_2 (by decide), k0 main_v48_2 (by decide), h2] at n7
  rw [k3 main_v48_3 (by decide), k2 main_v48_3 (by decide), k1 main_v48_3 (by decide), k0 main_v48_3 (by decide), h3] at n7
  rw [k2 main_v48_0 (by decide), k1 main_v48_0 (by decide), k0 main_v48_0 (by decide), h0] at n7
  rw [k2 main_v48_1 (by decide), k1 main_v48_1 (by decide), k0 main_v48_1 (by decide), h1] at n7
  rw [tkf x0, tkf x1, tkf x2, tkf x3, tkf (mulf (subf x2 x0) (subf x3 x1))] at n7
  refine ⟨b, _, _, hbest, n6.trans ?_, n7, n8, fun e => ?_, fun i => ?_⟩
  · funext i
    show BitVec.ofNat 32 t + 1#32 = _
    rw [BitVec.ofNat_add]
  · refine (set_eq scatter_S2000_S1_S__n_0_0_0 rfl rfl sel _ _ ⟨t, ht⟩ (by show t < _; omega) (hw2 _) e).trans ?_
    by_cases he : e.val = t
    · rw [if_pos (Fin.ext he), if_pos he]
      show Scalar.select (BitVec.ofBool (decide (Ideal.ofBits .f32 0xFF800000#32 < taken s _ _))) _ _ = _
      rw [taken_eq s _ b hw, ninf]
      by_cases hlt : (⊥ : EReal) < s (ValueIdx.ix1 b)
      · rw [if_pos hlt, decide_eq_true hlt]; rfl
      · rw [if_neg hlt, decide_eq_false hlt]; rfl
    · rw [if_neg fun h => he (congrArg Fin.val h), if_neg he]
  · refine (set_eq scatter_S20000_S1_S__n_0_0_0 rfl rfl _ _ _ b (by omega) (hw _) i).trans ?_
    by_cases hib : i = b
    · rw [if_pos hib, if_pos (Or.inl hib)]
      exact ninf
    · rw [if_neg hib]
      refine (sel_ofBool _ _ _).trans ?_
      by_cases ho : Box.Over (boxAt x0 x1 x2 x3 i) (boxAt x0 x1 x2 x3 b)
      · rw [if_pos (Or.inr ho)]
        exact (if_pos ho).trans ninf
      · rw [if_neg (not_or.mpr ⟨hib, ho⟩)]
        exact if_neg ho

end Cert.ReferenceIdeal.Prf

end
-- ==== Proof.RI.Start.lean ====
/-
  The reference before its loop, read at a position: the clipped coordinates, the score of a valid box and minus infinity
  for any other, and an empty selection.
-/
module

public import proofs.«01_k».proof.Proof.RI.Step

@[expose] public section

set_option maxRecDepth 16384

noncomputable section

namespace Cert.ReferenceIdeal.Prf

open Cert.ReferenceIdeal Cert.ReferenceIdeal.Gen
open Idealize.ShloMosaic Idealize.ShloMosaic.ValueIdx Idealize.ShloMosaic.Ideal
open Idealize.ShloMosaic.Tactic
open Idealize.ShloMosaic.TcCoe

/-- A column taken out of a matrix, as a vector. -/
theorem column {n : ℕ} (x : (⟨2, ![20000, n]⟩ : Shape).Idx → EReal) (k : ℕ) (hk : k < n) (hs : (⟨2, ![20000, n]⟩ : Shape).Slices ![0, k] S20000x1)
    (hc : S20000x1.ShapeCasts S20000) (i : Fin 20000) :
    shapeCast S20000 (extractStridedSlice S20000x1 ![0, k] x hs) hc (ValueIdx.ix1 i) = x (ValueIdx.ix2 i ⟨k, hk⟩) := by
  rw [shapeCast_apply _ hc (ValueIdx.ix1 i) (ValueIdx.ix2 i (0 : Fin 1)) (by
    rw [Shape.rowMajor_val_two, Shape.rowMajor_val_one]; show i.val * 1 + 0 = i.val; omega)]
  refine extractStridedSlice_apply _ _ _ _ _ fun a => ?_
  match a with
  | ⟨0, _⟩ => show i.val = 0 + i.val; omega
  | ⟨1, _⟩ => show k = k + 0; rfl

/-- Every other column from column `o` on, clipped. -/
def half (o : ℕ) (h : S20000x4.SlicesBy (![0, o] : Fin 2 → Nat) ![1, 2] S20000x2) (A : FVec Ideal S20000x4 .f32) : FVec Ideal S20000x2 .f32 :=
  minimumf (broadcastInDim S20000x2 ![] bcast_S_S20000x2 (constant (F := Ideal) S_ .f32 0x43FA0000#32))
    (maximumf (broadcastInDim S20000x2 ![] bcast_S_S20000x2 (constant (F := Ideal) S_ .f32 0x00000000#32)) (Host.slice S20000x2 ![0, o] ![1, 2] A h))

theorem half_eq (o : ℕ) (h : S20000x4.SlicesBy (![0, o] : Fin 2 → Nat) ![1, 2] S20000x2) (A : FVec Ideal S20000x4 .f32) (i : Fin 20000) (k : Fin 2) (q : Fin 4) (hq : q.val = o + 2 * k.val) :
    half o h A (ValueIdx.ix2 i k) = Box.clip (A (ValueIdx.ix2 i q)) := by
  show min _ (max _ (Host.slice S20000x2 ![0, o] ![1, 2] A h (ValueIdx.ix2 i k))) = _
  rw [Host.slice_apply]
  refine congrArg (fun z => min _ (max _ (A z))) (funext fun a => Fin.ext ?_)
  match a with
  | ⟨0, _⟩ => show 0 + 1 * i.val = i.val; omega
  | ⟨1, _⟩ => show o + 2 * k.val = q.val; omega

/-- Four vectors, each as a matrix of one column. -/
abbrev pieces (u : Fin 4 → FVec Ideal S20000 .f32) : List ((s : Shape) × (s.Idx → EReal)) :=
  [⟨S20000x1, broadcastInDim S20000x1 ![0] bcast_S20000_S20000x1_0 (u 0)⟩, ⟨S20000x1, broadcastInDim S20000x1 ![0] bcast_S20000_S20000x1_0 (u 1)⟩,
    ⟨S20000x1, broadcastInDim S20000x1 ![0] bcast_S20000_S20000x1_0 (u 2)⟩, ⟨S20000x1, broadcastInDim S20000x1 ![0] bcast_S20000_S20000x1_0 (u 3)⟩]

/-- Four vectors as the columns of a matrix. -/
def four (u : Fin 4 → FVec Ideal S20000 .f32) : FVec Ideal S20000x4 .f32 :=
  concatenate S20000x4 1 (pieces u) concatenates_S20000x1_S20000x1_S20000x1_S20000x1_S20000x4_d1

theorem four_eq (u : Fin 4 → FVec Ideal S20000 .f32) (i : Fin 20000) (k : Fin 4) : four u (ValueIdx.ix2 i k) = u k (ValueIdx.ix1 i) := by
  have hb : ∀ x : FVec Ideal S20000 .f32, broadcastInDim S20000x1 ![0] bcast_S20000_S20000x1_0 x (ValueIdx.ix2 i (0 : Fin 1)) = x (ValueIdx.ix1 i) := fun x => by
    refine broadcastInDim_apply _ _ _ _ _ fun a => ?_
    match a with
    | ⟨0, _⟩ => rfl
  have hi : ∀ b : Fin S20000x1.rank, b.cast (rfl : S20000x1.rank = S20000x4.rank) ≠ 1 → ((ValueIdx.ix2 i (0 : Fin 1) : S20000x1.Idx) b).val = ((ValueIdx.ix2 i k : S20000x4.Idx) (b.cast rfl)).val := fun b hb => by
    match b with
    | ⟨0, _⟩ => rfl
    | ⟨1, _⟩ => exact absurd rfl hb
  match k with
  | ⟨0, _⟩ => exact Eq.trans (concatenate_apply_piece (t := S20000x4) 1 (pieces u) concatenates_S20000x1_S20000x1_S20000x1_S20000x1_S20000x4_d1 _ 0 (by show 0 < 4; omega) S20000x1 _ rfl rfl 0 rfl (ValueIdx.ix2 i (0 : Fin 1)) hi rfl) (hb _)
  | ⟨1, _⟩ => exact Eq.trans (concatenate_apply_piece (t := S20000x4) 1 (pieces u) concatenates_S20000x1_S20000x1_S20000x1_S20000x1_S20000x4_d1 _ 1 (by show 1 < 4; omega) S20000x1 _ rfl rfl 1 rfl (ValueIdx.ix2 i (0 : Fin 1)) hi rfl) (hb _)
  | ⟨2, _⟩ => exact Eq.trans (concatenate_apply_piece (t := S20000x4) 1 (pieces u) concatenates_S20000x1_S20000x1_S20000x1_S20000x1_S20000x4_d1 _ 2 (by show 2 < 4; omega) S20000x1 _ rfl rfl 2 rfl (ValueIdx.ix2 i (0 : Fin 1)) hi rfl) (hb _)
  | ⟨3, _⟩ => exact Eq.trans (concatenate_apply_piece (t := S20000x4) 1 (pieces u) concatenates_S20000x1_S20000x1_S20000x1_S20000x1_S20000x4_d1 _ 3 (by show 3 < 4; omega) S20000x1 _ rfl rfl 3 rfl (ValueIdx.ix2 i (0 : Fin 1)) hi rfl) (hb _)

variable (V : Valuation τ sig (Elt Ideal))

/-- The four coordinates, clipped. -/
theorem pre0_value (A : FVec Ideal S20000x4 .f32) (hA : V main_arg0 = A) :
    ∃ x : FVec Ideal S20000x4 .f32, StableHlo.after pre0 V main_v16 = x ∧ ∀ (i : Fin 20000) (k : Fin 4), x (ValueIdx.ix2 i k) = Box.clip (A (ValueIdx.ix2 i k)) := by
  have e : StableHlo.after pre0 V main_v16
      = four ![shapeCast S20000 (extractStridedSlice S20000x1 ![0, 0] (half 0 slicesBy_S20000x4_S20000x2_0s1_0s2 (V main_arg0)) slices_S20000x2_S20000x1_0_0) shapeCasts_S20000x1_S20000,
        shapeCast S20000 (extractStridedSlice S20000x1 ![0, 0] (half 1 slicesBy_S20000x4_S20000x2_0s1_1s2 (V main_arg0)) slices_S20000x2_S20000x1_0_0) shapeCasts_S20000x1_S20000,
        shapeCast S20000 (extractStridedSlice S20000x1 ![0, 1] (half 0 slicesBy_S20000x4_S20000x2_0s1_0s2 (V main_arg0)) slices_S20000x2_S20000x1_0_1) shapeCasts_S20000x1_S20000,
        shapeCast S20000 (extractStridedSlice S20000x1 ![0, 1] (half 1 slicesBy_S20000x4_S20000x2_0s1_1s2 (V main_arg0)) slices_S20000x2_S20000x1_0_1) shapeCasts_S20000x1_S20000] := by
    unfold pre0
    after_results
    rfl
  refine ⟨_, e, fun i k => ?_⟩
  rw [hA, four_eq]
  match k with
  | ⟨0, _⟩ => exact (column _ 0 (by omega) slices_S20000x2_S20000x1_0_0 _ i).trans (half_eq 0 _ A i 0 0 rfl)
  | ⟨1, _⟩ => exact (column _ 0 (by omega) slices_S20000x2_S20000x1_0_0 _ i).trans (half_eq 1 _ A i 0 1 rfl)
  | ⟨2, _⟩ => exact (column _ 1 (by omega) slices_S20000x2_S20000x1_0_1 _ i).trans (half_eq 0 _ A i 1 2 rfl)
  | ⟨3, _⟩ => exact (column _ 1 (by omega) slices_S20000x2_S20000x1_0_1 _ i).trans (half_eq 1 _ A i 1 3 rfl)

/-- Column `k` of the matrix. -/
def colOf (x : FVec Ideal S20000x4 .f32) : Fin 4 → FVec Ideal S20000 .f32
  | 0 => shapeCast S20000 (extractStridedSlice S20000x1 ![0, 0] x slices_S20000x4_S20000x1_0_0) shapeCasts_S20000x1_S20000
  | 1 => shapeCast S20000 (extractStridedSlice S20000x1 ![0, 1] x slices_S20000x4_S20000x1_0_1) shapeCasts_S20000x1_S20000
  | 2 => shapeCast S20000 (extractStridedSlice S20000x1 ![0, 2] x slices_S20000x4_S20000x1_0_2) shapeCasts_S20000x1_S20000
  | 3 => shapeCast S20000 (extractStridedSlice S20000x1 ![0, 3] x slices_S20000x4_S20000x1_0_3) shapeCasts_S20000x1_S20000

theorem colOf_eq (x : FVec Ideal S20000x4 .f32) (k : Fin 4) (i : Fin 20000) : colOf x k (ValueIdx.ix1 i) = x (ValueIdx.ix2 i k) := by
  match k with
  | ⟨0, _⟩ => exact column x 0 (by omega) _ _ i
  | ⟨1, _⟩ => exact column x 1 (by omega) _ _ i
  | ⟨2, _⟩ => exact column x 2 (by omega) _ _ i
  | ⟨3, _⟩ => exact column x 3 (by omega) _ _ i

/-- The scores the loop starts with. -/
theorem pre1_value (x : FVec Ideal S20000x4 .f32) (B : FVec Ideal S20000 .f32) (hx : V main_v16 = x) (hB : V main_arg1 = B) :
    ∃ s : FVec Ideal S20000 .f32, StableHlo.after pre1 V main_v35 = s
      ∧ ∀ i : Fin 20000, s (ValueIdx.ix1 i) = Box.work (x (ValueIdx.ix2 i 0)) (x (ValueIdx.ix2 i 1)) (x (ValueIdx.ix2 i 2)) (x (ValueIdx.ix2 i 3)) (B (ValueIdx.ix1 i)) := by
  have e : StableHlo.after pre1 V main_v35
      = select (andi (andi (cmpf .oge (subf (colOf (V main_v16) 2) (colOf (V main_v16) 0)) (broadcastInDim S20000 ![] bcast_S_S20000 (constant (F := Ideal) S_ .f32 0x41200000#32)))
          (cmpf .oge (subf (colOf (V main_v16) 3) (colOf (V main_v16) 1)) (broadcastInDim S20000 ![] bcast_S_S20000 (constant (F := Ideal) S_ .f32 0x41200000#32))))
          (cmpf .ogt (V main_arg1 : FVec Ideal S20000 .f32) (broadcastInDim S20000 ![] bcast_S_S20000 (constant (F := Ideal) S_ .f32 0x3F000000#32))))
        (V main_arg1 : FVec Ideal S20000 .f32) (broadcastInDim S20000 ![] bcast_S_S20000 (constant (F := Ideal) S_ .f32 0xFF800000#32)) := by
    unfold pre1
    after_results
    rfl
  refine ⟨_, e, fun i => ?_⟩
  rw [hx, hB]
  show Scalar.select (IntOp.andi (IntOp.andi (BitVec.ofBool (decide (Ideal.ofBits .f32 0x41200000#32 ≤ colOf x 2 (ValueIdx.ix1 i) - colOf x 0 (ValueIdx.ix1 i))))
    (BitVec.ofBool (decide (Ideal.ofBits .f32 0x41200000#32 ≤ colOf x 3 (ValueIdx.ix1 i) - colOf x 1 (ValueIdx.ix1 i))))) (BitVec.ofBool (decide (Ideal.ofBits .f32 0x3F000000#32 < B (ValueIdx.ix1 i))))) (B (ValueIdx.ix1 i)) (Ideal.ofBits .f32 0xFF800000#32) = _
  rw [colOf_eq, colOf_eq, colOf_eq, colOf_eq, ninf]
  unfold Box.work Box.Ok
  by_cases h1 : Ideal.ofBits .f32 0x41200000#32 ≤ x (ValueIdx.ix2 i 2) - x (ValueIdx.ix2 i 0) <;>
  by_cases h2 : Ideal.ofBits .f32 0x41200000#32 ≤ x (ValueIdx.ix2 i 3) - x (ValueIdx.ix2 i 1) <;>
  by_cases h3 : Ideal.ofBits .f32 0x3F000000#32 < B (ValueIdx.ix1 i) <;>
  simp only [h1, h2, h3, decide_true, decide_false, and_true, true_and, and_false, false_and, if_true, if_false] <;> rfl

/-- The contents the loop starts with. -/
theorem pre_value (A : FVec Ideal S20000x4 .f32) (B : FVec Ideal S20000 .f32) (hA : V main_arg0 = A) (hB : V main_arg1 = B) :
    ∃ (x : FVec Ideal S20000x4 .f32) (s : FVec Ideal S20000 .f32), StableHlo.afterL preI V main_v16 = x
      ∧ (∀ (i : Fin 20000) (k : Fin 4), x (ValueIdx.ix2 i k) = Box.clip (A (ValueIdx.ix2 i k)))
      ∧ StableHlo.afterL preI V main_v48_0 = colOf x 0 ∧ StableHlo.afterL preI V main_v48_1 = colOf x 1
      ∧ StableHlo.afterL preI V main_v48_2 = colOf x 2 ∧ StableHlo.afterL preI V main_v48_3 = colOf x 3
      ∧ StableHlo.afterL preI V main_v48_4 = mulf (subf (colOf x 2) (colOf x 0)) (subf (colOf x 3) (colOf x 1))
      ∧ StableHlo.afterL preI V main_v48_6 = (fun _ => BitVec.ofNat 32 0 : IVec S_ 32)
      ∧ StableHlo.afterL preI V main_v48_7 = s
      ∧ StableHlo.afterL preI V main_v48_8 = (fun _ => 4294967295#32 : IVec S2000 32)
      ∧ ∀ i : Fin 20000, s (ValueIdx.ix1 i) = Box.work (x (ValueIdx.ix2 i 0)) (x (ValueIdx.ix2 i 1)) (x (ValueIdx.ix2 i 2)) (x (ValueIdx.ix2 i 3)) (B (ValueIdx.ix1 i)) := by
  simp only [StableHlo.afterL_cons, StableHlo.afterL_nil]
  obtain ⟨x, e1, hx⟩ := pre0_value V A hA
  obtain ⟨V1, d1⟩ : ∃ W, W = StableHlo.after pre0 V := ⟨_, rfl⟩
  rw [← d1] at e1
  have hB1 : V1 main_arg1 = B := by rw [d1, pre0_keep _ _ (by decide), hB]
  obtain ⟨s, e2, hs⟩ := pre1_value V1 x B e1 hB1
  obtain ⟨V2, d2⟩ : ∃ W, W = StableHlo.after pre1 V1 := ⟨_, rfl⟩
  rw [← d2] at e2
  have e3 : V2 main_v16 = x := by rw [d2, pre1_keep _ _ (by decide), e1]
  obtain ⟨V3, d3⟩ : ∃ W, W = StableHlo.after pre2 V2 := ⟨_, rfl⟩
  rw [← d1, ← d2, ← d3]
  have p7 : V3 main_v35 = s := by rw [d3, pre2_keep _ _ (by decide), e2]
  have p16 : V3 main_v16 = x := by rw [d3, pre2_keep _ _ (by decide), e3]
  have p0 : V3 main_v37 = colOf (V2 main_v16) 0 := by rw [d3]; unfold pre2; after_results; rfl
  have p1 : V3 main_v39 = colOf (V2 main_v16) 1 := by rw [d3]; unfold pre2; after_results; rfl
  have p2 : V3 main_v41 = colOf (V2 main_v16) 2 := by rw [d3]; unfold pre2; after_results; rfl
  have p3 : V3 main_v43 = colOf (V2 main_v16) 3 := by rw [d3]; unfold pre2; after_results; rfl
  have p4 : V3 main_v46 = mulf (subf (colOf (V2 main_v16) 2) (colOf (V2 main_v16) 0)) (subf (colOf (V2 main_v16) 3) (colOf (V2 main_v16) 1)) := by
    rw [d3]; unfold pre2; after_results; rfl
  have p6 : V3 main_c_7 = (fun _ => BitVec.ofNat 32 0 : IVec S_ 32) := by rw [d3]; unfold pre2; after_results; rfl
  have p8 : V3 main_v47 = (fun _ => 4294967295#32 : IVec S2000 32) := by rw [d3]; unfold pre2; after_results; rfl
  rw [e3] at p0 p1 p2 p3 p4
  clear d1 d2 d3
  refine ⟨x, s, (pre3_keep _ _ (by decide)).trans p16, hx, Eq.trans ?_ p0, Eq.trans ?_ p1, Eq.trans ?_ p2, Eq.trans ?_ p3, Eq.trans ?_ p4, Eq.trans ?_ p6, Eq.trans ?_ p7, Eq.trans ?_ p8, hs⟩ <;>
    (unfold pre3; after_results; rfl)

end Cert.ReferenceIdeal.Prf

end
-- ==== Proof.RI.Frame.lean ====
/-
  The frame of the reference: it runs, its arguments are as they were, every counter is zero.
-/
module

public import proofs.«01_k».proof.Proof.RI.Run
public import Idealize.ShloMosaic.Lib.Quiescent

@[expose] public section

set_option maxRecDepth 16384

noncomputable section

namespace Cert.ReferenceIdeal.Prf

open Cert.ReferenceIdeal Cert.ReferenceIdeal.Gen
open Idealize.ShloMosaic Idealize.SL.Sem
open Idealize.ShloMosaic.TcCoe

/-- What the reference ends with: its result at the contents that its stretches leave, its arguments as they were. -/
theorem run_value {F : FTy → Type} [FloatOps F] [∀ e, Nonempty (Elt F e)] (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v73) = Wend m c main_v73
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨h c main_v73 rfl, (h c main_arg0 rfl).trans (Wend_arg m c).1, (h c main_arg1 rfl).trans (Wend_arg m c).2⟩) (run_main m g)

/-- The frame of the reference. -/
theorem frame : Cert.quiescent_ReferenceIdeal (hReferenceIdeal := Gen.facts) := fun m g _ =>
  (θ_run _ _ _).mono (fun r h => ⟨fun c => (h c).2, sem_eq_zero_of_no_sems rfl r.2⟩) (run_value (F := Ideal) m g)

end Cert.ReferenceIdeal.Prf

end
-- ==== Proof.RI.Value.lean ====
/-
  What the reference computes, in terms of the order of its scores: row `e` of its result is the kept position of rank `e`,
  its clipped coordinates and its score, and zeros when there is no such position.
-/
module

public import proofs.«01_k».proof.Proof.RI.Start
public import proofs.«01_k».proof.Proof.RI.Frame
public import proofs.«01_k».proof.Proof.V.Select
public import Idealize.ShloMosaic.Lib.Routing.OpsSet

@[expose] public section

set_option maxRecDepth 16384

noncomputable section

namespace Cert.ReferenceIdeal.Prf

open Cert.ReferenceIdeal Cert.ReferenceIdeal.Gen
open Idealize.ShloMosaic Idealize.ShloMosaic.ValueIdx Idealize.ShloMosaic.Ideal
open Idealize.ShloMosaic.Tactic
open Idealize.ShloMosaic.TcCoe
open Cert.Greedy Cert.Select

/-! ## The loop -/

/-- A vector read by a natural number. -/
def nat1 {n : ℕ} {α : Type} (z : α) (x : (⟨1, ![n]⟩ : Shape).Idx → α) (i : ℕ) : α := if h : i < n then x (ValueIdx.ix1 ⟨i, h⟩) else z

theorem nat1_val {n : ℕ} {α : Type} (z : α) (x : (⟨1, ![n]⟩ : Shape).Idx → α) (i : Fin n) : nat1 z x i.val = x (ValueIdx.ix1 i) := dif_pos i.isLt

variable (m : (ℓ : Loc nD τ sig) → Buf (Elt Ideal) ℓ) (c : Dev nD)

set_option maxHeartbeats 1000000 in
/-- The selection and the scores after `t` trips. -/
theorem loop_value {x : FVec Ideal S20000x4 .f32} {s : FVec Ideal S20000 .f32}
    (h0 : Wk m 0 c main_v48_0 = colOf x 0) (h1 : Wk m 0 c main_v48_1 = colOf x 1)
    (h2 : Wk m 0 c main_v48_2 = colOf x 2) (h3 : Wk m 0 c main_v48_3 = colOf x 3)
    (h4 : Wk m 0 c main_v48_4 = mulf (subf (colOf x 2) (colOf x 0)) (subf (colOf x 3) (colOf x 1)))
    (h6 : Wk m 0 c main_v48_6 = (fun _ => BitVec.ofNat 32 0 : IVec S_ 32)) (h7 : Wk m 0 c main_v48_7 = s)
    (h8 : Wk m 0 c main_v48_8 = (fun _ => 4294967295#32 : IVec S2000 32))
    {w : ℕ → EReal} {π : ℕ → ℕ} {box : ℕ → Fin 4 → EReal} (ho : Ordered 20000 20480 w π)
    (hw : ∀ i : Fin 20000, s (ValueIdx.ix1 i) = w i.val) (hbox : ∀ (i : Fin 20000) (k : Fin 4), x (ValueIdx.ix2 i k) = box i.val k) (t : ℕ) (ht : t ≤ 2000) :
    ∃ (s' : FVec Ideal S20000 .f32) (sel : IVec S2000 32), Wk m t c main_v48_6 = (fun _ => BitVec.ofNat 32 t : IVec S_ 32)
      ∧ Wk m t c main_v48_7 = s' ∧ Wk m t c main_v48_8 = sel
      ∧ Inv 20000 20480 w π box t (nat1 (⊥ : EReal) s') (nat1 0#32 sel) := by
  induction t with
  | zero =>
    refine ⟨s, _, h6, h7, h8, Inv.zero box _ (fun i hi => ?_) _⟩
    exact (nat1_val _ s ⟨i, hi⟩).trans (hw ⟨i, hi⟩)
  | succ t ih =>
    obtain ⟨s1, sel1, e6, e7, e8, hI⟩ := ih (by omega)
    obtain ⟨b, s2, sel2, hb, f6, f7, f8, hsel, hs⟩ := trip_value (Wk m t c) t (by omega) (colOf x 0) (colOf x 1) (colOf x 2) (colOf x 3) s1 sel1
      ((Wk_keep m c _ (by decide) t).trans h0) ((Wk_keep m c _ (by decide) t).trans h1) ((Wk_keep m c _ (by decide) t).trans h2) ((Wk_keep m c _ (by decide) t).trans h3)
      ((Wk_keep m c _ (by decide) t).trans h4) e6 e7 e8
    refine ⟨s2, sel2, f6, f7, f8, Inv.succ box ho hI (b := b.val) ?_ (fun i hi => ?_) fun e he => ?_⟩
    · refine ⟨b.isLt, ?_⟩
      rcases hb with ⟨_, hall⟩ | ⟨g1, g2, g3⟩
      · exact Or.inl fun i hi => (nat1_val _ s1 ⟨i, hi⟩).trans (hall _)
      · refine Or.inr ⟨?_, fun i hi => ?_, fun i hi => ?_⟩
        · rw [nat1_val]; exact g1
        · rw [nat1_val]; exact (nat1_val _ s1 ⟨i, hi⟩).trans_le (g2 ⟨i, hi⟩)
        · rw [nat1_val]; exact (nat1_val _ s1 ⟨i, hi.trans b.isLt⟩).trans_lt (g3 ⟨i, hi.trans b.isLt⟩ hi)
    · have hbx : ∀ i : Fin 20000, boxAt (colOf x 0) (colOf x 1) (colOf x 2) (colOf x 3) i = box i.val := fun i => funext fun k => by
        match k with
        | ⟨0, _⟩ => exact (colOf_eq x 0 i).trans (hbox i 0)
        | ⟨1, _⟩ => exact (colOf_eq x 1 i).trans (hbox i 1)
        | ⟨2, _⟩ => exact (colOf_eq x 2 i).trans (hbox i 2)
        | ⟨3, _⟩ => exact (colOf_eq x 3 i).trans (hbox i 3)
      have := hs ⟨i, hi⟩
      rw [hbx, hbx] at this
      rw [show nat1 (⊥ : EReal) s2 i = s2 (ValueIdx.ix1 ⟨i, hi⟩) from nat1_val _ s2 ⟨i, hi⟩, show nat1 (⊥ : EReal) s1 i = s1 (ValueIdx.ix1 ⟨i, hi⟩) from nat1_val _ s1 ⟨i, hi⟩, this]
      by_cases hh : i = b.val ∨ Box.Over (box i) (box b.val)
      · rw [if_pos hh, if_pos (hh.imp_left fun h => Fin.ext h)]
      · rw [if_neg hh, if_neg fun h => hh (h.imp_left (congrArg Fin.val))]
    · have hel : e < 2000 := by omega
      rw [show nat1 0#32 sel2 e = sel2 (ValueIdx.ix1 ⟨e, hel⟩) from nat1_val _ sel2 ⟨e, hel⟩, show nat1 0#32 sel1 e = sel1 (ValueIdx.ix1 ⟨e, hel⟩) from nat1_val _ sel1 ⟨e, hel⟩, hsel, nat1_val]

/-! ## After the loop -/

/-- The selection with the empty places read as zero. -/
def from0 (sel : IVec S2000 32) : IVec S2000 32 := maxsi sel (broadcastInDim S2000 ![] bcast_S_S2000 (constantI S_ 32 0#32))
/-- One for a place that holds a position, zero for an empty one. -/
def full (sel : IVec S2000 32) : FVec Ideal S2000 .f32 := uitofp .f32 (cmpi .sge sel (broadcastInDim S2000 ![] bcast_S_S2000 (constantI S_ 32 0#32)))
/-- A negative position wrapped round. -/
def around (v : IVec S2000 32) : IVec S2000 32 :=
  select (cmpi .slt v (broadcastInDim S2000 ![] bcast_S_S2000 (constantI S_ 32 0#32))) (addi v (broadcastInDim S2000 ![] bcast_S_S2000 (constantI S_ 32 20000#32))) v

theorem around_eq (v : IVec S2000 32) (e : Fin 2000) (b : Fin 20000) (h : v (ValueIdx.ix1 e) = BitVec.ofNat 32 b.val) :
    broadcastInDim S2000x1 ![0] bcast_S2000_S2000x1_0 (around v) (ValueIdx.ix2 e (0 : Fin 1)) = BitVec.ofNat 32 b.val := by
  have hb := b.isLt
  rw [broadcastInDim_apply _ _ _ (ValueIdx.ix2 e (0 : Fin 1)) (ValueIdx.ix1 e) fun a => by match a with | ⟨0, _⟩ => rfl]
  exact wrapped_eq 20000#32 (fun _ => v (ValueIdx.ix1 e)) b.val (by omega) (fun _ => h) ValueIdx.ix0

/-- The rows of the result. -/
def rows (x : FVec Ideal S20000x4 .f32) (B : FVec Ideal S20000 .f32) (sel : IVec S2000 32) : FVec Ideal S2000x5 .f32 :=
  concatenate S2000x5 1 [⟨S2000x4, mulf (Host.gather gather_S20000x4_S2000x1_S2000x4_1_0_n_n_0_1_14 x (broadcastInDim S2000x1 ![0] bcast_S2000_S2000x1_0 (around (from0 sel))))
      (broadcastInDim S2000x4 ![0, 1] bcast_S2000x1_S2000x4_0_1 (broadcastInDim S2000x1 ![0] bcast_S2000_S2000x1_0 (full sel)))⟩,
    ⟨S2000x1, broadcastInDim S2000x1 ![0] bcast_S2000_S2000x1_0 (mulf (Host.gather gather_S20000_S2000x1_S2000_n_0_n_n_0_1_1 B (broadcastInDim S2000x1 ![0] bcast_S2000_S2000x1_0 (around (from0 sel)))) (full sel))⟩]
    concatenates_S2000x4_S2000x1_S2000x5_d1

theorem post_raw (V : Valuation τ sig (Elt Ideal)) : StableHlo.afterL postI V main_v73
    = rows (V main_v16) (V main_arg1) (V main_v48_8) := by
  simp only [StableHlo.afterL_cons, StableHlo.afterL_nil]
  obtain ⟨V1, e1⟩ : ∃ W, W = StableHlo.after post0 V := ⟨_, rfl⟩
  obtain ⟨V2, e2⟩ : ∃ W, W = StableHlo.after post1 V1 := ⟨_, rfl⟩
  rw [← e1, ← e2]
  have a53 : V1 main_v53 = from0 (V main_v48_8) := by rw [e1]; unfold post0; after_results; rfl
  have a51 : V1 main_v51 = full (V main_v48_8) := by rw [e1]; unfold post0; after_results; rfl
  have a58 : V1 main_v58 = around (from0 (V main_v48_8)) := by rw [e1]; unfold post0; after_results; rfl
  have a16 : V1 main_v16 = V main_v16 := by rw [e1, post0_keep _ _ (by decide)]
  have aB : V1 main_arg1 = V main_arg1 := by rw [e1, post0_keep _ _ (by decide)]
  have b63 : V2 main_v63 = mulf (F := Ideal) (φ := .f32) (Host.gather gather_S20000x4_S2000x1_S2000x4_1_0_n_n_0_1_14 (V1 main_v16) (broadcastInDim S2000x1 ![0] bcast_S2000_S2000x1_0 (V1 main_v58)))
      (broadcastInDim S2000x4 ![0, 1] bcast_S2000x1_S2000x4_0_1 (broadcastInDim S2000x1 ![0] bcast_S2000_S2000x1_0 (V1 main_v51 : FVec Ideal S2000 .f32))) := by rw [e2]; unfold post1; after_results
  have b68 : V2 main_v68 = around (V1 main_v53) := by rw [e2]; unfold post1; after_results; rfl
  have b51 : V2 main_v51 = V1 main_v51 := by rw [e2, post1_keep _ _ (by decide)]
  have bB : V2 main_arg1 = V1 main_arg1 := by rw [e2, post1_keep _ _ (by decide)]
  have c73 : StableHlo.after post2 V2 main_v73 = concatenate S2000x5 1 [⟨S2000x4, V2 main_v63⟩, ⟨S2000x1, broadcastInDim S2000x1 ![0] bcast_S2000_S2000x1_0
      (mulf (F := Ideal) (φ := .f32) (Host.gather gather_S20000_S2000x1_S2000_n_0_n_n_0_1_1 (V2 main_arg1) (broadcastInDim S2000x1 ![0] bcast_S2000_S2000x1_0 (V2 main_v68))) (V2 main_v51))⟩]
      concatenates_S2000x4_S2000x1_S2000x5_d1 := by unfold post2; after_results
  rw [c73, b63, b68, b51, bB, a53, a51, a58, a16, aB]
  rfl

/-- A row whose place names position `b`, weighted by `g`. -/
theorem rows_eq (x : FVec Ideal S20000x4 .f32) (B : FVec Ideal S20000 .f32) (sel : IVec S2000 32) (e : Fin 2000) (b : Fin 20000) (g : EReal)
    (hb : from0 sel (ValueIdx.ix1 e) = BitVec.ofNat 32 b.val) (hg : full sel (ValueIdx.ix1 e) = g) :
    (∀ k : Fin 4, rows x B sel (ValueIdx.ix2 e k.castSucc) = (x (ValueIdx.ix2 b k) * g : EReal)) ∧ rows x B sel (ValueIdx.ix2 e 4) = (B (ValueIdx.ix1 b) * g : EReal) := by
  have h1 : broadcastInDim S2000x1 ![0] bcast_S2000_S2000x1_0 (full sel) (ValueIdx.ix2 e (0 : Fin 1)) = full sel (ValueIdx.ix1 e) :=
    broadcastInDim_apply _ _ _ _ _ fun a => by match a with | ⟨0, _⟩ => rfl
  constructor
  · intro k
    unfold rows
    rw [concatenate_pair_apply_left (s₁ := S2000x4) (s₂ := S2000x1) (t := S2000x5) 1 _ _ concatenates_S2000x4_S2000x1_S2000x5_d1 (ValueIdx.ix2 e k.castSucc) rfl (ValueIdx.ix2 e k) fun a => by
      match a with
      | ⟨0, _⟩ => rfl
      | ⟨1, _⟩ => rfl]
    show (Host.gather _ x _ (ValueIdx.ix2 e k) * broadcastInDim S2000x4 ![0, 1] bcast_S2000x1_S2000x4_0_1 (broadcastInDim S2000x1 ![0] bcast_S2000_S2000x1_0 (full sel)) (ValueIdx.ix2 e k) : EReal) = _
    rw [Routing.gather_row gather_S20000x4_S2000x1_S2000x4_1_0_n_n_0_1_14 rfl rfl rfl rfl rfl x _ e k b (around_eq _ e b hb) (by norm_num),
      broadcastInDim_apply _ _ _ (ValueIdx.ix2 e k) (ValueIdx.ix2 e (0 : Fin 1)) fun a => by
        match a with
        | ⟨0, _⟩ => rfl
        | ⟨1, _⟩ => rfl, h1, hg]
  · unfold rows
    rw [concatenate_pair_apply_right (s₁ := S2000x4) (s₂ := S2000x1) (t := S2000x5) 1 _ _ concatenates_S2000x4_S2000x1_S2000x5_d1 (ValueIdx.ix2 e 4) rfl rfl (ValueIdx.ix2 e (0 : Fin 1)) (fun a ha => by
      match a with
      | ⟨0, _⟩ => rfl
      | ⟨1, _⟩ => exact absurd rfl ha) rfl,
      broadcastInDim_apply _ _ _ (ValueIdx.ix2 e (0 : Fin 1)) (ValueIdx.ix1 e) fun a => by match a with | ⟨0, _⟩ => rfl]
    show (Host.gather _ B _ (ValueIdx.ix1 e) * full sel (ValueIdx.ix1 e) : EReal) = _
    rw [Routing.gather_take1 gather_S20000_S2000x1_S2000_n_0_n_n_0_1_1 rfl rfl rfl rfl B _ e b (around_eq _ e b hb) (by norm_num), hg]

theorem full_of_nat (sel : IVec S2000 32) (e : Fin 2000) (b : Fin 20000) (h : sel (ValueIdx.ix1 e) = BitVec.ofNat 32 b.val) :
    from0 sel (ValueIdx.ix1 e) = BitVec.ofNat 32 b.val ∧ full sel (ValueIdx.ix1 e) = (1 : EReal) := by
  have hb := b.isLt
  have hi := StableHlo.Predicate.toInt_ofNat_small b.val (by omega)
  constructor
  · show IntOp.maxsi (sel (ValueIdx.ix1 e)) 0#32 = _
    rw [h]
    unfold IntOp.maxsi
    split
    · rfl
    · rename_i hn
      rw [BitVec.slt_iff_toInt_lt, hi] at hn
      have h0 : b.val = 0 := by simp at hn; omega
      rw [h0]
  · show FloatOps.uitofp (F := Ideal) .f32 (IntOp.cmpi .sge (sel (ValueIdx.ix1 e)) 0#32) = _
    rw [h]
    have : IntOp.cmpi .sge (BitVec.ofNat 32 b.val) 0#32 = 1#1 := by
      show BitVec.ofBool ((0#32).sle (BitVec.ofNat 32 b.val)) = _
      have : (0#32).sle (BitVec.ofNat 32 b.val) = true := by
        rw [BitVec.sle_iff_toInt_le, hi]; simp
      rw [this]; rfl
    rw [this]
    simp [FloatOps.uitofp]

theorem full_of_none (sel : IVec S2000 32) (e : Fin 2000) (h : sel (ValueIdx.ix1 e) = 4294967295#32) :
    from0 sel (ValueIdx.ix1 e) = BitVec.ofNat 32 (0 : Fin 20000).val ∧ full sel (ValueIdx.ix1 e) = (0 : EReal) := by
  constructor
  · show IntOp.maxsi (sel (ValueIdx.ix1 e)) 0#32 = _
    rw [h]
    decide
  · show FloatOps.uitofp (F := Ideal) .f32 (IntOp.cmpi .sge (sel (ValueIdx.ix1 e)) 0#32) = _
    rw [h, show IntOp.cmpi .sge 4294967295#32 0#32 = 0#1 by decide]
    simp [FloatOps.uitofp]

open Classical in
set_option maxHeartbeats 1000000 in
/-- The result, row by row. -/
theorem end_value (A : FVec Ideal S20000x4 .f32) (B : FVec Ideal S20000 .f32) (hA : m ((c.tc : Thread nD τ).loc main_arg0) = A) (hB : m ((c.tc : Thread nD τ).loc main_arg1) = B)
    {w s : ℕ → EReal} {π : ℕ → ℕ} {box : ℕ → Fin 4 → EReal} (ho : Ordered 20000 20480 w π)
    (hbox : ∀ (i : Fin 20000) (k : Fin 4), Box.clip (A (ValueIdx.ix2 i k)) = box i.val k) (hs : ∀ i : Fin 20000, B (ValueIdx.ix1 i) = s i.val)
    (hw : ∀ i < 20000, w i = Box.work (box i 0) (box i 1) (box i 2) (box i 3) (s i)) :
    ∃ R : FVec Ideal S2000x5 .f32, Wend m c main_v73 = R ∧ ∀ e : Fin 2000,
      (∀ p, Kept (Val 20480 w π) (Sup box π) p → Nat.count (Kept (Val 20480 w π) (Sup box π)) p = e.val →
        (∀ k : Fin 4, R (ValueIdx.ix2 e k.castSucc) = box (π p) k) ∧ R (ValueIdx.ix2 e 4) = s (π p))
      ∧ ((∀ p, Kept (Val 20480 w π) (Sup box π) p → Nat.count (Kept (Val 20480 w π) (Sup box π)) p ≠ e.val) → ∀ k : Fin 5, R (ValueIdx.ix2 e k) = (0 : EReal)) := by
  obtain ⟨x, s0, p16, hx, p0, p1, p2, p3, p4, p6, p7, p8, hs0⟩ := pre_value (fun b => m (c, b)) A B hA hB
  have hxb : ∀ (i : Fin 20000) (k : Fin 4), x (ValueIdx.ix2 i k) = box i.val k := fun i k => (hx i k).trans (hbox i k)
  obtain ⟨s', sel, _, _, e8, hI⟩ := loop_value m c (x := x) (s := s0) p0 p1 p2 p3 p4 p6 p7 p8 ho (fun i => by rw [hs0, hw _ i.isLt, hxb, hxb, hxb, hxb, hs]) hxb 2000 le_rfl
  have g8 : StableHlo.after condOps (Wk m 2000 c) main_v48_8 = sel := (cond_keep _ _ (by decide)).trans e8
  have g16 : StableHlo.after condOps (Wk m 2000 c) main_v16 = x := (cond_keep _ _ (by decide)).trans ((Wk_keep m c _ (by decide) 2000).trans p16)
  have gB : StableHlo.after condOps (Wk m 2000 c) main_arg1 = B := (cond_keep _ _ (by decide)).trans ((Wk_keep m c _ (by decide) 2000).trans ((pre_keep _ _ (by decide)).trans hB))
  refine ⟨rows x B sel, ?_, fun e => ⟨fun p hk hc => ?_, fun hn k => ?_⟩⟩
  · refine (post_raw (StableHlo.after condOps (Wk m 2000 c))).trans ?_
    rw [g8, g16, gB]
  · have hv : Val 20480 w π p := ((kept_iff p).mp hk).1
    have hlt : π p < 20000 := by
      by_contra hge
      exact hv.2 (ho.pad _ (Nat.le_of_not_lt hge))
    have h1 : sel (ValueIdx.ix1 e) = BitVec.ofNat 32 (⟨π p, hlt⟩ : Fin 20000).val := (nat1_val 0#32 sel e).symm.trans (hI.taken e.val e.isLt p hk hc)
    obtain ⟨f1, f2⟩ := full_of_nat sel e ⟨π p, hlt⟩ h1
    obtain ⟨r1, r2⟩ := rows_eq x B sel e ⟨π p, hlt⟩ 1 f1 f2
    exact ⟨fun k => by rw [r1 k, mul_one]; exact hxb _ k, by rw [r2, mul_one]; exact hs _⟩
  · have h1 : sel (ValueIdx.ix1 e) = 4294967295#32 := (nat1_val 0#32 sel e).symm.trans (hI.none e.val e.isLt hn)
    obtain ⟨f1, f2⟩ := full_of_none sel e h1
    obtain ⟨r1, r2⟩ := rows_eq x B sel e 0 0 f1 f2
    refine Fin.lastCases ?_ (fun k => ?_) k
    · exact r2.trans (mul_zero _)
    · exact (r1 k).trans (mul_zero _)

end Cert.ReferenceIdeal.Prf

end
-- ==== Proof.lean ====
/- The certificate's proof: every claim of `Cert.Claim` from the run theorems of the three programs. -/
module

public import proofs.«01_k».proof.Defs
public import proofs.«01_k».proof.Proof.P.Main
public import proofs.«01_k».proof.Proof.PI.Value
public import proofs.«01_k».proof.Proof.RI.Value

@[expose] public section

noncomputable section

namespace Cert.Proof

open Idealize.ShloMosaic Idealize.SL.Sem
open Idealize.ShloMosaic.TcCoe

/-- The kernel runs, leaves its arguments as they were, and every counter ends at zero. -/
theorem frameP : Cert.quiescent_Kernel (hKernel := Cert.Kernel.Gen.facts) := fun m ρ _ =>
  (θ_run _ _ _).mono (fun _ h => ⟨fun c => ⟨(h.1 c).1, (h.1 c).2.1⟩, h.2⟩) (Cert.Kernel.Prf.run_main (F := Bits) m ρ)

/-- The same of the idealized kernel. -/
theorem framePI : Cert.quiescent_KernelIdeal (hKernelIdeal := Cert.KernelIdeal.Gen.facts) := fun m ρ _ =>
  (θ_run _ _ _).mono (fun _ h => ⟨fun c => ⟨(h.1 c).1, (h.1 c).2.1⟩, h.2⟩) (Cert.KernelIdeal.Prf.run_main (F := Ideal) m ρ)

/-! ## Both programs compute the same rows -/

section Rows

open Cert.Greedy Cert.Select Cert.KernelIdeal.Prf

variable (A : FVec Ideal Cert.KernelIdeal.S20000x4 .f32) (B : FVec Ideal Cert.KernelIdeal.S20000 .f32)

open Classical in
/-- The packed columns of the kernel, stacked, are what the reference's loop ends with. -/
theorem rows_eq (m' : (ℓ : Loc Cert.ReferenceIdeal.nD Cert.ReferenceIdeal.τ Cert.ReferenceIdeal.sig) → Buf (Elt Ideal) ℓ) (c : Dev Cert.ReferenceIdeal.nD)
    (hA : m' ((c.tc : Thread Cert.ReferenceIdeal.nD Cert.ReferenceIdeal.τ).loc Cert.ReferenceIdeal.main_arg0) = A)
    (hB : m' ((c.tc : Thread Cert.ReferenceIdeal.nD Cert.ReferenceIdeal.τ).loc Cert.ReferenceIdeal.main_arg1) = B)
    (u : Fin 5 → FVec Ideal Cert.KernelIdeal.S2048 .f32) (hu : Result (F := Ideal) (compOf A B) (endOf A B) u) :
    Cert.ReferenceIdeal.Prf.Wend m' c (Cert.ReferenceIdeal.main_v73 : Ref Cert.ReferenceIdeal.sig .tc) = stacked (F := Ideal) u := by
  have hc : ∀ (i : Fin 20000) (k : Fin 4), crd A i.val k = A (ValueIdx.ix2 i k) := fun i k => dif_pos i.isLt
  have hs : ∀ i : Fin 20000, scr B i.val = B (ValueIdx.ix1 i) := fun i => dif_pos i.isLt
  obtain ⟨R, hR, h⟩ := Cert.ReferenceIdeal.Prf.end_value m' c A B hA hB (ordered A B) (box := box A) (s := scr B)
    (fun i k => congrArg Box.clip (hc i k).symm) (fun i => (hs i).symm) (fun _ _ => rfl)
  refine hR.trans (funext fun j => ?_)
  rw [ValueIdx.eq_ix2 j]
  obtain ⟨r1, r2⟩ := h (j 0)
  obtain ⟨k1, k2⟩ := rows_at_rank A B u hu (j 0)
  by_cases hp : ∃ p, KeptOf A B p ∧ Nat.count (KeptOf A B) p = (j 0).val
  · obtain ⟨p, hk, hn⟩ := hp
    obtain ⟨rb, rs⟩ := r1 p hk hn
    obtain ⟨kb, ks⟩ := k1 p hk hn
    generalize j 1 = k
    refine Fin.lastCases ?_ (fun k => ?_) k
    · exact rs.trans ks.symm
    · exact (rb k).trans (kb k).symm
  · have hn : ∀ p, KeptOf A B p → Nat.count (KeptOf A B) p ≠ (j 0).val := fun p hk hc => hp ⟨p, hk, hc⟩
    exact (r2 hn _).trans (k2 hn _).symm

end Rows

/-- The idealized kernel and the idealized reference end with the same rows, and leave their arguments as they were. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨fun c => Cert.ReferenceIdeal.Prf.Wend m' c (Cert.ReferenceIdeal.main_v73 : Ref Cert.ReferenceIdeal.sig .tc),
    (θ_run _ _ _).mono (fun r h c => ?_) (Cert.KernelIdeal.Prf.run_main (F := Ideal) m ρ), Cert.ReferenceIdeal.Prf.run_value (F := Ideal) m' ρ'⟩
  obtain ⟨h0, h1, u, hu, h2⟩ := h.1 c
  exact ⟨h2.trans (rows_eq _ _ m' c (hm c).1 (hm c).2 u hu).symm, h0, h1⟩

theorem claim : Cert.Claim := ⟨Cert.Kernel.Gen.facts, Cert.KernelIdeal.Gen.facts, Cert.ReferenceIdeal.Gen.facts,
  frameP, framePI, Cert.ReferenceIdeal.Prf.frame, trivial, algebraic⟩

end Cert.Proof

end
